-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Experts [hPre_named : Cert.Pre_named.Facts] (m : (ℓ : Loc Cert.Experts.nD Cert.Experts.τ Cert.Experts.sig) → Buf (Elt Bits) ℓ) : Prop :=
  ∀ c : Dev Cert.Experts.nD,
    (Cert.Pre_named.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))) = (fun _ => 1#1)

def Pre_ExpertsIdeal [hPre_named : Cert.Pre_named.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_named.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))) = (fun _ => 1#1)

def Pre_ExpertsIdeal_tables [hPre_tables : Cert.Pre_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_tables [hPre_tables : Cert.Pre_tables.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_tables.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7)) (m ((c.tc : Thread Cert.ExpertsReferenceIdeal.nD Cert.ExpertsReferenceIdeal.τ).loc Cert.ExpertsReferenceIdeal.main_arg8))) = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Experts [hExperts : Cert.Experts.Facts] [hPre_named : Cert.Pre_named.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8))
      ∧ r.2.sem = fun _ => 0)

def quiescent_ExpertsIdeal [hExpertsIdeal : Cert.ExpertsIdeal.Facts] [hPre_named : Cert.Pre_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsIdeal_pre_tables [hExpertsIdeal : Cert.ExpertsIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_tables m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7)
      ∧ r.2.mem ((c.tc : Thread Cert.ExpertsReferenceIdeal.nD Cert.ExpertsReferenceIdeal.τ).loc Cert.ExpertsReferenceIdeal.main_arg8) = m ((c.tc : Thread Cert.ExpertsReferenceIdeal.nD Cert.ExpertsReferenceIdeal.τ).loc Cert.ExpertsReferenceIdeal.main_arg8))
      ∧ r.2.sem = fun _ => 0)

def quiescent_ExpertsReferenceIdeal_pre_tables [hExpertsReferenceIdeal : Cert.ExpertsReferenceIdeal.Facts] [hPre_tables : Cert.Pre_tables.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_tables m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7)
      ∧ r.2.mem ((c.tc : Thread Cert.ExpertsReferenceIdeal.nD Cert.ExpertsReferenceIdeal.τ).loc Cert.ExpertsReferenceIdeal.main_arg8) = m ((c.tc : Thread Cert.ExpertsReferenceIdeal.nD Cert.ExpertsReferenceIdeal.τ).loc Cert.ExpertsReferenceIdeal.main_arg8))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2)
      ∧ r.2.mem ((c.tc : Thread Cert.FinalReferenceIdeal.nD Cert.FinalReferenceIdeal.τ).loc Cert.FinalReferenceIdeal.main_arg3) = m ((c.tc : Thread Cert.FinalReferenceIdeal.nD Cert.FinalReferenceIdeal.τ).loc Cert.FinalReferenceIdeal.main_arg3)
      ∧ r.2.mem ((c.tc : Thread Cert.FinalReferenceIdeal.nD Cert.FinalReferenceIdeal.τ).loc Cert.FinalReferenceIdeal.main_arg4) = m ((c.tc : Thread Cert.FinalReferenceIdeal.nD Cert.FinalReferenceIdeal.τ).loc Cert.FinalReferenceIdeal.main_arg4))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3)
      ∧ r.2.mem ((c.tc : Thread Cert.Projection.nD Cert.Projection.τ).loc Cert.Projection.main_arg4) = m ((c.tc : Thread Cert.Projection.nD Cert.Projection.τ).loc Cert.Projection.main_arg4)
      ∧ r.2.mem ((c.tc : Thread Cert.Projection.nD Cert.Projection.τ).loc Cert.Projection.main_arg5) = m ((c.tc : Thread Cert.Projection.nD Cert.Projection.τ).loc Cert.Projection.main_arg5))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
      ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
      ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2)
      ∧ r.2.mem ((c.tc : Thread Cert.ProjectionReferenceIdeal.nD Cert.ProjectionReferenceIdeal.τ).loc Cert.ProjectionReferenceIdeal.main_arg3) = m ((c.tc : Thread Cert.ProjectionReferenceIdeal.nD Cert.ProjectionReferenceIdeal.τ).loc Cert.ProjectionReferenceIdeal.main_arg3)
      ∧ r.2.mem ((c.tc : Thread Cert.ProjectionReferenceIdeal.nD Cert.ProjectionReferenceIdeal.τ).loc Cert.ProjectionReferenceIdeal.main_arg4) = m ((c.tc : Thread Cert.ProjectionReferenceIdeal.nD Cert.ProjectionReferenceIdeal.τ).loc Cert.ProjectionReferenceIdeal.main_arg4)
      ∧ r.2.mem ((c.tc : Thread Cert.ProjectionReferenceIdeal.nD Cert.ProjectionReferenceIdeal.τ).loc Cert.ProjectionReferenceIdeal.main_arg5) = m ((c.tc : Thread Cert.ProjectionReferenceIdeal.nD Cert.ProjectionReferenceIdeal.τ).loc Cert.ProjectionReferenceIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Experts_ExpertsIdeal : Prop :=
  True

def algebraic_ExpertsIdeal_ExpertsReferenceIdeal_pre_tables [hExpertsIdeal : Cert.ExpertsIdeal.Facts] [hExpertsReferenceIdeal : Cert.ExpertsReferenceIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal_tables m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)
      ∧ m' ((c.tc : Thread Cert.ExpertsReferenceIdeal.nD Cert.ExpertsReferenceIdeal.τ).loc Cert.ExpertsReferenceIdeal.main_arg7) = m ((c.tc : Thread Cert.ExpertsIdeal.nD Cert.ExpertsIdeal.τ).loc Cert.ExpertsIdeal.main_arg7)
      ∧ m' ((c.tc : Thread Cert.ExpertsReferenceIdeal.nD Cert.ExpertsReferenceIdeal.τ).loc Cert.ExpertsReferenceIdeal.main_arg8) = m ((c.tc : Thread Cert.ExpertsIdeal.nD Cert.ExpertsIdeal.τ).loc Cert.ExpertsIdeal.main_arg8)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v53) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6)
          ∧ r.2.mem ((c.tc : Thread Cert.ExpertsReferenceIdeal.nD Cert.ExpertsReferenceIdeal.τ).loc Cert.ExpertsReferenceIdeal.main_arg7) = m' ((c.tc : Thread Cert.ExpertsReferenceIdeal.nD Cert.ExpertsReferenceIdeal.τ).loc Cert.ExpertsReferenceIdeal.main_arg7)
          ∧ r.2.mem ((c.tc : Thread Cert.ExpertsReferenceIdeal.nD Cert.ExpertsReferenceIdeal.τ).loc Cert.ExpertsReferenceIdeal.main_arg8) = m' ((c.tc : Thread Cert.ExpertsReferenceIdeal.nD Cert.ExpertsReferenceIdeal.τ).loc Cert.ExpertsReferenceIdeal.main_arg8))

def preserves_Final_FinalIdeal : Prop :=
  True

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)
      ∧ m' ((c.tc : Thread Cert.FinalReferenceIdeal.nD Cert.FinalReferenceIdeal.τ).loc Cert.FinalReferenceIdeal.main_arg2) = m ((c.tc : Thread Cert.FinalIdeal.nD Cert.FinalIdeal.τ).loc Cert.FinalIdeal.main_arg2)
      ∧ m' ((c.tc : Thread Cert.FinalReferenceIdeal.nD Cert.FinalReferenceIdeal.τ).loc Cert.FinalReferenceIdeal.main_arg3) = m ((c.tc : Thread Cert.FinalIdeal.nD Cert.FinalIdeal.τ).loc Cert.FinalIdeal.main_arg3)
      ∧ m' ((c.tc : Thread Cert.FinalReferenceIdeal.nD Cert.FinalReferenceIdeal.τ).loc Cert.FinalReferenceIdeal.main_arg4) = m ((c.tc : Thread Cert.FinalIdeal.nD Cert.FinalIdeal.τ).loc Cert.FinalIdeal.main_arg4)) →
    ∃ (v0 : (c : Dev Cert.FinalIdeal.nD) → Buf (Elt Ideal) ((c.tc : Thread Cert.FinalIdeal.nD Cert.FinalIdeal.τ).loc Cert.FinalIdeal.main_v0)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v0) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v33) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2)
          ∧ r.2.mem ((c.tc : Thread Cert.FinalReferenceIdeal.nD Cert.FinalReferenceIdeal.τ).loc Cert.FinalReferenceIdeal.main_arg3) = m' ((c.tc : Thread Cert.FinalReferenceIdeal.nD Cert.FinalReferenceIdeal.τ).loc Cert.FinalReferenceIdeal.main_arg3)
          ∧ r.2.mem ((c.tc : Thread Cert.FinalReferenceIdeal.nD Cert.FinalReferenceIdeal.τ).loc Cert.FinalReferenceIdeal.main_arg4) = m' ((c.tc : Thread Cert.FinalReferenceIdeal.nD Cert.FinalReferenceIdeal.τ).loc Cert.FinalReferenceIdeal.main_arg4))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)
      ∧ m' ((c.tc : Thread Cert.ProjectionReferenceIdeal.nD Cert.ProjectionReferenceIdeal.τ).loc Cert.ProjectionReferenceIdeal.main_arg3) = m ((c.tc : Thread Cert.ProjectionIdeal.nD Cert.ProjectionIdeal.τ).loc Cert.ProjectionIdeal.main_arg3)
      ∧ m' ((c.tc : Thread Cert.ProjectionReferenceIdeal.nD Cert.ProjectionReferenceIdeal.τ).loc Cert.ProjectionReferenceIdeal.main_arg4) = m ((c.tc : Thread Cert.ProjectionIdeal.nD Cert.ProjectionIdeal.τ).loc Cert.ProjectionIdeal.main_arg4)
      ∧ m' ((c.tc : Thread Cert.ProjectionReferenceIdeal.nD Cert.ProjectionReferenceIdeal.τ).loc Cert.ProjectionReferenceIdeal.main_arg5) = m ((c.tc : Thread Cert.ProjectionIdeal.nD Cert.ProjectionIdeal.τ).loc Cert.ProjectionIdeal.main_arg5)) →
    ∃ (v0 : (c : Dev Cert.ProjectionIdeal.nD) → Buf (Elt Ideal) ((c.tc : Thread Cert.ProjectionIdeal.nD Cert.ProjectionIdeal.τ).loc Cert.ProjectionIdeal.main_v0_3)) (v1 : (c : Dev Cert.ProjectionIdeal.nD) → Buf (Elt Ideal) ((c.tc : Thread Cert.ProjectionIdeal.nD Cert.ProjectionIdeal.τ).loc Cert.ProjectionIdeal.main_v0_4)) (v2 : (c : Dev Cert.ProjectionIdeal.nD) → Buf (Elt Ideal) ((c.tc : Thread Cert.ProjectionIdeal.nD Cert.ProjectionIdeal.τ).loc Cert.ProjectionIdeal.main_v0_5)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v0_3) = v0 c
          ∧ r.2.mem ((c.tc : Thread Cert.ProjectionIdeal.nD Cert.ProjectionIdeal.τ).loc Cert.ProjectionIdeal.main_v0_4) = v1 c
          ∧ r.2.mem ((c.tc : Thread Cert.ProjectionIdeal.nD Cert.ProjectionIdeal.τ).loc Cert.ProjectionIdeal.main_v0_5) = v2 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
          ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
          ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v73) = v0 c
          ∧ r.2.mem ((c.tc : Thread Cert.ProjectionReferenceIdeal.nD Cert.ProjectionReferenceIdeal.τ).loc Cert.ProjectionReferenceIdeal.main_v75) = v1 c
          ∧ r.2.mem ((c.tc : Thread Cert.ProjectionReferenceIdeal.nD Cert.ProjectionReferenceIdeal.τ).loc Cert.ProjectionReferenceIdeal.main_v77) = v2 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2)
          ∧ r.2.mem ((c.tc : Thread Cert.ProjectionReferenceIdeal.nD Cert.ProjectionReferenceIdeal.τ).loc Cert.ProjectionReferenceIdeal.main_arg3) = m' ((c.tc : Thread Cert.ProjectionReferenceIdeal.nD Cert.ProjectionReferenceIdeal.τ).loc Cert.ProjectionReferenceIdeal.main_arg3)
          ∧ r.2.mem ((c.tc : Thread Cert.ProjectionReferenceIdeal.nD Cert.ProjectionReferenceIdeal.τ).loc Cert.ProjectionReferenceIdeal.main_arg4) = m' ((c.tc : Thread Cert.ProjectionReferenceIdeal.nD Cert.ProjectionReferenceIdeal.τ).loc Cert.ProjectionReferenceIdeal.main_arg4)
          ∧ r.2.mem ((c.tc : Thread Cert.ProjectionReferenceIdeal.nD Cert.ProjectionReferenceIdeal.τ).loc Cert.ProjectionReferenceIdeal.main_arg5) = m' ((c.tc : Thread Cert.ProjectionReferenceIdeal.nD Cert.ProjectionReferenceIdeal.τ).loc Cert.ProjectionReferenceIdeal.main_arg5))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v108) = v0 c
          ∧ r.2.mem ((c.tc : Thread Cert.MergeReferenceIdeal.nD Cert.MergeReferenceIdeal.τ).loc Cert.MergeReferenceIdeal.main_v111) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hFinal : Cert.Final.Facts) (hFinalIdeal : Cert.FinalIdeal.Facts) (hFinalReferenceIdeal : Cert.FinalReferenceIdeal.Facts) (hProjection : Cert.Projection.Facts) (hProjectionIdeal : Cert.ProjectionIdeal.Facts) (hProjectionReferenceIdeal : Cert.ProjectionReferenceIdeal.Facts) (hMerge : Cert.Merge.Facts) (hMergeIdeal : Cert.MergeIdeal.Facts) (hMergeReferenceIdeal : Cert.MergeReferenceIdeal.Facts) (hPre_finite : Cert.Pre_finite.Facts) (hPre_named : Cert.Pre_named.Facts) (hPre_tables : Cert.Pre_tables.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_named := hPre_named)
    ∧ quiescent_ExpertsIdeal (hExpertsIdeal := hExpertsIdeal) (hPre_named := hPre_named)
    ∧ quiescent_ExpertsIdeal_pre_tables (hExpertsIdeal := hExpertsIdeal) (hPre_tables := hPre_tables)
    ∧ quiescent_ExpertsReferenceIdeal (hExpertsReferenceIdeal := hExpertsReferenceIdeal)
    ∧ quiescent_ExpertsReferenceIdeal_pre_tables (hExpertsReferenceIdeal := hExpertsReferenceIdeal) (hPre_tables := hPre_tables)
    ∧ quiescent_Final (hFinal := hFinal)
    ∧ quiescent_FinalIdeal (hFinalIdeal := hFinalIdeal)
    ∧ quiescent_FinalReferenceIdeal (hFinalReferenceIdeal := hFinalReferenceIdeal)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsReferenceIdeal_pre_tables (hExpertsIdeal := hExpertsIdeal) (hExpertsReferenceIdeal := hExpertsReferenceIdeal) (hPre_tables := hPre_tables)
    ∧ preserves_Final_FinalIdeal
    ∧ algebraic_FinalIdeal_FinalReferenceIdeal (hFinalIdeal := hFinalIdeal) (hFinalReferenceIdeal := hFinalReferenceIdeal)
    ∧ preserves_Projection_ProjectionIdeal
    ∧ algebraic_ProjectionIdeal_ProjectionReferenceIdeal (hProjectionIdeal := hProjectionIdeal) (hProjectionReferenceIdeal := hProjectionReferenceIdeal)
    ∧ preserves_Merge_MergeIdeal
    ∧ algebraic_MergeIdeal_MergeReferenceIdeal (hMergeIdeal := hMergeIdeal) (hMergeReferenceIdeal := hMergeReferenceIdeal)
-- ==== Pre_finite.lean ====
abbrev S8 : Shape := ⟨1, ![8]⟩
abbrev S8x4352x512 : Shape := ⟨3, ![8, 4352, 512]⟩
abbrev S8x4352x128 : Shape := ⟨3, ![8, 4352, 128]⟩
abbrev S8x4352x2x4x64 : Shape := ⟨5, ![8, 4352, 2, 4, 64]⟩
abbrev S_ : Shape := ⟨0, ![]⟩
abbrev S8x4352x2x1x64 : Shape := ⟨5, ![8, 4352, 2, 1, 64]⟩
abbrev S1x1x2x4x1 : Shape := ⟨5, ![1, 1, 2, 4, 1]⟩

class Facts : Prop where
  bitsLt_bf16_f32 : FTy.bits .bf16 < FTy.bits .f32
  shapeCasts_S8x4352x512_S8x4352x2x4x64 : S8x4352x512.ShapeCasts S8x4352x2x4x64
  bcast_S_S8x4352x2x4x64 : S_.BroadcastsInDim S8x4352x2x4x64 (![] : Fin 0 → Fin S8x4352x2x4x64.rank)
  shapeCasts_S8x4352x128_S8x4352x2x1x64 : S8x4352x128.ShapeCasts S8x4352x2x1x64
  bcast_S_S8x4352x2x1x64 : S_.BroadcastsInDim S8x4352x2x1x64 (![] : Fin 0 → Fin S8x4352x2x1x64.rank)
  shapeCasts_S8_S1x1x2x4x1 : S8.ShapeCasts S1x1x2x4x1
  bcast_S_S1x1x2x4x1 : S_.BroadcastsInDim S1x1x2x4x1 (![] : Fin 0 → Fin S1x1x2x4x1.rank)
  bcast_S8x4352x2x1x64_S8x4352x2x4x64_0_1_2_3_4 : S8x4352x2x1x64.BroadcastsInDim S8x4352x2x4x64 (![0, 1, 2, 3, 4] : Fin 5 → Fin S8x4352x2x4x64.rank)
  bcast_S1x1x2x4x1_S8x4352x2x4x64_0_1_2_3_4 : S1x1x2x4x1.BroadcastsInDim S8x4352x2x4x64 (![0, 1, 2, 3, 4] : Fin 5 → Fin S8x4352x2x4x64.rank)

variable [Facts]

def fn {F : FTy → Type} [FloatOps F] (main_arg0 : FVec F S8 .f32) (main_arg1 : FVec F S8x4352x512 .bf16) (main_arg2 : FVec F S8x4352x128 .bf16) (main_arg3 : FVec F S8x4352x128 .bf16) : IVec S8x4352x2x4x64 1 :=
  let main_v0 : FVec F S8x4352x512 .f32 := (extf .f32 · bitsLt_bf16_f32) main_arg1
  let main_v1 : FVec F S8x4352x2x4x64 .f32 := shapeCast S8x4352x2x4x64 main_v0 shapeCasts_S8x4352x512_S8x4352x2x4x64
  let main_v2 : FVec F S8x4352x2x4x64 .f32 := Host.absf main_v1
  let main_cst : FVec F S_ .f32 := constant S_ .f32 0x7F800000#32
  let main_v3 : FVec F S8x4352x2x4x64 .f32 := broadcastInDim S8x4352x2x4x64 ![] bcast_S_S8x4352x2x4x64 main_cst
  let main_v4 : IVec S8x4352x2x4x64 1 := cmpf .olt main_v2 main_v3
  let main_v5 : FVec F S8x4352x128 .f32 := (extf .f32 · bitsLt_bf16_f32) main_arg2
  let main_v6 : FVec F S8x4352x2x1x64 .f32 := shapeCast S8x4352x2x1x64 main_v5 shapeCasts_S8x4352x128_S8x4352x2x1x64
  let main_v7 : FVec F S8x4352x2x1x64 .f32 := Host.absf main_v6
  let main_cst_0 : FVec F S_ .f32 := constant S_ .f32 0x7F800000#32
  let main_v8 : FVec F S8x4352x2x1x64 .f32 := broadcastInDim S8x4352x2x1x64 ![] bcast_S_S8x4352x2x1x64 main_cst_0
  let main_v9 : IVec S8x4352x2x1x64 1 := cmpf .olt main_v7 main_v8
  let main_v10 : FVec F S1x1x2x4x1 .f32 := shapeCast S1x1x2x4x1 main_arg0 shapeCasts_S8_S1x1x2x4x1
  let main_cst_1 : FVec F S_ .f32 := constant S_ .f32 0x7F800000#32
  let main_v11 : FVec F S1x1x2x4x1 .f32 := broadcastInDim S1x1x2x4x1 ![] bcast_S_S1x1x2x4x1 main_cst_1
  let main_v12 : IVec S1x1x2x4x1 1 := cmpf .olt main_v10 main_v11
  let main_v13 : IVec S8x4352x2x4x64 1 := broadcastInDim S8x4352x2x4x64 ![0, 1, 2, 3, 4] bcast_S8x4352x2x1x64_S8x4352x2x4x64_0_1_2_3_4 main_v9
  let main_v14 : IVec S8x4352x2x4x64 1 := andi main_v4 main_v13
  let main_v15 : IVec S8x4352x2x4x64 1 := broadcastInDim S8x4352x2x4x64 ![0, 1, 2, 3, 4] bcast_S1x1x2x4x1_S8x4352x2x4x64_0_1_2_3_4 main_v12
  let main_v16 : IVec S8x4352x2x4x64 1 := andi main_v14 main_v15
  main_v16
-- ==== Pre_named.lean ====
abbrev S304 : Shape := ⟨1, ![304]⟩
abbrev S1 : Shape := ⟨1, ![1]⟩
abbrev S155648x1024 : Shape := ⟨2, ![155648, 1024]⟩
abbrev S2x32x1024x2048 : Shape := ⟨4, ![2, 32, 1024, 2048]⟩
abbrev S2x32x1x2048 : Shape := ⟨4, ![2, 32, 1, 2048]⟩
abbrev S2x32x1024x1024 : Shape := ⟨4, ![2, 32, 1024, 1024]⟩
abbrev S2x32x1x1024 : Shape := ⟨4, ![2, 32, 1, 1024]⟩
abbrev S_ : Shape := ⟨0, ![]⟩

class Facts : Prop where
  bcast_S_S304 : S_.BroadcastsInDim S304 (![] : Fin 0 → Fin S304.rank)

variable [Facts]

def fn {F : FTy → Type} [FloatOps F] (main_arg0 : IVec S304 32) (main_arg1 : IVec S304 32) (main_arg2 : IVec S1 32) (main_arg3 : IVec S304 32) (main_arg4 : FVec F S155648x1024 .bf16) (main_arg5 : FVec F S2x32x1024x2048 .f32) (main_arg6 : FVec F S2x32x1x2048 .f32) (main_arg7 : FVec F S2x32x1024x1024 .f32) (main_arg8 : FVec F S2x32x1x1024 .f32) : IVec S304 1 :=
  let main_c : IVec S_ 32 := constantI S_ 32 0#32
  let main_v0 : IVec S304 32 := broadcastInDim S304 ![] bcast_S_S304 main_c
  let main_v1 : IVec S304 1 := cmpi .sge main_arg0 main_v0
  let main_c_0 : IVec S_ 32 := constantI S_ 32 32#32
  let main_v2 : IVec S304 32 := broadcastInDim S304 ![] bcast_S_S304 main_c_0
  let main_v3 : IVec S304 1 := cmpi .slt main_arg0 main_v2
  let main_v4 : IVec S304 1 := andi main_v1 main_v3
  let main_c_1 : IVec S_ 32 := constantI S_ 32 0#32
  let main_v5 : IVec S304 32 := broadcastInDim S304 ![] bcast_S_S304 main_c_1
  let main_v6 : IVec S304 1 := cmpi .sge main_arg3 main_v5
  let main_v7 : IVec S304 1 := andi main_v4 main_v6
  let main_c_2 : IVec S_ 32 := constantI S_ 32 32#32
  let main_v8 : IVec S304 32 := broadcastInDim S304 ![] bcast_S_S304 main_c_2
  let main_v9 : IVec S304 1 := cmpi .slt main_arg3 main_v8
  let main_v10 : IVec S304 1 := andi main_v7 main_v9
  main_v10
-- ==== Pre_tables.lean ====
abbrev S304 : Shape := ⟨1, ![304]⟩
abbrev S1 : Shape := ⟨1, ![1]⟩
abbrev S155648x1024 : Shape := ⟨2, ![155648, 1024]⟩
abbrev S2x32x1024x2048 : Shape := ⟨4, ![2, 32, 1024, 2048]⟩
abbrev S2x32x1x2048 : Shape := ⟨4, ![2, 32, 1, 2048]⟩
abbrev S2x32x1024x1024 : Shape := ⟨4, ![2, 32, 1024, 1024]⟩
abbrev S2x32x1x1024 : Shape := ⟨4, ![2, 32, 1, 1024]⟩
abbrev S_ : Shape := ⟨0, ![]⟩
abbrev S303 : Shape := ⟨1, ![303]⟩

class Facts : Prop where
  bcast_S_S304 : S_.BroadcastsInDim S304 (![] : Fin 0 → Fin S304.rank)
  bcast_S_S1 : S_.BroadcastsInDim S1 (![] : Fin 0 → Fin S1.rank)
  slices_S304_S303_0 : S304.Slices ![0] S303
  concatenates_S1_S303_S304_d0 : Shape.Concatenates [S1, S303] S304 0
  shapeCasts_S1_S_ : S1.ShapeCasts S_

variable [Facts]

def fn_part1 {F : FTy → Type} [FloatOps F] (main_arg0 : IVec S304 32) (main_arg1 : IVec S304 32) (main_arg2 : IVec S1 32) (main_v10 : IVec S304 1) (main_v13 : IVec S304 32) (main_v17 : IVec S304 1) : IVec S304 1 :=
  let main_c_5 : IVec S_ 32 := constantI S_ 32 1#32
  let main_v18 : IVec S304 32 := broadcastInDim S304 ![] bcast_S_S304 main_c_5
  let main_v19 : IVec S304 1 := cmpi .ne main_arg1 main_v18
  let main_v20 : IVec S304 1 := cmpi .eq main_arg0 main_v13
  let main_v21 : IVec S304 1 := andi main_v19 main_v20
  let main_v22 : IVec S304 32 := iotaInDim S304 32 0
  let main_v23 : IVec S_ 32 := shapeCast S_ main_arg2 shapeCasts_S1_S_
  let main_v24 : IVec S304 32 := broadcastInDim S304 ![] bcast_S_S304 main_v23
  let main_v25 : IVec S304 1 := cmpi .slt main_v22 main_v24
  let main_v26 : IVec S304 1 := ori main_v17 main_v21
  let main_v27 : IVec S304 1 := noti main_v25
  let main_v28 : IVec S304 1 := ori main_v26 main_v27
  let main_v29 : IVec S304 1 := andi main_v10 main_v28
  main_v29

def fn {F : FTy → Type} [FloatOps F] (main_arg0 : IVec S304 32) (main_arg1 : IVec S304 32) (main_arg2 : IVec S1 32) (main_arg3 : IVec S304 32) (main_arg4 : FVec F S155648x1024 .bf16) (main_arg5 : FVec F S2x32x1024x2048 .f32) (main_arg6 : FVec F S2x32x1x2048 .f32) (main_arg7 : FVec F S2x32x1024x1024 .f32) (main_arg8 : FVec F S2x32x1x1024 .f32) : IVec S304 1 :=
  let main_c : IVec S_ 32 := constantI S_ 32 0#32
  let main_v0 : IVec S304 32 := broadcastInDim S304 ![] bcast_S_S304 main_c
  let main_v1 : IVec S304 1 := cmpi .sge main_arg0 main_v0
  let main_c_0 : IVec S_ 32 := constantI S_ 32 32#32
  let main_v2 : IVec S304 32 := broadcastInDim S304 ![] bcast_S_S304 main_c_0
  let main_v3 : IVec S304 1 := cmpi .slt main_arg0 main_v2
  let main_v4 : IVec S304 1 := andi main_v1 main_v3
  let main_c_1 : IVec S_ 32 := constantI S_ 32 0#32
  let main_v5 : IVec S304 32 := broadcastInDim S304 ![] bcast_S_S304 main_c_1
  let main_v6 : IVec S304 1 := cmpi .sge main_arg3 main_v5
  let main_v7 : IVec S304 1 := andi main_v4 main_v6
  let main_c_2 : IVec S_ 32 := constantI S_ 32 32#32
  let main_v8 : IVec S304 32 := broadcastInDim S304 ![] bcast_S_S304 main_c_2
  let main_v9 : IVec S304 1 := cmpi .slt main_arg3 main_v8
  let main_v10 : IVec S304 1 := andi main_v7 main_v9
  let main_c_3 : IVec S_ 32 := constantI S_ 32 4294967295#32
  let main_v11 : IVec S1 32 := broadcastInDim S1 ![] bcast_S_S1 main_c_3
  let main_v12 : IVec S303 32 := (extractStridedSlice S303 ![0] · slices_S304_S303_0) main_arg0
  let main_v13 : IVec S304 32 := (fun a b => concatenate S304 0 [⟨S1, a⟩, ⟨S303, b⟩] concatenates_S1_S303_S304_d0) main_v11 main_v12
  let main_c_4 : IVec S_ 32 := constantI S_ 32 1#32
  let main_v14 : IVec S304 32 := broadcastInDim S304 ![] bcast_S_S304 main_c_4
  let main_v15 : IVec S304 1 := cmpi .eq main_arg1 main_v14
  let main_v16 : IVec S304 1 := cmpi .eq main_arg3 main_arg0
  let main_v17 : IVec S304 1 := andi main_v15 main_v16
  fn_part1 (F := F) main_arg0 main_arg1 main_arg2 main_v10 main_v13 main_v17
-- ==== Kernel.lean ====
abbrev S8 : Shape := ⟨1, ![8]⟩
abbrev S8x4352x512 : Shape := ⟨3, ![8, 4352, 512]⟩
abbrev S8x4352x128 : Shape := ⟨3, ![8, 4352, 128]⟩
abbrev S1x256x512 : Shape := ⟨3, ![1, 256, 512]⟩
abbrev S1x4352x128 : Shape := ⟨3, ![1, 4352, 128]⟩
abbrev S256x512 : Shape := ⟨2, ![256, 512]⟩
abbrev S1x256x128 : Shape := ⟨3, ![1, 256, 128]⟩
abbrev S256x128 : Shape := ⟨2, ![256, 128]⟩
abbrev S1024x1 : Shape := ⟨2, ![1024, 1]⟩
abbrev S256x64 : Shape := ⟨2, ![256, 64]⟩
abbrev S1024x64 : Shape := ⟨2, ![1024, 64]⟩
abbrev S1024x256 : Shape := ⟨2, ![1024, 256]⟩
abbrev S1 : Shape := ⟨1, ![1]⟩
abbrev S1024 : Shape := ⟨1, ![1024]⟩
abbrev S128x128 : Shape := ⟨2, ![128, 128]⟩
abbrev S128x256 : Shape := ⟨2, ![128, 256]⟩
abbrev S128x768 : Shape := ⟨2, ![128, 768]⟩
abbrev S256x768 : Shape := ⟨2, ![256, 768]⟩
abbrev S1x128x128 : Shape := ⟨3, ![1, 128, 128]⟩
abbrev S768x128 : Shape := ⟨2, ![768, 128]⟩
abbrev S1024x768 : Shape := ⟨2, ![1024, 768]⟩
abbrev S768x64 : Shape := ⟨2, ![768, 64]⟩

abbrev nBuf : Space → Nat
  | .hbm => 5
  | .vmem => 8
  | .smem => 1
  | _ => 0

abbrev bufTy : (tb : Table) → Fin (tcTables nBuf tb) → BufTy
  | .hbm, ⟨0, _⟩ => ⟨S8, .f32⟩
  | .hbm, ⟨1, _⟩ => ⟨S8x4352x512, .bf16⟩
  | .hbm, ⟨2, _⟩ => ⟨S8x4352x128, .bf16⟩
  | .hbm, ⟨3, _⟩ => ⟨S8x4352x128, .bf16⟩
  | .hbm, ⟨4, _⟩ => ⟨S8x4352x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x256x512, .bf16⟩
  | .local _ .vmem, ⟨7, _⟩ => ⟨S1x256x512, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 17], ![false, false]⟩

def k0_cond2 (i : grid0.Coords) : BitVec 1 :=
  let arg1 : BitVec 32 := BitVec.ofNat 32 (i 1).val
  let c1_i32_2 : BitVec 32 := 1#32
  let v5 : BitVec 1 := Scalar.cmpi .sge arg1 c1_i32_2
  let v6 : BitVec 32 := Scalar.extui v5
  let c0_i32_3 : BitVec 32 := 0#32
  let v7 : BitVec 1 := Scalar.cmpi .ne v6 c0_i32_3
  v7

def k0_mult1 (i : grid0.Coords) : BitVec 32 :=
  let arg1 : BitVec 32 := BitVec.ofNat 32 (i 1).val
  let c2_i32 : BitVec 32 := 2#32
  let v8 : BitVec 32 := Scalar.muli arg1 c2_i32
  let c1_i32_7 : BitVec 32 := 1#32
  let v13 : BitVec 32 := Scalar.subi v8 c1_i32_7
  let c128_i32 : BitVec 32 := 128#32
  let v14 : BitVec 32 := Scalar.muli v13 c128_i32
  v14
def k0_mult2 (i : grid0.Coords) : BitVec 32 :=
  let arg1 : BitVec 32 := BitVec.ofNat 32 (i 1).val
  let c2_i32 : BitVec 32 := 2#32
  let v8 : BitVec 32 := Scalar.muli arg1 c2_i32
  let c128_i32_8 : BitVec 32 := 128#32
  let v16 : BitVec 32 := Scalar.muli v8 c128_i32_8
  v16
def k0_mult3 (i : grid0.Coords) : BitVec 32 :=
  let arg1 : BitVec 32 := BitVec.ofNat 32 (i 1).val
  let c2_i32 : BitVec 32 := 2#32
  let v8 : BitVec 32 := Scalar.muli arg1 c2_i32
  let c2_i32_9 : BitVec 32 := 2#32
  let v18 : BitVec 32 := Scalar.addi v8 c2_i32_9
  let c33_i32_10 : BitVec 32 := 33#32
  let v19 : BitVec 32 := Scalar.minsi v18 c33_i32_10
  let c128_i32_11 : BitVec 32 := 128#32
  let v20 : BitVec 32 := Scalar.muli v19 c128_i32_11
  v20
def k0_off1 (i : grid0.Coords) : Fin 3 → Nat :=
  let c0_23 : Index := 0#32
  let arg1 : BitVec 32 := BitVec.ofNat 32 (i 1).val
  let c2_i32 : BitVec 32 := 2#32
  let v8 : BitVec 32 := Scalar.muli arg1 c2_i32
  let c1_i32_7 : BitVec 32 := 1#32
  let v13 : BitVec 32 := Scalar.subi v8 c1_i32_7
  let c128_i32 : BitVec 32 := 128#32
  let v14 : BitVec 32 := Scalar.muli v13 c128_i32
  let v15 : BitVec 32 := v14
  let v44 : Index := Scalar.indexCast v15
  let c0_24 : Index := 0#32
  ![0, v44.toNat, 0]
def k0_off2 (i : grid0.Coords) : Fin 3 → Nat :=
  let c0_25 : Index := 0#32
  let arg1 : BitVec 32 := BitVec.ofNat 32 (i 1).val
  let c2_i32 : BitVec 32 := 2#32
  let v8 : BitVec 32 := Scalar.muli arg1 c2_i32
  let c128_i32_8 : BitVec 32 := 128#32
  let v16 : BitVec 32 := Scalar.muli v8 c128_i32_8
  let v17 : BitVec 32 := v16
  let v47 : Index := Scalar.indexCast v17
  let c0_26 : Index := 0#32
  ![0, v47.toNat, 0]
def k0_off3 (i : grid0.Coords) : Fin 3 → Nat :=
  let c0_27 : Index := 0#32
  let arg1 : BitVec 32 := BitVec.ofNat 32 (i 1).val
  let c2_i32 : BitVec 32 := 2#32
  let v8 : BitVec 32 := Scalar.muli arg1 c2_i32
  let c2_i32_9 : BitVec 32 := 2#32
  let v18 : BitVec 32 := Scalar.addi v8 c2_i32_9
  let c33_i32_10 : BitVec 32 := 33#32
  let v19 : BitVec 32 := Scalar.minsi v18 c33_i32_10
  let c128_i32_11 : BitVec 32 := 128#32
  let v20 : BitVec 32 := Scalar.muli v19 c128_i32_11
  let v21 : BitVec 32 := v20
  let v50 : Index := Scalar.indexCast v21
  let c0_28 : Index := 0#32
  ![0, v50.toNat, 0]
def k0_cond1 (i : grid0.Coords) : BitVec 1 :=
  let arg1 : BitVec 32 := BitVec.ofNat 32 (i 1).val
  let c1_i32 : BitVec 32 := 1#32
  let v2 : BitVec 1 := Scalar.cmpi .slt arg1 c1_i32
  let v3 : BitVec 32 := Scalar.extui v2
  let c0_i32 : BitVec 32 := 0#32
  let v4 : BitVec 1 := Scalar.cmpi .ne v3 c0_i32
  v4

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8 : Shape := ⟨1, ![8]⟩
abbrev S8x4352x512 : Shape := ⟨3, ![8, 4352, 512]⟩
abbrev S8x4352x128 : Shape := ⟨3, ![8, 4352, 128]⟩
abbrev S8x4352x2x4x64 : Shape := ⟨5, ![8, 4352, 2, 4, 64]⟩
abbrev S8x4352x2x64 : Shape := ⟨4, ![8, 4352, 2, 64]⟩
abbrev S8x256x2x4x64 : Shape := ⟨5, ![8, 256, 2, 4, 64]⟩
abbrev S8x256x2x64 : Shape := ⟨4, ![8, 256, 2, 64]⟩
abbrev S8x2x256x256x4 : Shape := ⟨5, ![8, 2, 256, 256, 4]⟩
abbrev S8x2x4x256x256 : Shape := ⟨5, ![8, 2, 4, 256, 256]⟩
abbrev S1x2x4x1x1 : Shape := ⟨5, ![1, 2, 4, 1, 1]⟩
abbrev S_ : Shape := ⟨0, ![]⟩
abbrev S8x2x4x256 : Shape := ⟨4, ![8, 2, 4, 256]⟩
abbrev S8x2x4x256x1 : Shape := ⟨5, ![8, 2, 4, 256, 1]⟩
abbrev S8x2x64x4x256 : Shape := ⟨5, ![8, 2, 64, 4, 256]⟩
abbrev S4096 : Shape := ⟨1, ![4096]⟩
abbrev S4096x1 : Shape := ⟨2, ![4096, 1]⟩
abbrev S4352 : Shape := ⟨1, ![4352]⟩
abbrev S1x4352 : Shape := ⟨2, ![1, 4352]⟩
abbrev S4096x4352 : Shape := ⟨2, ![4096, 4352]⟩
abbrev S8x4096x2x4x64 : Shape := ⟨5, ![8, 4096, 2, 4, 64]⟩
abbrev S8x2x4352x4096x4 : Shape := ⟨5, ![8, 2, 4352, 4096, 4]⟩
abbrev S8x2x4x4096x4352 : Shape := ⟨5, ![8, 2, 4, 4096, 4352]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩

abbrev nBuf : Space → Nat
  | .hbm => 85
  | .vmem => 0
  | .smem => 0
  | _ => 0

abbrev bufTy : (tb : Table) → Fin (tcTables nBuf tb) → BufTy
  | .hbm, ⟨0, _⟩ => ⟨S8, .f32⟩
  | .hbm, ⟨1, _⟩ => ⟨S8x4352x512, .bf16⟩
  | .hbm, ⟨2, _⟩ => ⟨S8x4352x128, .bf16⟩
  | .hbm, ⟨3, _⟩ => ⟨S8x4352x128, .bf16⟩
  | .hbm, ⟨4, _⟩ => ⟨S8x4352x512, .f32⟩
  | .hbm, ⟨5, _⟩ => ⟨S8x4352x2x4x64, .f32⟩
  | .hbm, ⟨6, _⟩ => ⟨S8x4352x128, .f32⟩
  | .hbm, ⟨7, _⟩ => ⟨S8x4352x2x64, .f32⟩
  | .hbm, ⟨8, _⟩ => ⟨S8x4352x128, .f32⟩
  | .hbm, ⟨9, _⟩ => ⟨S8x4352x2x64, .f32⟩
  | .hbm, ⟨10, _⟩ => ⟨S8x256x2x4x64, .f32⟩
  | .hbm, ⟨11, _⟩ => ⟨S8x256x2x64, .f32⟩
  | .hbm, ⟨12, _⟩ => ⟨S8x256x2x64, .f32⟩
  | .hbm, ⟨13, _⟩ => ⟨S8x2x256x256x4, .f32⟩
  | .hbm, ⟨14, _⟩ => ⟨S8x2x4x256x256, .f32⟩
  | .hbm, ⟨15, _⟩ => ⟨S1x2x4x1x1, .f32⟩
  | .hbm, ⟨16, _⟩ => ⟨S_, .f32⟩
  | .hbm, ⟨17, _⟩ => ⟨S8x2x4x256, .f32⟩
  | .hbm, ⟨18, _⟩ => ⟨S8x2x4x256x1, .f32⟩
  | .hbm, ⟨19, _⟩ => ⟨S8x2x4x256x1, .f32⟩
  | .hbm, ⟨20, _⟩ => ⟨S8x2x4x256x1, .f32⟩
  | .hbm, ⟨21, _⟩ => ⟨S8x2x4x256x256, .f32⟩
  | .hbm, ⟨22, _⟩ => ⟨S8x2x4x256x256, .f32⟩
  | .hbm, ⟨23, _⟩ => ⟨S8x2x4x256x256, .f32⟩
  | .hbm, ⟨24, _⟩ => ⟨S_, .f32⟩
  | .hbm, ⟨25, _⟩ => ⟨S8x2x4x256, .f32⟩
  | .hbm, ⟨26, _⟩ => ⟨S8x2x4x256x1, .f32⟩
  | .hbm, ⟨27, _⟩ => ⟨S8x2x4x256x1, .f32⟩
  | .hbm, ⟨28, _⟩ => ⟨S8x2x4x256x1, .f32⟩
  | .hbm, ⟨29, _⟩ => ⟨S8x2x4x256x1, .f32⟩
  | .hbm, ⟨30, _⟩ => ⟨S8x2x4x256x1, .f32⟩
  | .hbm, ⟨31, _⟩ => ⟨S8x2x4x256x256, .f32⟩
  | .hbm, ⟨32, _⟩ => ⟨S8x2x4x256x256, .f32⟩
  | .hbm, ⟨33, _⟩ => ⟨S8x2x64x4x256, .f32⟩
  | .hbm, ⟨34, _⟩ => ⟨S8x256x2x4x64, .f32⟩
  | .hbm, ⟨35, _⟩ => ⟨S4096, .i32⟩
  | .hbm, ⟨36, _⟩ => ⟨S4096x1, .i32⟩
  | .hbm, ⟨37, _⟩ => ⟨S4352, .i32⟩
  | .hbm, ⟨38, _⟩ => ⟨S1x4352, .i32⟩
  | .hbm, ⟨39, _⟩ => ⟨S_, .i32⟩
  | .hbm, ⟨40, _⟩ => ⟨S1x4352, .i32⟩
  | .hbm, ⟨41, _⟩ => ⟨S1x4352, .i32⟩
  | .hbm, ⟨42, _⟩ => ⟨S_, .i32⟩
  | .hbm, ⟨43, _⟩ => ⟨S1x4352, .i32⟩
  | .hbm, ⟨44, _⟩ => ⟨S1x4352, .i1⟩
  | .hbm, ⟨45, _⟩ => ⟨S4096x4352, .i32⟩
  | .hbm, ⟨46, _⟩ => ⟨S4096x4352, .i32⟩
  | .hbm, ⟨47, _⟩ => ⟨S4096x4352, .i32⟩
  | .hbm, ⟨48, _⟩ => ⟨S4096x4352, .i32⟩
  | .hbm, ⟨49, _⟩ => ⟨S_, .i32⟩
  | .hbm, ⟨50, _⟩ => ⟨S4096x4352, .i32⟩
  | .hbm, ⟨51, _⟩ => ⟨S4096x4352, .i1⟩
  | .hbm, ⟨52, _⟩ => ⟨S4096x4352, .i1⟩
  | .hbm, ⟨53, _⟩ => ⟨S4096x4352, .i1⟩
  | .hbm, ⟨54, _⟩ => ⟨S8x4096x2x4x64, .f32⟩
  | .hbm, ⟨55, _⟩ => ⟨S8x2x4352x4096x4, .f32⟩
  | .hbm, ⟨56, _⟩ => ⟨S8x2x4x4096x4352, .f32⟩
  | .hbm, ⟨57, _⟩ => ⟨S_, .f32⟩
  | .hbm, ⟨58, _⟩ => ⟨S_, .f32⟩
  | .hbm, ⟨59, _⟩ => ⟨S8x2x4x4096x4352, .i1⟩
  | .hbm, ⟨60, _⟩ => ⟨S8x2x4x4096x4352, .f32⟩
  | .hbm, ⟨61, _⟩ => ⟨S8x2x4x4096x4352, .f32⟩
  | .hbm, ⟨62, _⟩ => ⟨S1x2x4x1x1, .f32⟩
  | .hbm, ⟨63, _⟩ => ⟨S_, .f32⟩
  | .hbm, ⟨64, _⟩ => ⟨S8x2x4x4096, .f32⟩
  | .hbm, ⟨65, _⟩ => ⟨S8x2x4x4096x1, .f32⟩
  | .hbm, ⟨66, _⟩ => ⟨S8x2x4x4096x1, .f32⟩
  | .hbm, ⟨67, _⟩ => ⟨S8x2x4x4096x1, .f32⟩
  | .hbm, ⟨68, _⟩ => ⟨S8x2x4x4096x4352, .f32⟩
  | .hbm, ⟨69, _⟩ => ⟨S8x2x4x4096x4352, .f32⟩
  | .hbm, ⟨70, _⟩ => ⟨S8x2x4x4096x4352, .f32⟩
  | .hbm, ⟨71, _⟩ => ⟨S_, .f32⟩
  | .hbm, ⟨72, _⟩ => ⟨S8x2x4x4096, .f32⟩
  | .hbm, ⟨73, _⟩ => ⟨S8x2x4x4096x1, .f32⟩
  | .hbm, ⟨74, _⟩ => ⟨S8x2x4x4096x1, .f32⟩
  | .hbm, ⟨75, _⟩ => ⟨S8x2x4x4096x1, .f32⟩
  | .hbm, ⟨76, _⟩ => ⟨S8x2x4x4096x1, .f32⟩
  | .hbm, ⟨77, _⟩ => ⟨S8x2x4x4096x1, .f32⟩
  | .hbm, ⟨78, _⟩ => ⟨S8x2x4x4096x4352, .f32⟩
  | .hbm, ⟨79, _⟩ => ⟨S8x2x4x4096x4352, .f32⟩
  | .hbm, ⟨80, _⟩ => ⟨S8x2x64x4x4096, .f32⟩
  | .hbm, ⟨81, _⟩ => ⟨S8x4096x2x4x64, .f32⟩
  | .hbm, ⟨82, _⟩ => ⟨S8x4352x2x4x64, .f32⟩
  | .hbm, ⟨83, _⟩ => ⟨S8x4352x512, .f32⟩
  | .hbm, ⟨84, _⟩ => ⟨S8x4352x512, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_c : Ref sig .tc := ⟨.hbm, 39, rfl⟩
abbrev main_v33 : Ref sig .tc := ⟨.hbm, 40, rfl⟩
abbrev main_v34 : Ref sig .tc := ⟨.hbm, 41, rfl⟩
abbrev main_c_1 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_c_2 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_3 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_v48 : Ref sig .tc := ⟨.hbm, 61, rfl⟩
abbrev main_v49 : Ref sig .tc := ⟨.hbm, 62, rfl⟩
abbrev main_cst_4 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_5 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩

abbrev nD : Nat := 1
abbrev τ : Topo := Topo.v7x

variable {F : FTy → Type} [FloatOps F]
-- ==== Experts.lean ====
abbrev S304 : Shape := ⟨1, ![304]⟩
abbrev S1 : Shape := ⟨1, ![1]⟩
abbrev S155648x1024 : Shape := ⟨2, ![155648, 1024]⟩
abbrev S2x32x1024x2048 : Shape := ⟨4, ![2, 32, 1024, 2048]⟩
abbrev S2x32x1x2048 : Shape := ⟨4, ![2, 32, 1, 2048]⟩
abbrev S2x32x1024x1024 : Shape := ⟨4, ![2, 32, 1024, 1024]⟩
abbrev S2x32x1x1024 : Shape := ⟨4, ![2, 32, 1, 1024]⟩
abbrev S512x1024 : Shape := ⟨2, ![512, 1024]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 6
  | .vmem => 14
  | .smem => 4
  | _ => 0

abbrev bufTy : (tb : Table) → Fin (tcTables nBuf tb) → BufTy
  | .hbm, ⟨0, _⟩ => ⟨S155648x1024, .bf16⟩
  | .hbm, ⟨1, _⟩ => ⟨S2x32x1024x2048, .f32⟩
  | .hbm, ⟨2, _⟩ => ⟨S2x32x1x2048, .f32⟩
  | .hbm, ⟨3, _⟩ => ⟨S2x32x1024x1024, .f32⟩
  | .hbm, ⟨4, _⟩ => ⟨S2x32x1x1024, .f32⟩
  | .hbm, ⟨5, _⟩ => ⟨S155648x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S304, .i32⟩
  | .local _ .smem, ⟨1, _⟩ => ⟨S304, .i32⟩
  | .local _ .smem, ⟨2, _⟩ => ⟨S1, .i32⟩
  | .local _ .smem, ⟨3, _⟩ => ⟨S304, .i32⟩
  | _, _ => ⟨S155648x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![304], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v8 : Index := Scalar.indexCast arg0
  ![v8.toNat]
def k0_cond1 (i : grid0.Coords) (v0 : BitVec 32) : BitVec 1 :=
  let arg0 : BitVec 32 := BitVec.ofNat 32 (i 0).val
  let v1 : BitVec 1 := Scalar.cmpi .sge arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .slt arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S304.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 3 (Rect.unit (s := S304) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S304.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S304.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 3 (Rect.unit (s := S304) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S304.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsReferenceIdeal.lean ====
abbrev S304 : Shape := ⟨1, ![304]⟩
abbrev S1 : Shape := ⟨1, ![1]⟩
abbrev S155648x1024 : Shape := ⟨2, ![155648, 1024]⟩
abbrev S2x32x1024x2048 : Shape := ⟨4, ![2, 32, 1024, 2048]⟩
abbrev S2x32x1x2048 : Shape := ⟨4, ![2, 32, 1, 2048]⟩
abbrev S2x32x1024x1024 : Shape := ⟨4, ![2, 32, 1024, 1024]⟩
abbrev S2x32x1x1024 : Shape := ⟨4, ![2, 32, 1, 1024]⟩
abbrev S1x32x1024x2048 : Shape := ⟨4, ![1, 32, 1024, 2048]⟩
abbrev S32x1024x2048 : Shape := ⟨3, ![32, 1024, 2048]⟩
abbrev S32x2048x155648 : Shape := ⟨3, ![32, 2048, 155648]⟩
abbrev S32x155648x2048 : Shape := ⟨3, ![32, 155648, 2048]⟩
abbrev S1x32x1x2048 : Shape := ⟨4, ![1, 32, 1, 2048]⟩
abbrev S32x1x2048 : Shape := ⟨3, ![32, 1, 2048]⟩
abbrev S32x155648x1024 : Shape := ⟨3, ![32, 155648, 1024]⟩
abbrev S_ : Shape := ⟨0, ![]⟩
abbrev S1x32x1024x1024 : Shape := ⟨4, ![1, 32, 1024, 1024]⟩
abbrev S32x1024x1024 : Shape := ⟨3, ![32, 1024, 1024]⟩
abbrev S1x32x1x1024 : Shape := ⟨4, ![1, 32, 1, 1024]⟩
abbrev S32x1x1024 : Shape := ⟨3, ![32, 1, 1024]⟩
abbrev S1x304 : Shape := ⟨2, ![1, 304]⟩
abbrev S32 : Shape := ⟨1, ![32]⟩
abbrev S32x1 : Shape := ⟨2, ![32, 1]⟩
abbrev S32x304 : Shape := ⟨2, ![32, 304]⟩
abbrev S32x304x512 : Shape := ⟨3, ![32, 304, 512]⟩
abbrev S32x155648 : Shape := ⟨2, ![32, 155648]⟩
abbrev S32x155648x1 : Shape := ⟨3, ![32, 155648, 1]⟩

abbrev nBuf : Space → Nat
  | .hbm => 76
  | .vmem => 0
  | .smem => 0
  | _ => 0

abbrev bufTy : (tb : Table) → Fin (tcTables nBuf tb) → BufTy
  | .hbm, ⟨0, _⟩ => ⟨S304, .i32⟩
  | .hbm, ⟨1, _⟩ => ⟨S304, .i32⟩
  | .hbm, ⟨2, _⟩ => ⟨S1, .i32⟩
  | .hbm, ⟨3, _⟩ => ⟨S304, .i32⟩
  | .hbm, ⟨4, _⟩ => ⟨S155648x1024, .bf16⟩
  | .hbm, ⟨5, _⟩ => ⟨S2x32x1024x2048, .f32⟩
  | .hbm, ⟨6, _⟩ => ⟨S2x32x1x2048, .f32⟩
  | .hbm, ⟨7, _⟩ => ⟨S2x32x1024x1024, .f32⟩
  | .hbm, ⟨8, _⟩ => ⟨S2x32x1x1024, .f32⟩
  | .hbm, ⟨9, _⟩ => ⟨S155648x1024, .f32⟩
  | .hbm, ⟨10, _⟩ => ⟨S1x32x1024x2048, .f32⟩
  | .hbm, ⟨11, _⟩ => ⟨S32x1024x2048, .f32⟩
  | .hbm, ⟨12, _⟩ => ⟨S32x2048x155648, .f32⟩
  | .hbm, ⟨13, _⟩ => ⟨S32x155648x2048, .f32⟩
  | .hbm, ⟨14, _⟩ => ⟨S1x32x1x2048, .f32⟩
  | .hbm, ⟨15, _⟩ => ⟨S32x1x2048, .f32⟩
  | .hbm, ⟨16, _⟩ => ⟨S32x155648x2048, .f32⟩
  | .hbm, ⟨17, _⟩ => ⟨S32x155648x2048, .f32⟩
  | .hbm, ⟨18, _⟩ => ⟨S32x155648x1024, .f32⟩
  | .hbm, ⟨19, _⟩ => ⟨S_, .f32⟩
  | .hbm, ⟨20, _⟩ => ⟨S32x155648x1024, .f32⟩
  | .hbm, ⟨21, _⟩ => ⟨S32x155648x1024, .f32⟩
  | .hbm, ⟨22, _⟩ => ⟨S32x155648x1024, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S32x155648x1024, .f32⟩
  | .hbm, ⟨27, _⟩ => ⟨S32x155648x1024, .f32⟩
  | .hbm, ⟨28, _⟩ => ⟨S_, .f32⟩
  | .hbm, ⟨29, _⟩ => ⟨S32x155648x1024, .f32⟩
  | .hbm, ⟨30, _⟩ => ⟨S32x155648x1024, .f32⟩
  | .hbm, ⟨31, _⟩ => ⟨S_, .f32⟩
  | .hbm, ⟨32, _⟩ => ⟨S32x155648x1024, .f32⟩
  | .hbm, ⟨33, _⟩ => ⟨S32x155648x1024, .f32⟩
  | .hbm, ⟨34, _⟩ => ⟨S32x155648x1024, .f32⟩
  | .hbm, ⟨35, _⟩ => ⟨S32x155648x1024, .f32⟩
  | .hbm, ⟨36, _⟩ => ⟨S_, .f32⟩
  | .hbm, ⟨37, _⟩ => ⟨S32x155648x1024, .f32⟩
  | .hbm, ⟨38, _⟩ => ⟨S32x155648x1024, .f32⟩
  | .hbm, ⟨39, _⟩ => ⟨S_, .f32⟩
  | .hbm, ⟨40, _⟩ => ⟨S32x155648x1024, .f32⟩
  | .hbm, ⟨41, _⟩ => ⟨S32x155648x1024, .f32⟩
  | .hbm, ⟨42, _⟩ => ⟨S32x155648x1024, .f32⟩
  | .hbm, ⟨43, _⟩ => ⟨S_, .f32⟩
  | .hbm, ⟨44, _⟩ => ⟨S32x155648x1024, .f32⟩
  | .hbm, ⟨45, _⟩ => ⟨S32x155648x1024, .f32⟩
  | .hbm, ⟨46, _⟩ => ⟨S32x155648x1024, .f32⟩
  | .hbm, ⟨47, _⟩ => ⟨S1x32x1024x1024, .f32⟩
  | .hbm, ⟨48, _⟩ => ⟨S32x1024x1024, .f32⟩
  | .hbm, ⟨49, _⟩ => ⟨S32x155648x1024, .f32⟩
  | .hbm, ⟨50, _⟩ => ⟨S1x32x1x1024, .f32⟩
  | .hbm, ⟨51, _⟩ => ⟨S32x1x1024, .f32⟩
  | .hbm, ⟨52, _⟩ => ⟨S32x155648x1024, .f32⟩
  | .hbm, ⟨53, _⟩ => ⟨S32x155648x1024, .f32⟩
  | .hbm, ⟨54, _⟩ => ⟨S304, .i32⟩
  | .hbm, ⟨55, _⟩ => ⟨S_, .i32⟩
  | .hbm, ⟨56, _⟩ => ⟨S304, .i32⟩
  | .hbm, ⟨57, _⟩ => ⟨S304, .i1⟩
  | .hbm, ⟨58, _⟩ => ⟨S1x304, .i32⟩
  | .hbm, ⟨59, _⟩ => ⟨S32, .i32⟩
  | .hbm, ⟨60, _⟩ => ⟨S32x1, .i32⟩
  | .hbm, ⟨61, _⟩ => ⟨S32x304, .i32⟩
  | .hbm, ⟨62, _⟩ => ⟨S32x304, .i32⟩
  | .hbm, ⟨63, _⟩ => ⟨S32x304, .i1⟩
  | .hbm, ⟨64, _⟩ => ⟨S1x304, .i1⟩
  | .hbm, ⟨65, _⟩ => ⟨S32x304, .i1⟩
  | .hbm, ⟨66, _⟩ => ⟨S32x304, .i1⟩
  | .hbm, ⟨67, _⟩ => ⟨S32x304, .f32⟩
  | .hbm, ⟨68, _⟩ => ⟨S32x304x512, .f32⟩
  | .hbm, ⟨69, _⟩ => ⟨S32x155648, .f32⟩
  | .hbm, ⟨70, _⟩ => ⟨S32x155648x1, .f32⟩
  | .hbm, ⟨71, _⟩ => ⟨S32x155648x1024, .f32⟩
  | .hbm, ⟨72, _⟩ => ⟨S32x155648x1024, .f32⟩
  | .hbm, ⟨73, _⟩ => ⟨S_, .f32⟩
  | .hbm, ⟨74, _⟩ => ⟨S155648x1024, .f32⟩
  | .hbm, ⟨75, _⟩ => ⟨S155648x1024, .bf16⟩
  | _, _ => ⟨S304, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_6 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]
-- ==== Final.lean ====
abbrev S34816x1024 : Shape := ⟨2, ![34816, 1024]⟩
abbrev S139264x1024 : Shape := ⟨2, ![139264, 1024]⟩
abbrev S34816x4 : Shape := ⟨2, ![34816, 4]⟩
abbrev S16x6x1024 : Shape := ⟨3, ![16, 6, 1024]⟩
abbrev S1x1024 : Shape := ⟨2, ![1, 1024]⟩
abbrev S32768x1024 : Shape := ⟨2, ![32768, 1024]⟩
abbrev S256x1024 : Shape := ⟨2, ![256, 1024]⟩
abbrev S256x4 : Shape := ⟨2, ![256, 4]⟩
abbrev S1x6x1024 : Shape := ⟨3, ![1, 6, 1024]⟩
abbrev S1x1x1024 : Shape := ⟨3, ![1, 1, 1024]⟩
abbrev S256x1 : Shape := ⟨2, ![256, 1]⟩
abbrev S256 : Shape := ⟨1, ![256]⟩

abbrev nBuf : Space → Nat
  | .hbm => 6
  | .vmem => 17
  | .smem => 0
  | _ => 0

abbrev bufTy : (tb : Table) → Fin (tcTables nBuf tb) → BufTy
  | .hbm, ⟨0, _⟩ => ⟨S34816x1024, .f32⟩
  | .hbm, ⟨1, _⟩ => ⟨S139264x1024, .bf16⟩
  | .hbm, ⟨2, _⟩ => ⟨S34816x4, .f32⟩
  | .hbm, ⟨3, _⟩ => ⟨S16x6x1024, .f32⟩
  | .hbm, ⟨4, _⟩ => ⟨S1x1024, .f32⟩
  | .hbm, ⟨5, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x4, .f32⟩
  | .local _ .vmem, ⟨11, _⟩ => ⟨S256x4, .f32⟩
  | .local _ .vmem, ⟨12, _⟩ => ⟨S1x6x1024, .f32⟩
  | .local _ .vmem, ⟨13, _⟩ => ⟨S1x6x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32 : BitVec 32 := 17#32
  let v17 : BitVec 32 := Scalar.muli v16 c17_i32
  let c1_i32_4 : BitVec 32 := 1#32
  let v18 : BitVec 32 := Scalar.addi v17 c1_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c0_i32_11 : BitVec 32 := 0#32
  let c0_i32_12 : BitVec 32 := 0#32
  ![v29.toNat, c0_i32_11.toNat]

def cc0_transform_1 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32 : BitVec 32 := 17#32
  let v17 : BitVec 32 := Scalar.muli v16 c17_i32
  let c1_i32_4 : BitVec 32 := 1#32
  let v18 : BitVec 32 := Scalar.addi v17 c1_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c0_i32_11 : BitVec 32 := 0#32
  let v30 : BitVec 32 := Scalar.addi v29 c0_i32_11
  let c0_i32_12 : BitVec 32 := 0#32
  let c0_i32_13 : BitVec 32 := 0#32
  ![v30.toNat, c0_i32_12.toNat]

def cc0_transform_2 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32 : BitVec 32 := 17#32
  let v17 : BitVec 32 := Scalar.muli v16 c17_i32
  let c1_i32_4 : BitVec 32 := 1#32
  let v18 : BitVec 32 := Scalar.addi v17 c1_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c136_i32 : BitVec 32 := 136#32
  let v30 : BitVec 32 := Scalar.addi v29 c136_i32
  let c0_i32_11 : BitVec 32 := 0#32
  let c0_i32_12 : BitVec 32 := 0#32
  ![v30.toNat, c0_i32_11.toNat]

def cc0_transform_3 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32 : BitVec 32 := 17#32
  let v17 : BitVec 32 := Scalar.muli v16 c17_i32
  let c1_i32_4 : BitVec 32 := 1#32
  let v18 : BitVec 32 := Scalar.addi v17 c1_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c272_i32 : BitVec 32 := 272#32
  let v30 : BitVec 32 := Scalar.addi v29 c272_i32
  let c0_i32_11 : BitVec 32 := 0#32
  let c0_i32_12 : BitVec 32 := 0#32
  ![v30.toNat, c0_i32_11.toNat]

def cc0_transform_4 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32 : BitVec 32 := 17#32
  let v17 : BitVec 32 := Scalar.muli v16 c17_i32
  let c1_i32_4 : BitVec 32 := 1#32
  let v18 : BitVec 32 := Scalar.addi v17 c1_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c408_i32 : BitVec 32 := 408#32
  let v30 : BitVec 32 := Scalar.addi v29 c408_i32
  let c0_i32_11 : BitVec 32 := 0#32
  let c0_i32_12 : BitVec 32 := 0#32
  ![v30.toNat, c0_i32_11.toNat]

def cc0_transform_5 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32 : BitVec 32 := 17#32
  let v17 : BitVec 32 := Scalar.muli v16 c17_i32
  let c1_i32_4 : BitVec 32 := 1#32
  let v18 : BitVec 32 := Scalar.addi v17 c1_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c0_i32_11 : BitVec 32 := 0#32
  let c0_i32_12 : BitVec 32 := 0#32
  ![v29.toNat, c0_i32_11.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let c1_i32_4 : BitVec 32 := 1#32
  let v18 : BitVec 32 := Scalar.addi v17 c1_i32_4
  let c0_i32_5 : BitVec 32 := 0#32
  let c0_i32_6 : BitVec 32 := 0#32
  let c0_i32_7 : BitVec 32 := 0#32
  ![v18.toNat, c0_i32_5.toNat, c0_i32_6.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FinalReferenceIdeal.lean ====
abbrev S34816x1024 : Shape := ⟨2, ![34816, 1024]⟩
abbrev S139264x1024 : Shape := ⟨2, ![139264, 1024]⟩
abbrev S34816x4 : Shape := ⟨2, ![34816, 4]⟩
abbrev S16x6x1024 : Shape := ⟨3, ![16, 6, 1024]⟩
abbrev S1x1024 : Shape := ⟨2, ![1, 1024]⟩
abbrev S8x4352x1024 : Shape := ⟨3, ![8, 4352, 1024]⟩
abbrev S8x4096x1024 : Shape := ⟨3, ![8, 4096, 1024]⟩
abbrev S4x8x4352x1024 : Shape := ⟨4, ![4, 8, 4352, 1024]⟩
abbrev S4x8x4096x1024 : Shape := ⟨4, ![4, 8, 4096, 1024]⟩
abbrev S8x4352x4 : Shape := ⟨3, ![8, 4352, 4]⟩
abbrev S8x4096x4 : Shape := ⟨3, ![8, 4096, 4]⟩
abbrev S4x8x4096 : Shape := ⟨3, ![4, 8, 4096]⟩
abbrev S8x2x6x1024 : Shape := ⟨4, ![8, 2, 6, 1024]⟩
abbrev S8x1x1x1024 : Shape := ⟨4, ![8, 1, 1, 1024]⟩
abbrev S8x1024 : Shape := ⟨2, ![8, 1024]⟩
abbrev S8x1x1024 : Shape := ⟨3, ![8, 1, 1024]⟩
abbrev S4x8x4096x1 : Shape := ⟨4, ![4, 8, 4096, 1]⟩
abbrev S_ : Shape := ⟨0, ![]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 43
  | .vmem => 0
  | .smem => 0
  | _ => 0

abbrev bufTy : (tb : Table) → Fin (tcTables nBuf tb) → BufTy
  | .hbm, ⟨0, _⟩ => ⟨S34816x1024, .f32⟩
  | .hbm, ⟨1, _⟩ => ⟨S139264x1024, .bf16⟩
  | .hbm, ⟨2, _⟩ => ⟨S34816x4, .f32⟩
  | .hbm, ⟨3, _⟩ => ⟨S16x6x1024, .f32⟩
  | .hbm, ⟨4, _⟩ => ⟨S1x1024, .f32⟩
  | .hbm, ⟨5, _⟩ => ⟨S8x4352x1024, .f32⟩
  | .hbm, ⟨6, _⟩ => ⟨S8x4096x1024, .f32⟩
  | .hbm, ⟨7, _⟩ => ⟨S139264x1024, .f32⟩
  | .hbm, ⟨8, _⟩ => ⟨S4x8x4352x1024, .f32⟩
  | .hbm, ⟨9, _⟩ => ⟨S4x8x4096x1024, .f32⟩
  | .hbm, ⟨10, _⟩ => ⟨S8x4352x4, .f32⟩
  | .hbm, ⟨11, _⟩ => ⟨S8x4096x4, .f32⟩
  | .hbm, ⟨12, _⟩ => ⟨S4x8x4096, .f32⟩
  | .hbm, ⟨13, _⟩ => ⟨S8x2x6x1024, .f32⟩
  | .hbm, ⟨14, _⟩ => ⟨S8x1x1x1024, .f32⟩
  | .hbm, ⟨15, _⟩ => ⟨S8x1024, .f32⟩
  | .hbm, ⟨16, _⟩ => ⟨S8x1x1024, .f32⟩
  | .hbm, ⟨17, _⟩ => ⟨S4x8x4096x1, .f32⟩
  | .hbm, ⟨18, _⟩ => ⟨S4x8x4096x1024, .f32⟩
  | .hbm, ⟨19, _⟩ => ⟨S4x8x4096x1024, .f32⟩
  | .hbm, ⟨20, _⟩ => ⟨S_, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S1024, .f32⟩
  | .hbm, ⟨26, _⟩ => ⟨S8x4096x1024, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S8x4096x1, .f32⟩
  | .hbm, ⟨37, _⟩ => ⟨S8x4096x1024, .f32⟩
  | .hbm, ⟨38, _⟩ => ⟨S8x4096x1024, .f32⟩
  | .hbm, ⟨39, _⟩ => ⟨S1x1x1024, .f32⟩
  | .hbm, ⟨40, _⟩ => ⟨S8x4096x1024, .f32⟩
  | .hbm, ⟨41, _⟩ => ⟨S8x4096x1024, .f32⟩
  | .hbm, ⟨42, _⟩ => ⟨S32768x1024, .f32⟩
  | _, _ => ⟨S34816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Projection.lean ====
abbrev S34816x1024 : Shape := ⟨2, ![34816, 1024]⟩
abbrev S16x6x1024 : Shape := ⟨3, ![16, 6, 1024]⟩
abbrev S1x1024 : Shape := ⟨2, ![1, 1024]⟩
abbrev S1024x7424 : Shape := ⟨2, ![1024, 7424]⟩
abbrev S1x3072 : Shape := ⟨2, ![1, 3072]⟩
abbrev S4352x640 : Shape := ⟨2, ![4352, 640]⟩
abbrev S34816x2048 : Shape := ⟨2, ![34816, 2048]⟩
abbrev S34816x512 : Shape := ⟨2, ![34816, 512]⟩
abbrev S34816x128 : Shape := ⟨2, ![34816, 128]⟩
abbrev S34816x1536 : Shape := ⟨2, ![34816, 1536]⟩
abbrev S34816x3072 : Shape := ⟨2, ![34816, 3072]⟩
abbrev S512x1024 : Shape := ⟨2, ![512, 1024]⟩
abbrev S1x6x1024 : Shape := ⟨3, ![1, 6, 1024]⟩
abbrev S256x640 : Shape := ⟨2, ![256, 640]⟩
abbrev S512x2048 : Shape := ⟨2, ![512, 2048]⟩
abbrev S512x512 : Shape := ⟨2, ![512, 512]⟩
abbrev S512x128 : Shape := ⟨2, ![512, 128]⟩
abbrev S512x1536 : Shape := ⟨2, ![512, 1536]⟩
abbrev S512x3072 : Shape := ⟨2, ![512, 3072]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S512x640 : Shape := ⟨2, ![512, 640]⟩
abbrev S1024x1024 : Shape := ⟨2, ![1024, 1024]⟩
abbrev S1024x768 : Shape := ⟨2, ![1024, 768]⟩
abbrev S512x768 : Shape := ⟨2, ![512, 768]⟩
abbrev S1024x1536 : Shape := ⟨2, ![1024, 1536]⟩
abbrev S1024x3072 : Shape := ⟨2, ![1024, 3072]⟩

abbrev nBuf : Space → Nat
  | .hbm => 12
  | .vmem => 25
  | .smem => 0
  | _ => 0

abbrev bufTy : (tb : Table) → Fin (tcTables nBuf tb) → BufTy
  | .hbm, ⟨0, _⟩ => ⟨S34816x1024, .f32⟩
  | .hbm, ⟨1, _⟩ => ⟨S16x6x1024, .f32⟩
  | .hbm, ⟨2, _⟩ => ⟨S1x1024, .f32⟩
  | .hbm, ⟨3, _⟩ => ⟨S1024x7424, .bf16⟩
  | .hbm, ⟨4, _⟩ => ⟨S1x3072, .f32⟩
  | .hbm, ⟨5, _⟩ => ⟨S4352x640, .f32⟩
  | .hbm, ⟨6, _⟩ => ⟨S34816x2048, .bf16⟩
  | .hbm, ⟨7, _⟩ => ⟨S34816x512, .bf16⟩
  | .hbm, ⟨8, _⟩ => ⟨S34816x128, .bf16⟩
  | .hbm, ⟨9, _⟩ => ⟨S34816x128, .bf16⟩
  | .hbm, ⟨10, _⟩ => ⟨S34816x1536, .bf16⟩
  | .hbm, ⟨11, _⟩ => ⟨S34816x3072, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S1024x7424, .bf16⟩
  | .local _ .vmem, ⟨8, _⟩ => ⟨S1x3072, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S512x2048, .bf16⟩
  | .local _ .vmem, ⟨14, _⟩ => ⟨S512x2048, .bf16⟩
  | .local _ .vmem, ⟨15, _⟩ => ⟨S512x512, .bf16⟩
  | .local _ .vmem, ⟨16, _⟩ => ⟨S512x512, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S512x128, .bf16⟩
  | .local _ .vmem, ⟨21, _⟩ => ⟨S512x1536, .bf16⟩
  | .local _ .vmem, ⟨22, _⟩ => ⟨S512x1536, .bf16⟩
  | .local _ .vmem, ⟨23, _⟩ => ⟨S512x3072, .bf16⟩
  | .local _ .vmem, ⟨24, _⟩ => ⟨S512x3072, .bf16⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.muli v18 c2_i32_5
  let c17_i32_6 : BitVec 32 := 17#32
  let c0_i32_7 : BitVec 32 := 0#32
  let v20 : BitVec 1 := Scalar.cmpi .eq c17_i32_6 c0_i32_7
  let c1_i32_8 : BitVec 32 := 1#32
  let v21 : BitVec 32 := Scalar.select v20 c1_i32_8 c17_i32_6
  let v22 : BitVec 32 := Scalar.remsi v1 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c1_i32_12 : BitVec 32 := 1#32
  let v30 : BitVec 1 := Scalar.cmpi .sge v29 c1_i32_12
  let v31 : BitVec 32 := Scalar.extui v30
  let v32 : BitVec 32 := Scalar.addi v19 v31
  let c0_i32_13 : BitVec 32 := 0#32
  let c0_i32_14 : BitVec 32 := 0#32
  let c0_i32_15 : BitVec 32 := 0#32
  ![v32.toNat, c0_i32_13.toNat, c0_i32_14.toNat]

def cc0_transform_2 (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c2_i32_5 : BitVec 32 := 2#32
  let v19 : BitVec 32 := Scalar.muli v18 c2_i32_5
  let c17_i32_6 : BitVec 32 := 17#32
  let c0_i32_7 : BitVec 32 := 0#32
  let v20 : BitVec 1 := Scalar.cmpi .eq c17_i32_6 c0_i32_7
  let c1_i32_8 : BitVec 32 := 1#32
  let v21 : BitVec 32 := Scalar.select v20 c1_i32_8 c17_i32_6
  let v22 : BitVec 32 := Scalar.remsi v1 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c1_i32_12 : BitVec 32 := 1#32
  let v30 : BitVec 1 := Scalar.cmpi .sge v29 c1_i32_12
  let v31 : BitVec 32 := Scalar.extui v30
  let v32 : BitVec 32 := Scalar.addi v19 v31
  let c0_i32_13 : BitVec 32 := 0#32
  let c0_i32_14 : BitVec 32 := 0#32
  let c0_i32_15 : BitVec 32 := 0#32
  ![v32.toNat, c0_i32_13.toNat, c0_i32_14.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c17_i32 : BitVec 32 := 17#32
  let c0_i32_0 : BitVec 32 := 0#32
  let v2 : BitVec 1 := Scalar.cmpi .eq c17_i32 c0_i32_0
  let c1_i32 : BitVec 32 := 1#32
  let v3 : BitVec 32 := Scalar.select v2 c1_i32 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_7 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c17_i32 : BitVec 32 := 17#32
  let c0_i32 : BitVec 32 := 0#32
  let v2 : BitVec 1 := Scalar.cmpi .eq c17_i32 c0_i32
  let c1_i32_0 : BitVec 32 := 1#32
  let v3 : BitVec 32 := Scalar.select v2 c1_i32_0 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x7424 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ProjectionReferenceIdeal.lean ====
abbrev S34816x1024 : Shape := ⟨2, ![34816, 1024]⟩
abbrev S16x6x1024 : Shape := ⟨3, ![16, 6, 1024]⟩
abbrev S1x1024 : Shape := ⟨2, ![1, 1024]⟩
abbrev S1024x7424 : Shape := ⟨2, ![1024, 7424]⟩
abbrev S1x3072 : Shape := ⟨2, ![1, 3072]⟩
abbrev S4352x640 : Shape := ⟨2, ![4352, 640]⟩
abbrev S8x4352x1024 : Shape := ⟨3, ![8, 4352, 1024]⟩
abbrev S8x2x6x1024 : Shape := ⟨4, ![8, 2, 6, 1024]⟩
abbrev S8x256x1024 : Shape := ⟨3, ![8, 256, 1024]⟩
abbrev S1024 : Shape := ⟨1, ![1024]⟩
abbrev S8x1x1x1024 : Shape := ⟨4, ![8, 1, 1, 1024]⟩
abbrev S8x1024 : Shape := ⟨2, ![8, 1024]⟩
abbrev S8x1x1024 : Shape := ⟨3, ![8, 1, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x4096x1024 : Shape := ⟨3, ![8, 4096, 1024]⟩
abbrev S8x4096 : Shape := ⟨2, ![8, 4096]⟩
abbrev S8x4096x1 : Shape := ⟨3, ![8, 4096, 1]⟩
abbrev S8x4352x7424 : Shape := ⟨3, ![8, 4352, 7424]⟩
abbrev S8x4352x128 : Shape := ⟨3, ![8, 4352, 128]⟩
abbrev S8x4352x1536 : Shape := ⟨3, ![8, 4352, 1536]⟩
abbrev S8x4352x3072 : Shape := ⟨3, ![8, 4352, 3072]⟩
abbrev S3072 : Shape := ⟨1, ![3072]⟩
abbrev S1x1x3072 : Shape := ⟨3, ![1, 1, 3072]⟩
abbrev S34816x128 : Shape := ⟨2, ![34816, 128]⟩
abbrev S34816x1536 : Shape := ⟨2, ![34816, 1536]⟩
abbrev S34816x3072 : Shape := ⟨2, ![34816, 3072]⟩

abbrev nBuf : Space → Nat
  | .hbm => 94
  | .vmem => 0
  | .smem => 0
  | _ => 0

abbrev bufTy : (tb : Table) → Fin (tcTables nBuf tb) → BufTy
  | .hbm, ⟨0, _⟩ => ⟨S34816x1024, .f32⟩
  | .hbm, ⟨1, _⟩ => ⟨S16x6x1024, .f32⟩
  | .hbm, ⟨2, _⟩ => ⟨S1x1024, .f32⟩
  | .hbm, ⟨3, _⟩ => ⟨S1024x7424, .bf16⟩
  | .hbm, ⟨4, _⟩ => ⟨S1x3072, .f32⟩
  | .hbm, ⟨5, _⟩ => ⟨S4352x640, .f32⟩
  | .hbm, ⟨6, _⟩ => ⟨S8x4352x1024, .f32⟩
  | .hbm, ⟨7, _⟩ => ⟨S8x2x6x1024, .f32⟩
  | .hbm, ⟨8, _⟩ => ⟨S8x256x1024, .f32⟩
  | .hbm, ⟨9, _⟩ => ⟨S1024, .f32⟩
  | .hbm, ⟨10, _⟩ => ⟨S8x1x1x1024, .f32⟩
  | .hbm, ⟨11, _⟩ => ⟨S8x1024, .f32⟩
  | .hbm, ⟨12, _⟩ => ⟨S8x1x1024, .f32⟩
  | .hbm, ⟨13, _⟩ => ⟨S8x1x1x1024, .f32⟩
  | .hbm, ⟨14, _⟩ => ⟨S8x1024, .f32⟩
  | .hbm, ⟨15, _⟩ => ⟨S8x1x1024, .f32⟩
  | .hbm, ⟨16, _⟩ => ⟨S8x256x1024, .f32⟩
  | .hbm, ⟨17, _⟩ => ⟨S_, .f32⟩
  | .hbm, ⟨18, _⟩ => ⟨S8x256, .f32⟩
  | .hbm, ⟨19, _⟩ => ⟨S8x256x1, .f32⟩
  | .hbm, ⟨20, _⟩ => ⟨S_, .f32⟩
  | .hbm, ⟨21, _⟩ => ⟨S8x256x1, .f32⟩
  | .hbm, ⟨22, _⟩ => ⟨S8x256x1, .f32⟩
  | .hbm, ⟨23, _⟩ => ⟨S_, .f32⟩
  | .hbm, ⟨24, _⟩ => ⟨S8x256x1, .f32⟩
  | .hbm, ⟨25, _⟩ => ⟨S8x256x1, .f32⟩
  | .hbm, ⟨26, _⟩ => ⟨S8x256x1, .f32⟩
  | .hbm, ⟨27, _⟩ => ⟨S8x256x1024, .f32⟩
  | .hbm, ⟨28, _⟩ => ⟨S8x256x1024, .f32⟩
  | .hbm, ⟨29, _⟩ => ⟨S1x1x1024, .f32⟩
  | .hbm, ⟨30, _⟩ => ⟨S8x256x1024, .f32⟩
  | .hbm, ⟨31, _⟩ => ⟨S8x256x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S8x256x1024, .f32⟩
  | .hbm, ⟨36, _⟩ => ⟨S8x256x1024, .f32⟩
  | .hbm, ⟨37, _⟩ => ⟨S8x256x1024, .f32⟩
  | .hbm, ⟨38, _⟩ => ⟨S8x256x1024, .f32⟩
  | .hbm, ⟨39, _⟩ => ⟨S8x4096x1024, .f32⟩
  | .hbm, ⟨40, _⟩ => ⟨S1024, .f32⟩
  | .hbm, ⟨41, _⟩ => ⟨S8x1x1x1024, .f32⟩
  | .hbm, ⟨42, _⟩ => ⟨S8x1024, .f32⟩
  | .hbm, ⟨43, _⟩ => ⟨S8x1x1024, .f32⟩
  | .hbm, ⟨44, _⟩ => ⟨S8x1x1x1024, .f32⟩
  | .hbm, ⟨45, _⟩ => ⟨S8x1024, .f32⟩
  | .hbm, ⟨46, _⟩ => ⟨S8x1x1024, .f32⟩
  | .hbm, ⟨47, _⟩ => ⟨S8x4096x1024, .f32⟩
  | .hbm, ⟨48, _⟩ => ⟨S_, .f32⟩
  | .hbm, ⟨49, _⟩ => ⟨S8x4096, .f32⟩
  | .hbm, ⟨50, _⟩ => ⟨S8x4096x1, .f32⟩
  | .hbm, ⟨51, _⟩ => ⟨S_, .f32⟩
  | .hbm, ⟨52, _⟩ => ⟨S8x4096x1, .f32⟩
  | .hbm, ⟨53, _⟩ => ⟨S8x4096x1, .f32⟩
  | .hbm, ⟨54, _⟩ => ⟨S_, .f32⟩
  | .hbm, ⟨55, _⟩ => ⟨S8x4096x1, .f32⟩
  | .hbm, ⟨56, _⟩ => ⟨S8x4096x1, .f32⟩
  | .hbm, ⟨57, _⟩ => ⟨S8x4096x1, .f32⟩
  | .hbm, ⟨58, _⟩ => ⟨S8x4096x1024, .f32⟩
  | .hbm, ⟨59, _⟩ => ⟨S8x4096x1024, .f32⟩
  | .hbm, ⟨60, _⟩ => ⟨S1x1x1024, .f32⟩
  | .hbm, ⟨61, _⟩ => ⟨S8x4096x1024, .f32⟩
  | .hbm, ⟨62, _⟩ => ⟨S8x4096x1024, .f32⟩
  | .hbm, ⟨63, _⟩ => ⟨S_, .f32⟩
  | .hbm, ⟨64, _⟩ => ⟨S8x1x1024, .f32⟩
  | .hbm, ⟨65, _⟩ => ⟨S8x1x1024, .f32⟩
  | .hbm, ⟨66, _⟩ => ⟨S8x4096x1024, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | .hbm, ⟨70, _⟩ => ⟨S8x4352x1024, .f32⟩
  | .hbm, ⟨71, _⟩ => ⟨S1024x7424, .f32⟩
  | .hbm, ⟨72, _⟩ => ⟨S8x4352x7424, .f32⟩
  | .hbm, ⟨73, _⟩ => ⟨S8x4352x128, .f32⟩
  | .hbm, ⟨74, _⟩ => ⟨S8x4352x1536, .f32⟩
  | .hbm, ⟨75, _⟩ => ⟨S8x4352x3072, .f32⟩
  | .hbm, ⟨76, _⟩ => ⟨S3072, .f32⟩
  | .hbm, ⟨77, _⟩ => ⟨S1x1x3072, .f32⟩
  | .hbm, ⟨78, _⟩ => ⟨S8x4352x3072, .f32⟩
  | .hbm, ⟨79, _⟩ => ⟨S8x4352x3072, .f32⟩
  | .hbm, ⟨80, _⟩ => ⟨S8x4352x3072, .f32⟩
  | .hbm, ⟨81, _⟩ => ⟨S8x4352x3072, .f32⟩
  | .hbm, ⟨82, _⟩ => ⟨S_, .f32⟩
  | .hbm, ⟨83, _⟩ => ⟨S8x4352x3072, .f32⟩
  | .hbm, ⟨84, _⟩ => ⟨S8x4352x3072, .f32⟩
  | .hbm, ⟨85, _⟩ => ⟨S_, .f32⟩
  | .hbm, ⟨86, _⟩ => ⟨S8x4352x3072, .f32⟩
  | .hbm, ⟨87, _⟩ => ⟨S8x4352x3072, .f32⟩
  | .hbm, ⟨88, _⟩ => ⟨S34816x128, .f32⟩
  | .hbm, ⟨89, _⟩ => ⟨S34816x128, .bf16⟩
  | .hbm, ⟨90, _⟩ => ⟨S34816x1536, .f32⟩
  | .hbm, ⟨91, _⟩ => ⟨S34816x1536, .bf16⟩
  | .hbm, ⟨92, _⟩ => ⟨S34816x3072, .f32⟩
  | .hbm, ⟨93, _⟩ => ⟨S34816x3072, .bf16⟩
  | _, _ => ⟨S34816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_7 : Ref sig .tc := ⟨.hbm, 82, rfl⟩
abbrev main_v68 : Ref sig .tc := ⟨.hbm, 83, rfl⟩
abbrev main_v69 : Ref sig .tc := ⟨.hbm, 84, rfl⟩
abbrev main_cst_8 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩

abbrev nD : Nat := 1
abbrev τ : Topo := Topo.v7x

variable {F : FTy → Type} [FloatOps F]
-- ==== Merge.lean ====
abbrev S34816x1024 : Shape := ⟨2, ![34816, 1024]⟩
abbrev S34816x512 : Shape := ⟨2, ![34816, 512]⟩
abbrev S512x2048 : Shape := ⟨2, ![512, 2048]⟩
abbrev S512x32768 : Shape := ⟨2, ![512, 32768]⟩
abbrev S34816x3072 : Shape := ⟨2, ![34816, 3072]⟩
abbrev S16x6x1024 : Shape := ⟨3, ![16, 6, 1024]⟩
abbrev S3x512x1024 : Shape := ⟨3, ![3, 512, 1024]⟩
abbrev S1024x1024 : Shape := ⟨2, ![1024, 1024]⟩
abbrev S1x1024 : Shape := ⟨2, ![1, 1024]⟩
abbrev S2x32x1024 : Shape := ⟨3, ![2, 32, 1024]⟩
abbrev S32x1 : Shape := ⟨2, ![32, 1]⟩
abbrev S136x4x256 : Shape := ⟨3, ![136, 4, 256]⟩
abbrev S32x128 : Shape := ⟨2, ![32, 128]⟩
abbrev S512x1024 : Shape := ⟨2, ![512, 1024]⟩
abbrev S512x512 : Shape := ⟨2, ![512, 512]⟩
abbrev S512x256 : Shape := ⟨2, ![512, 256]⟩
abbrev S512x3072 : Shape := ⟨2, ![512, 3072]⟩
abbrev S1x6x1024 : Shape := ⟨3, ![1, 6, 1024]⟩
abbrev S2x4x256 : Shape := ⟨3, ![2, 4, 256]⟩
abbrev S256x512 : Shape := ⟨2, ![256, 512]⟩
abbrev S1x512x1024 : Shape := ⟨3, ![1, 512, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1x32x1024 : Shape := ⟨3, ![1, 32, 1024]⟩
abbrev S32x1024 : Shape := ⟨2, ![32, 1024]⟩
abbrev S32x256 : Shape := ⟨2, ![32, 256]⟩
abbrev S1x256 : Shape := ⟨2, ![1, 256]⟩
abbrev S4x256 : Shape := ⟨2, ![4, 256]⟩
abbrev S256x256 : Shape := ⟨2, ![256, 256]⟩
abbrev S32 : Shape := ⟨1, ![32]⟩
abbrev S1x4x256 : Shape := ⟨3, ![1, 4, 256]⟩

abbrev nBuf : Space → Nat
  | .hbm => 19
  | .vmem => 39
  | .smem => 0
  | _ => 0

abbrev bufTy : (tb : Table) → Fin (tcTables nBuf tb) → BufTy
  | .hbm, ⟨0, _⟩ => ⟨S34816x1024, .f32⟩
  | .hbm, ⟨1, _⟩ => ⟨S34816x512, .bf16⟩
  | .hbm, ⟨2, _⟩ => ⟨S34816x512, .bf16⟩
  | .hbm, ⟨3, _⟩ => ⟨S34816x512, .bf16⟩
  | .hbm, ⟨4, _⟩ => ⟨S512x2048, .bf16⟩
  | .hbm, ⟨5, _⟩ => ⟨S512x32768, .bf16⟩
  | .hbm, ⟨6, _⟩ => ⟨S34816x3072, .bf16⟩
  | .hbm, ⟨7, _⟩ => ⟨S16x6x1024, .f32⟩
  | .hbm, ⟨8, _⟩ => ⟨S3x512x1024, .bf16⟩
  | .hbm, ⟨9, _⟩ => ⟨S1024x1024, .bf16⟩
  | .hbm, ⟨10, _⟩ => ⟨S1x1024, .f32⟩
  | .hbm, ⟨11, _⟩ => ⟨S2x32x1024, .bf16⟩
  | .hbm, ⟨12, _⟩ => ⟨S32x1, .f32⟩
  | .hbm, ⟨13, _⟩ => ⟨S34816x1024, .f32⟩
  | .hbm, ⟨14, _⟩ => ⟨S34816x1024, .bf16⟩
  | .hbm, ⟨15, _⟩ => ⟨S136x4x256, .i32⟩
  | .hbm, ⟨16, _⟩ => ⟨S136x4x256, .f32⟩
  | .hbm, ⟨17, _⟩ => ⟨S136x4x256, .i32⟩
  | .hbm, ⟨18, _⟩ => ⟨S32x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x3072, .bf16⟩
  | .local _ .vmem, ⟨17, _⟩ => ⟨S512x3072, .bf16⟩
  | .local _ .vmem, ⟨18, _⟩ => ⟨S1x6x1024, .f32⟩
  | .local _ .vmem, ⟨19, _⟩ => ⟨S1x6x1024, .f32⟩
  | .local _ .vmem, ⟨20, _⟩ => ⟨S1x6x1024, .f32⟩
  | .local _ .vmem, ⟨21, _⟩ => ⟨S1x6x1024, .f32⟩
  | .local _ .vmem, ⟨22, _⟩ => ⟨S3x512x1024, .bf16⟩
  | .local _ .vmem, ⟨23, _⟩ => ⟨S1024x1024, .bf16⟩
  | .local _ .vmem, ⟨24, _⟩ => ⟨S1x1024, .f32⟩
  | .local _ .vmem, ⟨25, _⟩ => ⟨S2x32x1024, .bf16⟩
  | .local _ .vmem, ⟨26, _⟩ => ⟨S32x1, .f32⟩
  | .local _ .vmem, ⟨27, _⟩ => ⟨S512x1024, .f32⟩
  | .local _ .vmem, ⟨28, _⟩ => ⟨S512x1024, .f32⟩
  | .local _ .vmem, ⟨29, _⟩ => ⟨S512x1024, .bf16⟩
  | .local _ .vmem, ⟨30, _⟩ => ⟨S512x1024, .bf16⟩
  | .local _ .vmem, ⟨31, _⟩ => ⟨S2x4x256, .i32⟩
  | .local _ .vmem, ⟨32, _⟩ => ⟨S2x4x256, .i32⟩
  | .local _ .vmem, ⟨33, _⟩ => ⟨S2x4x256, .f32⟩
  | .local _ .vmem, ⟨34, _⟩ => ⟨S2x4x256, .f32⟩
  | .local _ .vmem, ⟨35, _⟩ => ⟨S2x4x256, .i32⟩
  | .local _ .vmem, ⟨36, _⟩ => ⟨S2x4x256, .i32⟩
  | .local _ .vmem, ⟨37, _⟩ => ⟨S32x128, .f32⟩
  | .local _ .vmem, ⟨38, _⟩ => ⟨S32x1, .f32⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.muli v18 c1_i32_5
  let c17_i32_6 : BitVec 32 := 17#32
  let c0_i32_7 : BitVec 32 := 0#32
  let v20 : BitVec 1 := Scalar.cmpi .eq c17_i32_6 c0_i32_7
  let c1_i32_8 : BitVec 32 := 1#32
  let v21 : BitVec 32 := Scalar.select v20 c1_i32_8 c17_i32_6
  let v22 : BitVec 32 := Scalar.remsi v1 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let v30 : BitVec 32 := Scalar.minsi v29 c0_i32_12
  let v31 : BitVec 32 := Scalar.addi v19 v30
  let c0_i32_13 : BitVec 32 := 0#32
  let c0_i32_14 : BitVec 32 := 0#32
  ![c0_i32_13.toNat, v31.toNat]

def cc0_transform_5 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let v19 : BitVec 32 := Scalar.muli v18 c1_i32_5
  let c17_i32_6 : BitVec 32 := 17#32
  let c0_i32_7 : BitVec 32 := 0#32
  let v20 : BitVec 1 := Scalar.cmpi .eq c17_i32_6 c0_i32_7
  let c1_i32_8 : BitVec 32 := 1#32
  let v21 : BitVec 32 := Scalar.select v20 c1_i32_8 c17_i32_6
  let v22 : BitVec 32 := Scalar.remsi v1 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let v30 : BitVec 32 := Scalar.minsi v29 c0_i32_12
  let v31 : BitVec 32 := Scalar.addi v19 v30
  let c0_i32_13 : BitVec 32 := 0#32
  let c0_i32_14 : BitVec 32 := 0#32
  ![c0_i32_13.toNat, v31.toNat]

def cc0_transform_6 (i : grid0.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c16_i32 : BitVec 32 := 16#32
  let v19 : BitVec 32 := Scalar.muli v18 c16_i32
  let c17_i32_5 : BitVec 32 := 17#32
  let c0_i32_6 : BitVec 32 := 0#32
  let v20 : BitVec 1 := Scalar.cmpi .eq c17_i32_5 c0_i32_6
  let c1_i32_7 : BitVec 32 := 1#32
  let v21 : BitVec 32 := Scalar.select v20 c1_i32_7 c17_i32_5
  let v22 : BitVec 32 := Scalar.remsi v1 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.subi v29 c1_i32_11
  let c0_i32_12 : BitVec 32 := 0#32
  let v31 : BitVec 32 := Scalar.maxsi v30 c0_i32_12
  let v32 : BitVec 32 := Scalar.addi v19 v31
  let c0_i32_13 : BitVec 32 := 0#32
  let c0_i32_14 : BitVec 32 := 0#32
  ![c0_i32_13.toNat, v32.toNat]

def cc0_transform_7 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c16_i32 : BitVec 32 := 16#32
  let v19 : BitVec 32 := Scalar.muli v18 c16_i32
  let c17_i32_5 : BitVec 32 := 17#32
  let c0_i32_6 : BitVec 32 := 0#32
  let v20 : BitVec 1 := Scalar.cmpi .eq c17_i32_5 c0_i32_6
  let c1_i32_7 : BitVec 32 := 1#32
  let v21 : BitVec 32 := Scalar.select v20 c1_i32_7 c17_i32_5
  let v22 : BitVec 32 := Scalar.remsi v1 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.subi v29 c1_i32_11
  let c0_i32_12 : BitVec 32 := 0#32
  let v31 : BitVec 32 := Scalar.maxsi v30 c0_i32_12
  let v32 : BitVec 32 := Scalar.addi v19 v31
  let c0_i32_13 : BitVec 32 := 0#32
  let c0_i32_14 : BitVec 32 := 0#32
  ![c0_i32_13.toNat, v32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.muli v18 c2_i32_5
  let c17_i32_6 : BitVec 32 := 17#32
  let c0_i32_7 : BitVec 32 := 0#32
  let v20 : BitVec 1 := Scalar.cmpi .eq c17_i32_6 c0_i32_7
  let c1_i32_8 : BitVec 32 := 1#32
  let v21 : BitVec 32 := Scalar.select v20 c1_i32_8 c17_i32_6
  let v22 : BitVec 32 := Scalar.remsi v1 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c1_i32_12 : BitVec 32 := 1#32
  let v30 : BitVec 1 := Scalar.cmpi .sge v29 c1_i32_12
  let v31 : BitVec 32 := Scalar.extui v30
  let v32 : BitVec 32 := Scalar.addi v19 v31
  let c0_i32_13 : BitVec 32 := 0#32
  let c0_i32_14 : BitVec 32 := 0#32
  let c0_i32_15 : BitVec 32 := 0#32
  ![v32.toNat, c0_i32_13.toNat, c0_i32_14.toNat]

def cc0_transform_10 (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c2_i32_5 : BitVec 32 := 2#32
  let v19 : BitVec 32 := Scalar.muli v18 c2_i32_5
  let c17_i32_6 : BitVec 32 := 17#32
  let c0_i32_7 : BitVec 32 := 0#32
  let v20 : BitVec 1 := Scalar.cmpi .eq c17_i32_6 c0_i32_7
  let c1_i32_8 : BitVec 32 := 1#32
  let v21 : BitVec 32 := Scalar.select v20 c1_i32_8 c17_i32_6
  let v22 : BitVec 32 := Scalar.remsi v1 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c1_i32_12 : BitVec 32 := 1#32
  let v30 : BitVec 1 := Scalar.cmpi .sge v29 c1_i32_12
  let v31 : BitVec 32 := Scalar.extui v30
  let v32 : BitVec 32 := Scalar.addi v19 v31
  let c0_i32_13 : BitVec 32 := 0#32
  let c0_i32_14 : BitVec 32 := 0#32
  let c0_i32_15 : BitVec 32 := 0#32
  ![v32.toNat, c0_i32_13.toNat, c0_i32_14.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x6x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x6x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x32x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x4x256 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x4x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2x4x256 .i32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S32x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== MergeReferenceIdeal.lean ====
abbrev S34816x1024 : Shape := ⟨2, ![34816, 1024]⟩
abbrev S34816x512 : Shape := ⟨2, ![34816, 512]⟩
abbrev S512x2048 : Shape := ⟨2, ![512, 2048]⟩
abbrev S512x32768 : Shape := ⟨2, ![512, 32768]⟩
abbrev S34816x3072 : Shape := ⟨2, ![34816, 3072]⟩
abbrev S16x6x1024 : Shape := ⟨3, ![16, 6, 1024]⟩
abbrev S3x512x1024 : Shape := ⟨3, ![3, 512, 1024]⟩
abbrev S1024x1024 : Shape := ⟨2, ![1024, 1024]⟩
abbrev S1x1024 : Shape := ⟨2, ![1, 1024]⟩
abbrev S2x32x1024 : Shape := ⟨3, ![2, 32, 1024]⟩
abbrev S32x1 : Shape := ⟨2, ![32, 1]⟩
abbrev S2048x512 : Shape := ⟨2, ![2048, 512]⟩
abbrev S8x256x512 : Shape := ⟨3, ![8, 256, 512]⟩
abbrev S32768x512 : Shape := ⟨2, ![32768, 512]⟩
abbrev S8x4096x512 : Shape := ⟨3, ![8, 4096, 512]⟩
abbrev S8x4352x512 : Shape := ⟨3, ![8, 4352, 512]⟩
abbrev S8x4352x3072 : Shape := ⟨3, ![8, 4352, 3072]⟩
abbrev S8x4352x1024 : Shape := ⟨3, ![8, 4352, 1024]⟩
abbrev S1x512x1024 : Shape := ⟨3, ![1, 512, 1024]⟩
abbrev S512x1024 : Shape := ⟨2, ![512, 1024]⟩
abbrev S8x2x6x1024 : Shape := ⟨4, ![8, 2, 6, 1024]⟩
abbrev S8x256x1024 : Shape := ⟨3, ![8, 256, 1024]⟩
abbrev S8x1x1x1024 : Shape := ⟨4, ![8, 1, 1, 1024]⟩
abbrev S8x1024 : Shape := ⟨2, ![8, 1024]⟩
abbrev S8x1x1024 : Shape := ⟨3, ![8, 1, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x4096x1024 : Shape := ⟨3, ![8, 4096, 1024]⟩
abbrev S8x4096 : Shape := ⟨2, ![8, 4096]⟩
abbrev S8x4096x1 : Shape := ⟨3, ![8, 4096, 1]⟩

abbrev nBuf : Space → Nat
  | .hbm => 133
  | .vmem => 0
  | .smem => 0
  | _ => 0

abbrev hbmTy0_0 (i : Nat) : BufTy := match i % 128 with
  | 0 => ⟨S34816x1024, .f32⟩
  | 1 => ⟨S34816x512, .bf16⟩
  | 2 => ⟨S34816x512, .bf16⟩
  | 3 => ⟨S34816x512, .bf16⟩
  | 4 => ⟨S512x2048, .bf16⟩
  | 5 => ⟨S512x32768, .bf16⟩
  | 6 => ⟨S34816x3072, .bf16⟩
  | 7 => ⟨S16x6x1024, .f32⟩
  | 8 => ⟨S3x512x1024, .bf16⟩
  | 9 => ⟨S1024x1024, .bf16⟩
  | 10 => ⟨S1x1024, .f32⟩
  | 11 => ⟨S2x32x1024, .bf16⟩
  | 12 => ⟨S32x1, .f32⟩
  | 13 => ⟨S512x2048, .f32⟩
  | 14 => ⟨S2048x512, .f32⟩
  | 15 => ⟨S8x256x512, .f32⟩
  | 16 => ⟨S512x32768, .f32⟩
  | 17 => ⟨S32768x512, .f32⟩
  | 18 => ⟨S8x4096x512, .f32⟩
  | 19 => ⟨S34816x512, .f32⟩
  | 20 => ⟨S8x4352x512, .f32⟩
  | 21 => ⟨S8x4352x512, .f32⟩
  | 22 => ⟨S8x4352x512, .f32⟩
  | 23 => ⟨S34816x3072, .f32⟩
  | 24 => ⟨S8x4352x3072, .f32⟩
  | 25 => ⟨S8x4352x1024, .f32⟩
  | 26 => ⟨S8x4352x1024, .f32⟩
  | 27 => ⟨S8x4352x1024, .f32⟩
  | 28 => ⟨S3x512x1024, .f32⟩
  | 29 => ⟨S34816x512, .f32⟩
  | 30 => ⟨S8x4352x512, .f32⟩
  | 31 => ⟨S1x512x1024, .f32⟩
  | 32 => ⟨S512x1024, .f32⟩
  | 33 => ⟨S8x4352x1024, .f32⟩
  | 34 => ⟨S8x4352x1024, .f32⟩
  | 35 => ⟨S34816x512, .f32⟩
  | 36 => ⟨S8x4352x512, .f32⟩
  | 37 => ⟨S1x512x1024, .f32⟩
  | 38 => ⟨S512x1024, .f32⟩
  | 39 => ⟨S8x4352x1024, .f32⟩
  | 40 => ⟨S8x4352x1024, .f32⟩
  | 41 => ⟨S8x4352x1024, .f32⟩
  | 42 => ⟨S1x512x1024, .f32⟩
  | 43 => ⟨S512x1024, .f32⟩
  | 44 => ⟨S8x4352x1024, .f32⟩
  | 45 => ⟨S8x4352x1024, .f32⟩
  | 46 => ⟨S8x4352x1024, .f32⟩
  | 47 => ⟨S1024x1024, .f32⟩
  | 48 => ⟨S8x4352x1024, .f32⟩
  | 49 => ⟨S8x2x6x1024, .f32⟩
  | 50 => ⟨S8x4352x1024, .f32⟩
  | 51 => ⟨S8x256x1024, .f32⟩
  | 52 => ⟨S8x256x1024, .f32⟩
  | 53 => ⟨S8x1x1x1024, .f32⟩
  | 54 => ⟨S8x1024, .f32⟩
  | 55 => ⟨S8x1x1024, .f32⟩
  | 56 => ⟨S8x256x1024, .f32⟩
  | 57 => ⟨S8x256x1024, .f32⟩
  | 58 => ⟨S8x256x1024, .f32⟩
  | 59 => ⟨S1024, .f32⟩
  | 60 => ⟨S8x1x1x1024, .f32⟩
  | 61 => ⟨S8x1024, .f32⟩
  | 62 => ⟨S8x1x1024, .f32⟩
  | 63 => ⟨S8x1x1x1024, .f32⟩
  | 64 => ⟨S8x1024, .f32⟩
  | 65 => ⟨S8x1x1024, .f32⟩
  | 66 => ⟨S8x256x1024, .f32⟩
  | 67 => ⟨S_, .f32⟩
  | 68 => ⟨S8x256, .f32⟩
  | 69 => ⟨S8x256x1, .f32⟩
  | 70 => ⟨S_, .f32⟩
  | 71 => ⟨S8x256x1, .f32⟩
  | 72 => ⟨S8x256x1, .f32⟩
  | 73 => ⟨S_, .f32⟩
  | 74 => ⟨S8x256x1, .f32⟩
  | 75 => ⟨S8x256x1, .f32⟩
  | 76 => ⟨S8x256x1, .f32⟩
  | 77 => ⟨S8x256x1024, .f32⟩
  | 78 => ⟨S8x256x1024, .f32⟩
  | 79 => ⟨S1x1x1024, .f32⟩
  | 80 => ⟨S8x256x1024, .f32⟩
  | 81 => ⟨S8x256x1024, .f32⟩
  | 82 => ⟨S_, .f32⟩
  | 83 => ⟨S8x1x1024, .f32⟩
  | 84 => ⟨S8x1x1024, .f32⟩
  | 85 => ⟨S8x256x1024, .f32⟩
  | 86 => ⟨S8x256x1024, .f32⟩
  | 87 => ⟨S8x256x1024, .f32⟩
  | 88 => ⟨S8x256x1024, .f32⟩
  | 89 => ⟨S8x4352x1024, .f32⟩
  | 90 => ⟨S8x4096x1024, .f32⟩
  | 91 => ⟨S8x4096x1024, .f32⟩
  | 92 => ⟨S8x1x1x1024, .f32⟩
  | 93 => ⟨S8x1024, .f32⟩
  | 94 => ⟨S8x1x1024, .f32⟩
  | 95 => ⟨S8x4096x1024, .f32⟩
  | 96 => ⟨S8x4096x1024, .f32⟩
  | 97 => ⟨S8x4096x1024, .f32⟩
  | 98 => ⟨S1024, .f32⟩
  | 99 => ⟨S8x1x1x1024, .f32⟩
  | 100 => ⟨S8x1024, .f32⟩
  | 101 => ⟨S8x1x1024, .f32⟩
  | 102 => ⟨S8x1x1x1024, .f32⟩
  | 103 => ⟨S8x1024, .f32⟩
  | 104 => ⟨S8x1x1024, .f32⟩
  | 105 => ⟨S8x4096x1024, .f32⟩
  | 106 => ⟨S_, .f32⟩
  | 107 => ⟨S8x4096, .f32⟩
  | 108 => ⟨S8x4096x1, .f32⟩
  | 109 => ⟨S_, .f32⟩
  | 110 => ⟨S8x4096x1, .f32⟩
  | 111 => ⟨S8x4096x1, .f32⟩
  | 112 => ⟨S_, .f32⟩
  | 113 => ⟨S8x4096x1, .f32⟩
  | 114 => ⟨S8x4096x1, .f32⟩
  | 115 => ⟨S8x4096x1, .f32⟩
  | 116 => ⟨S8x4096x1024, .f32⟩
  | 117 => ⟨S8x4096x1024, .f32⟩
  | 118 => ⟨S1x1x1024, .f32⟩
  | 119 => ⟨S8x4096x1024, .f32⟩
  | 120 => ⟨S8x4096x1024, .f32⟩
  | 121 => ⟨S_, .f32⟩
  | 122 => ⟨S8x1x1024, .f32⟩
  | 123 => ⟨S8x1x1024, .f32⟩
  | 124 => ⟨S8x4096x1024, .f32⟩
  | 125 => ⟨S8x4096x1024, .f32⟩
  | 126 => ⟨S8x4096x1024, .f32⟩
  | 127 => ⟨S8x4096x1024, .f32⟩
  | _ => ⟨S34816x1024, .f32⟩

abbrev hbmTy0_1 (i : Nat) : BufTy := match i % 128 with
  | 0 => ⟨S8x4352x1024, .f32⟩
  | 1 => ⟨S34816x1024, .f32⟩
  | 2 => ⟨S8x4352x1024, .f32⟩
  | 3 => ⟨S34816x1024, .f32⟩
  | 4 => ⟨S34816x1024, .bf16⟩
  | _ => ⟨S34816x1024, .f32⟩

abbrev hbmTy (i : Nat) : BufTy := match i / 128 with
  | 0 => hbmTy0_0 i
  | 1 => hbmTy0_1 i
  | _ => ⟨S34816x1024, .f32⟩

abbrev bufTy : (tb : Table) → Fin (tcTables nBuf tb) → BufTy
  | .hbm, ⟨i, _⟩ => hbmTy i
  | _, _ => ⟨S34816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst : Ref sig .tc := ⟨.hbm, 67, rfl⟩
abbrev main_v54 : Ref sig .tc := ⟨.hbm, 68, rfl⟩
abbrev main_v55 : Ref sig .tc := ⟨.hbm, 69, rfl⟩
abbrev main_cst_0 : Ref sig .tc := ⟨.hbm, 70, rfl⟩
abbrev main_v56 : Ref sig .tc := ⟨.hbm, 71, rfl⟩
abbrev main_v57 : Ref sig .tc := ⟨.hbm, 72, rfl⟩
abbrev main_cst_1 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_2 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_cst_3 : Ref sig .tc := ⟨.hbm, 106, rfl⟩
abbrev main_v89 : Ref sig .tc := ⟨.hbm, 107, rfl⟩
abbrev main_v90 : Ref sig .tc := ⟨.hbm, 108, rfl⟩
abbrev main_cst_4 : Ref sig .tc := ⟨.hbm, 109, rfl⟩
abbrev main_v91 : Ref sig .tc := ⟨.hbm, 110, rfl⟩
abbrev main_v92 : Ref sig .tc := ⟨.hbm, 111, rfl⟩
abbrev main_cst_5 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_cst_6 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩

abbrev nD : Nat := 1
abbrev τ : Topo := Topo.v7x

variable {F : FTy → Type} [FloatOps F]
-- ==== Proof.AttMath.lean ====
/- The softmax with a sink, over the extended reals: the kernel's order of operations (divide the weighted sum by the
   denominator once) against the reference's (divide each weight, then sum), and the same softmax over two families of
   keys that differ only in keys masked out. -/
module

public import Idealize.ShloMosaic.PureOps.Ideal.Laws

@[expose] public section

noncomputable section

open Idealize.ShloMosaic
open scoped BigOperators

namespace Cert.Att

/-- The largest of the scores and the sink logit. -/
def top {n : ℕ} (s : Fin n → EReal) (sk : EReal) : EReal := max (Finset.univ.fold max ⊥ s) sk

/-- The softmax denominator: the exponentials of all scores and of the sink, each less the largest. -/
def den {n : ℕ} (s : Fin n → EReal) (sk : EReal) : EReal :=
  (∑ c, Ideal.exp (s c - top s sk)) + Ideal.exp (sk - top s sk)

/-- The attention of one query: the weighted sum of the values, divided once by the denominator. -/
def att {n : ℕ} (s v : Fin n → EReal) (sk : EReal) : EReal :=
  Ideal.div (∑ c, Ideal.exp (s c - top s sk) * v c) (den s sk)

/-- The attention of one query as the reference writes it: each value times its own divided weight. -/
def attR {n : ℕ} (s v : Fin n → EReal) (sk : EReal) : EReal :=
  ∑ c, v c * Ideal.div (Ideal.exp (s c - top s sk)) (den s sk)

/-- A finite nonnegative factor moves into a sum of extended reals. -/
theorem sum_mul_coe {ι : Type} (S : Finset ι) (f : ι → EReal) (d : ℝ) (hd : 0 ≤ d) :
    (∑ c ∈ S, f c) * (d : EReal) = ∑ c ∈ S, f c * (d : EReal) := by
  classical
  induction S using Finset.induction_on with
  | empty => simp
  | insert a S ha ih =>
    rw [Finset.sum_insert ha, Finset.sum_insert ha, ← ih, mul_comm, mul_comm (f a), mul_comm (∑ c ∈ S, f c)]
    exact EReal.left_distrib_of_nonneg_of_ne_top (by exact_mod_cast hd) (EReal.coe_ne_top d) _ _

/-- The exponential of a number that is not `⊤` is a nonnegative real. -/
theorem exp_real (x : EReal) (hx : x ≠ ⊤) : ∃ r : ℝ, 0 ≤ r ∧ Ideal.exp x = (r : EReal) := by
  induction x using EReal.rec with
  | bot => exact ⟨0, le_refl _, EReal.coe_zero.symm ▸ rfl⟩
  | coe r => exact ⟨Real.exp r, (Real.exp_pos r).le, rfl⟩
  | top => exact absurd rfl hx

/-- A finite sum of nonnegative reals is one. -/
theorem sum_real {ι : Type} (S : Finset ι) (f : ι → EReal) (h : ∀ c, ∃ r : ℝ, 0 ≤ r ∧ f c = (r : EReal)) :
    ∃ r : ℝ, 0 ≤ r ∧ ∑ c ∈ S, f c = (r : EReal) := by
  classical
  induction S using Finset.induction_on with
  | empty => exact ⟨0, le_refl _, by simp⟩
  | insert a S ha ih =>
    obtain ⟨r, hr, e⟩ := ih
    obtain ⟨q, hq, e'⟩ := h a
    exact ⟨q + r, add_nonneg hq hr, by rw [Finset.sum_insert ha, e, e', EReal.coe_add]⟩

/-- With no score `⊤`, one of them above `⊥`, and a sink below `⊤`, the largest is a real number. -/
theorem top_real {n : ℕ} (s : Fin n → EReal) (sk : EReal) (hs : ∀ c, s c ≠ ⊤) (h1 : sk ≠ ⊤) (h2 : ∃ c, s c ≠ ⊥) :
    ∃ M : ℝ, top s sk = (M : EReal) := by
  have ht : top s sk < ⊤ := by
    refine max_lt ?_ (lt_top_iff_ne_top.mpr h1)
    rw [Finset.fold_max_lt]
    exact ⟨bot_lt_top, fun c _ => lt_top_iff_ne_top.mpr (hs c)⟩
  obtain ⟨c, hc⟩ := h2
  have hb : ⊥ < top s sk := lt_of_lt_of_le (bot_lt_iff_ne_bot.mpr hc) (le_trans
    ((Finset.le_fold_max _).mpr (Or.inr ⟨c, Finset.mem_univ _, le_refl _⟩)) (le_max_left _ _))
  exact ⟨(top s sk).toReal, (EReal.coe_toReal ht.ne hb.ne').symm⟩

/-- A number that is not `⊤`, less a real number, is not `⊤`. -/
theorem sub_ne_top (x : EReal) (M : ℝ) (h : x ≠ ⊤) : x - (M : EReal) ≠ ⊤ := by
  induction x using EReal.rec with
  | bot => simp
  | coe r => exact EReal.coe_ne_top _
  | top => exact absurd rfl h

/-- Dividing the weighted sum once is dividing each weight, where no score is `⊤`, one of them is above `⊥`, and the
    sink is below `⊤`. -/
theorem attR_eq {n : ℕ} (s v : Fin n → EReal) (sk : EReal) (hs : ∀ c, s c ≠ ⊤) (h1 : sk ≠ ⊤) (h2 : ∃ c, s c ≠ ⊥) :
    attR s v sk = att s v sk := by
  obtain ⟨M, hM⟩ := top_real s sk hs h1 h2
  have he : ∀ c, ∃ r : ℝ, 0 ≤ r ∧ Ideal.exp (s c - top s sk) = (r : EReal) := fun c =>
    exp_real _ (by rw [hM]; exact sub_ne_top _ M (hs c))
  obtain ⟨r, hr, e⟩ := sum_real Finset.univ _ he
  obtain ⟨q, hq, eq⟩ := exp_real (sk - top s sk) (by rw [hM]; exact sub_ne_top _ M h1)
  have hd : den s sk = ((r + q : ℝ) : EReal) := by
    unfold den
    rw [e, eq, EReal.coe_add]
  have hr0 : 0 < r := by
    obtain ⟨c, hc⟩ := h2
    have hx : Ideal.exp (s c - top s sk) = ((Real.exp ((s c).toReal - M) : ℝ) : EReal) := by
      conv_lhs => rw [hM, ← EReal.coe_toReal (hs c) hc, ← EReal.coe_sub]
      rfl
    have hle : Ideal.exp (s c - top s sk) ≤ ∑ c, Ideal.exp (s c - top s sk) :=
      Finset.single_le_sum (f := fun c => Ideal.exp (s c - top s sk))
        (fun i _ => by obtain ⟨w, hw, ew⟩ := he i; show 0 ≤ Ideal.exp _; rw [ew]; exact_mod_cast hw) (Finset.mem_univ c)
    rw [e, hx] at hle
    exact lt_of_lt_of_le (Real.exp_pos _) (EReal.coe_le_coe_iff.mp hle)
  have hp : 0 < r + q := add_pos_of_pos_of_nonneg hr0 hq
  unfold attR att
  rw [hd]
  generalize r + q = d at hp
  have hdiv : ∀ x : EReal, Ideal.div x (d : EReal) = x * ((d⁻¹ : ℝ) : EReal) := fun x => by
    unfold Ideal.div
    rw [if_neg (by exact_mod_cast hp.ne'), EReal.coe_inv]
  simp only [hdiv]
  rw [sum_mul_coe _ _ _ (inv_nonneg.mpr hp.le)]
  exact Finset.sum_congr rfl fun c _ => by rw [mul_comm, mul_assoc, mul_assoc, mul_comm (v c)]

/-- Two sums whose nonzero terms correspond one to one are equal. -/
theorem sum_transport {n n' : ℕ} (F : Fin n → EReal) (F' : Fin n' → EReal) (P : Fin n → Prop) (Q : Fin n' → Prop)
    (f : Fin n → Fin n') (g : Fin n' → Fin n) (hf : ∀ c, P c → Q (f c) ∧ g (f c) = c ∧ F' (f c) = F c)
    (hg : ∀ p, Q p → P (g p) ∧ f (g p) = p) (h0 : ∀ c, ¬ P c → F c = 0) (h0' : ∀ p, ¬ Q p → F' p = 0) :
    ∑ c, F c = ∑ p, F' p := by
  classical
  rw [← Finset.sum_filter_of_ne (s := Finset.univ) (f := F) (p := P) (fun c _ h => by
      by_contra hc; exact h (h0 c hc)),
    ← Finset.sum_filter_of_ne (s := Finset.univ) (f := F') (p := Q) (fun c _ h => by
      by_contra hc; exact h (h0' c hc))]
  refine Finset.sum_nbij' f g ?_ ?_ ?_ ?_ ?_
  · intro c hc; simp only [Finset.mem_filter, Finset.mem_univ, true_and] at hc ⊢; exact (hf c hc).1
  · intro c hc; simp only [Finset.mem_filter, Finset.mem_univ, true_and] at hc ⊢; exact (hg c hc).1
  · intro c hc; simp only [Finset.mem_filter, Finset.mem_univ, true_and] at hc; exact (hf c hc).2.1
  · intro c hc; simp only [Finset.mem_filter, Finset.mem_univ, true_and] at hc; exact (hg c hc).2
  · intro c hc; simp only [Finset.mem_filter, Finset.mem_univ, true_and] at hc; exact (hf c hc).2.2.symm

/-- Two maxima from `⊥` whose entries above `⊥` correspond one to one are equal. -/
theorem fold_transport {n n' : ℕ} (s : Fin n → EReal) (s' : Fin n' → EReal) (P : Fin n → Prop) (Q : Fin n' → Prop)
    (f : Fin n → Fin n') (g : Fin n' → Fin n) (hf : ∀ c, P c → s' (f c) = s c)
    (hg : ∀ p, Q p → P (g p) ∧ f (g p) = p) (h0 : ∀ c, ¬ P c → s c = ⊥) (h0' : ∀ p, ¬ Q p → s' p = ⊥) :
    Finset.univ.fold max ⊥ s = Finset.univ.fold max ⊥ s' := by
  refine le_antisymm ?_ ?_
  · rw [Finset.fold_max_le]
    refine ⟨bot_le, fun c _ => ?_⟩
    by_cases h : P c
    · rw [← hf c h, Finset.le_fold_max]
      exact Or.inr ⟨f c, Finset.mem_univ _, le_refl _⟩
    · rw [h0 c h]; exact bot_le
  · rw [Finset.fold_max_le]
    refine ⟨bot_le, fun p _ => ?_⟩
    by_cases h : Q p
    · obtain ⟨h1, h2⟩ := hg p h
      rw [← h2, hf _ h1, Finset.le_fold_max]
      exact Or.inr ⟨g p, Finset.mem_univ _, le_refl _⟩
    · rw [h0' p h]; exact bot_le

/-- A masked key has weight zero, whatever the largest score is. -/
theorem exp_masked (M : EReal) : Ideal.exp (⊥ - M) = 0 := by
  rw [sub_eq_add_neg, EReal.bot_add]; rfl

/-- The attention over two families of keys, the keys that are not masked (`P`, `Q`) corresponding one to one with equal
    scores and values, is the same. -/
theorem att_transport {n n' : ℕ} (s v : Fin n → EReal) (s' v' : Fin n' → EReal) (sk : EReal) (P : Fin n → Prop)
    (Q : Fin n' → Prop) (f : Fin n → Fin n') (g : Fin n' → Fin n)
    (hf : ∀ c, P c → Q (f c) ∧ g (f c) = c ∧ s' (f c) = s c ∧ v' (f c) = v c)
    (hg : ∀ p, Q p → P (g p) ∧ f (g p) = p) (h0 : ∀ c, ¬ P c → s c = ⊥) (h0' : ∀ p, ¬ Q p → s' p = ⊥) :
    att s v sk = att s' v' sk := by
  have ht : top s sk = top s' sk := by
    unfold top
    rw [fold_transport s s' P Q f g (fun c h => (hf c h).2.2.1) hg h0 h0']
  have hd : den s sk = den s' sk := by
    unfold den
    rw [ht, sum_transport (fun c => Ideal.exp (s c - top s' sk)) (fun p => Ideal.exp (s' p - top s' sk)) P Q f g
      (fun c h => ⟨(hf c h).1, (hf c h).2.1, by simp only [(hf c h).2.2.1]⟩) hg
      (fun c h => by simp only [h0 c h, exp_masked]) (fun p h => by simp only [h0' p h, exp_masked])]
  unfold att
  rw [ht, hd, sum_transport (fun c => Ideal.exp (s c - top s' sk) * v c) (fun p => Ideal.exp (s' p - top s' sk) * v' p)
    P Q f g (fun c h => ⟨(hf c h).1, (hf c h).2.1, by simp only [(hf c h).2.2.1, (hf c h).2.2.2]⟩) hg
    (fun c h => by simp only [h0 c h, exp_masked, zero_mul]) (fun p h => by simp only [h0' p h, exp_masked, zero_mul])]

/-- A sum of products of finite numbers is a real number. -/
theorem dot_real {ι : Type} (S : Finset ι) (x y : ι → EReal) (hx : ∀ k, x k ≠ ⊤ ∧ x k ≠ ⊥)
    (hy : ∀ k, y k ≠ ⊤ ∧ y k ≠ ⊥) : ∃ r : ℝ, ∑ k ∈ S, x k * y k = (r : EReal) := by
  have h : ∀ k, x k * y k = (((x k).toReal * (y k).toReal : ℝ) : EReal) := fun k => by
    rw [EReal.coe_mul, EReal.coe_toReal (hx k).1 (hx k).2, EReal.coe_toReal (hy k).1 (hy k).2]
  simp only [h]
  have hs : ∀ f : ι → ℝ, ∃ r : ℝ, ∑ k ∈ S, (f k : EReal) = (r : EReal) := fun f => by
    classical
    induction S using Finset.induction_on with
    | empty => exact ⟨0, by simp⟩
    | insert a S ha ih =>
      obtain ⟨r, e⟩ := ih
      exact ⟨f a + r, by rw [Finset.sum_insert ha, e, EReal.coe_add]⟩
  exact hs fun k => (x k).toReal * (y k).toReal

/-- So it is not `⊤`. -/
theorem dot_ne_top {ι : Type} (S : Finset ι) (x y : ι → EReal) (hx : ∀ k, x k ≠ ⊤ ∧ x k ≠ ⊥)
    (hy : ∀ k, y k ≠ ⊤ ∧ y k ≠ ⊥) : ∑ k ∈ S, x k * y k ≠ ⊤ := by
  obtain ⟨r, e⟩ := dot_real S x y hx hy
  rw [e]
  exact EReal.coe_ne_top _

/-- Nor is it `⊥`. -/
theorem dot_ne_bot {ι : Type} (S : Finset ι) (x y : ι → EReal) (hx : ∀ k, x k ≠ ⊤ ∧ x k ≠ ⊥)
    (hy : ∀ k, y k ≠ ⊤ ∧ y k ≠ ⊥) : ∑ k ∈ S, x k * y k ≠ ⊥ := by
  obtain ⟨r, e⟩ := dot_real S x y hx hy
  rw [e]
  exact EReal.coe_ne_bot _

end Cert.Att

end
-- ==== Proof.AttBias.lean ====
module

public import proofs.«01_k».proof.Proof.Gen.KernelIdeal.Skeleton
public import proofs.«01_k».proof.Proof.AttMath
public import Idealize.ShloMosaic.Lib.Pointwise
public import Idealize.ShloMosaic.Lib.WordCmp

@[expose] public section

set_option maxRecDepth 16384

noncomputable section

open Idealize.ShloMosaic Idealize.ShloMosaic.TcCoe
open scoped BigOperators

namespace Cert.Att

open Cert.KernelIdeal Cert.KernelIdeal.Gen
theorem sel_1 (j : ℕ) (hj : 1 ≤ j) (hj' : j ≤ 16) (x y : EReal) : Scalar.select (Scalar.cmpi CmpIPredicate.sge (Scalar.subi (Scalar.muli (BitVec.ofNat 32 j) 2#32) 1#32) 2#32) x y = if 2 ≤ j then x else y := by
    interval_cases j <;> rfl
theorem sel_2 (j : ℕ) (hj : 1 ≤ j) (hj' : j ≤ 16) (x y : EReal) : Scalar.select (Scalar.cmpi CmpIPredicate.sle (Scalar.addi (Scalar.muli (BitVec.ofNat 32 j) 2#32) 2#32) 33#32) x y = if j ≤ 15 then x else y := by
    interval_cases j <;> rfl
theorem bias_at (j : ℕ) (hj : 1 ≤ j) (hj' : j ≤ 16) (i : Fin 256) (c : Fin 768) :
    k0_pay20 (F := Ideal) (BitVec.ofNat 32 j) (ix2 i c) =
      if c.val < 256 ∨ (640 ≤ 256 * j + c ∧ 256 * j + c < 4736 ∧ c.val ≤ i + 512 ∧ i + 256 ≤ c.val) then (0 : EReal) else ⊥ := by
  have hi := i.isLt
  have hc := c.isLt
  have hm : (Named.named κ "mask" 4048155338#32 : Ideal .f32) = (⊥ : EReal) := rfl
  pointwise [k0_pay20]
  rw [sel_1 j hj hj', sel_2 j hj hj', hm]
  simp (disch := word_cmp_side) only [hlo_ix]
  split_ifs <;> first | rfl | (exfalso; omega)
theorem rows_at (a : FVec Ideal S256x128 .bf16) (b : Vec Ideal S1x128x128 .bf16) (c : Vec Ideal S1x256x128 .bf16) (d : Vec Ideal S1x128x128 .bf16) (X : Fin 768 → Fin 128 → EReal)
    (ha : ∀ (p : Fin 256) (k : Fin 128), a (ix2 p k) = X ⟨p, by omega⟩ k) (hb : ∀ (p k : Fin 128), b (ix3 0 p k) = X ⟨256 + p, by omega⟩ k)
    (hc : ∀ (p : Fin 256) (k : Fin 128), c (ix3 0 p k) = X ⟨384 + p, by omega⟩ k) (hd : ∀ (p k : Fin 128), d (ix3 0 p k) = X ⟨640 + p, by omega⟩ k)
    (p : Fin 768) (k : Fin 128) : k0_pay22 a b c d (ix2 p k) = X p k := by
  have hp := p.isLt
  pointwise [k0_pay22]
  by_cases h1 : (p : ℕ) < 256
  · rw [dif_pos h1]; exact ha ⟨p, by omega⟩ k
  rw [dif_neg h1]
  by_cases h2 : (p : ℕ) - 256 < 128
  · rw [dif_pos h2]
    refine (hb ⟨p - 256, by omega⟩ k).trans (congrArg (fun z => X z k) (Fin.ext ?_))
    show 256 + ((p : ℕ) - 256) = p
    omega
  rw [dif_neg h2]
  by_cases h3 : (p : ℕ) - 256 - 128 < 256
  · rw [dif_pos h3]
    refine (hc ⟨p - 256 - 128, by omega⟩ k).trans (congrArg (fun z => X z k) (Fin.ext ?_))
    show 384 + ((p : ℕ) - 256 - 128) = p
    omega
  rw [dif_neg h3]
  refine (hd ⟨p - 256 - 128 - 256, by omega⟩ k).trans (congrArg (fun z => X z k) (Fin.ext ?_))
  show 640 + ((p : ℕ) - 256 - 128 - 256) = p
  omega
theorem rowsv_at (a : Vec Ideal S1x256x128 .bf16) (b : Vec Ideal S1x128x128 .bf16) (c : Vec Ideal S1x256x128 .bf16) (d : Vec Ideal S1x128x128 .bf16) (X : Fin 768 → Fin 128 → EReal)
    (ha : ∀ (p : Fin 256) (k : Fin 128), a (ix3 0 p k) = X ⟨p, by omega⟩ k) (hb : ∀ (p k : Fin 128), b (ix3 0 p k) = X ⟨256 + p, by omega⟩ k)
    (hc : ∀ (p : Fin 256) (k : Fin 128), c (ix3 0 p k) = X ⟨384 + p, by omega⟩ k) (hd : ∀ (p k : Fin 128), d (ix3 0 p k) = X ⟨640 + p, by omega⟩ k)
    (p : Fin 768) (k : Fin 128) : k0_pay23 a b c d (ix2 p k) = X p k := by
  have hp := p.isLt
  pointwise [k0_pay23]
  by_cases h1 : (p : ℕ) < 256
  · rw [dif_pos h1]; exact ha ⟨p, by omega⟩ k
  rw [dif_neg h1]
  by_cases h2 : (p : ℕ) - 256 < 128
  · rw [dif_pos h2]
    refine (hb ⟨p - 256, by omega⟩ k).trans (congrArg (fun z => X z k) (Fin.ext ?_))
    show 256 + ((p : ℕ) - 256) = p
    omega
  rw [dif_neg h2]
  by_cases h3 : (p : ℕ) - 256 - 128 < 256
  · rw [dif_pos h3]
    refine (hc ⟨p - 256 - 128, by omega⟩ k).trans (congrArg (fun z => X z k) (Fin.ext ?_))
    show 384 + ((p : ℕ) - 256 - 128) = p
    omega
  rw [dif_neg h3]
  refine (hd ⟨p - 256 - 128 - 256, by omega⟩ k).trans (congrArg (fun z => X z k) (Fin.ext ?_))
  show 640 + ((p : ℕ) - 256 - 128 - 256) = p
  omega
theorem pay21_at (a : Vec Ideal S1x256x128 .bf16) (p : Fin 256) (k : Fin 128) : k0_pay21 a (ix2 p k) = a (ix3 0 p k) := by pointwise [k0_pay21]
theorem pay1_at (a : Vec Ideal S1x256x512 .bf16) (p : Fin 256) (k : Fin 512) : k0_pay1 a (ix2 p k) = a (ix3 0 p k) := by pointwise [k0_pay1]

end Cert.Att
end
-- ==== Proof.AttRows.lean ====
module

public import proofs.«01_k».proof.Proof.Gen.KernelIdeal.Skeleton
public import proofs.«01_k».proof.Proof.AttMath
public import Idealize.ShloMosaic.Lib.Pointwise
public import Idealize.ShloMosaic.Lib.WordCmp

@[expose] public section

set_option maxRecDepth 16384

noncomputable section

open Idealize.ShloMosaic Idealize.ShloMosaic.TcCoe
open scoped BigOperators

namespace Cert.Att

open Cert.KernelIdeal Cert.KernelIdeal.Gen
theorem att_congr {n : ℕ} {s s' v v' : Fin n → EReal} {k k' : EReal} (hs : ∀ c, s c = s' c) (hv : ∀ c, v c = v' c) (hk : k = k') : att s v k = att s' v' k' := by
  rw [funext hs, funext hv, hk]
/-- The head number of a row of the stacked queries, latent blocks. -/
theorem head_B (r : Fin 1024) : k0_pay27 k0_pay24 k0_pay25 k0_pay26 (ix2 r 0) = BitVec.ofNat 32 (r / 256) := by
  pointwise [k0_pay27, k0_pay24, k0_pay25, k0_pay26]
  revert r
  decide +kernel
theorem head_A (r : Fin 1024) : k0_pay6 (ix2 r 0) = BitVec.ofNat 32 (r / 256) := by
  pointwise [k0_pay6]
  revert r
  decide +kernel

/-- The logit of the sink at a row of the stacked queries. -/
def pick (r : ℕ) (a b c d : EReal) : EReal := if r < 256 then a else if r < 512 then b else if r < 768 then c else d

theorem pick_head (r : Fin 1024) (a b c d x : EReal) :
    Scalar.select (IntOp.cmpi CmpIPredicate.eq (BitVec.ofNat 32 (r / 256)) 3#32) d (Scalar.select (IntOp.cmpi CmpIPredicate.eq (BitVec.ofNat 32 (r / 256)) 2#32) c
      (Scalar.select (IntOp.cmpi CmpIPredicate.eq (BitVec.ofNat 32 (r / 256)) 1#32) b (Scalar.select (IntOp.cmpi CmpIPredicate.eq (BitVec.ofNat 32 (r / 256)) 0#32) a x))) = pick r a b c d := by
  have hr := r.isLt
  have h : (r : ℕ) / 256 = 0 ∨ (r : ℕ) / 256 = 1 ∨ (r : ℕ) / 256 = 2 ∨ (r : ℕ) / 256 = 3 := by omega
  unfold pick
  rcases h with h | h | h | h <;> rw [h]
  · rw [if_pos (by omega)]; rfl
  · rw [if_neg (by omega), if_pos (by omega)]; rfl
  · rw [if_neg (by omega), if_neg (by omega), if_pos (by omega)]; rfl
  · rw [if_neg (by omega), if_neg (by omega), if_neg (by omega)]; rfl

theorem pay31_at (r : Fin 1024) (a b c d : Elt Ideal .f32) :
    k0_pay31 k0_pay24 k0_pay25 k0_pay26 a b c d (ix2 r 0) = pick r a b c d := by
  have h := head_B r
  pointwise [k0_pay31]
  rw [h]
  exact pick_head r a b c d _
theorem pay43_at (r : Fin 1024) (a b c d : Elt Ideal .f32) :
    k0_pay43 (k0_pay27 k0_pay24 k0_pay25 k0_pay26) a b c d (ix2 r 0) = pick r a b c d := by
  have h := head_B r
  pointwise [k0_pay43]
  rw [h]
  exact pick_head r a b c d _
theorem pick_lo (sk : Fin 8 → EReal) (r : ℕ) (n : Fin 8) (h : r < 1024) (hn : (n : ℕ) = r / 256) : pick r (sk 0) (sk 1) (sk 2) (sk 3) = sk n := by
  have hc : r / 256 = 0 ∨ r / 256 = 1 ∨ r / 256 = 2 ∨ r / 256 = 3 := by omega
  unfold pick
  rcases hc with hc | hc | hc | hc <;> rw [hc] at hn
  · rw [if_pos (by omega), show n = 0 from Fin.ext hn]
  · rw [if_neg (by omega), if_pos (by omega), show n = 1 from Fin.ext hn]
  · rw [if_neg (by omega), if_neg (by omega), if_pos (by omega), show n = 2 from Fin.ext hn]
  · rw [if_neg (by omega), if_neg (by omega), if_neg (by omega), show n = 3 from Fin.ext hn]
theorem pick_hi (sk : Fin 8 → EReal) (r : ℕ) (n : Fin 8) (h : r < 1024) (hn : (n : ℕ) = 4 + r / 256) : pick r (sk 4) (sk 5) (sk 6) (sk 7) = sk n := by
  have hc : r / 256 = 0 ∨ r / 256 = 1 ∨ r / 256 = 2 ∨ r / 256 = 3 := by omega
  unfold pick
  rcases hc with hc | hc | hc | hc <;> rw [hc] at hn
  · rw [if_pos (by omega), show n = 4 from Fin.ext hn]
  · rw [if_neg (by omega), if_pos (by omega), show n = 5 from Fin.ext hn]
  · rw [if_neg (by omega), if_neg (by omega), if_pos (by omega), show n = 6 from Fin.ext hn]
  · rw [if_neg (by omega), if_neg (by omega), if_neg (by omega), show n = 7 from Fin.ext hn]
theorem pay10_at (v36 : IVec S1024x1 32) (v43 : FVec Ideal S256x64 .bf16) (v44 : FVec Ideal S1024x256 .f32) (v50 : FVec Ideal S1024x1 .f32) (v53 : Elt Ideal .f32) (v58 : Elt Ideal .f32) (v63 : Elt Ideal .f32) (r : Fin 1024) (d : Fin 64) (sk : EReal)
  (h : Scalar.select (IntOp.cmpi CmpIPredicate.eq (v36 (ix2 r 0)) 3#32) v63
                  (Scalar.select (IntOp.cmpi CmpIPredicate.eq (v36 (ix2 r 0)) 2#32) v58
                    (Scalar.select (IntOp.cmpi CmpIPredicate.eq (v36 (ix2 r 0)) 1#32) v53 (v50 (ix2 r 0)))) = sk)
:
    k0_pay10 v36 v43 v44 v50 v53 v58 v63 (ix2 r d) = att (fun c => v44 (ix2 r c)) (fun c => v43 (ix2 c d)) sk := by
  pointwise [k0_pay10]
  rw [h]
  rfl
theorem pay36_at (v98 : FVec Ideal S768x64 .bf16) (v1 : FVec Ideal S256x512 .bf16) (v41 : FVec Ideal S256x768 .f32) (v53 : FVec Ideal S768x128 .bf16) (v68 : IVec S1024x1 32) (v82 : IVec S1024x1 1) (v84 : IVec S1024x1 32) (x0 x1 x2 x3 : Elt Ideal .f32) (r : Fin 1024) (d : Fin 64) (sk : EReal)
  (h : k0_pay31 v68 v82 v84 x0 x1 x2 x3 (ix2 r 0) = sk) :
    k0_pay36 v98 (k0_pay33 v1 v41 v53 v68 v82 v84 x0 x1 x2 x3) (k0_pay34 v1 v41 v53 v68 v82 v84 x0 x1 x2 x3) (k0_pay35 v1 v41 v53 v68 v82 v84 x0 x1 x2 x3) (ix2 r d) = att (fun c => k0_pay30 v1 v41 v53 (ix2 r c)) (fun c => v98 (ix2 c d)) sk := by
  pointwise [k0_pay36, k0_pay33, k0_pay34, k0_pay35, k0_pay32]
  rw [h]
  rfl
theorem grp1_at (v65 : FVec Ideal S768x128 .bf16) (v1 : FVec Ideal S256x512 .bf16) (v53 : FVec Ideal S768x128 .bf16) (v90 : IVec S1024x1 32) (v91 : FVec Ideal S1024x768 .f32) (x0 x1 x2 x3 : Elt Ideal .f32) (r : Fin 1024) (d : Fin 64) (sk : EReal)
  (h : k0_pay43 v90 x0 x1 x2 x3 (ix2 r 0) = sk) :
    Ideal.div (∑ c : Fin 768, k0_pay45 v1 v53 v90 v91 x0 x1 x2 x3 (ix2 r c) * k0_pay41 v65 (ix2 c d))
      (k0_pay46 v1 v53 v90 v91 x0 x1 x2 x3 (ix1 r) + Ideal.exp (k0_pay43 v90 x0 x1 x2 x3 (ix2 r 0) - k0_pay44 v1 v53 v90 v91 x0 x1 x2 x3 (ix2 r 0)))
     = att (fun c => k0_pay42 v1 v53 v91 (ix2 r c)) (fun c => v65 (ix2 c ⟨64 + d, by omega⟩)) sk := by
  pointwise [k0_pay45, k0_pay46, k0_pay44, k0_pay41]
  rw [h]
  rfl
theorem pay29_at (v65 : FVec Ideal S768x128 .bf16) (c : Fin 768) (d : Fin 64) : k0_pay29 v65 (ix2 c d) = v65 (ix2 c ⟨d, by omega⟩) := by
  pointwise [k0_pay29]

theorem pay30_at (v1 : FVec Ideal S256x512 .bf16) (v41 : FVec Ideal S256x768 .f32) (v53 : FVec Ideal S768x128 .bf16) (r : Fin 1024) (c : Fin 768) :
    k0_pay30 v1 v41 v53 (ix2 r c) = (∑ k : Fin 64, v1 (ix2 ⟨r % 256, by omega⟩ ⟨64 * (r / 256) + k, by omega⟩) * v53 (ix2 c ⟨k, by omega⟩)) + v41 (ix2 ⟨r % 256, by omega⟩ c) := by
  have hr := r.isLt
  have h : (r : ℕ) / 256 = 0 ∨ (r : ℕ) / 256 = 1 ∨ (r : ℕ) / 256 = 2 ∨ (r : ℕ) / 256 = 3 := by omega
  pointwise [k0_pay30, k0_pay28]
  congr 1
  · refine Finset.sum_congr rfl fun k _ => ?_
    congr 1
    split_ifs <;> congr 2 <;> apply Fin.ext <;> simp <;> omega
  · split_ifs <;> congr 2 <;> apply Fin.ext <;> simp <;> omega
theorem pay42_at (v1 : FVec Ideal S256x512 .bf16) (v41 : FVec Ideal S256x768 .f32) (v53 : FVec Ideal S768x128 .bf16) (r : Fin 1024) (c : Fin 768) :
    k0_pay42 v1 v53 (k0_pay28 v41) (ix2 r c) = (∑ k : Fin 64, v1 (ix2 ⟨r % 256, by omega⟩ ⟨256 + 64 * (r / 256) + k, by omega⟩) * v53 (ix2 c ⟨64 + k, by omega⟩)) + v41 (ix2 ⟨r % 256, by omega⟩ c) := by
  have hr := r.isLt
  have h : (r : ℕ) / 256 = 0 ∨ (r : ℕ) / 256 = 1 ∨ (r : ℕ) / 256 = 2 ∨ (r : ℕ) / 256 = 3 := by omega
  pointwise [k0_pay42, k0_pay28]
  congr 1
  · refine Finset.sum_congr rfl fun k _ => ?_
    congr 1
    split_ifs <;> congr 2 <;> apply Fin.ext <;> simp <;> omega
  · split_ifs <;> congr 2 <;> apply Fin.ext <;> simp <;> omega
theorem pay8_at (v1 : FVec Ideal S256x512 .bf16) (v8 : Vec Ideal S1x256x128 .bf16) (r : Fin 1024) (c : Fin 256) :
    k0_pay8 v1 v8 (ix2 r c) = (∑ k : Fin 64, v1 (ix2 ⟨r % 256, by omega⟩ ⟨64 * (r / 256) + k, by omega⟩) * v8 (ix3 0 c ⟨k, by omega⟩)) := by
  have hr := r.isLt
  have h : (r : ℕ) / 256 = 0 ∨ (r : ℕ) / 256 = 1 ∨ (r : ℕ) / 256 = 2 ∨ (r : ℕ) / 256 = 3 := by omega
  pointwise [k0_pay8, k0_pay4]
  · refine Finset.sum_congr rfl fun k _ => ?_
    congr 1
    split_ifs <;> congr 2 <;> apply Fin.ext <;> simp <;> omega
theorem pay16_at (v1 : FVec Ideal S256x512 .bf16) (v8 : Vec Ideal S1x256x128 .bf16) (r : Fin 1024) (c : Fin 256) :
    k0_pay16 v1 (k0_pay4 v8) (ix2 r c) = (∑ k : Fin 64, v1 (ix2 ⟨r % 256, by omega⟩ ⟨256 + 64 * (r / 256) + k, by omega⟩) * v8 (ix3 0 c ⟨64 + k, by omega⟩)) := by
  have hr := r.isLt
  have h : (r : ℕ) / 256 = 0 ∨ (r : ℕ) / 256 = 1 ∨ (r : ℕ) / 256 = 2 ∨ (r : ℕ) / 256 = 3 := by omega
  pointwise [k0_pay16, k0_pay4]
  · refine Finset.sum_congr rfl fun k _ => ?_
    congr 1
    split_ifs <;> congr 2 <;> apply Fin.ext <;> simp <;> omega

end Cert.Att
end
-- ==== Proof.AttOut.lean ====
module

public import proofs.«01_k».proof.Proof.Gen.KernelIdeal.Skeleton
public import proofs.«01_k».proof.Proof.AttMath
public import proofs.«01_k».proof.Proof.AttRows
public import Idealize.ShloMosaic.Lib.Pointwise
public import Idealize.ShloMosaic.Lib.WordCmp

@[expose] public section

set_option maxRecDepth 16384

noncomputable section

open Idealize.ShloMosaic Idealize.ShloMosaic.TcCoe
open scoped BigOperators

namespace Cert.Att

open Cert.KernelIdeal Cert.KernelIdeal.Gen
theorem pay37_at (a : FVec Ideal S768x64 .bf16) (b : FVec Ideal S1024x768 .f32) (c e : FVec Ideal S1024x1 .f32) (i : Fin 256) (d : Fin 64) : k0_pay37 a b c e (ix2 i d) = k0_pay36 a b c e (ix2 ⟨i, by omega⟩ d) := by
  pointwise [k0_pay37]
theorem pay38_at (a : FVec Ideal S768x64 .bf16) (b : FVec Ideal S1024x768 .f32) (c e : FVec Ideal S1024x1 .f32) (i : Fin 256) (d : Fin 64) : k0_pay38 a b c e (ix2 i d) = k0_pay36 a b c e (ix2 ⟨256 + i, by omega⟩ d) := by
  pointwise [k0_pay38]
theorem pay39_at (a : FVec Ideal S768x64 .bf16) (b : FVec Ideal S1024x768 .f32) (c e : FVec Ideal S1024x1 .f32) (i : Fin 256) (d : Fin 64) : k0_pay39 a b c e (ix2 i d) = k0_pay36 a b c e (ix2 ⟨512 + i, by omega⟩ d) := by
  pointwise [k0_pay39]
theorem pay40_at (a : FVec Ideal S768x64 .bf16) (b : FVec Ideal S1024x768 .f32) (c e : FVec Ideal S1024x1 .f32) (i : Fin 256) (d : Fin 64) : k0_pay40 a b c e (ix2 i d) = k0_pay36 a b c e (ix2 ⟨768 + i, by omega⟩ d) := by
  pointwise [k0_pay40]
theorem pay3_at (a : FVec Ideal S768x64 .bf16) (b : FVec Ideal S1024x768 .f32) (c e : FVec Ideal S1024x1 .f32) (v147 : FVec Ideal S768x64 .bf16) (v170 v173 : FVec Ideal S1024x1 .f32) (v176 : FVec Ideal S1024x768 .f32) (v177 : FVec Ideal S1024 .f32)
    (i : Fin 256) (x : Fin 512) (r : Fin 1024) (d : Fin 64) (hr : (r : ℕ) = 256 * (x / 64 % 4) + i) (hd : (d : ℕ) = x % 64) :
    k0_pay3 (k0_pay37 a b c e) (k0_pay38 a b c e) (k0_pay39 a b c e) (k0_pay40 a b c e) v147 v170 v173 v176 v177 (ix3 0 i x) =
      if (x : ℕ) < 256 then k0_pay36 a b c e (ix2 r d)
      else Ideal.div (∑ k : Fin 768, v176 (ix2 r k) * v147 (ix2 k d)) (v177 (ix1 r) + Ideal.exp (v170 (ix2 r 0) - v173 (ix2 r 0))) := by
  have hx := x.isLt
  have hi := i.isLt
  have lo : ∀ (r' : Fin 1024) (d' : Fin 64), (r' : ℕ) = r → (d' : ℕ) = d → k0_pay36 a b c e (ix2 r' d') = k0_pay36 a b c e (ix2 r d) := fun r' d' h1 h2 => by
    rw [Fin.ext h1, Fin.ext h2]
  have hi' : ∀ (r' : Fin 1024) (d' : Fin 64), (r' : ℕ) = r → (d' : ℕ) = d →
      Ideal.div (∑ k : Fin 768, v176 (ix2 r' k) * v147 (ix2 k d')) (v177 (ix1 r') + Ideal.exp (v170 (ix2 r' 0) - v173 (ix2 r' 0)))
        = Ideal.div (∑ k : Fin 768, v176 (ix2 r k) * v147 (ix2 k d)) (v177 (ix1 r) + Ideal.exp (v170 (ix2 r 0) - v173 (ix2 r 0))) := fun r' d' h1 h2 => by
    rw [Fin.ext h1, Fin.ext h2]
  have q0 := pay37_at a b c e i
  have q1 := pay38_at a b c e i
  have q2 := pay39_at a b c e i
  have q3 := pay40_at a b c e i
  revert q0 q1 q2 q3
  generalize k0_pay37 a b c e = w0
  generalize k0_pay38 a b c e = w1
  generalize k0_pay39 a b c e = w2
  generalize k0_pay40 a b c e = w3
  intro q0 q1 q2 q3
  pointwise [k0_pay3]
  by_cases h1 : (x : ℕ) < 64
  · rw [dif_pos h1]; exact ((q0 _).trans <| lo ⟨i, by omega⟩ ⟨x, by omega⟩ (by show (i : ℕ) = r; omega) (by show (x : ℕ) = d; omega)).trans (if_pos (show (x : ℕ) < 256 by omega)).symm
  rw [dif_neg h1]
  by_cases h2 : (x : ℕ) - 64 < 64
  · rw [dif_pos h2]; exact ((q1 _).trans <| lo ⟨256 + i, by omega⟩ ⟨x - 64, by omega⟩ (by show 256 + (i : ℕ) = r; omega) (by show (x : ℕ) - 64 = d; omega)).trans (if_pos (show (x : ℕ) < 256 by omega)).symm
  rw [dif_neg h2]
  by_cases h3 : (x : ℕ) - 64 - 64 < 64
  · rw [dif_pos h3]; exact ((q2 _).trans <| lo ⟨512 + i, by omega⟩ ⟨x - 64 - 64, by omega⟩ (by show 512 + (i : ℕ) = r; omega) (by show (x : ℕ) - 64 - 64 = d; omega)).trans (if_pos (show (x : ℕ) < 256 by omega)).symm
  rw [dif_neg h3]
  by_cases h4 : (x : ℕ) - 64 - 64 - 64 < 64
  · rw [dif_pos h4]; exact ((q3 _).trans <| lo ⟨768 + i, by omega⟩ ⟨x - 64 - 64 - 64, by omega⟩ (by show 768 + (i : ℕ) = r; omega) (by show (x : ℕ) - 64 - 64 - 64 = d; omega)).trans (if_pos (show (x : ℕ) < 256 by omega)).symm
  rw [dif_neg h4]
  by_cases h5 : (x : ℕ) - 64 - 64 - 64 - 64 < 64
  · rw [dif_pos h5]; exact (hi' ⟨i, by omega⟩ ⟨x - 64 - 64 - 64 - 64, by omega⟩ (by show (i : ℕ) = r; omega) (by show (x : ℕ) - 64 - 64 - 64 - 64 = d; omega)).trans (if_neg (show ¬ (x : ℕ) < 256 by omega)).symm
  rw [dif_neg h5]
  by_cases h6 : (x : ℕ) - 64 - 64 - 64 - 64 - 64 < 64
  · rw [dif_pos h6]; exact (hi' ⟨256 + i, by omega⟩ ⟨x - 64 - 64 - 64 - 64 - 64, by omega⟩ (by show 256 + (i : ℕ) = r; omega) (by show (x : ℕ) - 64 - 64 - 64 - 64 - 64 = d; omega)).trans (if_neg (show ¬ (x : ℕ) < 256 by omega)).symm
  rw [dif_neg h6]
  by_cases h7 : (x : ℕ) - 64 - 64 - 64 - 64 - 64 - 64 < 64
  · rw [dif_pos h7]; exact (hi' ⟨512 + i, by omega⟩ ⟨x - 64 - 64 - 64 - 64 - 64 - 64, by omega⟩ (by show 512 + (i : ℕ) = r; omega) (by show (x : ℕ) - 64 - 64 - 64 - 64 - 64 - 64 = d; omega)).trans (if_neg (show ¬ (x : ℕ) < 256 by omega)).symm
  rw [dif_neg h7]; exact (hi' ⟨768 + i, by omega⟩ ⟨x - 64 - 64 - 64 - 64 - 64 - 64 - 64, by omega⟩ (by show 768 + (i : ℕ) = r; omega) (by show (x : ℕ) - 64 - 64 - 64 - 64 - 64 - 64 - 64 = d; omega)).trans (if_neg (show ¬ (x : ℕ) < 256 by omega)).symm
theorem pay11_at (v36 : IVec S1024x1 32) (v43 : FVec Ideal S256x64 .bf16) (v44 : FVec Ideal S1024x256 .f32) (v50 : FVec Ideal S1024x1 .f32) (v53 v58 v63 : Elt Ideal .f32) (i : Fin 256) (d : Fin 64) : k0_pay11 v36 v43 v44 v50 v53 v58 v63 (ix2 i d) = k0_pay10 v36 v43 v44 v50 v53 v58 v63 (ix2 ⟨i, by omega⟩ d) := by
  pointwise [k0_pay11]
theorem pay12_at (v36 : IVec S1024x1 32) (v43 : FVec Ideal S256x64 .bf16) (v44 : FVec Ideal S1024x256 .f32) (v50 : FVec Ideal S1024x1 .f32) (v53 v58 v63 : Elt Ideal .f32) (i : Fin 256) (d : Fin 64) : k0_pay12 v36 v43 v44 v50 v53 v58 v63 (ix2 i d) = k0_pay10 v36 v43 v44 v50 v53 v58 v63 (ix2 ⟨256 + i, by omega⟩ d) := by
  pointwise [k0_pay12]
theorem pay13_at (v36 : IVec S1024x1 32) (v43 : FVec Ideal S256x64 .bf16) (v44 : FVec Ideal S1024x256 .f32) (v50 : FVec Ideal S1024x1 .f32) (v53 v58 v63 : Elt Ideal .f32) (i : Fin 256) (d : Fin 64) : k0_pay13 v36 v43 v44 v50 v53 v58 v63 (ix2 i d) = k0_pay10 v36 v43 v44 v50 v53 v58 v63 (ix2 ⟨512 + i, by omega⟩ d) := by
  pointwise [k0_pay13]
theorem pay14_at (v36 : IVec S1024x1 32) (v43 : FVec Ideal S256x64 .bf16) (v44 : FVec Ideal S1024x256 .f32) (v50 : FVec Ideal S1024x1 .f32) (v53 v58 v63 : Elt Ideal .f32) (i : Fin 256) (d : Fin 64) : k0_pay14 v36 v43 v44 v50 v53 v58 v63 (ix2 i d) = k0_pay10 v36 v43 v44 v50 v53 v58 v63 (ix2 ⟨768 + i, by omega⟩ d) := by
  pointwise [k0_pay14]
theorem pay2_at (v36 : IVec S1024x1 32) (v43 : FVec Ideal S256x64 .bf16) (v44 : FVec Ideal S1024x256 .f32) (v50 : FVec Ideal S1024x1 .f32) (v53 v58 v63 : Elt Ideal .f32) (v91 : FVec Ideal S256x64 .bf16) (v92 : FVec Ideal S1024x256 .f32) (v93 : FVec Ideal S1024x1 .f32) (v95 : IVec S1024x1 1) (v97 : FVec Ideal S1024x1 .f32) (v101 v106 v111 : Elt Ideal .f32)
    (i : Fin 256) (x : Fin 512) (r : Fin 1024) (d : Fin 64) (hr : (r : ℕ) = 256 * (x / 64 % 4) + i) (hd : (d : ℕ) = x % 64) :
    k0_pay2 v36 (k0_pay11 v36 v43 v44 v50 v53 v58 v63) (k0_pay12 v36 v43 v44 v50 v53 v58 v63) (k0_pay13 v36 v43 v44 v50 v53 v58 v63) (k0_pay14 v36 v43 v44 v50 v53 v58 v63) v91 v92 v93 v95 v97 v101 v106 v111 (ix3 0 i x) =
      if (x : ℕ) < 256 then k0_pay10 v36 v43 v44 v50 v53 v58 v63 (ix2 r d)
      else att (fun c : Fin 256 => v92 (ix2 r c)) (fun c => v91 (ix2 c d)) (Scalar.select (IntOp.cmpi CmpIPredicate.eq (v36 (ix2 r 0)) 3#32) v111
        (Scalar.select (IntOp.cmpi CmpIPredicate.eq (v36 (ix2 r 0)) 2#32) v106
          (Scalar.select (IntOp.cmpi CmpIPredicate.eq (v36 (ix2 r 0)) 1#32) v101 (Scalar.select (v95 (ix2 r 0)) (v97 (ix2 r 0)) (v93 (ix2 r 0)))))) := by
  have hx := x.isLt
  have hi := i.isLt
  have lo : ∀ (r' : Fin 1024) (d' : Fin 64), (r' : ℕ) = r → (d' : ℕ) = d → k0_pay10 v36 v43 v44 v50 v53 v58 v63 (ix2 r' d') = k0_pay10 v36 v43 v44 v50 v53 v58 v63 (ix2 r d) := fun r' d' h1 h2 => by
    rw [Fin.ext h1, Fin.ext h2]
  have hi' : ∀ (r' : Fin 1024) (d' : Fin 64), (r' : ℕ) = r → (d' : ℕ) = d →
      att (fun c : Fin 256 => v92 (ix2 r' c)) (fun c => v91 (ix2 c d')) (Scalar.select (IntOp.cmpi CmpIPredicate.eq (v36 (ix2 r' 0)) 3#32) v111
        (Scalar.select (IntOp.cmpi CmpIPredicate.eq (v36 (ix2 r' 0)) 2#32) v106
          (Scalar.select (IntOp.cmpi CmpIPredicate.eq (v36 (ix2 r' 0)) 1#32) v101 (Scalar.select (v95 (ix2 r' 0)) (v97 (ix2 r' 0)) (v93 (ix2 r' 0))))))
      = att (fun c : Fin 256 => v92 (ix2 r c)) (fun c => v91 (ix2 c d)) (Scalar.select (IntOp.cmpi CmpIPredicate.eq (v36 (ix2 r 0)) 3#32) v111
        (Scalar.select (IntOp.cmpi CmpIPredicate.eq (v36 (ix2 r 0)) 2#32) v106
          (Scalar.select (IntOp.cmpi CmpIPredicate.eq (v36 (ix2 r 0)) 1#32) v101 (Scalar.select (v95 (ix2 r 0)) (v97 (ix2 r 0)) (v93 (ix2 r 0)))))) := fun r' d' h1 h2 => by
    rw [Fin.ext h1, Fin.ext h2]
  have q0 := pay11_at v36 v43 v44 v50 v53 v58 v63 i
  have q1 := pay12_at v36 v43 v44 v50 v53 v58 v63 i
  have q2 := pay13_at v36 v43 v44 v50 v53 v58 v63 i
  have q3 := pay14_at v36 v43 v44 v50 v53 v58 v63 i
  revert q0 q1 q2 q3
  generalize k0_pay11 v36 v43 v44 v50 v53 v58 v63 = w0
  generalize k0_pay12 v36 v43 v44 v50 v53 v58 v63 = w1
  generalize k0_pay13 v36 v43 v44 v50 v53 v58 v63 = w2
  generalize k0_pay14 v36 v43 v44 v50 v53 v58 v63 = w3
  intro q0 q1 q2 q3
  pointwise [k0_pay2]
  by_cases h1 : (x : ℕ) < 64
  · rw [dif_pos h1]; exact ((q0 _).trans <| lo ⟨i, by omega⟩ ⟨x, by omega⟩ (by show (i : ℕ) = r; omega) (by show (x : ℕ) = d; omega)).trans (if_pos (show (x : ℕ) < 256 by omega)).symm
  rw [dif_neg h1]
  by_cases h2 : (x : ℕ) - 64 < 64
  · rw [dif_pos h2]; exact ((q1 _).trans <| lo ⟨256 + i, by omega⟩ ⟨x - 64, by omega⟩ (by show 256 + (i : ℕ) = r; omega) (by show (x : ℕ) - 64 = d; omega)).trans (if_pos (show (x : ℕ) < 256 by omega)).symm
  rw [dif_neg h2]
  by_cases h3 : (x : ℕ) - 64 - 64 < 64
  · rw [dif_pos h3]; exact ((q2 _).trans <| lo ⟨512 + i, by omega⟩ ⟨x - 64 - 64, by omega⟩ (by show 512 + (i : ℕ) = r; omega) (by show (x : ℕ) - 64 - 64 = d; omega)).trans (if_pos (show (x : ℕ) < 256 by omega)).symm
  rw [dif_neg h3]
  by_cases h4 : (x : ℕ) - 64 - 64 - 64 < 64
  · rw [dif_pos h4]; exact ((q3 _).trans <| lo ⟨768 + i, by omega⟩ ⟨x - 64 - 64 - 64, by omega⟩ (by show 768 + (i : ℕ) = r; omega) (by show (x : ℕ) - 64 - 64 - 64 = d; omega)).trans (if_pos (show (x : ℕ) < 256 by omega)).symm
  rw [dif_neg h4]
  by_cases h5 : (x : ℕ) - 64 - 64 - 64 - 64 < 64
  · rw [dif_pos h5]; exact (hi' ⟨i, by omega⟩ ⟨x - 64 - 64 - 64 - 64, by omega⟩ (by show (i : ℕ) = r; omega) (by show (x : ℕ) - 64 - 64 - 64 - 64 = d; omega)).trans (if_neg (show ¬ (x : ℕ) < 256 by omega)).symm
  rw [dif_neg h5]
  by_cases h6 : (x : ℕ) - 64 - 64 - 64 - 64 - 64 < 64
  · rw [dif_pos h6]; exact (hi' ⟨256 + i, by omega⟩ ⟨x - 64 - 64 - 64 - 64 - 64, by omega⟩ (by show 256 + (i : ℕ) = r; omega) (by show (x : ℕ) - 64 - 64 - 64 - 64 - 64 = d; omega)).trans (if_neg (show ¬ (x : ℕ) < 256 by omega)).symm
  rw [dif_neg h6]
  by_cases h7 : (x : ℕ) - 64 - 64 - 64 - 64 - 64 - 64 < 64
  · rw [dif_pos h7]; exact (hi' ⟨512 + i, by omega⟩ ⟨x - 64 - 64 - 64 - 64 - 64 - 64, by omega⟩ (by show 512 + (i : ℕ) = r; omega) (by show (x : ℕ) - 64 - 64 - 64 - 64 - 64 - 64 = d; omega)).trans (if_neg (show ¬ (x : ℕ) < 256 by omega)).symm
  rw [dif_neg h7]; exact (hi' ⟨768 + i, by omega⟩ ⟨x - 64 - 64 - 64 - 64 - 64 - 64 - 64, by omega⟩ (by show 768 + (i : ℕ) = r; omega) (by show (x : ℕ) - 64 - 64 - 64 - 64 - 64 - 64 - 64 = d; omega)).trans (if_neg (show ¬ (x : ℕ) < 256 by omega)).symm
/-- What the kernel stores in a latent block. -/
theorem out_B (v1 : FVec Ideal S256x512 .bf16) (v41 : FVec Ideal S256x768 .f32) (v53 v65 : FVec Ideal S768x128 .bf16) (sk : Fin 8 → Elt Ideal .f32) (i : Fin 256) (x : Fin 512) :
    k0_pay3
      (k0_pay37 (k0_pay29 v65) (k0_pay33 v1 v41 v53 k0_pay24 k0_pay25 k0_pay26 (sk 0) (sk 1) (sk 2) (sk 3)) (k0_pay34 v1 v41 v53 k0_pay24 k0_pay25 k0_pay26 (sk 0) (sk 1) (sk 2) (sk 3)) (k0_pay35 v1 v41 v53 k0_pay24 k0_pay25 k0_pay26 (sk 0) (sk 1) (sk 2) (sk 3)))
      (k0_pay38 (k0_pay29 v65) (k0_pay33 v1 v41 v53 k0_pay24 k0_pay25 k0_pay26 (sk 0) (sk 1) (sk 2) (sk 3)) (k0_pay34 v1 v41 v53 k0_pay24 k0_pay25 k0_pay26 (sk 0) (sk 1) (sk 2) (sk 3)) (k0_pay35 v1 v41 v53 k0_pay24 k0_pay25 k0_pay26 (sk 0) (sk 1) (sk 2) (sk 3)))
      (k0_pay39 (k0_pay29 v65) (k0_pay33 v1 v41 v53 k0_pay24 k0_pay25 k0_pay26 (sk 0) (sk 1) (sk 2) (sk 3)) (k0_pay34 v1 v41 v53 k0_pay24 k0_pay25 k0_pay26 (sk 0) (sk 1) (sk 2) (sk 3)) (k0_pay35 v1 v41 v53 k0_pay24 k0_pay25 k0_pay26 (sk 0) (sk 1) (sk 2) (sk 3)))
      (k0_pay40 (k0_pay29 v65) (k0_pay33 v1 v41 v53 k0_pay24 k0_pay25 k0_pay26 (sk 0) (sk 1) (sk 2) (sk 3)) (k0_pay34 v1 v41 v53 k0_pay24 k0_pay25 k0_pay26 (sk 0) (sk 1) (sk 2) (sk 3)) (k0_pay35 v1 v41 v53 k0_pay24 k0_pay25 k0_pay26 (sk 0) (sk 1) (sk 2) (sk 3)))
      (k0_pay41 v65)
      (k0_pay43 (k0_pay27 k0_pay24 k0_pay25 k0_pay26) (sk 4) (sk 5) (sk 6) (sk 7))
      (k0_pay44 v1 v53 (k0_pay27 k0_pay24 k0_pay25 k0_pay26) (k0_pay28 v41) (sk 4) (sk 5) (sk 6) (sk 7))
      (k0_pay45 v1 v53 (k0_pay27 k0_pay24 k0_pay25 k0_pay26) (k0_pay28 v41) (sk 4) (sk 5) (sk 6) (sk 7))
      (k0_pay46 v1 v53 (k0_pay27 k0_pay24 k0_pay25 k0_pay26) (k0_pay28 v41) (sk 4) (sk 5) (sk 6) (sk 7)) (ix3 0 i x)
    = att (fun c : Fin 768 => (∑ k : Fin 64, v1 (ix2 i ⟨64 * (x / 64) + k, by omega⟩) * v53 (ix2 c ⟨64 * (x / 256) + k, by omega⟩)) + v41 (ix2 i c))
        (fun c => v65 (ix2 c ⟨64 * (x / 256) + x % 64, by omega⟩)) (sk ⟨x / 64, by omega⟩) := by
  have hx := x.isLt
  have hi := i.isLt
  have hr4 : 256 * (x.val / 64 % 4) + i.val < 1024 := by omega
  refine (pay3_at _ _ _ _ _ _ _ _ _ i x ⟨256 * (x / 64 % 4) + i, hr4⟩ ⟨x % 64, by omega⟩ rfl rfl).trans ?_
  have em : (⟨(256 * (x.val / 64 % 4) + i.val) % 256, by omega⟩ : Fin 256) = i := Fin.ext (show (256 * (x.val / 64 % 4) + i.val) % 256 = i.val by omega)
  by_cases h : (x : ℕ) < 256
  · rw [if_pos h]
    refine (pay36_at (k0_pay29 v65) v1 v41 v53 _ _ _ _ _ _ _ _ _ _ (pay31_at _ (sk 0) (sk 1) (sk 2) (sk 3))).trans ?_
    refine att_congr (fun c => ?_) (fun c => ?_) (pick_lo sk _ _ hr4 (show x.val / 64 = (256 * (x.val / 64 % 4) + i.val) / 256 by omega))
    · rw [pay30_at]
      refine congrArg₂ (fun y z => y + z) (Finset.sum_congr rfl fun k _ => congrArg₂ (fun y z => y * z) (congrArg₂ (fun y z => v1 (ix2 y z)) em (Fin.ext ?_)) (congrArg (fun z => v53 (ix2 c z)) (Fin.ext ?_))) (congrArg (fun z => v41 (ix2 z c)) em)
      · show 64 * ((256 * (x.val / 64 % 4) + i.val) / 256) + k.val = 64 * (x.val / 64) + k.val
        omega
      · show k.val = 64 * (x.val / 256) + k.val
        omega
    · rw [pay29_at]
      exact congrArg (fun z => v65 (ix2 c z)) (Fin.ext (show x.val % 64 = 64 * (x.val / 256) + x.val % 64 by omega))
  · rw [if_neg h]
    refine (grp1_at v65 v1 v53 _ (k0_pay28 v41) _ _ _ _ _ _ _ (pay43_at _ (sk 4) (sk 5) (sk 6) (sk 7))).trans ?_
    refine att_congr (fun c => ?_) (fun c => ?_) (pick_hi sk _ _ hr4 (show x.val / 64 = 4 + (256 * (x.val / 64 % 4) + i.val) / 256 by omega))
    · rw [pay42_at]
      refine congrArg₂ (fun y z => y + z) (Finset.sum_congr rfl fun k _ => congrArg₂ (fun y z => y * z) (congrArg₂ (fun y z => v1 (ix2 y z)) em (Fin.ext ?_)) (congrArg (fun z => v53 (ix2 c z)) (Fin.ext ?_))) (congrArg (fun z => v41 (ix2 z c)) em)
      · show 256 + 64 * ((256 * (x.val / 64 % 4) + i.val) / 256) + k.val = 64 * (x.val / 64) + k.val
        omega
      · show 64 + k.val = 64 * (x.val / 256) + k.val
        omega
    · exact congrArg (fun z => v65 (ix2 c z)) (Fin.ext (show 64 + x.val % 64 = 64 * (x.val / 256) + x.val % 64 by omega))
theorem pay7_at (v10 : Vec Ideal S1x256x128 .bf16) (c : Fin 256) (d : Fin 64) : k0_pay7 v10 (ix2 c d) = v10 (ix3 0 c ⟨d, by omega⟩) := by
  pointwise [k0_pay7, k0_pay5]
theorem pay15_at (v10 : Vec Ideal S1x256x128 .bf16) (c : Fin 256) (d : Fin 64) : k0_pay15 (k0_pay5 v10) (ix2 c d) = v10 (ix3 0 c ⟨64 + d, by omega⟩) := by
  pointwise [k0_pay15, k0_pay5]
/-- The sink of a row of the stacked queries, first group. -/
theorem sinkA_lo (r : Fin 1024) (a b c d : Elt Ideal .f32) :
    Scalar.select (IntOp.cmpi CmpIPredicate.eq (k0_pay6 (ix2 r 0)) 3#32) d (Scalar.select (IntOp.cmpi CmpIPredicate.eq (k0_pay6 (ix2 r 0)) 2#32) c
      (Scalar.select (IntOp.cmpi CmpIPredicate.eq (k0_pay6 (ix2 r 0)) 1#32) b (k0_pay9 a (ix2 r 0)))) = pick r a b c d := by
  have h := head_A r
  have h9 : k0_pay9 (F := Ideal) a (ix2 r 0) = Scalar.select (IntOp.cmpi CmpIPredicate.eq (k0_pay6 (ix2 r 0)) 0#32) a (Ideal.ofBits .f32 0x00000000#32) := by
    generalize hk : k0_pay6 = k
    pointwise [k0_pay9]
    rw [hk]
  rw [h9, h]
  exact pick_head r a b c d _
/-- The sink of a row of the stacked queries, second group. -/
theorem sinkA_hi (r : Fin 1024) (a b c d : Elt Ideal .f32) :
    Scalar.select (IntOp.cmpi CmpIPredicate.eq (k0_pay6 (ix2 r 0)) 3#32) d (Scalar.select (IntOp.cmpi CmpIPredicate.eq (k0_pay6 (ix2 r 0)) 2#32) c
      (Scalar.select (IntOp.cmpi CmpIPredicate.eq (k0_pay6 (ix2 r 0)) 1#32) b (Scalar.select (k0_pay18 k0_pay6 (ix2 r 0)) (k0_pay19 a (ix2 r 0)) (k0_pay17 (F := Ideal) (ix2 r 0))))) = pick r a b c d := by
  have h := head_A r
  have h18 : ∀ k : IVec S1024x1 32, k0_pay18 k (ix2 r 0) = IntOp.cmpi CmpIPredicate.eq (k (ix2 r 0)) 0#32 := fun k => by
    pointwise [k0_pay18]
  have h19 : k0_pay19 a (ix2 r 0) = a := by
    pointwise [k0_pay19]
  rw [h18, h19, h]
  exact pick_head r a b c d _
/-- What the kernel stores in the context block. -/
theorem out_A (v1 : FVec Ideal S256x512 .bf16) (v8 v10 : Vec Ideal S1x256x128 .bf16) (sk : Fin 8 → Elt Ideal .f32) (i : Fin 256) (x : Fin 512) :
    k0_pay2 k0_pay6
      (k0_pay11 k0_pay6 (k0_pay7 v10) (k0_pay8 v1 v8) (k0_pay9 (sk 0)) (sk 1) (sk 2) (sk 3))
      (k0_pay12 k0_pay6 (k0_pay7 v10) (k0_pay8 v1 v8) (k0_pay9 (sk 0)) (sk 1) (sk 2) (sk 3))
      (k0_pay13 k0_pay6 (k0_pay7 v10) (k0_pay8 v1 v8) (k0_pay9 (sk 0)) (sk 1) (sk 2) (sk 3))
      (k0_pay14 k0_pay6 (k0_pay7 v10) (k0_pay8 v1 v8) (k0_pay9 (sk 0)) (sk 1) (sk 2) (sk 3))
      (k0_pay15 (k0_pay5 v10)) (k0_pay16 v1 (k0_pay4 v8)) k0_pay17 (k0_pay18 k0_pay6) (k0_pay19 (sk 4)) (sk 5) (sk 6) (sk 7) (ix3 0 i x)
    = att (fun c : Fin 256 => ∑ k : Fin 64, v1 (ix2 i ⟨64 * (x / 64) + k, by omega⟩) * v8 (ix3 0 c ⟨64 * (x / 256) + k, by omega⟩))
        (fun c => v10 (ix3 0 c ⟨64 * (x / 256) + x % 64, by omega⟩)) (sk ⟨x / 64, by omega⟩) := by
  have hx := x.isLt
  have hi := i.isLt
  have hr4 : 256 * (x.val / 64 % 4) + i.val < 1024 := by omega
  refine (pay2_at _ _ _ _ _ _ _ _ _ _ _ _ _ _ _ i x ⟨256 * (x / 64 % 4) + i, hr4⟩ ⟨x % 64, by omega⟩ rfl rfl).trans ?_
  have em : (⟨(256 * (x.val / 64 % 4) + i.val) % 256, by omega⟩ : Fin 256) = i := Fin.ext (show (256 * (x.val / 64 % 4) + i.val) % 256 = i.val by omega)
  by_cases h : (x : ℕ) < 256
  · rw [if_pos h]
    refine (pay10_at _ _ _ _ _ _ _ _ _ _ (sinkA_lo _ (sk 0) (sk 1) (sk 2) (sk 3))).trans ?_
    refine att_congr (fun c => ?_) (fun c => ?_) (pick_lo sk _ _ hr4 (show x.val / 64 = (256 * (x.val / 64 % 4) + i.val) / 256 by omega))
    · rw [pay8_at]
      refine Finset.sum_congr rfl fun k _ => congrArg₂ (fun y z => y * z) (congrArg₂ (fun y z => v1 (ix2 y z)) em (Fin.ext ?_)) (congrArg (fun z => v8 (ix3 0 c z)) (Fin.ext ?_))
      · show 64 * ((256 * (x.val / 64 % 4) + i.val) / 256) + k.val = 64 * (x.val / 64) + k.val
        omega
      · show k.val = 64 * (x.val / 256) + k.val
        omega
    · rw [pay7_at]
      exact congrArg (fun z => v10 (ix3 0 c z)) (Fin.ext (show x.val % 64 = 64 * (x.val / 256) + x.val % 64 by omega))
  · rw [if_neg h]
    rw [sinkA_hi]
    refine att_congr (fun c => ?_) (fun c => ?_) (pick_hi sk _ _ hr4 (show x.val / 64 = 4 + (256 * (x.val / 64 % 4) + i.val) / 256 by omega))
    · rw [pay16_at]
      refine Finset.sum_congr rfl fun k _ => congrArg₂ (fun y z => y * z) (congrArg₂ (fun y z => v1 (ix2 y z)) em (Fin.ext ?_)) (congrArg (fun z => v8 (ix3 0 c z)) (Fin.ext ?_))
      · show 256 + 64 * ((256 * (x.val / 64 % 4) + i.val) / 256) + k.val = 64 * (x.val / 64) + k.val
        omega
      · show 64 + k.val = 64 * (x.val / 256) + k.val
        omega
    · rw [pay15_at]
      exact congrArg (fun z => v10 (ix3 0 c z)) (Fin.ext (show 64 + x.val % 64 = 64 * (x.val / 256) + x.val % 64 by omega))

end Cert.Att
end
-- ==== Proof.AttWindow.lean ====
module

public import proofs.«01_k».proof.Proof.AttMath

@[expose] public section

noncomputable section

open Idealize.ShloMosaic
open scoped BigOperators

namespace Cert.Att

/-- The row of the key array that column `c` of a latent block's stacked keys is read from. -/
def rowOf (j : ℕ) (hj : 1 ≤ j) (hj' : j ≤ 16) (c : Fin 768) : Fin 4352 :=
  ⟨if c.val < 256 then c.val else if c.val < 384 then 256 * j - 128 + (c.val - 256) else if c.val < 640 then 256 * j + (c.val - 384)
    else 128 * min (2 * j + 2) 33 + (c.val - 640), by have := c.isLt; split_ifs <;> omega⟩

/-- The columns of a latent block that are not masked for row `i`. -/
def seen (j : ℕ) (i : Fin 256) (c : Fin 768) : Prop :=
  c.val < 256 ∨ (640 ≤ 256 * j + c ∧ 256 * j + c < 4736 ∧ c.val ≤ i + 512 ∧ i + 256 ≤ c.val)

instance (j : ℕ) (i : Fin 256) (c : Fin 768) : Decidable (seen j i c) := by unfold seen; infer_instance

theorem rowOf_seen (j : ℕ) (hj : 1 ≤ j) (hj' : j ≤ 16) (i : Fin 256) (c : Fin 768) (h : seen j i c) :
    (rowOf j hj hj' c).val = if c.val < 256 then c.val else 256 * j + c.val - 384 := by
  have hc := c.isLt
  have hi := i.isLt
  unfold seen at h
  show (if c.val < 256 then c.val else if c.val < 384 then 256 * j - 128 + (c.val - 256) else if c.val < 640 then 256 * j + (c.val - 384)
    else 128 * min (2 * j + 2) 33 + (c.val - 640)) = _
  split_ifs <;> omega

/-- The column of a latent block that holds key `p`. -/
def colOf (j : ℕ) (p : Fin 4352) : Fin 768 :=
  ⟨if p.val < 256 then p.val else min (p.val + 384 - 256 * j) 767, by split_ifs <;> omega⟩

/-- The attention over a latent block's stacked keys is the attention over all keys, those outside the window masked. -/
theorem window_eq (j : ℕ) (hj : 1 ≤ j) (hj' : j ≤ 16) (i : Fin 256) (q : Fin 64 → EReal) (K : Fin 4352 → Fin 64 → EReal)
    (V : Fin 4352 → EReal) (sk : EReal) :
    att (fun c : Fin 768 => (∑ k, q k * K (rowOf j hj hj' c) k) + (if seen j i c then (0 : EReal) else ⊥)) (fun c => V (rowOf j hj hj' c)) sk
    = att (fun p : Fin 4352 => if p.val < 256 ∨ (p.val ≤ 256 * j + i + 128 ∧ 256 * j + i.val ≤ p.val + 128) then ∑ k, K p k * q k else ⊥) V sk := by
  have hi := i.isLt
  refine att_transport _ _ _ _ sk (seen j i) (fun p => p.val < 256 ∨ (p.val ≤ 256 * j + i + 128 ∧ 256 * j + i.val ≤ p.val + 128))
    (rowOf j hj hj') (colOf j) (fun c h => ?_) (fun p h => ?_) (fun c h => ?_) (fun p h => ?_)
  · have hr := rowOf_seen j hj hj' i c h
    have hc := c.isLt
    have hq : (rowOf j hj hj' c).val < 256 ∨ ((rowOf j hj hj' c).val ≤ 256 * j + i + 128 ∧ 256 * j + i.val ≤ (rowOf j hj hj' c).val + 128) := by
      have h' := h
      unfold seen at h'
      rw [hr]
      split_ifs <;> omega
    refine ⟨hq, Fin.ext ?_, ?_, rfl⟩
    · show (if (rowOf j hj hj' c).val < 256 then (rowOf j hj hj' c).val else min ((rowOf j hj hj' c).val + 384 - 256 * j) 767) = c.val
      have h' := h
      unfold seen at h'
      rw [hr]
      split_ifs <;> omega
    · show (if (rowOf j hj hj' c).val < 256 ∨ ((rowOf j hj hj' c).val ≤ 256 * j + i + 128 ∧ 256 * j + i.val ≤ (rowOf j hj hj' c).val + 128) then ∑ k, K (rowOf j hj hj' c) k * q k else ⊥)
        = (∑ k, q k * K (rowOf j hj hj' c) k) + (if seen j i c then (0 : EReal) else ⊥)
      rw [if_pos hq, if_pos h, add_zero]
      exact Finset.sum_congr rfl fun k _ => mul_comm _ _
  · have hp := p.isLt
    have hs : seen j i (colOf j p) := by
      show (if p.val < 256 then p.val else min (p.val + 384 - 256 * j) 767) < 256 ∨ (640 ≤ 256 * j + (if p.val < 256 then p.val else min (p.val + 384 - 256 * j) 767)
        ∧ 256 * j + (if p.val < 256 then p.val else min (p.val + 384 - 256 * j) 767) < 4736 ∧ (if p.val < 256 then p.val else min (p.val + 384 - 256 * j) 767) ≤ i + 512
        ∧ i + 256 ≤ (if p.val < 256 then p.val else min (p.val + 384 - 256 * j) 767))
      split_ifs <;> omega
    refine ⟨hs, Fin.ext ?_⟩
    rw [rowOf_seen j hj hj' i _ hs]
    show (if (if p.val < 256 then p.val else min (p.val + 384 - 256 * j) 767) < 256 then (if p.val < 256 then p.val else min (p.val + 384 - 256 * j) 767)
      else 256 * j + (if p.val < 256 then p.val else min (p.val + 384 - 256 * j) 767) - 384) = p.val
    split_ifs <;> omega
  · show (∑ k, q k * K (rowOf j hj hj' c) k) + (if seen j i c then (0 : EReal) else ⊥) = ⊥
    rw [if_neg h, EReal.add_bot]
  · exact if_neg h

end Cert.Att

end
-- ==== Proof.AttFinal.lean ====
module

public import proofs.«01_k».proof.Proof.Gen.KernelIdeal.Value
public import proofs.«01_k».proof.Proof.AttBias
public import proofs.«01_k».proof.Proof.AttOut
public import proofs.«01_k».proof.Proof.AttWindow
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Att

open Cert.KernelIdeal Cert.KernelIdeal.Gen

variable (m : (ℓ : Loc nD τ sig) → Buf (Elt Ideal) ℓ)

theorem idx_val : ∀ t : Fin cfg0.N, win0_0.index t = ![0]
    ∧ win0_1.index t = ![t.val / 17, t.val % 17, 0]
    ∧ win0_2.index t = ![t.val / 17, 0, 0]
    ∧ win0_3.index t = ![t.val / 17, 0, 0]
    ∧ win0_4.index t = ![t.val / 17, t.val % 17, 0] :=
  (by decide +kernel : ∀ t : Fin grid0.N, _)

theorem coord1 : ∀ t : Fin cfg0.N, (grid0.coords t 1).val = t.val % 17 :=
  (by decide +kernel : ∀ t : Fin grid0.N, _)

theorem off1_eq : ∀ t : Fin cfg0.N, 1 ≤ t.val % 17 → k0_off1 (grid0.coords t) = ![0, 256 * (t.val % 17) - 128, 0] :=
  (by decide +kernel : ∀ t : Fin grid0.N, _)

theorem off2_eq : ∀ t : Fin cfg0.N, k0_off2 (grid0.coords t) = ![0, 256 * (t.val % 17), 0] :=
  (by decide +kernel : ∀ t : Fin grid0.N, _)

theorem off3_eq : ∀ t : Fin cfg0.N, k0_off3 (grid0.coords t) = ![0, 128 * min (2 * (t.val % 17) + 2) 33, 0] :=
  (by decide +kernel : ∀ t : Fin grid0.N, _)

theorem q_at (c : Dev nD) (t : Fin cfg0.N) (i : Fin 256) (x : Fin 512) (s : Fin 4352) (b : Fin 8) (hb : b.val = t.val / 17) (hs : s.val = 256 * (t.val % 17) + i.val) :
    k0_pay1 (iblk m c 1 t) (ix2 i x) = (m ((c : Thread nD τ).loc main_arg1) : Vec Ideal S8x4352x512 .bf16) (ix3 b s x) := by
  rw [pay1_at]
  blk_ext [iblk, V, idx_val t]
/-- A load of 128 rows of window 2's block reads those rows of its argument. -/
theorem k128 (c : Dev nD) (t : Fin cfg0.N) (off : Fin 3 → ℕ) (o : ℕ) (ho : off = ![0, o, 0]) (inb) (p : Fin 128) (k : Fin 128) (s : Fin 4352) (b : Fin 8)
    (hb : b.val = t.val / 17) (hs : s.val = o + p.val) :
    (View.ld (iblk m c 2 t) (Rect.unit (s := S1x4352x128) off ![1, 128, 128] inb) : Vec Ideal S1x128x128 .bf16) (ix3 0 p k)
      = (m ((c : Thread nD τ).loc main_arg2) : Vec Ideal S8x4352x128 .bf16) (ix3 b s k) := by
  subst ho
  pointwise
  blk_ext [iblk, V, idx_val t]
/-- A load of 256 rows of window 2's block reads those rows of its argument. -/
theorem k256 (c : Dev nD) (t : Fin cfg0.N) (off : Fin 3 → ℕ) (o : ℕ) (ho : off = ![0, o, 0]) (inb) (p : Fin 256) (k : Fin 128) (s : Fin 4352) (b : Fin 8)
    (hb : b.val = t.val / 17) (hs : s.val = o + p.val) :
    (View.ld (iblk m c 2 t) (Rect.unit (s := S1x4352x128) off ![1, 256, 128] inb) : Vec Ideal S1x256x128 .bf16) (ix3 0 p k)
      = (m ((c : Thread nD τ).loc main_arg2) : Vec Ideal S8x4352x128 .bf16) (ix3 b s k) := by
  subst ho
  pointwise
  blk_ext [iblk, V, idx_val t]
/-- A load of 128 rows of window 3's block reads those rows of its argument. -/
theorem v128 (c : Dev nD) (t : Fin cfg0.N) (off : Fin 3 → ℕ) (o : ℕ) (ho : off = ![0, o, 0]) (inb) (p : Fin 128) (k : Fin 128) (s : Fin 4352) (b : Fin 8)
    (hb : b.val = t.val / 17) (hs : s.val = o + p.val) :
    (View.ld (iblk m c 3 t) (Rect.unit (s := S1x4352x128) off ![1, 128, 128] inb) : Vec Ideal S1x128x128 .bf16) (ix3 0 p k)
      = (m ((c : Thread nD τ).loc main_arg3) : Vec Ideal S8x4352x128 .bf16) (ix3 b s k) := by
  subst ho
  pointwise
  blk_ext [iblk, V, idx_val t]
/-- A load of 256 rows of window 3's block reads those rows of its argument. -/
theorem v256 (c : Dev nD) (t : Fin cfg0.N) (off : Fin 3 → ℕ) (o : ℕ) (ho : off = ![0, o, 0]) (inb) (p : Fin 256) (k : Fin 128) (s : Fin 4352) (b : Fin 8)
    (hb : b.val = t.val / 17) (hs : s.val = o + p.val) :
    (View.ld (iblk m c 3 t) (Rect.unit (s := S1x4352x128) off ![1, 256, 128] inb) : Vec Ideal S1x256x128 .bf16) (ix3 0 p k)
      = (m ((c : Thread nD τ).loc main_arg3) : Vec Ideal S8x4352x128 .bf16) (ix3 b s k) := by
  subst ho
  pointwise
  blk_ext [iblk, V, idx_val t]

/-- A load of one sink. -/
theorem sink_load (c : Dev nD) (t : Fin cfg0.N) (off : Fin 1 → ℕ) (o : ℕ) (ho : off = ![o]) (inb) (hf) (n : Fin 8) (hn : n.val = o) :
    (View.ld (iblk m c 0 t) (Rect.unit (s := S8) off ![1] inb) : Vec Ideal ⟨1, ![1]⟩ .f32) (Shape.Idx.first hf)
      = (m ((c : Thread nD τ).loc main_arg0) : Vec Ideal S8 .f32) (ix1 n) := by
  subst ho
  refine (View.ld_unit_apply_of _ _ _ _ _ (ix1 n) ?_).trans ?_
  · intro a
    fin_cases a
    show n.val = o + 0
    omega
  blk_ext [iblk, V, idx_val t]

/-- One entry of the attention: context rows read the context keys, latent rows the context keys and those of their window. -/
def ko (sink : FVec Ideal S8 .f32) (aq : FVec Ideal S8x4352x512 .bf16) (ak av : FVec Ideal S8x4352x128 .bf16) (b : Fin 8) (s : Fin 4352) (x : Fin 512) : EReal :=
  if s.val < 256 then
    att (fun c : Fin 256 => ∑ k : Fin 64, ak (ix3 b ⟨c, by omega⟩ ⟨64 * (x / 256) + k, by omega⟩) * aq (ix3 b s ⟨64 * (x / 64) + k, by omega⟩))
      (fun c : Fin 256 => av (ix3 b ⟨c, by omega⟩ ⟨64 * (x / 256) + x % 64, by omega⟩)) (sink (ix1 ⟨x / 64, by omega⟩))
  else
    att (fun p : Fin 4352 => if p.val < 256 ∨ (p.val ≤ s + 128 ∧ s.val ≤ p + 128) then ∑ k : Fin 64, ak (ix3 b p ⟨64 * (x / 256) + k, by omega⟩) * aq (ix3 b s ⟨64 * (x / 64) + k, by omega⟩) else ⊥)
      (fun p : Fin 4352 => av (ix3 b p ⟨64 * (x / 256) + x % 64, by omega⟩)) (sink (ix1 ⟨x / 64, by omega⟩))

/-- The attention as one array. -/
def KO (sink : FVec Ideal S8 .f32) (aq : FVec Ideal S8x4352x512 .bf16) (ak av : FVec Ideal S8x4352x128 .bf16) : FVec Ideal S8x4352x512 .bf16 :=
  fun j => ko sink aq ak av (j 0) (j 1) (j 2)
theorem out_B8 (v1 : FVec Ideal S256x512 .bf16) (v41 : FVec Ideal S256x768 .f32) (v53 v65 : FVec Ideal S768x128 .bf16) (s0 s1 s2 s3 s4 s5 s6 s7 : Elt Ideal .f32) (i : Fin 256) (x : Fin 512) :
    k0_pay3
      (k0_pay37 (k0_pay29 v65) (k0_pay33 v1 v41 v53 k0_pay24 k0_pay25 k0_pay26 s0 s1 s2 s3) (k0_pay34 v1 v41 v53 k0_pay24 k0_pay25 k0_pay26 s0 s1 s2 s3) (k0_pay35 v1 v41 v53 k0_pay24 k0_pay25 k0_pay26 s0 s1 s2 s3))
      (k0_pay38 (k0_pay29 v65) (k0_pay33 v1 v41 v53 k0_pay24 k0_pay25 k0_pay26 s0 s1 s2 s3) (k0_pay34 v1 v41 v53 k0_pay24 k0_pay25 k0_pay26 s0 s1 s2 s3) (k0_pay35 v1 v41 v53 k0_pay24 k0_pay25 k0_pay26 s0 s1 s2 s3))
      (k0_pay39 (k0_pay29 v65) (k0_pay33 v1 v41 v53 k0_pay24 k0_pay25 k0_pay26 s0 s1 s2 s3) (k0_pay34 v1 v41 v53 k0_pay24 k0_pay25 k0_pay26 s0 s1 s2 s3) (k0_pay35 v1 v41 v53 k0_pay24 k0_pay25 k0_pay26 s0 s1 s2 s3))
      (k0_pay40 (k0_pay29 v65) (k0_pay33 v1 v41 v53 k0_pay24 k0_pay25 k0_pay26 s0 s1 s2 s3) (k0_pay34 v1 v41 v53 k0_pay24 k0_pay25 k0_pay26 s0 s1 s2 s3) (k0_pay35 v1 v41 v53 k0_pay24 k0_pay25 k0_pay26 s0 s1 s2 s3))
      (k0_pay41 v65)
      (k0_pay43 (k0_pay27 k0_pay24 k0_pay25 k0_pay26) s4 s5 s6 s7)
      (k0_pay44 v1 v53 (k0_pay27 k0_pay24 k0_pay25 k0_pay26) (k0_pay28 v41) s4 s5 s6 s7)
      (k0_pay45 v1 v53 (k0_pay27 k0_pay24 k0_pay25 k0_pay26) (k0_pay28 v41) s4 s5 s6 s7)
      (k0_pay46 v1 v53 (k0_pay27 k0_pay24 k0_pay25 k0_pay26) (k0_pay28 v41) s4 s5 s6 s7) (ix3 0 i x)
    = att (fun c : Fin 768 => (∑ k : Fin 64, v1 (ix2 i ⟨64 * (x / 64) + k, by omega⟩) * v53 (ix2 c ⟨64 * (x / 256) + k, by omega⟩)) + v41 (ix2 i c))
        (fun c => v65 (ix2 c ⟨64 * (x / 256) + x % 64, by omega⟩)) ((![s0, s1, s2, s3, s4, s5, s6, s7] : Fin 8 → EReal) ⟨x / 64, by omega⟩) :=
  out_B v1 v41 v53 v65 ![s0, s1, s2, s3, s4, s5, s6, s7] i x
theorem out_A8 (v1 : FVec Ideal S256x512 .bf16) (v8 v10 : Vec Ideal S1x256x128 .bf16) (s0 s1 s2 s3 s4 s5 s6 s7 : Elt Ideal .f32) (i : Fin 256) (x : Fin 512) :
    k0_pay2 k0_pay6
      (k0_pay11 k0_pay6 (k0_pay7 v10) (k0_pay8 v1 v8) (k0_pay9 s0) s1 s2 s3)
      (k0_pay12 k0_pay6 (k0_pay7 v10) (k0_pay8 v1 v8) (k0_pay9 s0) s1 s2 s3)
      (k0_pay13 k0_pay6 (k0_pay7 v10) (k0_pay8 v1 v8) (k0_pay9 s0) s1 s2 s3)
      (k0_pay14 k0_pay6 (k0_pay7 v10) (k0_pay8 v1 v8) (k0_pay9 s0) s1 s2 s3)
      (k0_pay15 (k0_pay5 v10)) (k0_pay16 v1 (k0_pay4 v8)) k0_pay17 (k0_pay18 k0_pay6) (k0_pay19 s4) s5 s6 s7 (ix3 0 i x)
    = att (fun c : Fin 256 => ∑ k : Fin 64, v1 (ix2 i ⟨64 * (x / 64) + k, by omega⟩) * v8 (ix3 0 c ⟨64 * (x / 256) + k, by omega⟩))
        (fun c => v10 (ix3 0 c ⟨64 * (x / 256) + x % 64, by omega⟩)) ((![s0, s1, s2, s3, s4, s5, s6, s7] : Fin 8 → EReal) ⟨x / 64, by omega⟩) :=
  out_A v1 v8 v10 ![s0, s1, s2, s3, s4, s5, s6, s7] i x

theorem rowOf_0 (j : ℕ) (hj hj') (p : Fin 256) : (rowOf j hj hj' ⟨p, by omega⟩).val = 0 + p.val := by
  show (if p.val < 256 then p.val else _) = _
  rw [if_pos p.isLt]; omega
theorem rowOf_1 (j : ℕ) (hj hj') (p : Fin 128) : (rowOf j hj hj' ⟨256 + p, by omega⟩).val = 256 * j - 128 + p.val := by
  have hp := p.isLt
  show (if 256 + p.val < 256 then 256 + p.val else if 256 + p.val < 384 then 256 * j - 128 + (256 + p.val - 256) else _) = _
  rw [if_neg (by omega), if_pos (by omega)]; omega
theorem rowOf_2 (j : ℕ) (hj hj') (p : Fin 256) : (rowOf j hj hj' ⟨384 + p, by omega⟩).val = 256 * j + p.val := by
  have hp := p.isLt
  show (if 384 + p.val < 256 then 384 + p.val else if 384 + p.val < 384 then _ else if 384 + p.val < 640 then 256 * j + (384 + p.val - 384) else _) = _
  rw [if_neg (by omega), if_neg (by omega), if_pos (by omega)]; omega
theorem rowOf_3 (j : ℕ) (hj hj') (p : Fin 128) : (rowOf j hj hj' ⟨640 + p, by omega⟩).val = 128 * min (2 * j + 2) 33 + p.val := by
  have hp := p.isLt
  show (if 640 + p.val < 256 then 640 + p.val else if 640 + p.val < 384 then _ else if 640 + p.val < 640 then _ else 128 * min (2 * j + 2) 33 + (640 + p.val - 640)) = _
  rw [if_neg (by omega), if_neg (by omega), if_neg (by omega)]; omega

/-- The sinks as loaded are the argument's. -/
theorem sinks_eq (a : FVec Ideal S8 .f32) (s0 s1 s2 s3 s4 s5 s6 s7 : EReal) (h0 : s0 = a (ix1 0)) (h1 : s1 = a (ix1 1)) (h2 : s2 = a (ix1 2)) (h3 : s3 = a (ix1 3))
    (h4 : s4 = a (ix1 4)) (h5 : s5 = a (ix1 5)) (h6 : s6 = a (ix1 6)) (h7 : s7 = a (ix1 7)) (n : Fin 8) :
    (![s0, s1, s2, s3, s4, s5, s6, s7] : Fin 8 → EReal) n = a (ix1 n) := by
  subst h0 h1 h2 h3 h4 h5 h6 h7
  fin_cases n <;> rfl

theorem emb_eq (t : Fin cfg0.N) (i : Fin 256) (x : Fin 512) (b : Fin 8) (s : Fin 4352) (hb : b.val = t.val / 17) (hs : s.val = 256 * (t.val % 17) + i.val) :
    (((cfg0.win 4).blk t).view.emb (ix3 0 i x) : S8x4352x512.Idx) = ix3 b s x := by
  blk_ext [idx_val t]

/-- Block `t` at an entry, a latent block. -/
theorem point_B (c : Dev nD) (t : Fin cfg0.N) (h0 : ¬t.val % 17 = 0) (h1 : 1 ≤ t.val % 17) (y : S1x256x512.Idx) :
    (out0_B_4 c (grid0.coords t) (ms0_0 t) (hs0_0 t) (ms0_1 t) (hs0_1 t) (ms0_2 t) (hs0_2 t) (ms0_3 t) (hs0_3 t)
      (ms0_4 t) (hs0_4 t) (fun h => h0 ((hcond0_0 t).mp h)) ((hcond0_1 t).mpr h1) (iblk m c 0 t) (iblk m c 1 t) (iblk m
      c 2 t) (iblk m c 3 t)) y
      = KO (m ((c : Thread nD τ).loc main_arg0)) (m ((c : Thread nD τ).loc main_arg1)) (m ((c : Thread nD τ).loc
        main_arg2)) (m ((c : Thread nD τ).loc main_arg3)) (((cfg0.win 4).blk t).view.emb y) := by
  obtain ⟨i, x, rfl⟩ : ∃ (i : Fin 256) (x : Fin 512), y = ix3 0 i x := ⟨y 1, y 2, by
    funext a
    fin_cases a
    · exact Fin.ext (by have := (y 0).isLt; show (y 0).val = 0; have h : (y 0).val < 1 := this; omega)
    · rfl
    · rfl⟩
  have ht : t.val < 136 := t.isLt
  have hi := i.isLt
  have hx := x.isLt
  have hj' : t.val % 17 ≤ 16 := by omega
  have hb0 : t.val / 17 < 8 := by omega
  have hs0 : 256 * (t.val % 17) + i.val < 4352 := by omega
  rw [emb_eq t i x ⟨t.val / 17, hb0⟩ ⟨256 * (t.val % 17) + i.val, hs0⟩ rfl rfl]
  frame_out
  refine (out_B8 _ _ _ _ _ _ _ _ _ _ _ _ i x).trans ?_
  show _ = ko _ _ _ _ (⟨t.val / 17, hb0⟩ : Fin 8) (⟨256 * (t.val % 17) + i.val, hs0⟩ : Fin 4352) x
  unfold ko
  rw [if_neg (show ¬ (256 * (t.val % 17) + i.val) < 256 by omega)]
  refine Eq.trans ?_ (window_eq (t.val % 17) h1 hj' i
    (fun k => (m ((c : Thread nD τ).loc main_arg1) : Vec Ideal S8x4352x512 .bf16) (ix3 ⟨t.val / 17, hb0⟩ ⟨256 * (t.val % 17) + i.val, hs0⟩ ⟨64 * (x / 64) + k, by omega⟩))
    (fun p k => (m ((c : Thread nD τ).loc main_arg2) : Vec Ideal S8x4352x128 .bf16) (ix3 ⟨t.val / 17, hb0⟩ p ⟨64 * (x / 256) + k, by omega⟩))
    (fun p => (m ((c : Thread nD τ).loc main_arg3) : Vec Ideal S8x4352x128 .bf16) (ix3 ⟨t.val / 17, hb0⟩ p ⟨64 * (x / 256) + x % 64, by omega⟩)) _)
  refine att_congr (fun p => ?_) (fun p => ?_) ?_
  · refine congrArg₂ (fun y z => y + z) (Finset.sum_congr rfl fun k _ => congrArg₂ (fun y z => y * z) (q_at m c t i _ _ _ rfl rfl) ?_) ?_
    · refine rows_at _ _ _ _ (fun p k => (m ((c : Thread nD τ).loc main_arg2) : Vec Ideal S8x4352x128 .bf16) (ix3 ⟨t.val / 17, hb0⟩ (rowOf (t.val % 17) h1 hj' p) k)) ?_ ?_ ?_ ?_ p _
      · exact fun p k => (pay21_at _ p k).trans (k256 m c t _ 0 rfl _ p k _ _ rfl (rowOf_0 _ _ _ p))
      · exact fun p k => k128 m c t _ _ (off1_eq t h1) _ p k _ _ rfl (rowOf_1 _ _ _ p)
      · exact fun p k => k256 m c t _ _ (off2_eq t) _ p k _ _ rfl (rowOf_2 _ _ _ p)
      · exact fun p k => k128 m c t _ _ (off3_eq t) _ p k _ _ rfl (rowOf_3 _ _ _ p)
    · rw [coord1 t, bias_at (t.val % 17) h1 hj' i p]
      by_cases h : seen (t.val % 17) i p
      · rw [if_pos h]; exact if_pos h
      · rw [if_neg h]; exact if_neg h
  · refine rowsv_at _ _ _ _ (fun p k => (m ((c : Thread nD τ).loc main_arg3) : Vec Ideal S8x4352x128 .bf16) (ix3 ⟨t.val / 17, hb0⟩ (rowOf (t.val % 17) h1 hj' p) k)) ?_ ?_ ?_ ?_ p _
    · exact fun p k => v256 m c t _ 0 rfl _ p k _ _ rfl (rowOf_0 _ _ _ p)
    · exact fun p k => v128 m c t _ _ (off1_eq t h1) _ p k _ _ rfl (rowOf_1 _ _ _ p)
    · exact fun p k => v256 m c t _ _ (off2_eq t) _ p k _ _ rfl (rowOf_2 _ _ _ p)
    · exact fun p k => v128 m c t _ _ (off3_eq t) _ p k _ _ rfl (rowOf_3 _ _ _ p)
  · exact sinks_eq _ _ _ _ _ _ _ _ _ (sink_load m c t _ 0 rfl _ _ 0 rfl) (sink_load m c t _ 1 rfl _ _ 1 rfl) (sink_load m c t _ 2 rfl _ _ 2 rfl) (sink_load m c t _ 3 rfl _ _ 3 rfl)
      (sink_load m c t _ 4 rfl _ _ 4 rfl) (sink_load m c t _ 5 rfl _ _ 5 rfl) (sink_load m c t _ 6 rfl _ _ 6 rfl) (sink_load m c t _ 7 rfl _ _ 7 rfl) _

/-- Block `t` at an entry, a context block. -/
theorem point_A (c : Dev nD) (t : Fin cfg0.N) (h0 : t.val % 17 = 0) (h1 : ¬1 ≤ t.val % 17) (y : S1x256x512.Idx) :
    (out0_A_4 c (grid0.coords t) (ms0_0 t) (hs0_0 t) (ms0_1 t) (hs0_1 t) (ms0_2 t) (hs0_2 t) (ms0_3 t) (hs0_3 t)
      (ms0_4 t) (hs0_4 t) ((hcond0_0 t).mpr h0) (fun h => h1 ((hcond0_1 t).mp h)) (iblk m c 0 t) (iblk m c 1 t) (iblk m
      c 2 t) (iblk m c 3 t)) y
      = KO (m ((c : Thread nD τ).loc main_arg0)) (m ((c : Thread nD τ).loc main_arg1)) (m ((c : Thread nD τ).loc
        main_arg2)) (m ((c : Thread nD τ).loc main_arg3)) (((cfg0.win 4).blk t).view.emb y) := by
  obtain ⟨i, x, rfl⟩ : ∃ (i : Fin 256) (x : Fin 512), y = ix3 0 i x := ⟨y 1, y 2, by
    funext a
    fin_cases a
    · exact Fin.ext (by have := (y 0).isLt; show (y 0).val = 0; have h : (y 0).val < 1 := this; omega)
    · rfl
    · rfl⟩
  have ht : t.val < 136 := t.isLt
  have hi := i.isLt
  have hx := x.isLt
  have hb0 : t.val / 17 < 8 := by omega
  have hs0 : i.val < 4352 := by omega
  rw [emb_eq t i x ⟨t.val / 17, hb0⟩ ⟨i.val, hs0⟩ rfl (show i.val = 256 * (t.val % 17) + i.val by omega)]
  frame_out
  refine (out_A8 _ _ _ _ _ _ _ _ _ _ _ i x).trans ?_
  show _ = ko _ _ _ _ (⟨t.val / 17, hb0⟩ : Fin 8) (⟨i.val, hs0⟩ : Fin 4352) x
  unfold ko
  rw [if_pos (show i.val < 256 by omega)]
  refine att_congr (fun p => ?_) (fun p => ?_) ?_
  · exact Finset.sum_congr rfl fun k _ => (congrArg₂ (fun y z => y * z) (q_at m c t i _ ⟨i.val, hs0⟩ ⟨t.val / 17, hb0⟩ rfl (show i.val = 256 * (t.val % 17) + i.val by omega))
      (k256 m c t _ 0 rfl _ p _ ⟨p, by omega⟩ ⟨t.val / 17, hb0⟩ rfl (show p.val = 0 + p.val by omega))).trans (mul_comm _ _)
  · exact v256 m c t _ 0 rfl _ p _ ⟨p, by omega⟩ ⟨t.val / 17, hb0⟩ rfl (show p.val = 0 + p.val by omega)
  · exact sinks_eq _ _ _ _ _ _ _ _ _ (sink_load m c t _ 0 rfl _ _ 0 rfl) (sink_load m c t _ 1 rfl _ _ 1 rfl) (sink_load m c t _ 2 rfl _ _ 2 rfl) (sink_load m c t _ 3 rfl _ _ 3 rfl)
      (sink_load m c t _ 4 rfl _ _ 4 rfl) (sink_load m c t _ 5 rfl _ _ 5 rfl) (sink_load m c t _ 6 rfl _ _ 6 rfl) (sink_load m c t _ 7 rfl _ _ 7 rfl) _

/-- The result array after the run. -/
theorem final (c : Dev nD) : (dats m 0 c).arrAt 4 (cfgs 0).N = KO (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  by_cases h : t.val % 17 = 0
  · rw [outsAt0_A m c t h (by omega)]; exact point_A m c t h (by omega) y
  · rw [outsAt0_B m c t h (by omega)]; exact point_B m c t h (by omega) y
end Cert.Att
end
-- ==== Proof.AttRef.lean ====
module

public import proofs.«01_k».proof.Proof.Gen.ReferenceIdeal.Run
public import proofs.«01_k».proof.Proof.AttMath
public import Idealize.ShloMosaic.Lib.Pointwise

@[expose] public section

set_option maxRecDepth 16384

noncomputable section

open Idealize.ShloMosaic Idealize.ShloMosaic.TcCoe
open scoped BigOperators

namespace Cert.AttRef

open Cert.ReferenceIdeal Cert.ReferenceIdeal.Gen Cert.ReferenceIdeal.Value Cert.Att
/-- The row maxima of the context queries' scores. -/
def redC (s : FVec Ideal S8x2x4x256x256 .f32) : FVec Ideal S8x2x4x256 .f32 :=
  Host.reduce FloatOps.maximumf s (constant (F := Ideal) S_ .f32 0xFF800000#32) reducesTo_S8x2x4x256x256_S8x2x4x256_d4 h_S_
/-- The maximum with the sink, of the context queries. -/
def topC (rd : FVec Ideal S8x2x4x256 .f32) (sk : FVec Ideal S1x2x4x1x1 .f32) : FVec Ideal S8x2x4x256x1 .f32 :=
  maximumf (broadcastInDim S8x2x4x256x1 ![0, 1, 2, 3] bcast_S8x2x4x256_S8x2x4x256x1_0_1_2_3 rd) (broadcastInDim S8x2x4x256x1 ![0, 1, 2, 3, 4] bcast_S1x2x4x1x1_S8x2x4x256x1_0_1_2_3_4 sk)
/-- The exponentials, of the context queries. -/
def expC (s : FVec Ideal S8x2x4x256x256 .f32) (mx : FVec Ideal S8x2x4x256x1 .f32) : FVec Ideal S8x2x4x256x256 .f32 :=
  Host.exp (subf s (broadcastInDim S8x2x4x256x256 ![0, 1, 2, 3, 4] bcast_S8x2x4x256x1_S8x2x4x256x256_0_1_2_3_4 mx))
/-- The denominators, of the context queries. -/
def denC (e : FVec Ideal S8x2x4x256x256 .f32) (mx : FVec Ideal S8x2x4x256x1 .f32) (sk : FVec Ideal S1x2x4x1x1 .f32) : FVec Ideal S8x2x4x256x1 .f32 :=
  addf (broadcastInDim S8x2x4x256x1 ![0, 1, 2, 3] bcast_S8x2x4x256_S8x2x4x256x1_0_1_2_3 (Host.reduceAdd e (constant (F := Ideal) S_ .f32 0x00000000#32) reducesTo_S8x2x4x256x256_S8x2x4x256_d4 h_S_)) (Host.exp (subf (broadcastInDim S8x2x4x256x1 ![0, 1, 2, 3, 4] bcast_S1x2x4x1x1_S8x2x4x256x1_0_1_2_3_4 sk) mx))
/-- The weighted values, of the context queries. -/
def outC (e : FVec Ideal S8x2x4x256x256 .f32) (dn : FVec Ideal S8x2x4x256x1 .f32) (v : FVec Ideal S8x256x2x64 .f32) : FVec Ideal S8x256x2x4x64 .f32 :=
  transpose S8x256x2x4x64 [0, 4, 1, 3, 2] (Host.dotGeneral dot_S8x256x2x64_S8x2x4x256x256_S8x2x64x4x256_1_4_3_23_02_01 none v
    (Host.divf e (broadcastInDim S8x2x4x256x256 ![0, 1, 2, 3, 4] bcast_S8x2x4x256x1_S8x2x4x256x256_0_1_2_3_4 dn))) transposes_S8x2x64x4x256_S8x256x2x4x64_0_4_1_3_2

theorem redC_at (s : FVec Ideal S8x2x4x256x256 .f32) (b : Fin 8) (h : Fin 2) (g : Fin 4) (i : Fin 256) :
    redC s (ix4 b h g i) = Finset.univ.fold max ⊥ (fun c : Fin 256 => s (ix5 b h g i c)) := by
  refine (Host.reduce_eq_fold_single (max : EReal → EReal → EReal) s _ _ (by decide : S8x2x4x256x256.Reduces [4] S8x2x4x256) _ _).trans ?_
  refine Finset.fold_congr fun c _ => congrArg s (funext fun a => Fin.ext ?_)
  rw [Shape.Reduces.lift_val]
  fin_cases a <;> rfl
theorem topC_at (rd : FVec Ideal S8x2x4x256 .f32) (sk : FVec Ideal S1x2x4x1x1 .f32) (b : Fin 8) (h : Fin 2) (g : Fin 4) (i : Fin 256) :
    topC rd sk (ix5 b h g i 0) = max (rd (ix4 b h g i)) (sk (ix5 0 h g 0 0)) := by
  pointwise [topC]
theorem expC_at (s : FVec Ideal S8x2x4x256x256 .f32) (mx : FVec Ideal S8x2x4x256x1 .f32) (b : Fin 8) (h : Fin 2) (g : Fin 4) (i c : Fin 256) :
    expC s mx (ix5 b h g i c) = Ideal.exp (s (ix5 b h g i c) - mx (ix5 b h g i 0)) := by
  pointwise [expC]
theorem denC_at (e : FVec Ideal S8x2x4x256x256 .f32) (mx : FVec Ideal S8x2x4x256x1 .f32) (sk : FVec Ideal S1x2x4x1x1 .f32) (b : Fin 8) (h : Fin 2) (g : Fin 4) (i : Fin 256) :
    denC e mx sk (ix5 b h g i 0) = (∑ c : Fin 256, e (ix5 b h g i c)) + Ideal.exp (sk (ix5 0 h g 0 0) - mx (ix5 b h g i 0)) := by
  pointwise [denC]
theorem outC_at (e : FVec Ideal S8x2x4x256x256 .f32) (dn : FVec Ideal S8x2x4x256x1 .f32) (v : FVec Ideal S8x256x2x64 .f32) (b : Fin 8) (i : Fin 256) (h : Fin 2) (g : Fin 4) (d : Fin 64) :
    outC e dn v (ix5 b i h g d) = ∑ c : Fin 256, v (ix4 b c h d) * Ideal.div (e (ix5 b h g i c)) (dn (ix5 b h g i 0)) := by
  pointwise [outC]
/-- The softmax with a sink over the 256 context keys, and the product with the values, as the reference computes it. -/
def smC (s : FVec Ideal S8x2x4x256x256 .f32) (sk : FVec Ideal S1x2x4x1x1 .f32) (v : FVec Ideal S8x256x2x64 .f32) : FVec Ideal S8x256x2x4x64 .f32 :=
  outC (expC s (topC (redC s) sk)) (denC (expC s (topC (redC s) sk)) (topC (redC s) sk) sk) v
theorem smC_at (s : FVec Ideal S8x2x4x256x256 .f32) (sk : FVec Ideal S1x2x4x1x1 .f32) (v : FVec Ideal S8x256x2x64 .f32) (b : Fin 8) (i : Fin 256) (h : Fin 2) (g : Fin 4) (d : Fin 64) :
    smC s sk v (ix5 b i h g d) = attR (fun c => s (ix5 b h g i c)) (fun c => v (ix4 b c h d)) (sk (ix5 0 h g 0 0)) := by
  rw [smC, outC_at]
  simp only [expC_at, denC_at, topC_at, redC_at]
  rfl
/-- The row maxima of the latent queries' scores. -/
def redL (s : FVec Ideal S8x2x4x4096x4352 .f32) : FVec Ideal S8x2x4x4096 .f32 :=
  Host.reduce FloatOps.maximumf s (constant (F := Ideal) S_ .f32 0xFF800000#32) reducesTo_S8x2x4x4096x4352_S8x2x4x4096_d4 h_S_
/-- The maximum with the sink, of the latent queries. -/
def topL (rd : FVec Ideal S8x2x4x4096 .f32) (sk : FVec Ideal S1x2x4x1x1 .f32) : FVec Ideal S8x2x4x4096x1 .f32 :=
  maximumf (broadcastInDim S8x2x4x4096x1 ![0, 1, 2, 3] bcast_S8x2x4x4096_S8x2x4x4096x1_0_1_2_3 rd) (broadcastInDim S8x2x4x4096x1 ![0, 1, 2, 3, 4] bcast_S1x2x4x1x1_S8x2x4x4096x1_0_1_2_3_4 sk)
/-- The exponentials, of the latent queries. -/
def expL (s : FVec Ideal S8x2x4x4096x4352 .f32) (mx : FVec Ideal S8x2x4x4096x1 .f32) : FVec Ideal S8x2x4x4096x4352 .f32 :=
  Host.exp (subf s (broadcastInDim S8x2x4x4096x4352 ![0, 1, 2, 3, 4] bcast_S8x2x4x4096x1_S8x2x4x4096x4352_0_1_2_3_4 mx))
/-- The denominators, of the latent queries. -/
def denL (e : FVec Ideal S8x2x4x4096x4352 .f32) (mx : FVec Ideal S8x2x4x4096x1 .f32) (sk : FVec Ideal S1x2x4x1x1 .f32) : FVec Ideal S8x2x4x4096x1 .f32 :=
  addf (broadcastInDim S8x2x4x4096x1 ![0, 1, 2, 3] bcast_S8x2x4x4096_S8x2x4x4096x1_0_1_2_3 (Host.reduceAdd e (constant (F := Ideal) S_ .f32 0x00000000#32) reducesTo_S8x2x4x4096x4352_S8x2x4x4096_d4 h_S_)) (Host.exp (subf (broadcastInDim S8x2x4x4096x1 ![0, 1, 2, 3, 4] bcast_S1x2x4x1x1_S8x2x4x4096x1_0_1_2_3_4 sk) mx))
/-- The weighted values, of the latent queries. -/
def outL (e : FVec Ideal S8x2x4x4096x4352 .f32) (dn : FVec Ideal S8x2x4x4096x1 .f32) (v : FVec Ideal S8x4352x2x64 .f32) : FVec Ideal S8x4096x2x4x64 .f32 :=
  transpose S8x4096x2x4x64 [0, 4, 1, 3, 2] (Host.dotGeneral dot_S8x4352x2x64_S8x2x4x4096x4352_S8x2x64x4x4096_1_4_3_23_02_01 none v
    (Host.divf e (broadcastInDim S8x2x4x4096x4352 ![0, 1, 2, 3, 4] bcast_S8x2x4x4096x1_S8x2x4x4096x4352_0_1_2_3_4 dn))) transposes_S8x2x64x4x4096_S8x4096x2x4x64_0_4_1_3_2

theorem redL_at (s : FVec Ideal S8x2x4x4096x4352 .f32) (b : Fin 8) (h : Fin 2) (g : Fin 4) (i : Fin 4096) :
    redL s (ix4 b h g i) = Finset.univ.fold max ⊥ (fun c : Fin 4352 => s (ix5 b h g i c)) := by
  refine (Host.reduce_eq_fold_single (max : EReal → EReal → EReal) s _ _ (by decide : S8x2x4x4096x4352.Reduces [4] S8x2x4x4096) _ _).trans ?_
  refine Finset.fold_congr fun c _ => congrArg s (funext fun a => Fin.ext ?_)
  rw [Shape.Reduces.lift_val]
  fin_cases a <;> rfl
theorem topL_at (rd : FVec Ideal S8x2x4x4096 .f32) (sk : FVec Ideal S1x2x4x1x1 .f32) (b : Fin 8) (h : Fin 2) (g : Fin 4) (i : Fin 4096) :
    topL rd sk (ix5 b h g i 0) = max (rd (ix4 b h g i)) (sk (ix5 0 h g 0 0)) := by
  pointwise [topL]
theorem expL_at (s : FVec Ideal S8x2x4x4096x4352 .f32) (mx : FVec Ideal S8x2x4x4096x1 .f32) (b : Fin 8) (h : Fin 2) (g : Fin 4) (i : Fin 4096) (c : Fin 4352) :
    expL s mx (ix5 b h g i c) = Ideal.exp (s (ix5 b h g i c) - mx (ix5 b h g i 0)) := by
  pointwise [expL]
theorem denL_at (e : FVec Ideal S8x2x4x4096x4352 .f32) (mx : FVec Ideal S8x2x4x4096x1 .f32) (sk : FVec Ideal S1x2x4x1x1 .f32) (b : Fin 8) (h : Fin 2) (g : Fin 4) (i : Fin 4096) :
    denL e mx sk (ix5 b h g i 0) = (∑ c : Fin 4352, e (ix5 b h g i c)) + Ideal.exp (sk (ix5 0 h g 0 0) - mx (ix5 b h g i 0)) := by
  pointwise [denL]
theorem outL_at (e : FVec Ideal S8x2x4x4096x4352 .f32) (dn : FVec Ideal S8x2x4x4096x1 .f32) (v : FVec Ideal S8x4352x2x64 .f32) (b : Fin 8) (i : Fin 4096) (h : Fin 2) (g : Fin 4) (d : Fin 64) :
    outL e dn v (ix5 b i h g d) = ∑ c : Fin 4352, v (ix4 b c h d) * Ideal.div (e (ix5 b h g i c)) (dn (ix5 b h g i 0)) := by
  pointwise [outL]
/-- The softmax with a sink over the 4352 keys, and the product with the values, as the reference computes it. -/
def smL (s : FVec Ideal S8x2x4x4096x4352 .f32) (sk : FVec Ideal S1x2x4x1x1 .f32) (v : FVec Ideal S8x4352x2x64 .f32) : FVec Ideal S8x4096x2x4x64 .f32 :=
  outL (expL s (topL (redL s) sk)) (denL (expL s (topL (redL s) sk)) (topL (redL s) sk) sk) v
theorem smL_at (s : FVec Ideal S8x2x4x4096x4352 .f32) (sk : FVec Ideal S1x2x4x1x1 .f32) (v : FVec Ideal S8x4352x2x64 .f32) (b : Fin 8) (i : Fin 4096) (h : Fin 2) (g : Fin 4) (d : Fin 64) :
    smL s sk v (ix5 b i h g d) = attR (fun c => s (ix5 b h g i c)) (fun c => v (ix4 b c h d)) (sk (ix5 0 h g 0 0)) := by
  rw [smL, outL_at]
  simp only [expL_at, denL_at, topL_at, redL_at]
  rfl
/-- Which keys a latent query may read, one bit per pair. -/
def maskL : IVec S4096x4352 1 :=
  let pk := subi (broadcastInDim S1x4352 ![1] bcast_S4352_S1x4352_1 (iotaInDim S4352 32 0)) (broadcastInDim S1x4352 ![] bcast_S_S1x4352 (constantI S_ 32 256#32))
  ori (broadcastInDim S4096x4352 ![0, 1] bcast_S1x4352_S4096x4352_0_1 (cmpi .slt pk (broadcastInDim S1x4352 ![] bcast_S_S1x4352 (constantI S_ 32 0#32))))
    (cmpi .sle (absi (subi (broadcastInDim S4096x4352 ![0, 1] bcast_S4096x1_S4096x4352_0_1 (broadcastInDim S4096x1 ![0] bcast_S4096_S4096x1_0 (iotaInDim S4096 32 0)))
      (broadcastInDim S4096x4352 ![0, 1] bcast_S1x4352_S4096x4352_0_1 pk))) (broadcastInDim S4096x4352 ![] bcast_S_S4096x4352 (constantI S_ 32 128#32)))
theorem toInt_nat (p : ℕ) (h : p < 2147483648) : (BitVec.ofNat 32 p).toInt = p := by
  rw [BitVec.toInt_eq_toNat_of_lt] <;> rw [BitVec.toNat_ofNat, Nat.mod_eq_of_lt (by omega)]
  omega
theorem toInt_int (p : ℤ) (h : p < 2147483648) (h' : -2147483648 ≤ p) : (BitVec.ofInt 32 p).toInt = p := by
  rw [BitVec.toInt_ofInt, Int.bmod_eq_of_le] <;> omega
/-- A word's absolute value is at most 128 just where its value lies between -128 and 128. -/
theorem abs_le_128 (x : BitVec 32) (h : -100000 ≤ x.toInt) (h' : x.toInt ≤ 100000) :
    IntOp.cmpi CmpIPredicate.sle (IntOp.absi x) 128#32 = if x.toInt ≤ 128 ∧ -128 ≤ x.toInt then 1#1 else 0#1 := by
  have h128 : (128#32).toInt = 128 := rfl
  have hn : (-x).toInt = -x.toInt := by
    rw [BitVec.toInt_neg, Int.bmod_eq_of_le] <;> omega
  have hm : x.msb = decide (x.toInt < 0) := BitVec.msb_eq_toInt
  by_cases hx : x.toInt < 0
  · have : IntOp.absi x = -x := by simp [IntOp.absi, hm, hx]
    rw [this]
    show BitVec.ofBool (decide ((-x).toInt ≤ (128#32).toInt)) = _
    rw [hn, h128]
    by_cases h3 : x.toInt ≤ 128 ∧ -128 ≤ x.toInt
    · rw [if_pos h3, decide_eq_true (by omega)]; rfl
    · rw [if_neg h3, decide_eq_false (by omega)]; rfl
  · have : IntOp.absi x = x := by simp [IntOp.absi, hm, hx]
    rw [this]
    show BitVec.ofBool (decide (x.toInt ≤ (128#32).toInt)) = _
    rw [h128]
    by_cases h3 : x.toInt ≤ 128 ∧ -128 ≤ x.toInt
    · rw [if_pos h3, decide_eq_true (by omega)]; rfl
    · rw [if_neg h3, decide_eq_false (by omega)]; rfl
theorem maskL_at (i : Fin 4096) (p : Fin 4352) : maskL (ix2 i p) = if (p : ℕ) < 256 ∨ ((p : ℕ) ≤ i + 384 ∧ (i : ℕ) + 128 ≤ p) then 1#1 else 0#1 := by
  have hi := i.isLt
  have hp := p.isLt
  pointwise [maskL]
  have n1 := toInt_nat p (by omega)
  have n2 := toInt_nat i (by omega)
  have c1 : (256#32).toInt = 256 := rfl
  have c0 : (0#32).toInt = 0 := rfl
  have e1 : (IntOp.subi (BitVec.ofNat 32 p) 256#32) = BitVec.ofInt 32 (p - 256) := by
    apply BitVec.eq_of_toInt_eq
    rw [IntOp.subi, BitVec.toInt_sub, n1, c1, BitVec.toInt_ofInt]
  have t1 := toInt_int ((p : ℤ) - 256) (by omega) (by omega)
  have e2 : IntOp.subi (BitVec.ofNat 32 i) (BitVec.ofInt 32 ((p : ℤ) - 256)) = BitVec.ofInt 32 (i - (p - 256)) := by
    apply BitVec.eq_of_toInt_eq
    rw [IntOp.subi, BitVec.toInt_sub, n2, t1, BitVec.toInt_ofInt]
  have t2 := toInt_int ((i : ℤ) - (p - 256)) (by omega) (by omega)
  have m1 : IntOp.cmpi CmpIPredicate.slt (BitVec.ofInt 32 ((p : ℤ) - 256)) 0#32 = if (p : ℕ) < 256 then 1#1 else 0#1 := by
    show BitVec.ofBool (decide ((BitVec.ofInt 32 ((p : ℤ) - 256)).toInt < (0#32).toInt)) = _
    rw [t1, c0]
    by_cases h3 : (p : ℕ) < 256
    · rw [if_pos h3, decide_eq_true (by omega)]; rfl
    · rw [if_neg h3, decide_eq_false (by omega)]; rfl
  rw [e1, e2, m1, abs_le_128 _ (by rw [t2]; omega) (by rw [t2]; omega), t2]
  split_ifs <;> first | rfl | omega
/-- The scores of the context queries. -/
def scC (q : FVec Ideal S8x4352x2x4x64 .f32) (k : FVec Ideal S8x4352x2x64 .f32) : FVec Ideal S8x2x4x256x256 .f32 :=
  transpose S8x2x4x256x256 [0, 1, 4, 3, 2] (Host.dotGeneral dot_S8x256x2x64_S8x256x2x4x64_S8x2x256x256x4_3_4_1_13_02_02 none
    (extractStridedSlice S8x256x2x64 ![0, 0, 0, 0] k slices_S8x4352x2x64_S8x256x2x64_0_0_0_0)
    (extractStridedSlice S8x256x2x4x64 ![0, 0, 0, 0, 0] q slices_S8x4352x2x4x64_S8x256x2x4x64_0_0_0_0_0)) transposes_S8x2x256x256x4_S8x2x4x256x256_0_1_4_3_2
/-- The scores of the latent queries, masked. -/
def scL (q : FVec Ideal S8x4352x2x4x64 .f32) (k : FVec Ideal S8x4352x2x64 .f32) : FVec Ideal S8x2x4x4096x4352 .f32 :=
  select (broadcastInDim S8x2x4x4096x4352 ![3, 4] bcast_S4096x4352_S8x2x4x4096x4352_3_4 maskL)
    (transpose S8x2x4x4096x4352 [0, 1, 4, 3, 2] (Host.dotGeneral dot_S8x4352x2x64_S8x4096x2x4x64_S8x2x4352x4096x4_3_4_1_13_02_02 none k
      (extractStridedSlice S8x4096x2x4x64 ![0, 256, 0, 0, 0] q slices_S8x4352x2x4x64_S8x4096x2x4x64_0_256_0_0_0)) transposes_S8x2x4352x4096x4_S8x2x4x4096x4352_0_1_4_3_2)
    (broadcastInDim S8x2x4x4096x4352 ![] bcast_S_S8x2x4x4096x4352 (constant (F := Ideal) S_ .f32 0xFF800000#32))

theorem scC_at (q : FVec Ideal S8x4352x2x4x64 .f32) (k : FVec Ideal S8x4352x2x64 .f32) (b : Fin 8) (h : Fin 2) (g : Fin 4) (i p : Fin 256) :
    scC q k (ix5 b h g i p) = ∑ x : Fin 64, k (ix4 b ⟨p, by omega⟩ h x) * q (ix5 b ⟨i, by omega⟩ h g x) := by
  pointwise [scC]
theorem scL_at (q : FVec Ideal S8x4352x2x4x64 .f32) (k : FVec Ideal S8x4352x2x64 .f32) (b : Fin 8) (h : Fin 2) (g : Fin 4) (i : Fin 4096) (p : Fin 4352) :
    scL q k (ix5 b h g i p) = Scalar.select (maskL (ix2 i p)) (∑ x : Fin 64, k (ix4 b p h x) * q (ix5 b ⟨256 + i, by omega⟩ h g x)) ⊥ := by
  pointwise [scL]
  rfl
/-- The queries by batch, position, group, head and depth. -/
def qR (aq : FVec Ideal S8x4352x512 .bf16) : FVec Ideal S8x4352x2x4x64 .f32 :=
  shapeCast S8x4352x2x4x64 (extf .f32 aq bitsLt_bf16_f32) shapeCasts_S8x4352x512_S8x4352x2x4x64
/-- The keys, or the values, by batch, position, group and depth. -/
def kR (ak : FVec Ideal S8x4352x128 .bf16) : FVec Ideal S8x4352x2x64 .f32 :=
  shapeCast S8x4352x2x64 (extf .f32 ak bitsLt_bf16_f32) shapeCasts_S8x4352x128_S8x4352x2x64
/-- The sinks by group and head. -/
def skR (sink : FVec Ideal S8 .f32) : FVec Ideal S1x2x4x1x1 .f32 := shapeCast S1x2x4x1x1 sink shapeCasts_S8_S1x2x4x1x1
/-- The values of the context. -/
def vC (v : FVec Ideal S8x4352x2x64 .f32) : FVec Ideal S8x256x2x64 .f32 :=
  extractStridedSlice S8x256x2x64 ![0, 0, 0, 0] v slices_S8x4352x2x64_S8x256x2x64_0_0_0_0
/-- The context rows and the latent rows put together. -/
def cat (a : FVec Ideal S8x256x2x4x64 .f32) (b : FVec Ideal S8x4096x2x4x64 .f32) : FVec Ideal S8x4352x2x4x64 .f32 :=
  concatenate S8x4352x2x4x64 1 [⟨S8x256x2x4x64, a⟩, ⟨S8x4096x2x4x64, b⟩] concatenates_S8x256x2x4x64_S8x4096x2x4x64_S8x4352x2x4x64_d1
/-- The heads side by side. -/
def flat (a : FVec Ideal S8x4352x2x4x64 .f32) : FVec Ideal S8x4352x512 .bf16 :=
  truncf .bf16 (shapeCast S8x4352x512 a shapeCasts_S8x4352x2x4x64_S8x4352x512) bitsLt_bf16_f32
/-- The result from the context queries' part and the latent queries' part. -/
def merge (a : FVec Ideal S8x256x2x4x64 .f32) (b : FVec Ideal S8x4096x2x4x64 .f32) : FVec Ideal S8x4352x512 .bf16 := flat (cat a b)
/-- The reference's result, named piece by piece. -/
def whole (sink : FVec Ideal S8 .f32) (aq : FVec Ideal S8x4352x512 .bf16) (ak av : FVec Ideal S8x4352x128 .bf16) : FVec Ideal S8x4352x512 .bf16 :=
  merge (smC (scC (qR aq) (kR ak)) (skR sink) (vC (kR av))) (smL (scL (qR aq) (kR ak)) (skR sink) (kR av))
theorem qR_at (aq : FVec Ideal S8x4352x512 .bf16) (b : Fin 8) (s : Fin 4352) (h : Fin 2) (g : Fin 4) (d : Fin 64) :
    qR aq (ix5 b s h g d) = aq (ix3 b s ⟨h * 256 + g * 64 + d, by omega⟩) := by
  pointwise [qR]
theorem kR_at (ak : FVec Ideal S8x4352x128 .bf16) (b : Fin 8) (s : Fin 4352) (h : Fin 2) (d : Fin 64) :
    kR ak (ix4 b s h d) = ak (ix3 b s ⟨h * 64 + d, by omega⟩) := by
  pointwise [kR]
theorem skR_at (sink : FVec Ideal S8 .f32) (h : Fin 2) (g : Fin 4) : skR sink (ix5 0 h g 0 0) = sink (ix1 ⟨h * 4 + g, by omega⟩) := by
  pointwise [skR]
theorem vC_at (v : FVec Ideal S8x4352x2x64 .f32) (b : Fin 8) (c : Fin 256) (h : Fin 2) (d : Fin 64) : vC v (ix4 b c h d) = v (ix4 b ⟨c, by omega⟩ h d) := by
  pointwise [vC]
theorem flat_at (a : FVec Ideal S8x4352x2x4x64 .f32) (b : Fin 8) (s : Fin 4352) (x : Fin 512) :
    flat a (ix3 b s x) = a (ix5 b s ⟨x / 256, by omega⟩ ⟨x / 64 % 4, by omega⟩ ⟨x % 64, by omega⟩) := by
  pointwise [flat]
theorem cat_lo (a : FVec Ideal S8x256x2x4x64 .f32) (l : FVec Ideal S8x4096x2x4x64 .f32) (b : Fin 8) (s : Fin 4352) (h : Fin 2) (g : Fin 4) (d : Fin 64) (hs : (s : ℕ) < 256) :
    cat a l (ix5 b s h g d) = a (ix5 b ⟨s, hs⟩ h g d) := by
  pointwise [cat]
  rw [dif_pos hs]
theorem cat_hi (a : FVec Ideal S8x256x2x4x64 .f32) (l : FVec Ideal S8x4096x2x4x64 .f32) (b : Fin 8) (s : Fin 4352) (h : Fin 2) (g : Fin 4) (d : Fin 64) (hs : ¬ (s : ℕ) < 256) :
    cat a l (ix5 b s h g d) = l (ix5 b ⟨s - 256, by omega⟩ h g d) := by
  pointwise [cat]
  rw [dif_neg hs]
theorem merge_lo (a : FVec Ideal S8x256x2x4x64 .f32) (l : FVec Ideal S8x4096x2x4x64 .f32) (b : Fin 8) (s : Fin 4352) (x : Fin 512) (h : (s : ℕ) < 256) :
    merge a l (ix3 b s x) = a (ix5 b ⟨s, h⟩ ⟨x / 256, by omega⟩ ⟨x / 64 % 4, by omega⟩ ⟨x % 64, by omega⟩) := by
  rw [merge, flat_at, cat_lo _ _ _ _ _ _ _ h]
theorem merge_hi (a : FVec Ideal S8x256x2x4x64 .f32) (l : FVec Ideal S8x4096x2x4x64 .f32) (b : Fin 8) (s : Fin 4352) (x : Fin 512) (h : ¬ (s : ℕ) < 256) :
    merge a l (ix3 b s x) = l (ix5 b ⟨s - 256, by omega⟩ ⟨x / 256, by omega⟩ ⟨x / 64 % 4, by omega⟩ ⟨x % 64, by omega⟩) := by
  rw [merge, flat_at, cat_hi _ _ _ _ _ _ _ h]
theorem attR_congr {n : ℕ} {s s' v v' : Fin n → EReal} {k k' : EReal} (hs : ∀ c, s c = s' c) (hv : ∀ c, v c = v' c) (hk : k = k') : attR s v k = attR s' v' k' := by
  rw [funext hs, funext hv, hk]
theorem whole_lo (sink : FVec Ideal S8 .f32) (aq : FVec Ideal S8x4352x512 .bf16) (ak av : FVec Ideal S8x4352x128 .bf16) (b : Fin 8) (s : Fin 4352) (x : Fin 512) (h : (s : ℕ) < 256) :
    whole sink aq ak av (ix3 b s x) = attR
      (fun c : Fin 256 => ∑ k : Fin 64, ak (ix3 b ⟨c, by omega⟩ ⟨64 * (x / 256) + k, by omega⟩) * aq (ix3 b s ⟨64 * (x / 64) + k, by omega⟩))
      (fun c : Fin 256 => av (ix3 b ⟨c, by omega⟩ ⟨64 * (x / 256) + x % 64, by omega⟩)) (sink (ix1 ⟨x / 64, by omega⟩)) := by
  rw [whole, merge_lo _ _ b s x h, smC_at]
  have hx := x.isLt
  refine attR_congr (fun c => ?_) (fun c => ?_) ?_
  · rw [scC_at]
    refine Finset.sum_congr rfl fun k _ => ?_
    rw [kR_at, qR_at]
    exact congrArg₂ (fun y z => y * z) (congrArg (fun z => ak (ix3 b ⟨c, by omega⟩ z)) (Fin.ext (show x.val / 256 * 64 + k.val = 64 * (x.val / 256) + k.val by omega)))
      (congrArg (fun z => aq (ix3 b s z)) (Fin.ext (show x.val / 256 * 256 + x.val / 64 % 4 * 64 + k.val = 64 * (x.val / 64) + k.val by omega)))
  · rw [vC_at, kR_at]
    exact congrArg (fun z => av (ix3 b ⟨c, by omega⟩ z)) (Fin.ext (show x.val / 256 * 64 + x.val % 64 = 64 * (x.val / 256) + x.val % 64 by omega))
  · rw [skR_at]
    exact congrArg (fun z => sink (ix1 z)) (Fin.ext (show x.val / 256 * 4 + x.val / 64 % 4 = x.val / 64 by omega))
theorem whole_hi (sink : FVec Ideal S8 .f32) (aq : FVec Ideal S8x4352x512 .bf16) (ak av : FVec Ideal S8x4352x128 .bf16) (b : Fin 8) (s : Fin 4352) (x : Fin 512) (h : ¬ (s : ℕ) < 256) :
    whole sink aq ak av (ix3 b s x) = attR
      (fun p : Fin 4352 => if p.val < 256 ∨ (p.val ≤ s + 128 ∧ s.val ≤ p + 128) then ∑ k : Fin 64, ak (ix3 b p ⟨64 * (x / 256) + k, by omega⟩) * aq (ix3 b s ⟨64 * (x / 64) + k, by omega⟩) else ⊥)
      (fun p : Fin 4352 => av (ix3 b p ⟨64 * (x / 256) + x % 64, by omega⟩)) (sink (ix1 ⟨x / 64, by omega⟩)) := by
  rw [whole, merge_hi _ _ b s x h, smL_at]
  have hx := x.isLt
  refine attR_congr (fun c => ?_) (fun c => ?_) ?_
  · rw [scL_at, maskL_at]
    have hq : ∑ k : Fin 64, kR ak (ix4 b c ⟨x / 256, by omega⟩ k) * qR aq (ix5 b ⟨256 + (s - 256), by omega⟩ ⟨x / 256, by omega⟩ ⟨x / 64 % 4, by omega⟩ k)
        = ∑ k : Fin 64, ak (ix3 b c ⟨64 * (x / 256) + k, by omega⟩) * aq (ix3 b s ⟨64 * (x / 64) + k, by omega⟩) := by
      refine Finset.sum_congr rfl fun k _ => ?_
      rw [kR_at, qR_at]
      have e : (⟨256 + (s.val - 256), by omega⟩ : Fin 4352) = s := Fin.ext (show 256 + (s.val - 256) = s.val by omega)
      rw [e]
      exact congrArg₂ (fun y z => y * z) (congrArg (fun z => ak (ix3 b c z)) (Fin.ext (show x.val / 256 * 64 + k.val = 64 * (x.val / 256) + k.val by omega)))
        (congrArg (fun z => aq (ix3 b s z)) (Fin.ext (show x.val / 256 * 256 + x.val / 64 % 4 * 64 + k.val = 64 * (x.val / 64) + k.val by omega)))
    by_cases hc : c.val < 256 ∨ (c.val ≤ s + 128 ∧ s.val ≤ c + 128)
    · rw [if_pos hc, if_pos (show c.val < 256 ∨ (c.val ≤ (s.val - 256) + 384 ∧ (s.val - 256) + 128 ≤ c.val) by omega)]
      exact hq
    · rw [if_neg hc, if_neg (show ¬ (c.val < 256 ∨ (c.val ≤ (s.val - 256) + 384 ∧ (s.val - 256) + 128 ≤ c.val)) by omega)]
      rfl
  · rw [kR_at]
    exact congrArg (fun z => av (ix3 b c z)) (Fin.ext (show x.val / 256 * 64 + x.val % 64 = 64 * (x.val / 256) + x.val % 64 by omega))
  · rw [skR_at]
    exact congrArg (fun z => sink (ix1 z)) (Fin.ext (show x.val / 256 * 4 + x.val / 64 % 4 = x.val / 64 by omega))
theorem res_whole (m : (ℓ : Loc nD τ sig) → Buf (Elt Ideal) ℓ) (c : Dev nD) :
    res_main_v69 (F := Ideal) m c = whole (m ((c.tc : Thread nD τ).loc main_arg0)) (m ((c.tc : Thread nD τ).loc main_arg1)) (m ((c.tc : Thread nD τ).loc main_arg2)) (m ((c.tc : Thread nD τ).loc main_arg3)) := rfl

end Cert.AttRef
end
-- ==== Proof.AttPre.lean ====
module

public import proofs.«01_k».proof.Defs
public import Idealize.ShloMosaic.Lib.Pointwise
public import Idealize.ShloMosaic.Lib.WordCmp

@[expose] public section

set_option maxRecDepth 16384

noncomputable section

open Idealize.ShloMosaic
open scoped BigOperators

namespace Cert.AttPre

open Cert.Pre_finite

/-- The stated side conditions of the precondition hold. -/
theorem facts : Facts where
  bitsLt_bf16_f32 := by decide
  shapeCasts_S8x4352x512_S8x4352x2x4x64 := by decide
  bcast_S_S8x4352x2x4x64 := by decide
  shapeCasts_S8x4352x128_S8x4352x2x1x64 := by decide
  bcast_S_S8x4352x2x1x64 := by decide
  shapeCasts_S8_S1x1x2x4x1 := by decide
  bcast_S_S1x1x2x4x1 := by decide
  bcast_S8x4352x2x1x64_S8x4352x2x4x64_0_1_2_3_4 := by decide
  bcast_S1x1x2x4x1_S8x4352x2x4x64_0_1_2_3_4 := by decide

attribute [local instance] facts
open Facts

/-- Whether each number is finite. -/
def finQ (aq : FVec Ideal S8x4352x512 .bf16) : IVec S8x4352x2x4x64 1 :=
  cmpf .olt (Host.absf (shapeCast S8x4352x2x4x64 (extf .f32 aq bitsLt_bf16_f32) shapeCasts_S8x4352x512_S8x4352x2x4x64)) (broadcastInDim S8x4352x2x4x64 ![] bcast_S_S8x4352x2x4x64 (constant S_ .f32 0x7F800000#32))
def finK (ak : FVec Ideal S8x4352x128 .bf16) : IVec S8x4352x2x1x64 1 :=
  cmpf .olt (Host.absf (shapeCast S8x4352x2x1x64 (extf .f32 ak bitsLt_bf16_f32) shapeCasts_S8x4352x128_S8x4352x2x1x64)) (broadcastInDim S8x4352x2x1x64 ![] bcast_S_S8x4352x2x1x64 (constant S_ .f32 0x7F800000#32))
/-- Whether each sink is below plus infinity. -/
def finS (a : FVec Ideal S8 .f32) : IVec S1x1x2x4x1 1 :=
  cmpf .olt (shapeCast S1x1x2x4x1 a shapeCasts_S8_S1x1x2x4x1) (broadcastInDim S1x1x2x4x1 ![] bcast_S_S1x1x2x4x1 (constant S_ .f32 0x7F800000#32))
def both (q : IVec S8x4352x2x4x64 1) (k : IVec S8x4352x2x1x64 1) (s : IVec S1x1x2x4x1 1) : IVec S8x4352x2x4x64 1 :=
  andi (andi q (broadcastInDim S8x4352x2x4x64 ![0, 1, 2, 3, 4] bcast_S8x4352x2x1x64_S8x4352x2x4x64_0_1_2_3_4 k)) (broadcastInDim S8x4352x2x4x64 ![0, 1, 2, 3, 4] bcast_S1x1x2x4x1_S8x4352x2x4x64_0_1_2_3_4 s)
theorem fn_eq (a : FVec Ideal S8 .f32) (aq : FVec Ideal S8x4352x512 .bf16) (ak av : FVec Ideal S8x4352x128 .bf16) : fn a aq ak av = both (finQ aq) (finK ak) (finS a) := rfl

theorem both_at (q : IVec S8x4352x2x4x64 1) (k : IVec S8x4352x2x1x64 1) (s : IVec S1x1x2x4x1 1) (b : Fin 8) (p : Fin 4352) (h : Fin 2) (g : Fin 4) (d : Fin 64) :
    both q k s (ix5 b p h g d) = IntOp.andi (IntOp.andi (q (ix5 b p h g d)) (k (ix5 b p h 0 d))) (s (ix5 0 0 h g 0)) := by
  pointwise [both]
theorem lt_top (x : EReal) (h : BitVec.ofBool (decide (max x (-x) < ⊤)) = 1#1) : x ≠ ⊤ ∧ x ≠ ⊥ := by
  have h2 : max x (-x) < ⊤ := by
    by_contra hc
    rw [decide_eq_false hc] at h
    exact absurd h (by decide)
  constructor
  · rintro rfl
    exact absurd h2 (by simp)
  · rintro rfl
    exact absurd h2 (by simp)
theorem below_top (x : EReal) (h : BitVec.ofBool (decide (x < ⊤)) = 1#1) : x ≠ ⊤ := by
  rintro rfl
  rw [decide_eq_false (lt_irrefl _)] at h
  exact absurd h (by decide)
theorem finQ_at (aq : FVec Ideal S8x4352x512 .bf16) (b : Fin 8) (p : Fin 4352) (h : Fin 2) (g : Fin 4) (d : Fin 64) (hq : finQ aq (ix5 b p h g d) = 1#1) :
    aq (ix3 b p ⟨h * 256 + g * 64 + d, by omega⟩) ≠ (⊤ : EReal) ∧ aq (ix3 b p ⟨h * 256 + g * 64 + d, by omega⟩) ≠ (⊥ : EReal) := by
  refine lt_top _ (Eq.trans (Eq.symm ?_) hq)
  pointwise [finQ]
  rfl
theorem finK_at (ak : FVec Ideal S8x4352x128 .bf16) (b : Fin 8) (p : Fin 4352) (h : Fin 2) (d : Fin 64) (hq : finK ak (ix5 b p h 0 d) = 1#1) :
    ak (ix3 b p ⟨h * 64 + d, by omega⟩) ≠ (⊤ : EReal) ∧ ak (ix3 b p ⟨h * 64 + d, by omega⟩) ≠ (⊥ : EReal) := by
  refine lt_top _ (Eq.trans (Eq.symm ?_) hq)
  pointwise [finK]
  rfl
theorem finS_at (a : FVec Ideal S8 .f32) (h : Fin 2) (g : Fin 4) (hq : finS a (ix5 0 0 h g 0) = 1#1) :
    a (ix1 ⟨h * 4 + g, by omega⟩) ≠ (⊤ : EReal) := by
  refine below_top _ (Eq.trans (Eq.symm ?_) hq)
  pointwise [finS]
  rfl
theorem and_one (a b : BitVec 1) (h : IntOp.andi a b = 1#1) : a = 1#1 ∧ b = 1#1 := by
  revert a b; decide
/-- Where the precondition holds the queries and the keys are finite and the sinks below plus infinity. -/
theorem finite_of (a : FVec Ideal S8 .f32) (aq : FVec Ideal S8x4352x512 .bf16) (ak av : FVec Ideal S8x4352x128 .bf16) (hp : fn a aq ak av = fun _ => 1#1) :
    (∀ b s x, aq (ix3 b s x) ≠ (⊤ : EReal) ∧ aq (ix3 b s x) ≠ (⊥ : EReal)) ∧ (∀ b s x, ak (ix3 b s x) ≠ (⊤ : EReal) ∧ ak (ix3 b s x) ≠ (⊥ : EReal))
      ∧ (∀ n, a (ix1 n) ≠ (⊤ : EReal)) := by
  rw [fn_eq] at hp
  have e : ∀ b p h g d, (finQ aq (ix5 b p h g d) = 1#1 ∧ finK ak (ix5 b p h 0 d) = 1#1) ∧ finS a (ix5 0 0 h g 0) = 1#1 := fun b p h g d => by
    have h1 := congrFun hp (ix5 b p h g d)
    rw [both_at] at h1
    exact ⟨and_one _ _ (and_one _ _ h1).1, (and_one _ _ h1).2⟩
  refine ⟨fun b s x => ?_, fun b s x => ?_, fun n => ?_⟩
  · have hx := x.isLt
    have h1 := finQ_at aq b s ⟨x / 256, by omega⟩ ⟨x / 64 % 4, by omega⟩ ⟨x % 64, by omega⟩ (e _ _ _ _ _).1.1
    have e2 : (⟨x.val / 256 * 256 + x.val / 64 % 4 * 64 + x.val % 64, by omega⟩ : Fin 512) = x := Fin.ext (show x.val / 256 * 256 + x.val / 64 % 4 * 64 + x.val % 64 = x.val by omega)
    rwa [e2] at h1
  · have hx := x.isLt
    have h1 := finK_at ak b s ⟨x / 64, by omega⟩ ⟨x % 64, by omega⟩ (e _ _ _ 0 _).1.2
    have e2 : (⟨x.val / 64 * 64 + x.val % 64, by omega⟩ : Fin 128) = x := Fin.ext (show x.val / 64 * 64 + x.val % 64 = x.val by omega)
    rwa [e2] at h1
  · have hn := n.isLt
    have h1 := finS_at a ⟨n / 4, by omega⟩ ⟨n % 4, by omega⟩ (e 0 0 _ _ 0).2
    have e2 : (⟨n.val / 4 * 4 + n.val % 4, by omega⟩ : Fin 8) = n := Fin.ext (show n.val / 4 * 4 + n.val % 4 = n.val by omega)
    rwa [e2] at h1
end Cert.AttPre
end
-- ==== Proof.AttClaims.lean ====
module

public import proofs.«01_k».proof.Defs
public import proofs.«01_k».proof.Proof.Gen.Kernel.Frame
public import proofs.«01_k».proof.Proof.AttFinal
public import proofs.«01_k».proof.Proof.AttRef
public import proofs.«01_k».proof.Proof.AttPre
public import Idealize.ShloMosaic.Adequacy
public import Idealize.ShloMosaic.Init

@[expose] public section

noncomputable section

open Idealize.ShloMosaic Idealize.SL.Sem
open scoped BigOperators

namespace Cert.AttClaims

open Cert.Att

/-- Where the queries and the keys are finite and the sinks below plus infinity, the reference's attention is the kernel's, at every index. -/
theorem whole_eq (sink : FVec Ideal Cert.ReferenceIdeal.S8 .f32) (aq : FVec Ideal Cert.ReferenceIdeal.S8x4352x512 .bf16) (ak av : FVec Ideal Cert.ReferenceIdeal.S8x4352x128 .bf16)
    (hq : ∀ b s x, aq (ix3 b s x) ≠ (⊤ : EReal) ∧ aq (ix3 b s x) ≠ (⊥ : EReal)) (hk : ∀ b s x, ak (ix3 b s x) ≠ (⊤ : EReal) ∧ ak (ix3 b s x) ≠ (⊥ : EReal))
    (hs : ∀ n, sink (ix1 n) ≠ (⊤ : EReal)) :
    Cert.AttRef.whole sink aq ak av = KO sink aq ak av := by
  have key : ∀ (b : Fin 8) (s : Fin 4352) (x : Fin 512), Cert.AttRef.whole sink aq ak av (ix3 b s x) = ko sink aq ak av b s x := fun b s x => by
    by_cases h : s.val < 256
    · rw [Cert.AttRef.whole_lo sink aq ak av b s x h, attR_eq _ _ _ (fun c => dot_ne_top _ _ _ (fun k => hk _ _ _) (fun k => hq _ _ _)) (hs _)
        ⟨⟨0, by omega⟩, dot_ne_bot _ _ _ (fun k => hk _ _ _) (fun k => hq _ _ _)⟩]
      exact (if_pos h).symm
    · rw [Cert.AttRef.whole_hi sink aq ak av b s x h, attR_eq _ _ _ (fun p => ?_) (hs _)
        ⟨⟨0, by omega⟩, by rw [if_pos (Or.inl (Nat.zero_lt_succ 255))]; exact dot_ne_bot _ _ _ (fun k => hk _ _ _) (fun k => hq _ _ _)⟩]
      · exact (if_neg h).symm
      · by_cases hp : p.val < 256 ∨ (p.val ≤ s.val + 128 ∧ s.val ≤ p.val + 128)
        · rw [if_pos hp]; exact dot_ne_top _ _ _ (fun k => hk _ _ _) (fun k => hq _ _ _)
        · rw [if_neg hp]; exact bot_ne_top
  funext j
  refine (congrArg (Cert.AttRef.whole sink aq ak av) (?_ : j = ix3 (j 0) (j 1) (j 2))).trans (key (j 0) (j 1) (j 2))
  funext a; fin_cases a <;> rfl

attribute [local instance] Cert.Kernel.Gen.facts Cert.KernelIdeal.Gen.facts Cert.ReferenceIdeal.Gen.facts Cert.AttPre.facts

/-- The kernel's frame: it ends, its arguments unchanged and every counter at zero. -/
theorem frame_p : Cert.quiescent_Kernel := fun m ρ _ => Cert.Kernel.Gen.frame m ρ
/-- The frame of the kernel over the extended reals. -/
theorem frame_i : Cert.quiescent_KernelIdeal := fun m ρ _ => Cert.KernelIdeal.Gen.frame m ρ
/-- The same frame under the precondition. -/
theorem frame_if : Cert.quiescent_KernelIdeal_pre_finite := fun m ρ _ => Cert.KernelIdeal.Gen.frame m ρ
/-- The reference's frame: the run read at the arguments; it declares no semaphore. -/
theorem frame_r : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
/-- The same frame under the precondition. -/
theorem frame_rf : Cert.quiescent_ReferenceIdeal_pre_finite := fun m ρ _ => frame_r m ρ trivial
/-- The mask's constant may be read as minus infinity: the one rewrite of the kernel. -/
theorem preserves : Cert.preserves_Kernel_KernelIdeal := IdealRules.named_const.statement Cert.KernelIdeal.κ "mask" .f32 0xF149F2CA#32 ⊥ rfl

/-- The kernel's array and the reference's are one, from the same arguments under the precondition. -/
theorem algebraic : Cert.algebraic_KernelIdeal_ReferenceIdeal_pre_finite := by
  intro m g m' g' hp hm
  refine ⟨fun c => KO (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono (fun r h c => ⟨(h c).1.trans (final m c), (h c).2⟩) (Cert.KernelIdeal.Value.run_blocks m g)
  · refine (θ_run Cert.ReferenceIdeal.defs _ _).mono (fun r h c => ⟨(h c).1.trans ((Cert.AttRef.res_whole m' c).trans ?_), (h c).2⟩) (Cert.ReferenceIdeal.Value.run m' g')
    rw [(hm c).1, (hm c).2.1, (hm c).2.2.1, (hm c).2.2.2]
    have hf := Cert.AttPre.finite_of _ _ _ _ (hp c)
    exact whole_eq _ _ _ _ hf.1 hf.2.1 hf.2.2

end Cert.AttClaims
end
-- ==== Proof.ExpBase.lean ====
module

public import proofs.«01_k».proof.Proof.Gen.ExpertsIdeal.Flash.Runs
public import Idealize.ShloMosaic.Lib.VecWindow
public import Idealize.ShloMosaic.Lib.Pipeline.Quiescent
public import Idealize.ShloMosaic.Lib.Claim

/-! The experts' pipeline at whatever admissible tables `a` it is launched with: its blocks, its decisions and its body at a point. -/

@[expose] public section

set_option maxRecDepth 16384
set_option Elab.async false

noncomputable section

namespace Cert.ExpertsIdeal.Tab

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The state the proof reasons in. -/
local notation "𝕄" => MT nD τ sig Unit (Elt Ideal) ℕ (UR sig nD τ) ℕ

/-- The rounds library's resources, embedded whole. -/
abbrev EP : Emb (UR sig nD τ) 𝕄 := emb₁

variable (a : (pcfg0 (F := Ideal)).Adm)

/-- The pipeline at the tables `a`. -/
abbrev cfgA : Pipeline.Cfg sig Λ₀ := cfg0 (F := Ideal) a
abbrev pcs : Fin 1 → Pipeline.Cfg sig Λ₀ := Pipeline.pin (pcfgs (F := Ideal)) fun _ => a

variable (m : (ℓ : Loc nD τ sig) → Buf (Elt Ideal) ℓ) (ρ : Dev nD → PrngReg)

/-- Point `t`'s coordinates. -/
abbrev crd (t : Fin (cfgA a).N) : (cfgA a).grid.Coords := (cfgA a).grid.coords t

abbrev ms0_0 (t : Fin (cfgA a).N) : Memref sig .tc .vmem S512x1024 .bf16 := spec0_0.stage ((cfgA a).slots t (0 : Fin 6))
abbrev hs0_0 (t : Fin (cfgA a).N) : (ms0_0 a t).IsWhole := hstage0_0 (((cfgA a).slots t (0 : Fin 6)).cast nbuf0_0)
abbrev ms0_1 (t : Fin (cfgA a).N) : Memref sig .tc .vmem S1x1x1024x2048 .f32 := spec0_1.stage ((cfgA a).slots t (1 : Fin 6))
abbrev hs0_1 (t : Fin (cfgA a).N) : (ms0_1 a t).IsWhole := hstage0_1 (((cfgA a).slots t (1 : Fin 6)).cast nbuf0_1)
abbrev ms0_2 (t : Fin (cfgA a).N) : Memref sig .tc .vmem S1x1x1x2048 .f32 := spec0_2.stage ((cfgA a).slots t (2 : Fin 6))
abbrev hs0_2 (t : Fin (cfgA a).N) : (ms0_2 a t).IsWhole := hstage0_2 (((cfgA a).slots t (2 : Fin 6)).cast nbuf0_2)
abbrev ms0_3 (t : Fin (cfgA a).N) : Memref sig .tc .vmem S1x1x1024x1024 .f32 := spec0_3.stage ((cfgA a).slots t (3 : Fin 6))
abbrev hs0_3 (t : Fin (cfgA a).N) : (ms0_3 a t).IsWhole := hstage0_3 (((cfgA a).slots t (3 : Fin 6)).cast nbuf0_3)
abbrev ms0_4 (t : Fin (cfgA a).N) : Memref sig .tc .vmem S1x1x1x1024 .f32 := spec0_4.stage ((cfgA a).slots t (4 : Fin 6))
abbrev hs0_4 (t : Fin (cfgA a).N) : (ms0_4 a t).IsWhole := hstage0_4 (((cfgA a).slots t (4 : Fin 6)).cast nbuf0_4)
abbrev ms0_5 (t : Fin (cfgA a).N) : Memref sig .tc .vmem S512x1024 .bf16 := spec0_5.stage ((cfgA a).slots t (5 : Fin 6))
abbrev hs0_5 (t : Fin (cfgA a).N) : (ms0_5 a t).IsWhole := hstage0_5 (((cfgA a).slots t (5 : Fin 6)).cast nbuf0_5)

/-- Window `w`'s block at point `t`, read off its array at launch. -/
def iblk (c : Dev nD) (w : Fin (cfgA a).W) (t : Fin (cfgA a).N) : (((cfgA a).win w).xblock (crd a t)).Idx → Elt Ideal ((cfgA a).win w).elt :=
  (((cfgA a).win w).blk t).view.read (Elt Ideal) ((s₀ m ρ).mem (((cfgA a).win w).arr.view.loc (c : Thread nD τ)))

/-- The word the kernel reads as the number of used tiles, and the one it reads as the mark of an expert's first tile. -/
abbrev usedWord : BitVec 32 := View.readAt (Elt Ideal) (tbM0_2).view (Rect.unit (s := S1) ![0] S1.size inb_S1_S1_0).toLoadRect (a.1 2) (Shape.Idx.first (numel1_S1.symm ▸ Nat.one_pos))
abbrev firstWord (t : Fin (cfgA a).N) : BitVec 32 := View.readAt (Elt Ideal) (tbM0_1).view (Rect.unit (s := S304) (k0_off2 (crd a t)) S1.size (k0_off2_inb (crd a t))).toLoadRect (a.1 1) (Shape.Idx.first (numel1_S1.symm ▸ Nat.one_pos))

/-- Tile `t` is past the used ones; tile `t` is marked first of its expert's. -/
abbrev Past (t : Fin (cfgA a).N) : Prop := k0_cond1 (crd a t) (usedWord a) = 1#1
abbrev First (t : Fin (cfgA a).N) : Prop := (Scalar.cmpi .ne (Scalar.extui (Scalar.cmpi .eq (firstWord a t) 1#32)) 0#32) = 1#1

/-- The two branches of the kernel exclude each other and leave nothing out. -/
theorem cond_iff (i : grid0.Coords) (w : BitVec 32) : k0_cond2 i w = 1#1 ↔ ¬ k0_cond1 i w = 1#1 := by
  have hb : ∀ b : Bool, (Scalar.cmpi .ne (Scalar.extui (BitVec.ofBool b) : BitVec 32) 0#32 = 1#1) = (b = true) := by decide
  show (Scalar.cmpi .ne (Scalar.extui (BitVec.ofBool ((BitVec.ofNat 32 (i 0).val).slt w)) : BitVec 32) 0#32 = 1#1)
    ↔ ¬ (Scalar.cmpi .ne (Scalar.extui (BitVec.ofBool (w.sle (BitVec.ofNat 32 (i 0).val))) : BitVec 32) 0#32 = 1#1)
  rw [hb, hb, BitVec.slt_iff_toInt_lt, BitVec.sle_iff_toInt_le]
  omega

/-- Some branch is taken, so no point leaves the output untouched. -/
theorem idle_eq (t : Fin (cfgA a).N) : (cfgA a).idle (5 : Fin 6) ((cfgA a).grid.coords t) = false := by
  have key : ∀ (i : grid0.Coords) (w : BitVec 32), (!(k0_cond1 i w == 1#1) && !(k0_cond2 i w == 1#1)) = false := by
    intro i w
    by_cases h : k0_cond1 i w = 1#1
    · rw [h]; rfl
    · rw [(cond_iff i w).mpr h]; simp
  exact key _ _

/-- The body at point `t` on its staging memrefs, as the pipeline calls it. -/
abbrev bodyAt0 (t : Fin (cfgA a).N) : Prog (TpuEff nD τ sig (Elt Ideal) Λ₀ .tc) PUnit :=
  cc0_moe_experts (crd a t) (Memref.whole main_arg0) (Memref.isWhole_whole _) (Memref.whole main_arg1) (Memref.isWhole_whole _) (Memref.whole main_arg2) (Memref.isWhole_whole _) (Memref.whole main_arg3) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (Memref.whole cc0_scratch0) (Memref.isWhole_whole _) (Memref.whole cc0_scratch1) (Memref.isWhole_whole _)

/-- The rounds library's launch element. -/
def u₀ : UR sig nD τ :=
  initOf (Pipeline.cells (pcs a) ((launch0 (F := Ideal)).cellOf_inj fun _ => a))
    (Pipeline.launchToks (pcs a) ((launch0 (F := Ideal)).cellOf_inj fun _ => a))

/-- The tables as the launch hands them to the region, one by one. -/
theorem prefHeld_eq (c : Dev nD) (q : Fin 4 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2) ∗ (((c : Thread nD τ).loc main_arg3) ↦{q 3} v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

end Cert.ExpertsIdeal.Tab

end
-- ==== Proof.ExpAdm.lean ====
module

public import proofs.«01_k».proof.Proof.ExpBase
public import Idealize.ShloMosaic.Lib.Pipeline.ValueKit

/-! The experts' tables, from the memory the kernel is launched with: admissible where they name experts. -/

@[expose] public section

set_option maxRecDepth 16384

noncomputable section

namespace Cert.ExpertsIdeal.Tab

open Cert.ExpertsIdeal Cert.ExpertsIdeal.Gen
open Idealize.ShloMosaic Idealize.ShloMosaic.TcCoe Idealize.SL.Sem

/-- Four tables as the pipeline takes them. -/
def tabs (te tf : S304.Idx → BitVec 32) (nv : S1.Idx → BitVec 32) (fe : S304.Idx → BitVec 32) : pre0.Contents (Elt Ideal) :=
  fun | 0 => te | 1 => tf | 2 => nv | 3 => fe | ⟨_ + 4, h⟩ => absurd h (Nat.not_lt.2 (Nat.le_add_left _ _))

/-- The tile a coordinate names. -/
def tile (i : grid0.Coords) : Fin 304 := i 0

theorem off_eq : ∀ i : grid0.Coords, (Scalar.indexCast (BitVec.ofNat 32 (i 0).val) : BitVec 32).toNat = (tile i).val := by
  decide +kernel

theorem at0 (te tf : S304.Idx → BitVec 32) (nv : S1.Idx → BitVec 32) (fe : S304.Idx → BitVec 32) (i : grid0.Coords) (h) (h1) :
    (tabs te tf nv fe).at 0 (Rect.unit (s := S304) ![(Scalar.indexCast (BitVec.ofNat 32 (i 0).val) : BitVec 32).toNat] S1.size h) h1 = te (ix1 (tile i)) := by
  show te _ = _
  refine congrArg te (funext fun a => Fin.ext ?_)
  fin_cases a
  show (Scalar.indexCast (BitVec.ofNat 32 (i 0).val) : BitVec 32).toNat + 1 * 0 = _
  rw [off_eq]
  rfl

theorem at3 (te tf : S304.Idx → BitVec 32) (nv : S1.Idx → BitVec 32) (fe : S304.Idx → BitVec 32) (i : grid0.Coords) (h) (h1) :
    (tabs te tf nv fe).at 3 (Rect.unit (s := S304) ![(Scalar.indexCast (BitVec.ofNat 32 (i 0).val) : BitVec 32).toNat] S1.size h) h1 = fe (ix1 (tile i)) := by
  show fe _ = _
  refine congrArg fe (funext fun a => Fin.ext ?_)
  fin_cases a
  show (Scalar.indexCast (BitVec.ofNat 32 (i 0).val) : BitVec 32).toNat + 1 * 0 = _
  rw [off_eq]
  rfl

section
variable (te tf : S304.Idx → BitVec 32) (nv : S1.Idx → BitVec 32) (fe : S304.Idx → BitVec 32) (i : grid0.Coords)

theorem tr1_eq : cc0_transform_1 k0_off1_inb numel1_S1 (tabs te tf nv fe) i = ![0, (fe (ix1 (tile i))).toNat, 0, 0] := by
  rw [← at3 te tf nv fe i (k0_off1_inb i) numel1_S1]
  rfl
theorem tr2_eq : cc0_transform_2 k0_off1_inb numel1_S1 (tabs te tf nv fe) i = ![0, (te (ix1 (tile i))).toNat, 0, 0] := by
  rw [← at0 te tf nv fe i (k0_off1_inb i) numel1_S1]
  rfl
theorem tr3_eq : cc0_transform_3 k0_off1_inb numel1_S1 (tabs te tf nv fe) i = ![0, (fe (ix1 (tile i))).toNat, 0, 0] := by
  rw [← at3 te tf nv fe i (k0_off1_inb i) numel1_S1]
  rfl
theorem tr4_eq : cc0_transform_4 k0_off1_inb numel1_S1 (tabs te tf nv fe) i = ![0, (te (ix1 (tile i))).toNat, 0, 0] := by
  rw [← at0 te tf nv fe i (k0_off1_inb i) numel1_S1]
  rfl
end

/-- Tables whose experts are among the 32 address only blocks inside the arrays. -/
theorem ok_tabs (te tf : S304.Idx → BitVec 32) (nv : S1.Idx → BitVec 32) (fe : S304.Idx → BitVec 32)
    (ht : ∀ t : Fin 304, (te (ix1 t)).toNat < 32) (hf : ∀ t : Fin 304, (fe (ix1 t)).toNat < 32) : ok0 (F := Ideal) (tabs te tf nv fe) := by
  refine ⟨fun i => ⟨?_, .inl rfl⟩, fun i => ⟨?_, .inl rfl⟩, fun i => ⟨?_, .inl rfl⟩, fun i => ⟨?_, .inl rfl⟩⟩
  · rw [tr1_eq]
    have := hf (tile i)
    intro a
    fin_cases a
    · show (0 + 1) * 1 ≤ 2; omega
    · show ((fe (ix1 (tile i))).toNat + 1) * 1 ≤ 32; omega
    · show (0 + 1) * 1024 ≤ 1024; omega
    · show (0 + 1) * 2048 ≤ 2048; omega
  · rw [tr2_eq]
    have := ht (tile i)
    intro a
    fin_cases a
    · show (0 + 1) * 1 ≤ 2; omega
    · show ((te (ix1 (tile i))).toNat + 1) * 1 ≤ 32; omega
    · show (0 + 1) * 1 ≤ 1; omega
    · show (0 + 1) * 2048 ≤ 2048; omega
  · rw [tr3_eq]
    have := hf (tile i)
    intro a
    fin_cases a
    · show (0 + 1) * 1 ≤ 2; omega
    · show ((fe (ix1 (tile i))).toNat + 1) * 1 ≤ 32; omega
    · show (0 + 1) * 1024 ≤ 1024; omega
    · show (0 + 1) * 1024 ≤ 1024; omega
  · rw [tr4_eq]
    have := ht (tile i)
    intro a
    fin_cases a
    · show (0 + 1) * 1 ≤ 2; omega
    · show ((te (ix1 (tile i))).toNat + 1) * 1 ≤ 32; omega
    · show (0 + 1) * 1 ≤ 1; omega
    · show (0 + 1) * 1024 ≤ 1024; omega

/-- The tables as the pipeline admits them. -/
def adm (te tf : S304.Idx → BitVec 32) (nv : S1.Idx → BitVec 32) (fe : S304.Idx → BitVec 32)
    (ht : ∀ t : Fin 304, (te (ix1 t)).toNat < 32) (hf : ∀ t : Fin 304, (fe (ix1 t)).toNat < 32) : (pcfg0 (F := Ideal)).Adm :=
  ⟨tabs te tf nv fe, ok_tabs te tf nv fe ht hf⟩

section
variable (m : (ℓ : Loc nD τ sig) → Buf (Elt Ideal) ℓ)

/-- The four tables in memory. -/
abbrev mte : S304.Idx → BitVec 32 := m (((0 : Dev nD) : Thread nD τ).loc main_arg0)
abbrev mtf : S304.Idx → BitVec 32 := m (((0 : Dev nD) : Thread nD τ).loc main_arg1)
abbrev mnv : S1.Idx → BitVec 32 := m (((0 : Dev nD) : Thread nD τ).loc main_arg2)
abbrev mfe : S304.Idx → BitVec 32 := m (((0 : Dev nD) : Thread nD τ).loc main_arg3)

variable (ht : ∀ t : Fin 304, (mte m (ix1 t)).toNat < 32) (hf : ∀ t : Fin 304, (mfe m (ix1 t)).toNat < 32)

/-- The tables of a memory, as the pipeline admits them. -/
abbrev tadm : (pcfg0 (F := Ideal)).Adm := adm (mte m) (mtf m) (mnv m) (mfe m) ht hf

theorem tadm_eq (c : Dev nD) (j : Fin 4) : m ((c : Thread nD τ).loc (pre0.ref j)) = (tadm m ht hf).1 j := by
  obtain rfl : c = 0 := Subsingleton.elim _ _
  fin_cases j <;> rfl
end

end Cert.ExpertsIdeal.Tab

end
-- ==== Proof.ExpPaths.lean ====
module

public import proofs.«01_k».proof.Proof.Gen.ExpertsIdeal.Flash.Runs
public import Idealize.ShloMosaic.Lib.VecWindow

/-! What each control path of the experts' kernel leaves, as a function of the blocks it reads: the written block of the output,
    and the two weight buffers the kernel keeps between the tiles of one expert. -/

@[expose] public section

set_option maxRecDepth 16384

noncomputable section

namespace Cert.ExpertsIdeal.Tab

open Cert.ExpertsIdeal Cert.ExpertsIdeal.Gen
open Idealize.ShloMosaic
open Idealize.ShloMosaic.TcCoe Idealize.ShloMosaic.Tactic
open Idealize.SL.Sem

variable (c : Dev nD) (i : grid0.Coords) (arg5 : Memref sig .tc .vmem S512x1024 .bf16) (harg5 : arg5.IsWhole) (arg6 : Memref sig .tc .vmem S1x1x1024x2048 .f32) (harg6 : arg6.IsWhole) (arg7 : Memref sig .tc .vmem S1x1x1x2048 .f32) (harg7 : arg7.IsWhole) (arg8 : Memref sig .tc .vmem S1x1x1024x1024 .f32) (harg8 : arg8.IsWhole) (arg9 : Memref sig .tc .vmem S1x1x1x1024 .f32) (harg9 : arg9.IsWhole) (arg10 : Memref sig .tc .vmem S512x1024 .bf16) (harg10 : arg10.IsWhole) (T0 : (S304.Idx → Elt Ideal .i32)) (T1 : (S304.Idx → Elt Ideal .i32)) (T2 : (S1.Idx → Elt Ideal .i32)) (T3 : (S304.Idx → Elt Ideal .i32)) (x0 : (S512x1024.Idx → Elt Ideal .bf16)) (x1 : (S1x1x1024x2048.Idx → Elt Ideal .f32)) (x2 : (S1x1x1x2048.Idx → Elt Ideal .f32)) (x3 : (S1x1x1024x1024.Idx → Elt Ideal .f32)) (x4 : (S1x1x1x1024.Idx → Elt Ideal .f32))

/-- What the output block holds after the first tile of an expert: the block computed from the expert's own weights, just read. -/
theorem read_A (k0_h1 : ¬(k0_cond1 i (View.readAt (Elt Ideal) (tbM0_2).view (Rect.unit (s := S1) ![0] S1.size inb_S1_S1_0).toLoadRect T2 (Shape.Idx.first (numel1_S1.symm ▸ Nat.one_pos))) = 1#1)) (k0_h2 : k0_cond2 i (View.readAt (Elt Ideal) (tbM0_2).view (Rect.unit (s := S1) ![0] S1.size inb_S1_S1_0).toLoadRect T2 (Shape.Idx.first (numel1_S1.symm ▸ Nat.one_pos))) = 1#1) (hc2 : (Scalar.cmpi .ne (Scalar.extui (Scalar.cmpi .eq (View.readAt (Elt Ideal) (tbM0_1).view (Rect.unit (s := S304) (k0_off2 i) S1.size (k0_off2_inb i)).toLoadRect T1 (Shape.Idx.first (numel1_S1.symm ▸ Nat.one_pos))) 1#32)) 0#32) = 1#1) (v : View sig .tc .vmem S512x1024 .bf16) (f : v.ty.Contents (Elt Ideal)) :
    v.read (Elt Ideal) (v.writes (Elt Ideal) f (kernelRun0_A c i arg5 harg5 arg6 harg6 arg7 harg7 arg8 harg8 arg9 harg9 arg10 harg10 T0 T1 T2 T3 x0 x1 x2 x3 x4 k0_h1 k0_h2 hc2).1) = k0_pay2 (k0_pay5 x0 (k0_pay3 x1) x2 (k0_pay4 x3)) x4 := by
  unfold kernelRun0_A
  dsimp only
  unfold kernelRun0_A.sl.HO5_1
  unfold kernelRun0_A.sl.r_2 kernelRun0_A.sl.v14 kernelRun0_A.sl.v42 kernelRun0_A.sl.HS0_1 kernelRun0_A.sl.HS1_1
  refine (View.read_writes_full v f _ _ _).trans ?_
  rw [View.readAt_rep_full, View.readAt_rep_full, View.readAt_rep_full, View.readCov_full, View.readCov_full, View.readAt_rep_full, View.readAt_rep_full]

/-- What the weight buffer 0 holds after it. -/
theorem kept0_A (k0_h1 : ¬(k0_cond1 i (View.readAt (Elt Ideal) (tbM0_2).view (Rect.unit (s := S1) ![0] S1.size inb_S1_S1_0).toLoadRect T2 (Shape.Idx.first (numel1_S1.symm ▸ Nat.one_pos))) = 1#1)) (k0_h2 : k0_cond2 i (View.readAt (Elt Ideal) (tbM0_2).view (Rect.unit (s := S1) ![0] S1.size inb_S1_S1_0).toLoadRect T2 (Shape.Idx.first (numel1_S1.symm ▸ Nat.one_pos))) = 1#1) (hc2 : (Scalar.cmpi .ne (Scalar.extui (Scalar.cmpi .eq (View.readAt (Elt Ideal) (tbM0_1).view (Rect.unit (s := S304) (k0_off2 i) S1.size (k0_off2_inb i)).toLoadRect T1 (Shape.Idx.first (numel1_S1.symm ▸ Nat.one_pos))) 1#32)) 0#32) = 1#1) : scM0_0.view.read (Elt Ideal) (kernelRun0_A c i arg5 harg5 arg6 harg6 arg7 harg7 arg8 harg8 arg9 harg9 arg10 harg10 T0 T1 T2 T3 x0 x1 x2 x3 x4 k0_h1 k0_h2 hc2).2.1 = k0_pay3 x1 := by
  unfold kernelRun0_A
  dsimp only
  unfold kernelRun0_A.sl.HS0_1
  rw [View.readAt_rep_full]
  exact View.read_writes_full _ _ _ _ _

/-- What the weight buffer 1 holds after it. -/
theorem kept1_A (k0_h1 : ¬(k0_cond1 i (View.readAt (Elt Ideal) (tbM0_2).view (Rect.unit (s := S1) ![0] S1.size inb_S1_S1_0).toLoadRect T2 (Shape.Idx.first (numel1_S1.symm ▸ Nat.one_pos))) = 1#1)) (k0_h2 : k0_cond2 i (View.readAt (Elt Ideal) (tbM0_2).view (Rect.unit (s := S1) ![0] S1.size inb_S1_S1_0).toLoadRect T2 (Shape.Idx.first (numel1_S1.symm ▸ Nat.one_pos))) = 1#1) (hc2 : (Scalar.cmpi .ne (Scalar.extui (Scalar.cmpi .eq (View.readAt (Elt Ideal) (tbM0_1).view (Rect.unit (s := S304) (k0_off2 i) S1.size (k0_off2_inb i)).toLoadRect T1 (Shape.Idx.first (numel1_S1.symm ▸ Nat.one_pos))) 1#32)) 0#32) = 1#1) : scM0_1.view.read (Elt Ideal) (kernelRun0_A c i arg5 harg5 arg6 harg6 arg7 harg7 arg8 harg8 arg9 harg9 arg10 harg10 T0 T1 T2 T3 x0 x1 x2 x3 x4 k0_h1 k0_h2 hc2).2.2.1 = k0_pay4 x3 := by
  unfold kernelRun0_A
  dsimp only
  unfold kernelRun0_A.sl.HS1_1
  rw [View.readAt_rep_full]
  exact View.read_writes_full _ _ _ _ _

/-- What the output block holds after a later tile of an expert: the block computed from the weights kept. -/
theorem read_B (xa0 : Buf (Elt Ideal) ((c : Thread nD τ).loc cc0_scratch0)) (xa1 : Buf (Elt Ideal) ((c : Thread nD τ).loc cc0_scratch1)) (k0_h1 : ¬(k0_cond1 i (View.readAt (Elt Ideal) (tbM0_2).view (Rect.unit (s := S1) ![0] S1.size inb_S1_S1_0).toLoadRect T2 (Shape.Idx.first (numel1_S1.symm ▸ Nat.one_pos))) = 1#1)) (k0_h2 : k0_cond2 i (View.readAt (Elt Ideal) (tbM0_2).view (Rect.unit (s := S1) ![0] S1.size inb_S1_S1_0).toLoadRect T2 (Shape.Idx.first (numel1_S1.symm ▸ Nat.one_pos))) = 1#1) (hc2 : ¬((Scalar.cmpi .ne (Scalar.extui (Scalar.cmpi .eq (View.readAt (Elt Ideal) (tbM0_1).view (Rect.unit (s := S304) (k0_off2 i) S1.size (k0_off2_inb i)).toLoadRect T1 (Shape.Idx.first (numel1_S1.symm ▸ Nat.one_pos))) 1#32)) 0#32) = 1#1)) (v : View sig .tc .vmem S512x1024 .bf16) (f : v.ty.Contents (Elt Ideal)) :
    v.read (Elt Ideal) (v.writes (Elt Ideal) f (kernelRun0_B c i arg5 harg5 arg6 harg6 arg7 harg7 arg8 harg8 arg9 harg9 arg10 harg10 T0 T1 T2 T3 x0 x1 x2 x3 x4 xa0 xa1 k0_h1 k0_h2 hc2).1) = k0_pay2 (k0_pay5 x0 (scM0_0.view.read (Elt Ideal) xa0) x2 (scM0_1.view.read (Elt Ideal) xa1)) x4 := by
  unfold kernelRun0_B
  dsimp only
  unfold kernelRun0_B.sl.HO5_1
  unfold kernelRun0_B.sl.r_2
  refine (View.read_writes_full v f _ _ _).trans ?_
  rw [View.readAt_rep_full, View.readAt_rep_full, View.readAt_rep_full, View.readAt_full, View.readAt_full]

/-- The weight buffer 0 is left as it was. -/
theorem kept0_B (xa0 : Buf (Elt Ideal) ((c : Thread nD τ).loc cc0_scratch0)) (xa1 : Buf (Elt Ideal) ((c : Thread nD τ).loc cc0_scratch1)) (k0_h1 : ¬(k0_cond1 i (View.readAt (Elt Ideal) (tbM0_2).view (Rect.unit (s := S1) ![0] S1.size inb_S1_S1_0).toLoadRect T2 (Shape.Idx.first (numel1_S1.symm ▸ Nat.one_pos))) = 1#1)) (k0_h2 : k0_cond2 i (View.readAt (Elt Ideal) (tbM0_2).view (Rect.unit (s := S1) ![0] S1.size inb_S1_S1_0).toLoadRect T2 (Shape.Idx.first (numel1_S1.symm ▸ Nat.one_pos))) = 1#1) (hc2 : ¬((Scalar.cmpi .ne (Scalar.extui (Scalar.cmpi .eq (View.readAt (Elt Ideal) (tbM0_1).view (Rect.unit (s := S304) (k0_off2 i) S1.size (k0_off2_inb i)).toLoadRect T1 (Shape.Idx.first (numel1_S1.symm ▸ Nat.one_pos))) 1#32)) 0#32) = 1#1)) : (kernelRun0_B c i arg5 harg5 arg6 harg6 arg7 harg7 arg8 harg8 arg9 harg9 arg10 harg10 T0 T1 T2 T3 x0 x1 x2 x3 x4 xa0 xa1 k0_h1 k0_h2 hc2).2.1 = xa0 := rfl

/-- The weight buffer 1 is left as it was. -/
theorem kept1_B (xa0 : Buf (Elt Ideal) ((c : Thread nD τ).loc cc0_scratch0)) (xa1 : Buf (Elt Ideal) ((c : Thread nD τ).loc cc0_scratch1)) (k0_h1 : ¬(k0_cond1 i (View.readAt (Elt Ideal) (tbM0_2).view (Rect.unit (s := S1) ![0] S1.size inb_S1_S1_0).toLoadRect T2 (Shape.Idx.first (numel1_S1.symm ▸ Nat.one_pos))) = 1#1)) (k0_h2 : k0_cond2 i (View.readAt (Elt Ideal) (tbM0_2).view (Rect.unit (s := S1) ![0] S1.size inb_S1_S1_0).toLoadRect T2 (Shape.Idx.first (numel1_S1.symm ▸ Nat.one_pos))) = 1#1) (hc2 : ¬((Scalar.cmpi .ne (Scalar.extui (Scalar.cmpi .eq (View.readAt (Elt Ideal) (tbM0_1).view (Rect.unit (s := S304) (k0_off2 i) S1.size (k0_off2_inb i)).toLoadRect T1 (Shape.Idx.first (numel1_S1.symm ▸ Nat.one_pos))) 1#32)) 0#32) = 1#1)) : (kernelRun0_B c i arg5 harg5 arg6 harg6 arg7 harg7 arg8 harg8 arg9 harg9 arg10 harg10 T0 T1 T2 T3 x0 x1 x2 x3 x4 xa0 xa1 k0_h1 k0_h2 hc2).2.2.1 = xa1 := rfl

/-- What the output block holds after a tile past the used ones: zeros. -/
theorem read_C (xa0 : Buf (Elt Ideal) ((c : Thread nD τ).loc cc0_scratch0)) (xa1 : Buf (Elt Ideal) ((c : Thread nD τ).loc cc0_scratch1)) (k0_h1 : k0_cond1 i (View.readAt (Elt Ideal) (tbM0_2).view (Rect.unit (s := S1) ![0] S1.size inb_S1_S1_0).toLoadRect T2 (Shape.Idx.first (numel1_S1.symm ▸ Nat.one_pos))) = 1#1) (k0_h2 : ¬(k0_cond2 i (View.readAt (Elt Ideal) (tbM0_2).view (Rect.unit (s := S1) ![0] S1.size inb_S1_S1_0).toLoadRect T2 (Shape.Idx.first (numel1_S1.symm ▸ Nat.one_pos))) = 1#1)) (v : View sig .tc .vmem S512x1024 .bf16) (f : v.ty.Contents (Elt Ideal)) :
    v.read (Elt Ideal) (v.writes (Elt Ideal) f (kernelRun0_C c i arg5 harg5 arg6 harg6 arg7 harg7 arg8 harg8 arg9 harg9 arg10 harg10 T0 T1 T2 T3 x0 x1 x2 x3 x4 xa0 xa1 k0_h1 k0_h2).1) = k0_pay1 (F := Ideal) := by
  unfold kernelRun0_C
  dsimp only
  unfold kernelRun0_C.sl.HO5_1
  exact View.read_writes_full v f _ (k0_pay1 (F := Ideal)) _

/-- The weight buffer 0 is left as it was. -/
theorem kept0_C (xa0 : Buf (Elt Ideal) ((c : Thread nD τ).loc cc0_scratch0)) (xa1 : Buf (Elt Ideal) ((c : Thread nD τ).loc cc0_scratch1)) (k0_h1 : k0_cond1 i (View.readAt (Elt Ideal) (tbM0_2).view (Rect.unit (s := S1) ![0] S1.size inb_S1_S1_0).toLoadRect T2 (Shape.Idx.first (numel1_S1.symm ▸ Nat.one_pos))) = 1#1) (k0_h2 : ¬(k0_cond2 i (View.readAt (Elt Ideal) (tbM0_2).view (Rect.unit (s := S1) ![0] S1.size inb_S1_S1_0).toLoadRect T2 (Shape.Idx.first (numel1_S1.symm ▸ Nat.one_pos))) = 1#1)) : (kernelRun0_C c i arg5 harg5 arg6 harg6 arg7 harg7 arg8 harg8 arg9 harg9 arg10 harg10 T0 T1 T2 T3 x0 x1 x2 x3 x4 xa0 xa1 k0_h1 k0_h2).2.1 = xa0 := rfl

/-- The weight buffer 1 is left as it was. -/
theorem kept1_C (xa0 : Buf (Elt Ideal) ((c : Thread nD τ).loc cc0_scratch0)) (xa1 : Buf (Elt Ideal) ((c : Thread nD τ).loc cc0_scratch1)) (k0_h1 : k0_cond1 i (View.readAt (Elt Ideal) (tbM0_2).view (Rect.unit (s := S1) ![0] S1.size inb_S1_S1_0).toLoadRect T2 (Shape.Idx.first (numel1_S1.symm ▸ Nat.one_pos))) = 1#1) (k0_h2 : ¬(k0_cond2 i (View.readAt (Elt Ideal) (tbM0_2).view (Rect.unit (s := S1) ![0] S1.size inb_S1_S1_0).toLoadRect T2 (Shape.Idx.first (numel1_S1.symm ▸ Nat.one_pos))) = 1#1)) : (kernelRun0_C c i arg5 harg5 arg6 harg6 arg7 harg7 arg8 harg8 arg9 harg9 arg10 harg10 T0 T1 T2 T3 x0 x1 x2 x3 x4 xa0 xa1 k0_h1 k0_h2).2.2.1 = xa1 := rfl

end Cert.ExpertsIdeal.Tab

end
-- ==== Proof.ExpBody.lean ====
module

public import proofs.«01_k».proof.Proof.ExpBase
public import proofs.«01_k».proof.Proof.ExpPaths
public import Idealize.ShloMosaic.Lib.Pipeline.Quiescent
public import Idealize.ShloMosaic.Lib.Claim

/-! The experts' pipeline at whatever admissible tables `a` it is launched with. A plan (`Plan`) says which weights each used tile
    computes with; under a plan every block of the output is known point by point, and the run ends with every argument as it was. -/

@[expose] public section

set_option maxRecDepth 16384
set_option Elab.async false

noncomputable section

namespace Cert.ExpertsIdeal.Tab

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The state the proof reasons in. -/
local notation "𝕄" => MT nD τ sig Unit (Elt Ideal) ℕ (UR sig nD τ) ℕ

variable (a : (pcfg0 (F := Ideal)).Adm)
variable (m : (ℓ : Loc nD τ sig) → Buf (Elt Ideal) ℓ) (ρ : Dev nD → PrngReg)

/-- Which weights each used tile computes with: the ones just read where the tile is marked first, those of the tile before otherwise. -/
structure Plan (c : Dev nD) where
  w1 : Fin (cfgA a).N → S1024x2048.Idx → Elt Ideal .bf16
  w2 : Fin (cfgA a).N → S1024x1024.Idx → Elt Ideal .bf16
  fetched : ∀ t, ¬Past a t → First a t → w1 t = k0_pay3 (iblk a m ρ c (1 : Fin 6) t) ∧ w2 t = k0_pay4 (iblk a m ρ c (3 : Fin 6) t)
  kept : ∀ t : Fin (cfgA a).N, ¬Past a t → ¬First a t → ∃ h : t.val ≠ 0,
    ¬Past a ⟨t.val - 1, by omega⟩ ∧ w1 t = w1 ⟨t.val - 1, by omega⟩ ∧ w2 t = w2 ⟨t.val - 1, by omega⟩

variable (P : (c : Dev nD) → Plan a m ρ c)

/-- The block of the output at point `t`. -/
def outBlk (c : Dev nD) (t : Fin (cfgA a).N) : S512x1024.Idx → Elt Ideal .bf16 :=
  open Classical in
  if Past a t then k0_pay1 (F := Ideal)
  else k0_pay2 (k0_pay5 (iblk a m ρ c (0 : Fin 6) t) ((P c).w1 t) (iblk a m ρ c (2 : Fin 6) t) ((P c).w2 t)) (iblk a m ρ c (4 : Fin 6) t)

/-- What holds before point `n`: after a used tile the two weight buffers hold that tile's weights; the body's halves of the tables. -/
def Phi (c : Dev nD) (n : Fin ((cfgA a).N + 1)) : sProp 𝕄 :=
  iprop((∃ b, ⌜∀ h : n.val ≠ 0, ¬Past a ⟨n.val - 1, by omega⟩ → scM0_0.view.read (Elt Ideal) b = (P c).w1 ⟨n.val - 1, by omega⟩⌝ ∗ (scM0_0.view.loc (c : Thread nD τ) ↦{fullShare} b))
    ∗ (∃ b, ⌜∀ h : n.val ≠ 0, ¬Past a ⟨n.val - 1, by omega⟩ → scM0_1.view.read (Elt Ideal) b = (P c).w2 ⟨n.val - 1, by omega⟩⌝ ∗ (scM0_1.view.loc (c : Thread nD τ) ↦{fullShare} b))
    ∗ (tbM0_0.view.loc (c : Thread nD τ) ↦{fullShare.right} a.1 0) ∗ (tbM0_1.view.loc (c : Thread nD τ) ↦{fullShare.right} a.1 1)
    ∗ (tbM0_2.view.loc (c : Thread nD τ) ↦{fullShare.right} a.1 2) ∗ (tbM0_3.view.loc (c : Thread nD τ) ↦{fullShare.right} a.1 3))

/-- The proof data of the one pipeline on core `c`. -/
def dats (_ : Fin 1) (c : Dev nD) : Dat τ (Elt Ideal) Unit ℕ (UR sig nD τ) ℕ (cfgA a) c where
  A w := (s₀ m ρ).mem (((cfgA a).win w).arr.view.loc (c : Thread nD τ))
  after w t := match w with
    | ⟨0, _⟩ => iblk a m ρ c (0 : Fin 6) t
    | ⟨1, _⟩ => iblk a m ρ c (1 : Fin 6) t
    | ⟨2, _⟩ => iblk a m ρ c (2 : Fin 6) t
    | ⟨3, _⟩ => iblk a m ρ c (3 : Fin 6) t
    | ⟨4, _⟩ => iblk a m ρ c (4 : Fin 6) t
    | ⟨5, _⟩ => outBlk a m ρ P c t
  Φ t := Phi a m ρ P c t
  q _ := fullShare
  owed _ := 0

theorem after0_0 (c : Dev nD) (t : Fin (cfgA a).N) : (dats a m ρ P 0 c).after (0 : Fin 6) t = iblk a m ρ c (0 : Fin 6) t := rfl
theorem after0_1 (c : Dev nD) (t : Fin (cfgA a).N) : (dats a m ρ P 0 c).after (1 : Fin 6) t = iblk a m ρ c (1 : Fin 6) t := rfl
theorem after0_2 (c : Dev nD) (t : Fin (cfgA a).N) : (dats a m ρ P 0 c).after (2 : Fin 6) t = iblk a m ρ c (2 : Fin 6) t := rfl
theorem after0_3 (c : Dev nD) (t : Fin (cfgA a).N) : (dats a m ρ P 0 c).after (3 : Fin 6) t = iblk a m ρ c (3 : Fin 6) t := rfl
theorem after0_4 (c : Dev nD) (t : Fin (cfgA a).N) : (dats a m ρ P 0 c).after (4 : Fin 6) t = iblk a m ρ c (4 : Fin 6) t := rfl
theorem after0_5 (c : Dev nD) (t : Fin (cfgA a).N) : (dats a m ρ P 0 c).after (5 : Fin 6) t = outBlk a m ρ P c t := rfl

/-- Input window 0 holds its block, fetched there or not. -/
theorem before0_0 (c : Dev nD) (t : Fin (cfgA a).N) (d) : (dats a m ρ P 0 c).before (0 : Fin 6) t d = iblk a m ρ c (0 : Fin 6) t :=
  ((dats a m ρ P 0 c).before_in_eq_fetched (0 : Fin 6) rfl (fun _ => rfl) (fun _ _ _ => rfl) (fun t => by rw [after0_0]; unfold Dat.blockOf iblk; rfl) t d).trans
    (by unfold Dat.fetched Dat.blockOf iblk; rfl)

/-- Input window 1 holds its block, fetched there or not. -/
theorem before0_1 (c : Dev nD) (t : Fin (cfgA a).N) (d) : (dats a m ρ P 0 c).before (1 : Fin 6) t d = iblk a m ρ c (1 : Fin 6) t :=
  ((dats a m ρ P 0 c).before_in_eq_fetched (1 : Fin 6) rfl (fun _ => rfl) (fun _ _ _ => rfl) (fun t => by rw [after0_1]; unfold Dat.blockOf iblk; rfl) t d).trans
    (by unfold Dat.fetched Dat.blockOf iblk; rfl)

/-- Input window 2 holds its block, fetched there or not. -/
theorem before0_2 (c : Dev nD) (t : Fin (cfgA a).N) (d) : (dats a m ρ P 0 c).before (2 : Fin 6) t d = iblk a m ρ c (2 : Fin 6) t :=
  ((dats a m ρ P 0 c).before_in_eq_fetched (2 : Fin 6) rfl (fun _ => rfl) (fun _ _ _ => rfl) (fun t => by rw [after0_2]; unfold Dat.blockOf iblk; rfl) t d).trans
    (by unfold Dat.fetched Dat.blockOf iblk; rfl)

/-- Input window 3 holds its block, fetched there or not. -/
theorem before0_3 (c : Dev nD) (t : Fin (cfgA a).N) (d) : (dats a m ρ P 0 c).before (3 : Fin 6) t d = iblk a m ρ c (3 : Fin 6) t :=
  ((dats a m ρ P 0 c).before_in_eq_fetched (3 : Fin 6) rfl (fun _ => rfl) (fun _ _ _ => rfl) (fun t => by rw [after0_3]; unfold Dat.blockOf iblk; rfl) t d).trans
    (by unfold Dat.fetched Dat.blockOf iblk; rfl)

/-- Input window 4 holds its block, fetched there or not. -/
theorem before0_4 (c : Dev nD) (t : Fin (cfgA a).N) (d) : (dats a m ρ P 0 c).before (4 : Fin 6) t d = iblk a m ρ c (4 : Fin 6) t :=
  ((dats a m ρ P 0 c).before_in_eq_fetched (4 : Fin 6) rfl (fun _ => rfl) (fun _ _ _ => rfl) (fun t => by rw [after0_4]; unfold Dat.blockOf iblk; rfl) t d).trans
    (by unfold Dat.fetched Dat.blockOf iblk; rfl)

set_option maxHeartbeats 4000000 in
/-- The body obligation at point `t`: the kernel's decisions there tell which of its three paths runs; that path leaves the block and
    the weight buffers the plan says. -/
theorem sound_body (c : Dev nD) (t : Fin (cfgA a).N) :
    iprop((dats a m ρ P 0 c).Φ t.castSucc ∗ (dats a m ρ P 0 c).owesAt () t.castSucc
        ∗ (∃ d, owns (c : Thread nD τ) (ms0_0 a t) fullShare ((dats a m ρ P 0 c).before (0 : Fin 6) t d))
        ∗ (∃ d, owns (c : Thread nD τ) (ms0_1 a t) fullShare ((dats a m ρ P 0 c).before (1 : Fin 6) t d))
        ∗ (∃ d, owns (c : Thread nD τ) (ms0_2 a t) fullShare ((dats a m ρ P 0 c).before (2 : Fin 6) t d))
        ∗ (∃ d, owns (c : Thread nD τ) (ms0_3 a t) fullShare ((dats a m ρ P 0 c).before (3 : Fin 6) t d))
        ∗ (∃ d, owns (c : Thread nD τ) (ms0_4 a t) fullShare ((dats a m ρ P 0 c).before (4 : Fin 6) t d))
        ∗ (∃ d, owns (c : Thread nD τ) (ms0_5 a t) fullShare ((dats a m ρ P 0 c).before (5 : Fin 6) t d)))
      ⊢ wp frame (wpE (defs₀ (F := Ideal)) Variants.none c none) Set.univ (bodyAt0 a t) fun _ =>
          iprop((dats a m ρ P 0 c).Φ t.succ ∗ (dats a m ρ P 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ P 0 c).before w t d))
                  | true => owns (c : Thread nD τ) (((cfgA a).win w).stage ((cfgA a).slots t w)) fullShare ((dats a m ρ P 0 c).after w t)
                | false => owns (c : Thread nD τ) (((cfgA a).win w).stage ((cfgA a).slots t w)) fullShare ((dats a m ρ P 0 c).after w t)) := by
  rw [bigSep_W0]
  have i5 := idle_eq a t
  rewrite [i5]
  simp only [before0_0, before0_1, before0_2, before0_3, before0_4, after0_0, after0_1, after0_2, after0_3, after0_4, after0_5]
  rewrite [show (dats a m ρ P 0 c).Φ t.succ = Phi a m ρ P c t.succ from rfl, show (dats a m ρ P 0 c).Φ t.castSucc = Phi a m ρ P c t.castSucc from rfl,
    show (dats a m ρ P 0 c).owesAt () t.succ = (dats a m ρ P 0 c).owesAt () t.castSucc from rfl]
  unfold Phi
  by_cases q0 : Past a t
  · have k0_h1 := q0
    have k0_h2 : ¬ k0_cond2 (crd a t) (usedWord a) = 1#1 := fun h => (cond_iff _ _).mp h q0
    have ho : outBlk a m ρ P c t = k0_pay1 (F := Ideal) := by unfold outBlk; exact if_pos q0
    rewrite [ho]
    iintro ⟨⟨⟨%a0, %ha0, HS0⟩, ⟨%a1, %ha1, HS1⟩, HT0, HT1, HT2, HT3⟩, Ho, ⟨%d0, H0⟩, ⟨%d1, H1⟩, ⟨%d2, H2⟩, ⟨%d3, H3⟩, ⟨%d4, H4⟩, ⟨%d5, H5⟩⟩
    iapply ((kernelRun0_C c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (a.1 0) (a.1 1) (a.1 2) (a.1 3) (iblk a m ρ c (0 : Fin 6) t) (iblk a m ρ c (1 : Fin 6) t) (iblk a m ρ c (2 : Fin 6) t) (iblk a m ρ c (3 : Fin 6) t) (iblk a m ρ c (4 : Fin 6) t) a0 a1 k0_h1 k0_h2).2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [HT2]; · iexact HT2
    isplitl [HT3]; · iexact HT3
    isplitl [H5]; · iexists _; iexact H5
    isplitl [HS0]; · iexact HS0
    isplitl [HS1]; · iexact HS1
    iintro ⟨H0, H1, H2, H3, H4, HT0, HT1, HT2, HT3, ⟨%e5, H5⟩, HS0, HS1⟩
    isplitl [HS0 HS1 HT0 HT1 HT2 HT3]
    · isplitl [HS0]
      · iexists _; isplitr; swap
        · iexact HS0
        · ipureintro; intro _ hn; exact absurd q0 hn
      isplitl [HS1]
      · iexists _; isplitr; swap
        · iexact HS1
        · ipureintro; intro _ hn; exact absurd q0 hn
      isplitl [HT0]
      · iexact HT0
      isplitl [HT1]
      · iexact HT1
      isplitl [HT2]
      · iexact HT2
      iexact HT3
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    unfold owns; iexists _; isplitr; swap
    · iexact H5
    · ipureintro; exact read_C c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (a.1 0) (a.1 1) (a.1 2) (a.1 3) (iblk a m ρ c (0 : Fin 6) t) (iblk a m ρ c (1 : Fin 6) t) (iblk a m ρ c (2 : Fin 6) t) (iblk a m ρ c (3 : Fin 6) t) (iblk a m ρ c (4 : Fin 6) t) a0 a1 k0_h1 k0_h2 _ _
  · by_cases q1 : First a t
    · have k0_h1 := q0
      have k0_h2 : k0_cond2 (crd a t) (usedWord a) = 1#1 := (cond_iff _ _).mpr q0
      have ho : outBlk a m ρ P c t = k0_pay2 (k0_pay5 (iblk a m ρ c (0 : Fin 6) t) ((P c).w1 t) (iblk a m ρ c (2 : Fin 6) t) ((P c).w2 t)) (iblk a m ρ c (4 : Fin 6) t) := by unfold outBlk; exact if_neg q0
      obtain ⟨e1, e2⟩ := (P c).fetched t q0 q1
      rewrite [ho]
      iintro ⟨⟨⟨%a0, %ha0, HS0⟩, ⟨%a1, %ha1, HS1⟩, HT0, HT1, HT2, HT3⟩, Ho, ⟨%d0, H0⟩, ⟨%d1, H1⟩, ⟨%d2, H2⟩, ⟨%d3, H3⟩, ⟨%d4, H4⟩, ⟨%d5, H5⟩⟩
      iapply ((kernelRun0_A c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (a.1 0) (a.1 1) (a.1 2) (a.1 3) (iblk a m ρ c (0 : Fin 6) t) (iblk a m ρ c (1 : Fin 6) t) (iblk a m ρ c (2 : Fin 6) t) (iblk a m ρ c (3 : Fin 6) t) (iblk a m ρ c (4 : Fin 6) t) k0_h1 k0_h2 q1).2.2.2 a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [HT2]; · iexact HT2
      isplitl [HT3]; · iexact HT3
      isplitl [H5]; · iexists _; iexact H5
      isplitl [HS0]; · iexact HS0
      isplitl [HS1]; · iexact HS1
      iintro ⟨H0, H1, H2, H3, H4, HT0, HT1, HT2, HT3, ⟨%e5, H5⟩, HS0, HS1⟩
      isplitl [HS0 HS1 HT0 HT1 HT2 HT3]
      · isplitl [HS0]
        · iexists _; isplitr; swap
          · iexact HS0
          · ipureintro; intro _ _; exact (kept0_A c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (a.1 0) (a.1 1) (a.1 2) (a.1 3) (iblk a m ρ c (0 : Fin 6) t) (iblk a m ρ c (1 : Fin 6) t) (iblk a m ρ c (2 : Fin 6) t) (iblk a m ρ c (3 : Fin 6) t) (iblk a m ρ c (4 : Fin 6) t) k0_h1 k0_h2 q1).trans e1.symm
        isplitl [HS1]
        · iexists _; isplitr; swap
          · iexact HS1
          · ipureintro; intro _ _; exact (kept1_A c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (a.1 0) (a.1 1) (a.1 2) (a.1 3) (iblk a m ρ c (0 : Fin 6) t) (iblk a m ρ c (1 : Fin 6) t) (iblk a m ρ c (2 : Fin 6) t) (iblk a m ρ c (3 : Fin 6) t) (iblk a m ρ c (4 : Fin 6) t) k0_h1 k0_h2 q1).trans e2.symm
        isplitl [HT0]
        · iexact HT0
        isplitl [HT1]
        · iexact HT1
        isplitl [HT2]
        · iexact HT2
        iexact HT3
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; refine (read_A c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (a.1 0) (a.1 1) (a.1 2) (a.1 3) (iblk a m ρ c (0 : Fin 6) t) (iblk a m ρ c (1 : Fin 6) t) (iblk a m ρ c (2 : Fin 6) t) (iblk a m ρ c (3 : Fin 6) t) (iblk a m ρ c (4 : Fin 6) t) k0_h1 k0_h2 q1 _ _).trans ?_; rw [e1, e2]
    · have k0_h1 := q0
      have k0_h2 : k0_cond2 (crd a t) (usedWord a) = 1#1 := (cond_iff _ _).mpr q0
      have ho : outBlk a m ρ P c t = k0_pay2 (k0_pay5 (iblk a m ρ c (0 : Fin 6) t) ((P c).w1 t) (iblk a m ρ c (2 : Fin 6) t) ((P c).w2 t)) (iblk a m ρ c (4 : Fin 6) t) := by unfold outBlk; exact if_neg q0
      obtain ⟨hz, hpast, e1, e2⟩ := (P c).kept t q0 q1
      rewrite [ho]
      iintro ⟨⟨⟨%a0, %ha0, HS0⟩, ⟨%a1, %ha1, HS1⟩, HT0, HT1, HT2, HT3⟩, Ho, ⟨%d0, H0⟩, ⟨%d1, H1⟩, ⟨%d2, H2⟩, ⟨%d3, H3⟩, ⟨%d4, H4⟩, ⟨%d5, H5⟩⟩
      iapply ((kernelRun0_B c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (a.1 0) (a.1 1) (a.1 2) (a.1 3) (iblk a m ρ c (0 : Fin 6) t) (iblk a m ρ c (1 : Fin 6) t) (iblk a m ρ c (2 : Fin 6) t) (iblk a m ρ c (3 : Fin 6) t) (iblk a m ρ c (4 : Fin 6) t) a0 a1 k0_h1 k0_h2 q1).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [HT2]; · iexact HT2
      isplitl [HT3]; · iexact HT3
      isplitl [H5]; · iexists _; iexact H5
      isplitl [HS0]; · iexact HS0
      isplitl [HS1]; · iexact HS1
      iintro ⟨H0, H1, H2, H3, H4, HT0, HT1, HT2, HT3, ⟨%e5, H5⟩, HS0, HS1⟩
      isplitl [HS0 HS1 HT0 HT1 HT2 HT3]
      · isplitl [HS0]
        · iexists _; isplitr; swap
          · iexact HS0
          · ipureintro; intro _ _; exact (ha0 hz hpast).trans e1.symm
        isplitl [HS1]
        · iexists _; isplitr; swap
          · iexact HS1
          · ipureintro; intro _ _; exact (ha1 hz hpast).trans e2.symm
        isplitl [HT0]
        · iexact HT0
        isplitl [HT1]
        · iexact HT1
        isplitl [HT2]
        · iexact HT2
        iexact HT3
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; refine (read_B c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (a.1 0) (a.1 1) (a.1 2) (a.1 3) (iblk a m ρ c (0 : Fin 6) t) (iblk a m ρ c (1 : Fin 6) t) (iblk a m ρ c (2 : Fin 6) t) (iblk a m ρ c (3 : Fin 6) t) (iblk a m ρ c (4 : Fin 6) t) a0 a1 k0_h1 k0_h2 q1 _ _).trans ?_; rw [ha0 hz hpast, ha1 hz hpast, e1, e2]; rfl

/-- The body obligation, at every point. -/
theorem body_obligation (c : Dev nD) : BodyObligation (dats a m ρ P 0 c) (defs₀ (F := Ideal)) Variants.none () Set.univ := fun t => by
  rw [bigSep_W0]
  exact sound_body a m ρ P c t

theorem share_eq (c : Dev nD) (w : Fin (cfgA a).W) : (dats a m ρ P 0 c).share w = fullShare := by unfold Dat.share; split <;> rfl

/-- The invariant at the first point from the tables and the weight buffers; -/
theorem phi0_intro (c : Dev nD) :
    iprop(BI.emp ∗ Pipeline.prefHeld pre0 c (fun _ => fullShare.right) a.1 ∗ Pipeline.scopedRest spec0 c) ⊢ (dats a m ρ P 0 c).Φ 0 := by
  rw [prefHeld_eq, scopedRest0_eq, show (dats a m ρ P 0 c).Φ 0 = Phi a m ρ P c 0 from rfl]
  unfold Phi
  iintro ⟨-, ⟨HT0, HT1, HT2, HT3⟩, ⟨%a0, HS0⟩, ⟨%a1, HS1⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HT0]
  · iexact HT0
  isplitl [HT1]
  · iexact HT1
  isplitl [HT2]
  · iexact HT2
  iexact HT3

/-- at the last point it gives the weight buffers back, the tables let go. -/
theorem phiN_exit (c : Dev nD) : (dats a m ρ P 0 c).Φ (Fin.last (cfgA a).N) ⊢ iprop(BI.emp ∗ Pipeline.scopedRest spec0 c) := by
  rw [scopedRest0_eq, show (dats a m ρ P 0 c).Φ (Fin.last (cfgA a).N) = Phi a m ρ P c (Fin.last _) from rfl]
  unfold Phi
  iintro ⟨⟨%a0, -, HS0⟩, ⟨%a1, -, HS1⟩, -, -, -, -⟩
  isplitr; · iempintro
  isplitl [HS0]
  · iexists a0; iexact HS0
  iexists a1; iexact HS1

/-- What the run ends with: every array at what the pipeline computes, every table at what it ran at. -/
def QC : PUnit × MemSt nD τ sig (Elt Ideal) → Prop := fun r =>
  ∀ c : Dev nD, (∀ w : Fin (cfgA a).W, r.2.mem (((cfgA a).win w).arr.view.loc (c : Thread nD τ)) = (dats a m ρ P 0 c).arrAt w (cfgA a).N)
    ∧ ∀ j, r.2.mem ((c : Thread nD τ).loc (pre0.ref j)) = a.1 j

variable (hp : ∀ (c : Dev nD) (j : Fin 4), m ((c : Thread nD τ).loc (pre0.ref j)) = a.1 j)

set_option backward.isDefEq.respectTransparency.types false in
set_option maxHeartbeats 4000000 in
include hp in
/-- From any memory whose tables are `a`, with zero counters: every weakly fair run ends, each array at the computed contents, every
    counter at zero. -/
theorem run_main_quiescent : θ_run (defs (F := Ideal)) (onTc (τ := τ) (main (F := Ideal))) (s₀ m ρ) (fun r => QC a m ρ P r ∧ r.2.sem = fun _ => 0) :=
  Pipeline.θ_run_region_noSem_pf_quiescent pcfgs (fun _ => a) (dats a m ρ P) () ((launch0 (F := Ideal)).cellOf_inj fun _ => a) (0 : Fin 1)
    (launch0 (F := Ideal)).win.to₀ (launch0 (F := Ideal)).pre EP defs₀ Variants.none m ρ main
    (hbody := fun c => (body_obligation a m ρ P c).loose) (hne := (launch0 (F := Ideal)).block_pos)
    (harr := (launch0 (F := Ideal)).arr_whole) (hstage := (launch0 (F := Ideal)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ P) 0 (launch0 (F := Ideal)).win.arr_inj c (launch0 (F := Ideal)).arr_whole
      (share_eq a m ρ P c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi0_intro a m ρ P)
    (hout := phiN_exit a m ρ P)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hp in
/-- The same run, said of the result array and the nine arguments. -/
theorem run_all : θ_run (defs (F := Ideal)) (onTc (τ := τ) (main (F := Ideal))) ⟨m, fun _ => 0, ρ⟩ (fun r => (∀ c : Dev nD,
      r.2.mem ((c.tc : Thread nD τ).loc main_v0) = (dats a m ρ P 0 c).arrAt (5 : Fin 6) (cfgA a).N
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))) ∧ r.2.sem = fun _ => 0) :=
  (θ_run defs _ _).mono (fun _ h => ⟨fun c => ⟨(h.1 c).1 (5 : Fin 6), ((h.1 c).2 0).trans (hp c 0).symm, ((h.1 c).2 1).trans (hp c 1).symm, ((h.1 c).2 2).trans (hp c 2).symm, ((h.1 c).2 3).trans (hp c 3).symm,
    ((h.1 c).1 (0 : Fin 6)).trans ((dats a m ρ P 0 c).arrAt_in (0 : Fin 6) rfl _), ((h.1 c).1 (1 : Fin 6)).trans ((dats a m ρ P 0 c).arrAt_in (1 : Fin 6) rfl _), ((h.1 c).1 (2 : Fin 6)).trans ((dats a m ρ P 0 c).arrAt_in (2 : Fin 6) rfl _), ((h.1 c).1 (3 : Fin 6)).trans ((dats a m ρ P 0 c).arrAt_in (3 : Fin 6) rfl _), ((h.1 c).1 (4 : Fin 6)).trans ((dats a m ρ P 0 c).arrAt_in (4 : Fin 6) rfl _)⟩, h.2⟩)
    (run_main_quiescent a m ρ P hp)

end Cert.ExpertsIdeal.Tab

end
-- ==== Proof.ExpTables.lean ====
module

public import proofs.«01_k».proof.Proof.ExpAdm
public import proofs.«01_k».proof.Proof.ExpBody
public import Idealize.ShloMosaic.Lib.Pipeline.ValueKit

/-! What the experts' tables decide at a tile, and the plan they give under the precondition. -/

@[expose] public section

set_option maxRecDepth 16384

noncomputable section

namespace Cert.ExpertsIdeal.Tab

open Cert.ExpertsIdeal Cert.ExpertsIdeal.Gen
open Idealize.ShloMosaic Idealize.ShloMosaic.TcCoe Idealize.SL.Sem

theorem tile_coords : ∀ t : Fin grid0.N, (tile (grid0.coords t)).val = t.val := by
  decide +kernel

section
variable (te tf : S304.Idx → BitVec 32) (nv : S1.Idx → BitVec 32) (fe : S304.Idx → BitVec 32)
variable (ht : ∀ t : Fin 304, (te (ix1 t)).toNat < 32) (hf : ∀ t : Fin 304, (fe (ix1 t)).toNat < 32)

/-- The tile of a point. -/
abbrev tl (t : Fin (cfgA (adm te tf nv fe ht hf)).N) : Fin 304 := ⟨t.val, t.isLt⟩

theorem tile_crd (t : Fin (cfgA (adm te tf nv fe ht hf)).N) : tile (crd (adm te tf nv fe ht hf) t) = tl te tf nv fe ht hf t :=
  Fin.ext (tile_coords t)

theorem used_eq : usedWord (adm te tf nv fe ht hf) = nv (ix1 0) := by
  show nv _ = _
  refine congrArg nv (funext fun a => Fin.ext ?_)
  fin_cases a
  rfl

theorem off2_eq : ∀ i : grid0.Coords, k0_off2 i 0 = (tile i).val := by
  decide +kernel

theorem first_eq (t : Fin (cfgA (adm te tf nv fe ht hf)).N) : firstWord (adm te tf nv fe ht hf) t = tf (ix1 (tl te tf nv fe ht hf t)) := by
  show tf _ = _
  refine congrArg tf (funext fun a => Fin.ext ?_)
  fin_cases a
  show k0_off2 (crd (adm te tf nv fe ht hf) t) 0 + 1 * 0 = _
  rw [off2_eq, tile_crd]
  rfl

theorem past_iff (t : Fin (cfgA (adm te tf nv fe ht hf)).N) : Past (adm te tf nv fe ht hf) t ↔ (nv (ix1 0)).toInt ≤ t.val := by
  have hb : ∀ b : Bool, (Scalar.cmpi .ne (Scalar.extui (BitVec.ofBool b) : BitVec 32) 0#32 = 1#1) = (b = true) := by decide
  have hc := congrArg Fin.val (tile_crd te tf nv fe ht hf t)
  have hl : t.val < 304 := t.isLt
  have hi : (BitVec.ofNat 32 (tile (crd (adm te tf nv fe ht hf) t)).val).toInt = t.val := by
    rw [hc, BitVec.toInt_eq_toNat_of_lt] <;> rw [BitVec.toNat_ofNat, Nat.mod_eq_of_lt (by show t.val < _; omega)]
    show 2 * t.val < _
    omega
  show k0_cond1 (crd (adm te tf nv fe ht hf) t) (usedWord (adm te tf nv fe ht hf)) = 1#1 ↔ _
  rw [used_eq]
  show (Scalar.cmpi .ne (Scalar.extui (BitVec.ofBool ((nv (ix1 0)).sle (BitVec.ofNat 32 (tile (crd (adm te tf nv fe ht hf) t)).val))) : BitVec 32) 0#32 = 1#1) ↔ _
  rw [hb, BitVec.sle_iff_toInt_le, hi]

theorem isFirst_iff (t : Fin (cfgA (adm te tf nv fe ht hf)).N) : First (adm te tf nv fe ht hf) t ↔ tf (ix1 (tl te tf nv fe ht hf t)) = 1#32 := by
  have hb : ∀ b : Bool, (Scalar.cmpi .ne (Scalar.extui (BitVec.ofBool b) : BitVec 32) 0#32 = 1#1) = (b = true) := by decide
  show (Scalar.cmpi .ne (Scalar.extui (BitVec.ofBool (firstWord (adm te tf nv fe ht hf) t == 1#32)) : BitVec 32) 0#32) = 1#1 ↔ _
  rw [first_eq, hb, beq_iff_eq]

theorem index1 (t : Fin (cfgA (adm te tf nv fe ht hf)).N) : ((cfgA (adm te tf nv fe ht hf)).win (1 : Fin 6)).index t = ![0, (fe (ix1 (tl te tf nv fe ht hf t))).toNat, 0, 0] := by
  rw [← tile_crd]; exact tr1_eq te tf nv fe _
theorem index2 (t : Fin (cfgA (adm te tf nv fe ht hf)).N) : ((cfgA (adm te tf nv fe ht hf)).win (2 : Fin 6)).index t = ![0, (te (ix1 (tl te tf nv fe ht hf t))).toNat, 0, 0] := by
  rw [← tile_crd]; exact tr2_eq te tf nv fe _
theorem index3 (t : Fin (cfgA (adm te tf nv fe ht hf)).N) : ((cfgA (adm te tf nv fe ht hf)).win (3 : Fin 6)).index t = ![0, (fe (ix1 (tl te tf nv fe ht hf t))).toNat, 0, 0] := by
  rw [← tile_crd]; exact tr3_eq te tf nv fe _
theorem index4 (t : Fin (cfgA (adm te tf nv fe ht hf)).N) : ((cfgA (adm te tf nv fe ht hf)).win (4 : Fin 6)).index t = ![0, (te (ix1 (tl te tf nv fe ht hf t))).toNat, 0, 0] := by
  rw [← tile_crd]; exact tr4_eq te tf nv fe _
theorem index05_all : ∀ t : Fin grid0.N, cc0_transform_0 (grid0.coords t) = ![t.val, 0] ∧ cc0_transform_5 (grid0.coords t) = ![t.val, 0] := by
  decide +kernel
theorem index0 (t : Fin (cfgA (adm te tf nv fe ht hf)).N) : ((cfgA (adm te tf nv fe ht hf)).win (0 : Fin 6)).index t = ![t.val, 0] := (index05_all t).1
theorem index5 (t : Fin (cfgA (adm te tf nv fe ht hf)).N) : ((cfgA (adm te tf nv fe ht hf)).win (5 : Fin 6)).index t = ![t.val, 0] := (index05_all t).2

variable (m : (ℓ : Loc nD τ sig) → Buf (Elt Ideal) ℓ) (ρ : Dev nD → PrngReg)

/-- The weight block a tile is handed is its fetched expert's. -/
theorem iblk1 (c : Dev nD) (t : Fin (cfgA (adm te tf nv fe ht hf)).N) (e : Fin 32) (he : e.val = (fe (ix1 (tl te tf nv fe ht hf t))).toNat) (y : S1x1x1024x2048.Idx) :
    (iblk (adm te tf nv fe ht hf) m ρ c (1 : Fin 6) t : S1x1x1024x2048.Idx → Elt Ideal .f32) y = (m ((c : Thread nD τ).loc main_arg5) : S2x32x1024x2048.Idx → Elt Ideal .f32) (ix4 0 e (y 2) (y 3)) := by
  have hi := index1 te tf nv fe ht hf t
  unfold iblk
  blk_ext [hi]

theorem iblk3 (c : Dev nD) (t : Fin (cfgA (adm te tf nv fe ht hf)).N) (e : Fin 32) (he : e.val = (fe (ix1 (tl te tf nv fe ht hf t))).toNat) (y : S1x1x1024x1024.Idx) :
    (iblk (adm te tf nv fe ht hf) m ρ c (3 : Fin 6) t : S1x1x1024x1024.Idx → Elt Ideal .f32) y = (m ((c : Thread nD τ).loc main_arg7) : S2x32x1024x1024.Idx → Elt Ideal .f32) (ix4 0 e (y 2) (y 3)) := by
  have hi := index3 te tf nv fe ht hf t
  unfold iblk
  blk_ext [hi]

/-- The expert of a tile. -/
def xp (t : Fin 304) : Fin 32 := ⟨(te (ix1 t)).toNat % 32, by omega⟩

/-- The plan the tables give: every used tile computes with its own expert's weights, as a tile that is not its expert's first repeats the expert of the tile before. -/
def plan (hff : ∀ t : Fin 304, ¬(nv (ix1 0)).toInt ≤ t.val → tf (ix1 t) = 1#32 → fe (ix1 t) = te (ix1 t))
    (hk : ∀ t : Fin 304, ¬(nv (ix1 0)).toInt ≤ t.val → tf (ix1 t) ≠ 1#32 → ∃ h : t.val ≠ 0, te (ix1 t) = te (ix1 ⟨t.val - 1, by omega⟩)) (c : Dev nD) : Plan (adm te tf nv fe ht hf) m ρ c where
  w1 t := k0_pay3 (fun y : S1x1x1024x2048.Idx => (m ((c : Thread nD τ).loc main_arg5) : S2x32x1024x2048.Idx → Elt Ideal .f32) (ix4 0 (xp te (tl te tf nv fe ht hf t)) (y 2) (y 3)))
  w2 t := k0_pay4 (fun y : S1x1x1024x1024.Idx => (m ((c : Thread nD τ).loc main_arg7) : S2x32x1024x1024.Idx → Elt Ideal .f32) (ix4 0 (xp te (tl te tf nv fe ht hf t)) (y 2) (y 3)))
  fetched := by
    intro t h0 h1
    have hw := hff (tl te tf nv fe ht hf t) (fun q => h0 ((past_iff te tf nv fe ht hf t).mpr q)) ((isFirst_iff te tf nv fe ht hf t).mp h1)
    have he : (xp te (tl te tf nv fe ht hf t)).val = (fe (ix1 (tl te tf nv fe ht hf t))).toNat := by
      rw [hw]
      exact Nat.mod_eq_of_lt (ht _)
    exact ⟨congrArg k0_pay3 (funext fun y => (iblk1 te tf nv fe ht hf m ρ c t _ he y).symm), congrArg k0_pay4 (funext fun y => (iblk3 te tf nv fe ht hf m ρ c t _ he y).symm)⟩
  kept := by
    intro t h0 h1
    obtain ⟨hz, hw⟩ := hk (tl te tf nv fe ht hf t) (fun q => h0 ((past_iff te tf nv fe ht hf t).mpr q)) (fun q => h1 ((isFirst_iff te tf nv fe ht hf t).mpr q))
    have he : xp te (tl te tf nv fe ht hf t) = xp te (tl te tf nv fe ht hf ⟨t.val - 1, by omega⟩) :=
      Fin.ext (congrArg (fun w : BitVec 32 => w.toNat % 32) hw)
    refine ⟨hz, ?_, ?_, ?_⟩
    · rw [past_iff] at h0 ⊢
      show ¬(nv (ix1 0)).toInt ≤ ((t.val - 1 : ℕ) : ℤ)
      omega
    · show k0_pay3 _ = k0_pay3 _
      rw [he]
    · show k0_pay4 _ = k0_pay4 _
      rw [he]
end

/-- What the precondition says of the tables. -/
structure Good (te tf : S304.Idx → BitVec 32) (nv : S1.Idx → BitVec 32) (fe : S304.Idx → BitVec 32) : Prop where
  ht : ∀ t : Fin 304, (te (ix1 t)).toNat < 32
  hf : ∀ t : Fin 304, (fe (ix1 t)).toNat < 32
  hff : ∀ t : Fin 304, ¬(nv (ix1 0)).toInt ≤ t.val → tf (ix1 t) = 1#32 → fe (ix1 t) = te (ix1 t)
  hk : ∀ t : Fin 304, ¬(nv (ix1 0)).toInt ≤ t.val → tf (ix1 t) ≠ 1#32 → ∃ h : t.val ≠ 0, te (ix1 t) = te (ix1 ⟨t.val - 1, by omega⟩)

section
variable (m : (ℓ : Loc nD τ sig) → Buf (Elt Ideal) ℓ) (ρ : Dev nD → PrngReg)

variable (hg : Good (mte m) (mtf m) (mnv m) (mfe m))

/-- The tables and the plan of a memory that satisfies the precondition. -/
abbrev madm : (pcfg0 (F := Ideal)).Adm := tadm m hg.ht hg.hf
abbrev mplan (c : Dev nD) : Plan (madm m hg) m ρ c := plan (mte m) (mtf m) (mnv m) (mfe m) hg.ht hg.hf m ρ hg.hff hg.hk c
end

end Cert.ExpertsIdeal.Tab

end
-- ==== Proof.ExpPre.lean ====
module

public import proofs.«01_k».proof.Defs
public import Idealize.ShloMosaic.Lib.Pointwise
public import Idealize.ShloMosaic.Lib.WordCmp

/-! What the experts' two preconditions say of the tables, tile by tile. -/

@[expose] public section

set_option maxRecDepth 16384

noncomputable section

open Idealize.ShloMosaic

namespace Cert.ExpPre

open Cert.Pre_tables

/-- The stated side conditions of the preconditions hold. -/
theorem facts : Facts where
  bcast_S_S304 := by decide
  bcast_S_S1 := by decide
  slices_S304_S303_0 := by decide
  concatenates_S1_S303_S304_d0 := by decide
  shapeCasts_S1_S_ := by decide

theorem named_facts : Cert.Pre_named.Facts where
  bcast_S_S304 := by decide

attribute [local instance] facts named_facts
open Facts

/-- Each word is at least 0; each word is below 32. -/
def atLeast (e : IVec S304 32) : IVec S304 1 := cmpi .sge e (broadcastInDim S304 ![] bcast_S_S304 (constantI S_ 32 0#32))
def below (e : IVec S304 32) : IVec S304 1 := cmpi .slt e (broadcastInDim S304 ![] bcast_S_S304 (constantI S_ 32 32#32))
/-- The expert of the tile before, `-1` before the first. -/
def before (e : IVec S304 32) : IVec S304 32 :=
  concatenate S304 0 [⟨S1, broadcastInDim S1 ![] bcast_S_S1 (constantI S_ 32 4294967295#32)⟩, ⟨S303, extractStridedSlice S303 ![0] e slices_S304_S303_0⟩] concatenates_S1_S303_S304_d0
def isOne (e : IVec S304 32) : IVec S304 1 := cmpi .eq e (broadcastInDim S304 ![] bcast_S_S304 (constantI S_ 32 1#32))
def notOne (e : IVec S304 32) : IVec S304 1 := cmpi .ne e (broadcastInDim S304 ![] bcast_S_S304 (constantI S_ 32 1#32))

/-- The tile is among the tiles in use. -/
def used (nv : IVec S1 32) : IVec S304 1 := cmpi .slt (iotaInDim S304 32 0) (broadcastInDim S304 ![] bcast_S_S304 (shapeCast S_ nv shapeCasts_S1_S_))

/-- The precondition, from these. -/
def all (te tf : IVec S304 32) (nv : IVec S1 32) (fe : IVec S304 32) : IVec S304 1 :=
  andi (andi (andi (andi (atLeast te) (below te)) (atLeast fe)) (below fe))
    (ori (ori (andi (isOne tf) (cmpi .eq fe te)) (andi (notOne tf) (cmpi .eq te (before te)))) (noti (used nv)))

theorem fn_eq {F : FTy → Type} [FloatOps F] (te tf : IVec S304 32) (nv : IVec S1 32) (fe : IVec S304 32) (x : FVec F S155648x1024 .bf16)
    (w1 : FVec F S2x32x1024x2048 .f32) (b1 : FVec F S2x32x1x2048 .f32) (w2 : FVec F S2x32x1024x1024 .f32) (b2 : FVec F S2x32x1x1024 .f32) :
    fn te tf nv fe x w1 b1 w2 b2 = all te tf nv fe := rfl

/-- The precondition of the frames, from these. -/
def allNamed (te fe : IVec S304 32) : IVec S304 1 := andi (andi (andi (atLeast te) (below te)) (atLeast fe)) (below fe)

theorem named_eq {F : FTy → Type} [FloatOps F] (te tf : IVec S304 32) (nv : IVec S1 32) (fe : IVec S304 32) (x : FVec F S155648x1024 .bf16)
    (w1 : FVec F S2x32x1024x2048 .f32) (b1 : FVec F S2x32x1x2048 .f32) (w2 : FVec F S2x32x1024x1024 .f32) (b2 : FVec F S2x32x1x1024 .f32) :
    Cert.Pre_named.fn te tf nv fe x w1 b1 w2 b2 = allNamed te fe := rfl

theorem before_zero (e : IVec S304 32) : before e (ix1 (0 : Fin 304)) = 4294967295#32 := by
  pointwise [before]
theorem before_succ (e : IVec S304 32) (n : Fin 303) : before e (ix1 (⟨n.val + 1, by omega⟩ : Fin 304)) = e (ix1 (⟨n.val, by omega⟩ : Fin 304)) := by
  pointwise [before]
  exact dif_neg (by omega)

theorem ofBool_one (b : Bool) : (BitVec.ofBool b = 1#1) = (b = true) := by cases b <;> decide
theorem and_one (a b : BitVec 1) (h : IntOp.andi a b = 1#1) : a = 1#1 ∧ b = 1#1 := by
  revert a b; decide
theorem or_one (a b : BitVec 1) (h : IntOp.ori a b = 1#1) : a = 1#1 ∨ b = 1#1 := by
  revert a b; decide

theorem all_at (te tf : IVec S304 32) (nv : IVec S1 32) (fe : IVec S304 32) (i : S304.Idx) : all te tf nv fe i =
    IntOp.andi (IntOp.andi (IntOp.andi (IntOp.andi (atLeast te i) (below te i)) (atLeast fe i)) (below fe i))
      (IntOp.ori (IntOp.ori (IntOp.andi (isOne tf i) (IntOp.cmpi .eq (fe i) (te i))) (IntOp.andi (notOne tf i) (IntOp.cmpi .eq (te i) (before te i)))) (noti (used nv) i)) := rfl

theorem atLeast_at (e : IVec S304 32) (i : S304.Idx) (h : atLeast e i = 1#1) : 0 ≤ (e i).toInt := by
  have h2 : BitVec.ofBool ((0#32).sle (e i)) = 1#1 := h
  rw [ofBool_one, BitVec.sle_iff_toInt_le] at h2
  exact h2
theorem below_at (e : IVec S304 32) (i : S304.Idx) (h : below e i = 1#1) : (e i).toInt < 32 := by
  have h2 : BitVec.ofBool ((e i).slt 32#32) = 1#1 := h
  rw [ofBool_one, BitVec.slt_iff_toInt_lt] at h2
  exact h2
theorem eq_at (a b : BitVec 32) (h : IntOp.cmpi .eq a b = 1#1) : a = b := by
  have h2 : BitVec.ofBool (a == b) = 1#1 := h
  rw [ofBool_one] at h2
  exact eq_of_beq h2
theorem ne_at (a b : BitVec 32) (h : IntOp.cmpi .ne a b = 1#1) : a ≠ b := by
  have h2 : BitVec.ofBool (a != b) = 1#1 := h
  rw [ofBool_one] at h2
  exact bne_iff_ne.mp h2
theorem lt_32 (w : BitVec 32) (h0 : 0 ≤ w.toInt) (h1 : w.toInt < 32) : w.toNat < 32 := by
  rw [BitVec.toInt_eq_toNat_cond] at h0 h1
  have := w.isLt
  split at h0 <;> omega

/-- Where the precondition of the frames holds: every tile's expert and fetched expert are among the 32. -/
theorem named_of (te fe : IVec S304 32) (hp : allNamed te fe = fun _ => 1#1) :
    (∀ t, (te (ix1 t)).toNat < 32) ∧ (∀ t, (fe (ix1 t)).toNat < 32) := by
  have e2 := fun t : Fin 304 => and_one _ _ (congrFun hp (ix1 t))
  have e3 := fun t => and_one _ _ (e2 t).1
  have e4 := fun t => and_one _ _ (e3 t).1
  exact ⟨fun t => lt_32 _ (atLeast_at te _ (e4 t).1) (below_at te _ (e4 t).2), fun t => lt_32 _ (atLeast_at fe _ (e3 t).2) (below_at fe _ (e2 t).2)⟩

theorem used_at (nv : IVec S1 32) (t : Fin 304) : used nv (ix1 t) = BitVec.ofBool ((BitVec.ofNat 32 t.val).slt (nv (ix1 0))) := by
  pointwise [used]
  rfl
theorem not_one (b : Bool) : ~~~(BitVec.ofBool b) = 1#1 ↔ b = false := by cases b <;> decide

/-- A tile that is not in use: its number is not below the number of tiles in use. -/
theorem unused_at (nv : IVec S1 32) (t : Fin 304) (h : noti (used nv) (ix1 t) = 1#1) : (nv (ix1 0)).toInt ≤ t.val := by
  have h2 : ~~~(used nv (ix1 t)) = 1#1 := h
  rw [used_at, not_one] at h2
  have hi : (BitVec.ofNat 32 t.val).toInt = t.val := by
    have := t.isLt
    rw [BitVec.toInt_eq_toNat_of_lt] <;> rw [BitVec.toNat_ofNat, Nat.mod_eq_of_lt (by omega)]
    omega
  rw [← hi]
  by_contra hc
  have := (BitVec.slt_iff_toInt_lt).mpr (lt_of_not_ge hc)
  rw [h2] at this
  exact Bool.false_ne_true this

/-- Where the precondition holds: every tile's expert and fetched expert are among the 32; a tile in use that is marked first has its own
    expert's weights fetched; any other tile in use has one before it, of the same expert. -/
theorem tables_of (te tf : IVec S304 32) (nv : IVec S1 32) (fe : IVec S304 32) (hp : all te tf nv fe = fun _ => 1#1) :
    (∀ t, (te (ix1 t)).toNat < 32) ∧ (∀ t, (fe (ix1 t)).toNat < 32)
      ∧ (∀ t : Fin 304, ¬(nv (ix1 0)).toInt ≤ t.val → tf (ix1 t) = 1#32 → fe (ix1 t) = te (ix1 t))
      ∧ (∀ t : Fin 304, ¬(nv (ix1 0)).toInt ≤ t.val → tf (ix1 t) ≠ 1#32 → ∃ h : t.val ≠ 0, te (ix1 t) = te (ix1 ⟨t.val - 1, by omega⟩)) := by
  have e : ∀ t : Fin 304, _ := fun t => (all_at te tf nv fe (ix1 t)).symm.trans (congrFun hp (ix1 t))
  have e1 := fun t => and_one _ _ (e t)
  have e2 := fun t => and_one _ _ (e1 t).1
  have e3 := fun t => and_one _ _ (e2 t).1
  have e4 := fun t => and_one _ _ (e3 t).1
  have e5 := fun (t : Fin 304) (hu : ¬(nv (ix1 0)).toInt ≤ t.val) => (or_one _ _ (e1 t).2).resolve_right (fun h => hu (unused_at nv t h))
  have hte : ∀ t : Fin 304, (te (ix1 t)).toNat < 32 := fun t => lt_32 _ (atLeast_at te _ (e4 t).1) (below_at te _ (e4 t).2)
  refine ⟨hte, fun t => lt_32 _ (atLeast_at fe _ (e3 t).2) (below_at fe _ (e2 t).2), fun t hu ht => ?_, fun t hu ht => ?_⟩
  · rcases or_one _ _ (e5 t hu) with h | h
    · exact eq_at _ _ (and_one _ _ h).2
    · exact absurd ht (ne_at _ _ (and_one _ _ h).1)
  · rcases or_one _ _ (e5 t hu) with h | h
    · exact absurd (eq_at _ _ (and_one _ _ h).1) ht
    · have hb := eq_at _ _ (and_one _ _ h).2
      obtain ⟨n, hn⟩ := t
      cases n with
      | zero =>
        have hz : te (ix1 (0 : Fin 304)) = 4294967295#32 := hb.trans (before_zero te)
        have := hte 0
        rw [hz] at this
        exact absurd this (by decide)
      | succ n => exact ⟨Nat.succ_ne_zero n, hb.trans (before_succ te ⟨n, by omega⟩)⟩

end Cert.ExpPre

end
-- ==== Proof.ExpFrame.lean ====
module

public import proofs.«01_k».proof.Proof.ExpBase

/-! The experts' pipeline at whatever admissible tables `a` it is launched with, with nothing asked of the weight buffers: whatever they
    hold, the run ends with every argument as it was and every counter at zero. Nothing is said of the result. -/

@[expose] public section

set_option maxRecDepth 16384
set_option Elab.async false

noncomputable section

namespace Cert.ExpertsIdeal.Tab

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

/-- The state the proof reasons in. -/
local notation "𝕄" => MT nD τ sig Unit (Elt Ideal) ℕ (UR sig nD τ) ℕ

variable (a : (pcfg0 (F := Ideal)).Adm)
variable (m : (ℓ : Loc nD τ sig) → Buf (Elt Ideal) ℓ) (ρ : Dev nD → PrngReg)

/-- What holds before every point: the two weight buffers at some contents, and the body's halves of the tables. -/
def SomePhi (c : Dev nD) : sProp 𝕄 :=
  iprop((∃ b, (scM0_0.view.loc (c : Thread nD τ) ↦{fullShare} b))
    ∗ (∃ b, (scM0_1.view.loc (c : Thread nD τ) ↦{fullShare} b))
    ∗ (tbM0_0.view.loc (c : Thread nD τ) ↦{fullShare.right} a.1 0) ∗ (tbM0_1.view.loc (c : Thread nD τ) ↦{fullShare.right} a.1 1)
    ∗ (tbM0_2.view.loc (c : Thread nD τ) ↦{fullShare.right} a.1 2) ∗ (tbM0_3.view.loc (c : Thread nD τ) ↦{fullShare.right} a.1 3))

/-- The proof data of the one pipeline on core `c`, the output's blocks unnamed. -/
def someDats (_ : Fin 1) (c : Dev nD) : Dat τ (Elt Ideal) Unit ℕ (UR sig nD τ) ℕ (cfgA a) c where
  A w := (s₀ m ρ).mem (((cfgA a).win w).arr.view.loc (c : Thread nD τ))
  after w t := match w with
    | ⟨0, _⟩ => iblk a m ρ c (0 : Fin 6) t
    | ⟨1, _⟩ => iblk a m ρ c (1 : Fin 6) t
    | ⟨2, _⟩ => iblk a m ρ c (2 : Fin 6) t
    | ⟨3, _⟩ => iblk a m ρ c (3 : Fin 6) t
    | ⟨4, _⟩ => iblk a m ρ c (4 : Fin 6) t
    | ⟨5, _⟩ => Dat.unnamed (cfg := cfgA a) (5 : Fin 6) t
  Φ _ := SomePhi a c
  q _ := fullShare
  owed _ := 0

/-- The window whose contents are forgotten: the output's. -/
def fgt : Fin (cfgA a).W → Bool := fun | ⟨5, _⟩ => true | _ => false

theorem left0_0 (c : Dev nD) (t : Fin (cfgA a).N) : (someDats a m ρ 0 c).after (0 : Fin 6) t = iblk a m ρ c (0 : Fin 6) t := rfl
theorem left0_1 (c : Dev nD) (t : Fin (cfgA a).N) : (someDats a m ρ 0 c).after (1 : Fin 6) t = iblk a m ρ c (1 : Fin 6) t := rfl
theorem left0_2 (c : Dev nD) (t : Fin (cfgA a).N) : (someDats a m ρ 0 c).after (2 : Fin 6) t = iblk a m ρ c (2 : Fin 6) t := rfl
theorem left0_3 (c : Dev nD) (t : Fin (cfgA a).N) : (someDats a m ρ 0 c).after (3 : Fin 6) t = iblk a m ρ c (3 : Fin 6) t := rfl
theorem left0_4 (c : Dev nD) (t : Fin (cfgA a).N) : (someDats a m ρ 0 c).after (4 : Fin 6) t = iblk a m ρ c (4 : Fin 6) t := rfl

/-- Input window 0 holds its block, fetched there or not. -/
theorem found0_0 (c : Dev nD) (t : Fin (cfgA a).N) (d) : (someDats a m ρ 0 c).before (0 : Fin 6) t d = iblk a m ρ c (0 : Fin 6) t :=
  ((someDats a m ρ 0 c).before_in_eq_fetched (0 : Fin 6) rfl (fun _ => rfl) (fun _ _ _ => rfl) (fun t => by rw [left0_0]; unfold Dat.blockOf iblk; rfl) t d).trans
    (by unfold Dat.fetched Dat.blockOf iblk; rfl)

/-- Input window 1 holds its block, fetched there or not. -/
theorem found0_1 (c : Dev nD) (t : Fin (cfgA a).N) (d) : (someDats a m ρ 0 c).before (1 : Fin 6) t d = iblk a m ρ c (1 : Fin 6) t :=
  ((someDats a m ρ 0 c).before_in_eq_fetched (1 : Fin 6) rfl (fun _ => rfl) (fun _ _ _ => rfl) (fun t => by rw [left0_1]; unfold Dat.blockOf iblk; rfl) t d).trans
    (by unfold Dat.fetched Dat.blockOf iblk; rfl)

/-- Input window 2 holds its block, fetched there or not. -/
theorem found0_2 (c : Dev nD) (t : Fin (cfgA a).N) (d) : (someDats a m ρ 0 c).before (2 : Fin 6) t d = iblk a m ρ c (2 : Fin 6) t :=
  ((someDats a m ρ 0 c).before_in_eq_fetched (2 : Fin 6) rfl (fun _ => rfl) (fun _ _ _ => rfl) (fun t => by rw [left0_2]; unfold Dat.blockOf iblk; rfl) t d).trans
    (by unfold Dat.fetched Dat.blockOf iblk; rfl)

/-- Input window 3 holds its block, fetched there or not. -/
theorem found0_3 (c : Dev nD) (t : Fin (cfgA a).N) (d) : (someDats a m ρ 0 c).before (3 : Fin 6) t d = iblk a m ρ c (3 : Fin 6) t :=
  ((someDats a m ρ 0 c).before_in_eq_fetched (3 : Fin 6) rfl (fun _ => rfl) (fun _ _ _ => rfl) (fun t => by rw [left0_3]; unfold Dat.blockOf iblk; rfl) t d).trans
    (by unfold Dat.fetched Dat.blockOf iblk; rfl)

/-- Input window 4 holds its block, fetched there or not. -/
theorem found0_4 (c : Dev nD) (t : Fin (cfgA a).N) (d) : (someDats a m ρ 0 c).before (4 : Fin 6) t d = iblk a m ρ c (4 : Fin 6) t :=
  ((someDats a m ρ 0 c).before_in_eq_fetched (4 : Fin 6) rfl (fun _ => rfl) (fun _ _ _ => rfl) (fun t => by rw [left0_4]; unfold Dat.blockOf iblk; rfl) t d).trans
    (by unfold Dat.fetched Dat.blockOf iblk; rfl)

set_option maxHeartbeats 4000000 in
/-- The body obligation at point `t`: whichever path runs, the inputs' blocks stay and the weight buffers hold something. -/
theorem some_body (c : Dev nD) (t : Fin (cfgA a).N) :
    iprop((someDats a m ρ 0 c).Φ t.castSucc ∗ (someDats a m ρ 0 c).owesAt () t.castSucc
        ∗ (∃ d, owns (c : Thread nD τ) (ms0_0 a t) fullShare ((someDats a m ρ 0 c).before (0 : Fin 6) t d))
        ∗ (∃ d, owns (c : Thread nD τ) (ms0_1 a t) fullShare ((someDats a m ρ 0 c).before (1 : Fin 6) t d))
        ∗ (∃ d, owns (c : Thread nD τ) (ms0_2 a t) fullShare ((someDats a m ρ 0 c).before (2 : Fin 6) t d))
        ∗ (∃ d, owns (c : Thread nD τ) (ms0_3 a t) fullShare ((someDats a m ρ 0 c).before (3 : Fin 6) t d))
        ∗ (∃ d, owns (c : Thread nD τ) (ms0_4 a t) fullShare ((someDats a m ρ 0 c).before (4 : Fin 6) t d))
        ∗ (∃ X, owns (c : Thread nD τ) (ms0_5 a t) fullShare X))
      ⊢ wp frame (wpE (defs₀ (F := Ideal)) Variants.none c none) Set.univ (bodyAt0 a t) fun _ =>
          iprop((someDats a m ρ 0 c).Φ t.succ ∗ (someDats a m ρ 0 c).owesAt () t.succ
            ∗ owns (c : Thread nD τ) (ms0_0 a t) fullShare ((someDats a m ρ 0 c).after (0 : Fin 6) t)
            ∗ owns (c : Thread nD τ) (ms0_1 a t) fullShare ((someDats a m ρ 0 c).after (1 : Fin 6) t)
            ∗ owns (c : Thread nD τ) (ms0_2 a t) fullShare ((someDats a m ρ 0 c).after (2 : Fin 6) t)
            ∗ owns (c : Thread nD τ) (ms0_3 a t) fullShare ((someDats a m ρ 0 c).after (3 : Fin 6) t)
            ∗ owns (c : Thread nD τ) (ms0_4 a t) fullShare ((someDats a m ρ 0 c).after (4 : Fin 6) t)
            ∗ (∃ X, owns (c : Thread nD τ) (ms0_5 a t) fullShare X)) := by
  simp only [found0_0, found0_1, found0_2, found0_3, found0_4, left0_0, left0_1, left0_2, left0_3, left0_4]
  rewrite [show (someDats a m ρ 0 c).Φ t.succ = SomePhi a c from rfl, show (someDats a m ρ 0 c).Φ t.castSucc = SomePhi a c from rfl,
    show (someDats a m ρ 0 c).owesAt () t.succ = (someDats a m ρ 0 c).owesAt () t.castSucc from rfl]
  unfold SomePhi
  by_cases q0 : Past a t
  · have k0_h2 : ¬ k0_cond2 (crd a t) (usedWord a) = 1#1 := fun h => (cond_iff _ _).mp h q0
    iintro ⟨⟨⟨%a0, HS0⟩, ⟨%a1, HS1⟩, HT0, HT1, HT2, HT3⟩, Ho, ⟨%d0, H0⟩, ⟨%d1, H1⟩, ⟨%d2, H2⟩, ⟨%d3, H3⟩, ⟨%d4, H4⟩, ⟨%d5, H5⟩⟩
    iapply ((kernelRun0_C c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (a.1 0) (a.1 1) (a.1 2) (a.1 3) (iblk a m ρ c (0 : Fin 6) t) (iblk a m ρ c (1 : Fin 6) t) (iblk a m ρ c (2 : Fin 6) t) (iblk a m ρ c (3 : Fin 6) t) (iblk a m ρ c (4 : Fin 6) t) a0 a1 q0 k0_h2).2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [HT2]; · iexact HT2
    isplitl [HT3]; · iexact HT3
    isplitl [H5]; · iexists _; iexact H5
    isplitl [HS0]; · iexact HS0
    isplitl [HS1]; · iexact HS1
    iintro ⟨H0, H1, H2, H3, H4, HT0, HT1, HT2, HT3, ⟨%e5, H5⟩, HS0, HS1⟩
    isplitl [HS0 HS1 HT0 HT1 HT2 HT3]
    · isplitl [HS0]; · iexists _; iexact HS0
      isplitl [HS1]; · iexists _; iexact HS1
      isplitl [HT0]; · iexact HT0
      isplitl [HT1]; · iexact HT1
      isplitl [HT2]; · iexact HT2
      iexact HT3
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    iexists _
    unfold owns; iexists _; isplitr; swap
    · iexact H5
    · ipureintro; rfl
  · have k0_h2 : k0_cond2 (crd a t) (usedWord a) = 1#1 := (cond_iff _ _).mpr q0
    by_cases q1 : First a t
    · iintro ⟨⟨⟨%a0, HS0⟩, ⟨%a1, HS1⟩, HT0, HT1, HT2, HT3⟩, Ho, ⟨%d0, H0⟩, ⟨%d1, H1⟩, ⟨%d2, H2⟩, ⟨%d3, H3⟩, ⟨%d4, H4⟩, ⟨%d5, H5⟩⟩
      iapply ((kernelRun0_A c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (a.1 0) (a.1 1) (a.1 2) (a.1 3) (iblk a m ρ c (0 : Fin 6) t) (iblk a m ρ c (1 : Fin 6) t) (iblk a m ρ c (2 : Fin 6) t) (iblk a m ρ c (3 : Fin 6) t) (iblk a m ρ c (4 : Fin 6) t) q0 k0_h2 q1).2.2.2 a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [HT2]; · iexact HT2
      isplitl [HT3]; · iexact HT3
      isplitl [H5]; · iexists _; iexact H5
      isplitl [HS0]; · iexact HS0
      isplitl [HS1]; · iexact HS1
      iintro ⟨H0, H1, H2, H3, H4, HT0, HT1, HT2, HT3, ⟨%e5, H5⟩, HS0, HS1⟩
      isplitl [HS0 HS1 HT0 HT1 HT2 HT3]
      · isplitl [HS0]; · iexists _; iexact HS0
        isplitl [HS1]; · iexists _; iexact HS1
        isplitl [HT0]; · iexact HT0
        isplitl [HT1]; · iexact HT1
        isplitl [HT2]; · iexact HT2
        iexact HT3
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      iexists _
      unfold owns; iexists _; isplitr; swap
      · iexact H5
      · ipureintro; rfl
    · iintro ⟨⟨⟨%a0, HS0⟩, ⟨%a1, HS1⟩, HT0, HT1, HT2, HT3⟩, Ho, ⟨%d0, H0⟩, ⟨%d1, H1⟩, ⟨%d2, H2⟩, ⟨%d3, H3⟩, ⟨%d4, H4⟩, ⟨%d5, H5⟩⟩
      iapply ((kernelRun0_B c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (a.1 0) (a.1 1) (a.1 2) (a.1 3) (iblk a m ρ c (0 : Fin 6) t) (iblk a m ρ c (1 : Fin 6) t) (iblk a m ρ c (2 : Fin 6) t) (iblk a m ρ c (3 : Fin 6) t) (iblk a m ρ c (4 : Fin 6) t) a0 a1 q0 k0_h2 q1).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [HT2]; · iexact HT2
      isplitl [HT3]; · iexact HT3
      isplitl [H5]; · iexists _; iexact H5
      isplitl [HS0]; · iexact HS0
      isplitl [HS1]; · iexact HS1
      iintro ⟨H0, H1, H2, H3, H4, HT0, HT1, HT2, HT3, ⟨%e5, H5⟩, HS0, HS1⟩
      isplitl [HS0 HS1 HT0 HT1 HT2 HT3]
      · isplitl [HS0]; · iexists _; iexact HS0
        isplitl [HS1]; · iexists _; iexact HS1
        isplitl [HT0]; · iexact HT0
        isplitl [HT1]; · iexact HT1
        isplitl [HT2]; · iexact HT2
        iexact HT3
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      iexists _
      unfold owns; iexists _; isplitr; swap
      · iexact H5
      · ipureintro; rfl

/-- The body obligation, at every point. -/
theorem some_obligation (c : Dev nD) : BodyObligation (someDats a m ρ 0 c) (defs₀ (F := Ideal)) Variants.none () Set.univ (fgt a) := fun t => by
  rw [bigSep_W0, bigSep_W0]
  exact some_body a m ρ c t

theorem some_share (c : Dev nD) (w : Fin (cfgA a).W) : (someDats a m ρ 0 c).share w = fullShare := by unfold Dat.share; split <;> rfl

/-- The invariant from the tables and the weight buffers; -/
theorem some_intro (c : Dev nD) :
    iprop(BI.emp ∗ Pipeline.prefHeld pre0 c (fun _ => fullShare.right) a.1 ∗ Pipeline.scopedRest spec0 c) ⊢ (someDats a m ρ 0 c).Φ 0 := by
  rw [prefHeld_eq, scopedRest0_eq, show (someDats a m ρ 0 c).Φ 0 = SomePhi a c from rfl]
  unfold SomePhi
  iintro ⟨-, ⟨HT0, HT1, HT2, HT3⟩, ⟨%a0, HS0⟩, ⟨%a1, HS1⟩⟩
  isplitl [HS0]; · iexists a0; iexact HS0
  isplitl [HS1]; · iexists a1; iexact HS1
  isplitl [HT0]; · iexact HT0
  isplitl [HT1]; · iexact HT1
  isplitl [HT2]; · iexact HT2
  iexact HT3

/-- and the weight buffers back from it, the tables let go. -/
theorem some_exit (c : Dev nD) : (someDats a m ρ 0 c).Φ (Fin.last (cfgA a).N) ⊢ iprop(BI.emp ∗ Pipeline.ownSems0 (fun k : PEmpty => k.elim) c ∗ Pipeline.scopedRest spec0 c) := by
  rw [Pipeline.ownSems0_none, scopedRest0_eq, show (someDats a m ρ 0 c).Φ (Fin.last (cfgA a).N) = SomePhi a c from rfl]
  unfold SomePhi
  iintro ⟨⟨%a0, HS0⟩, ⟨%a1, HS1⟩, -, -, -, -⟩
  isplitr; · iempintro
  isplitr; · iempintro
  isplitl [HS0]
  · iexists a0; iexact HS0
  iexists a1; iexact HS1

variable (hp : ∀ (c : Dev nD) (j : Fin 4), m ((c : Thread nD τ).loc (pre0.ref j)) = a.1 j)

set_option backward.isDefEq.respectTransparency.types false in
set_option maxHeartbeats 4000000 in
include hp in
/-- From any memory whose tables are `a`, with zero counters: every weakly fair run ends, the nine arguments unchanged, every counter at
    zero. -/
theorem run_frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  Pipeline.RDat.θ_run_region_pf_quiescent pcfgs (fun _ => a) (fun _ c => (someDats a m ρ 0 c).toRForget (fgt a)) () ((launch0 (F := Ideal)).cellOf_inj fun _ => a) (0 : Fin 1)
    (launch0 (F := Ideal)).win.to₀ (Pipeline.OwnSemFacts.none _) (launch0 (F := Ideal)).pre EP defs₀ Variants.none m ρ main
    (hbody := fun c => (some_obligation a m ρ c).toRForget) (hne := (launch0 (F := Ideal)).block_pos)
    (harr := (launch0 (F := Ideal)).arr_whole) (hstage := (launch0 (F := Ideal)).stage_whole) (howed := fun _ _ => rfl)
    (G := fun _ => BI.emp) (u₀ := u₀ a) (hu₀ := (show (ownU (u₀ a) : sProp 𝕄) ⊢ BI.own (EP (initOf (Pipeline.cells (pcs a) ((launch0 (F := Ideal)).cellOf_inj fun _ => a)) (Pipeline.launchToks (pcs a) ((launch0 (F := Ideal)).cellOf_inj fun _ => a)))) from .rfl).trans (by
      rw [BI.bigSep_emp_const]
      iintro H; imodintro
      isplitl [H]; · iexact H
      iempintro))
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (someDats a m ρ) 0 (launch0 (F := Ideal)).win.arr_inj c (launch0 (F := Ideal)).arr_whole
      (some_share a m ρ c) _ _ fun _ => rfl)
    (hpf := hp)
    (X := fun _ => iprop(emp)) (Y := fun _ => iprop(emp)) (Z := fun _ => iprop(emp))
    (hX := fun c => by iintro -; imodintro; isplitr <;> iempintro)
    (hin := some_intro a m ρ)
    (hout := some_exit a m ρ)
    (QY := fun _ _ => True)
    (hY := fun c s' => by
      iintro ⟨-, -, HSI⟩; imodintro
      isplitr; · ipureintro; trivial
      iexact HSI)
    (hQ := fun s h hz => ⟨fun c => by
      have hw : ∀ w : Fin (cfgA a).W, fgt a w = false → ((cfgA a).win w).isOut = false → s.mem (((cfgA a).win w).arr.view.loc (c : Thread nD τ)) = (s₀ m ρ).mem (((cfgA a).win w).arr.view.loc (c : Thread nD τ)) :=
        fun w hf hi => ((Pipeline.Dat.toRForget_arrAt_iff (someDats a m ρ 0 c) hf _ _).mp ((h c).1 w)).trans ((someDats a m ρ 0 c).arrAt_in w hi _)
      exact ⟨((h c).2.1 0).trans (hp c 0).symm, ((h c).2.1 1).trans (hp c 1).symm, ((h c).2.1 2).trans (hp c 2).symm, ((h c).2.1 3).trans (hp c 3).symm,
        hw 0 rfl rfl, hw 1 rfl rfl, hw 2 rfl rfl, hw 3 rfl rfl, hw 4 rfl rfl⟩, hz⟩)

end Cert.ExpertsIdeal.Tab

end
-- ==== Proof.ExpBitsBase.lean ====
module

public import proofs.«01_k».proof.Proof.Gen.Experts.Flash.Runs
public import Idealize.ShloMosaic.Lib.VecWindow
public import Idealize.ShloMosaic.Lib.Pipeline.Quiescent
public import Idealize.ShloMosaic.Lib.Claim

/-! The experts' pipeline at whatever admissible tables `a` it is launched with: its blocks, its decisions and its body at a point. -/

@[expose] public section

set_option maxRecDepth 16384
set_option Elab.async false

noncomputable section

namespace Cert.Experts.Tab

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The state the proof reasons in. -/
local notation "𝕄" => MT nD τ sig Unit (Elt Bits) ℕ (UR sig nD τ) ℕ

/-- The rounds library's resources, embedded whole. -/
abbrev EP : Emb (UR sig nD τ) 𝕄 := emb₁

variable (a : (pcfg0 (F := Bits)).Adm)

/-- The pipeline at the tables `a`. -/
abbrev cfgA : Pipeline.Cfg sig Λ₀ := cfg0 (F := Bits) a
abbrev pcs : Fin 1 → Pipeline.Cfg sig Λ₀ := Pipeline.pin (pcfgs (F := Bits)) fun _ => a

variable (m : (ℓ : Loc nD τ sig) → Buf (Elt Bits) ℓ) (ρ : Dev nD → PrngReg)

/-- Point `t`'s coordinates. -/
abbrev crd (t : Fin (cfgA a).N) : (cfgA a).grid.Coords := (cfgA a).grid.coords t

abbrev ms0_0 (t : Fin (cfgA a).N) : Memref sig .tc .vmem S512x1024 .bf16 := spec0_0.stage ((cfgA a).slots t (0 : Fin 6))
abbrev hs0_0 (t : Fin (cfgA a).N) : (ms0_0 a t).IsWhole := hstage0_0 (((cfgA a).slots t (0 : Fin 6)).cast nbuf0_0)
abbrev ms0_1 (t : Fin (cfgA a).N) : Memref sig .tc .vmem S1x1x1024x2048 .f32 := spec0_1.stage ((cfgA a).slots t (1 : Fin 6))
abbrev hs0_1 (t : Fin (cfgA a).N) : (ms0_1 a t).IsWhole := hstage0_1 (((cfgA a).slots t (1 : Fin 6)).cast nbuf0_1)
abbrev ms0_2 (t : Fin (cfgA a).N) : Memref sig .tc .vmem S1x1x1x2048 .f32 := spec0_2.stage ((cfgA a).slots t (2 : Fin 6))
abbrev hs0_2 (t : Fin (cfgA a).N) : (ms0_2 a t).IsWhole := hstage0_2 (((cfgA a).slots t (2 : Fin 6)).cast nbuf0_2)
abbrev ms0_3 (t : Fin (cfgA a).N) : Memref sig .tc .vmem S1x1x1024x1024 .f32 := spec0_3.stage ((cfgA a).slots t (3 : Fin 6))
abbrev hs0_3 (t : Fin (cfgA a).N) : (ms0_3 a t).IsWhole := hstage0_3 (((cfgA a).slots t (3 : Fin 6)).cast nbuf0_3)
abbrev ms0_4 (t : Fin (cfgA a).N) : Memref sig .tc .vmem S1x1x1x1024 .f32 := spec0_4.stage ((cfgA a).slots t (4 : Fin 6))
abbrev hs0_4 (t : Fin (cfgA a).N) : (ms0_4 a t).IsWhole := hstage0_4 (((cfgA a).slots t (4 : Fin 6)).cast nbuf0_4)
abbrev ms0_5 (t : Fin (cfgA a).N) : Memref sig .tc .vmem S512x1024 .bf16 := spec0_5.stage ((cfgA a).slots t (5 : Fin 6))
abbrev hs0_5 (t : Fin (cfgA a).N) : (ms0_5 a t).IsWhole := hstage0_5 (((cfgA a).slots t (5 : Fin 6)).cast nbuf0_5)

/-- Window `w`'s block at point `t`, read off its array at launch. -/
def iblk (c : Dev nD) (w : Fin (cfgA a).W) (t : Fin (cfgA a).N) : (((cfgA a).win w).xblock (crd a t)).Idx → Elt Bits ((cfgA a).win w).elt :=
  (((cfgA a).win w).blk t).view.read (Elt Bits) ((s₀ m ρ).mem (((cfgA a).win w).arr.view.loc (c : Thread nD τ)))

/-- The word the kernel reads as the number of used tiles, and the one it reads as the mark of an expert's first tile. -/
abbrev usedWord : BitVec 32 := View.readAt (Elt Bits) (tbM0_2).view (Rect.unit (s := S1) ![0] S1.size inb_S1_S1_0).toLoadRect (a.1 2) (Shape.Idx.first (numel1_S1.symm ▸ Nat.one_pos))
abbrev firstWord (t : Fin (cfgA a).N) : BitVec 32 := View.readAt (Elt Bits) (tbM0_1).view (Rect.unit (s := S304) (k0_off2 (crd a t)) S1.size (k0_off2_inb (crd a t))).toLoadRect (a.1 1) (Shape.Idx.first (numel1_S1.symm ▸ Nat.one_pos))

/-- Tile `t` is past the used ones; tile `t` is marked first of its expert's. -/
abbrev Past (t : Fin (cfgA a).N) : Prop := k0_cond1 (crd a t) (usedWord a) = 1#1
abbrev First (t : Fin (cfgA a).N) : Prop := (Scalar.cmpi .ne (Scalar.extui (Scalar.cmpi .eq (firstWord a t) 1#32)) 0#32) = 1#1

/-- The two branches of the kernel exclude each other and leave nothing out. -/
theorem cond_iff (i : grid0.Coords) (w : BitVec 32) : k0_cond2 i w = 1#1 ↔ ¬ k0_cond1 i w = 1#1 := by
  have hb : ∀ b : Bool, (Scalar.cmpi .ne (Scalar.extui (BitVec.ofBool b) : BitVec 32) 0#32 = 1#1) = (b = true) := by decide
  show (Scalar.cmpi .ne (Scalar.extui (BitVec.ofBool ((BitVec.ofNat 32 (i 0).val).slt w)) : BitVec 32) 0#32 = 1#1)
    ↔ ¬ (Scalar.cmpi .ne (Scalar.extui (BitVec.ofBool (w.sle (BitVec.ofNat 32 (i 0).val))) : BitVec 32) 0#32 = 1#1)
  rw [hb, hb, BitVec.slt_iff_toInt_lt, BitVec.sle_iff_toInt_le]
  omega

/-- Some branch is taken, so no point leaves the output untouched. -/
theorem idle_eq (t : Fin (cfgA a).N) : (cfgA a).idle (5 : Fin 6) ((cfgA a).grid.coords t) = false := by
  have key : ∀ (i : grid0.Coords) (w : BitVec 32), (!(k0_cond1 i w == 1#1) && !(k0_cond2 i w == 1#1)) = false := by
    intro i w
    by_cases h : k0_cond1 i w = 1#1
    · rw [h]; rfl
    · rw [(cond_iff i w).mpr h]; simp
  exact key _ _

/-- The body at point `t` on its staging memrefs, as the pipeline calls it. -/
abbrev bodyAt0 (t : Fin (cfgA a).N) : Prog (TpuEff nD τ sig (Elt Bits) Λ₀ .tc) PUnit :=
  cc0_moe_experts (crd a t) (Memref.whole main_arg0) (Memref.isWhole_whole _) (Memref.whole main_arg1) (Memref.isWhole_whole _) (Memref.whole main_arg2) (Memref.isWhole_whole _) (Memref.whole main_arg3) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (Memref.whole cc0_scratch0) (Memref.isWhole_whole _) (Memref.whole cc0_scratch1) (Memref.isWhole_whole _)

/-- The rounds library's launch element. -/
def u₀ : UR sig nD τ :=
  initOf (Pipeline.cells (pcs a) ((launch0 (F := Bits)).cellOf_inj fun _ => a))
    (Pipeline.launchToks (pcs a) ((launch0 (F := Bits)).cellOf_inj fun _ => a))

/-- The tables as the launch hands them to the region, one by one. -/
theorem prefHeld_eq (c : Dev nD) (q : Fin 4 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2) ∗ (((c : Thread nD τ).loc main_arg3) ↦{q 3} v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

end Cert.Experts.Tab

end
-- ==== Proof.ExpBitsAdm.lean ====
module

public import proofs.«01_k».proof.Proof.ExpBitsBase
public import Idealize.ShloMosaic.Lib.Pipeline.ValueKit

/-! The experts' tables, from the memory the kernel is launched with: admissible where they name experts. -/

@[expose] public section

set_option maxRecDepth 16384

noncomputable section

namespace Cert.Experts.Tab

open Cert.Experts Cert.Experts.Gen
open Idealize.ShloMosaic Idealize.ShloMosaic.TcCoe Idealize.SL.Sem

/-- Four tables as the pipeline takes them. -/
def tabs (te tf : S304.Idx → BitVec 32) (nv : S1.Idx → BitVec 32) (fe : S304.Idx → BitVec 32) : pre0.Contents (Elt Bits) :=
  fun | 0 => te | 1 => tf | 2 => nv | 3 => fe | ⟨_ + 4, h⟩ => absurd h (Nat.not_lt.2 (Nat.le_add_left _ _))

/-- The tile a coordinate names. -/
def tile (i : grid0.Coords) : Fin 304 := i 0

theorem off_eq : ∀ i : grid0.Coords, (Scalar.indexCast (BitVec.ofNat 32 (i 0).val) : BitVec 32).toNat = (tile i).val := by
  decide +kernel

theorem at0 (te tf : S304.Idx → BitVec 32) (nv : S1.Idx → BitVec 32) (fe : S304.Idx → BitVec 32) (i : grid0.Coords) (h) (h1) :
    (tabs te tf nv fe).at 0 (Rect.unit (s := S304) ![(Scalar.indexCast (BitVec.ofNat 32 (i 0).val) : BitVec 32).toNat] S1.size h) h1 = te (ix1 (tile i)) := by
  show te _ = _
  refine congrArg te (funext fun a => Fin.ext ?_)
  fin_cases a
  show (Scalar.indexCast (BitVec.ofNat 32 (i 0).val) : BitVec 32).toNat + 1 * 0 = _
  rw [off_eq]
  rfl

theorem at3 (te tf : S304.Idx → BitVec 32) (nv : S1.Idx → BitVec 32) (fe : S304.Idx → BitVec 32) (i : grid0.Coords) (h) (h1) :
    (tabs te tf nv fe).at 3 (Rect.unit (s := S304) ![(Scalar.indexCast (BitVec.ofNat 32 (i 0).val) : BitVec 32).toNat] S1.size h) h1 = fe (ix1 (tile i)) := by
  show fe _ = _
  refine congrArg fe (funext fun a => Fin.ext ?_)
  fin_cases a
  show (Scalar.indexCast (BitVec.ofNat 32 (i 0).val) : BitVec 32).toNat + 1 * 0 = _
  rw [off_eq]
  rfl

section
variable (te tf : S304.Idx → BitVec 32) (nv : S1.Idx → BitVec 32) (fe : S304.Idx → BitVec 32) (i : grid0.Coords)

theorem tr1_eq : cc0_transform_1 k0_off1_inb numel1_S1 (tabs te tf nv fe) i = ![0, (fe (ix1 (tile i))).toNat, 0, 0] := by
  rw [← at3 te tf nv fe i (k0_off1_inb i) numel1_S1]
  rfl
theorem tr2_eq : cc0_transform_2 k0_off1_inb numel1_S1 (tabs te tf nv fe) i = ![0, (te (ix1 (tile i))).toNat, 0, 0] := by
  rw [← at0 te tf nv fe i (k0_off1_inb i) numel1_S1]
  rfl
theorem tr3_eq : cc0_transform_3 k0_off1_inb numel1_S1 (tabs te tf nv fe) i = ![0, (fe (ix1 (tile i))).toNat, 0, 0] := by
  rw [← at3 te tf nv fe i (k0_off1_inb i) numel1_S1]
  rfl
theorem tr4_eq : cc0_transform_4 k0_off1_inb numel1_S1 (tabs te tf nv fe) i = ![0, (te (ix1 (tile i))).toNat, 0, 0] := by
  rw [← at0 te tf nv fe i (k0_off1_inb i) numel1_S1]
  rfl
end

/-- Tables whose experts are among the 32 address only blocks inside the arrays. -/
theorem ok_tabs (te tf : S304.Idx → BitVec 32) (nv : S1.Idx → BitVec 32) (fe : S304.Idx → BitVec 32)
    (ht : ∀ t : Fin 304, (te (ix1 t)).toNat < 32) (hf : ∀ t : Fin 304, (fe (ix1 t)).toNat < 32) : ok0 (F := Bits) (tabs te tf nv fe) := by
  refine ⟨fun i => ⟨?_, .inl rfl⟩, fun i => ⟨?_, .inl rfl⟩, fun i => ⟨?_, .inl rfl⟩, fun i => ⟨?_, .inl rfl⟩⟩
  · rw [tr1_eq]
    have := hf (tile i)
    intro a
    fin_cases a
    · show (0 + 1) * 1 ≤ 2; omega
    · show ((fe (ix1 (tile i))).toNat + 1) * 1 ≤ 32; omega
    · show (0 + 1) * 1024 ≤ 1024; omega
    · show (0 + 1) * 2048 ≤ 2048; omega
  · rw [tr2_eq]
    have := ht (tile i)
    intro a
    fin_cases a
    · show (0 + 1) * 1 ≤ 2; omega
    · show ((te (ix1 (tile i))).toNat + 1) * 1 ≤ 32; omega
    · show (0 + 1) * 1 ≤ 1; omega
    · show (0 + 1) * 2048 ≤ 2048; omega
  · rw [tr3_eq]
    have := hf (tile i)
    intro a
    fin_cases a
    · show (0 + 1) * 1 ≤ 2; omega
    · show ((fe (ix1 (tile i))).toNat + 1) * 1 ≤ 32; omega
    · show (0 + 1) * 1024 ≤ 1024; omega
    · show (0 + 1) * 1024 ≤ 1024; omega
  · rw [tr4_eq]
    have := ht (tile i)
    intro a
    fin_cases a
    · show (0 + 1) * 1 ≤ 2; omega
    · show ((te (ix1 (tile i))).toNat + 1) * 1 ≤ 32; omega
    · show (0 + 1) * 1 ≤ 1; omega
    · show (0 + 1) * 1024 ≤ 1024; omega

/-- The tables as the pipeline admits them. -/
def adm (te tf : S304.Idx → BitVec 32) (nv : S1.Idx → BitVec 32) (fe : S304.Idx → BitVec 32)
    (ht : ∀ t : Fin 304, (te (ix1 t)).toNat < 32) (hf : ∀ t : Fin 304, (fe (ix1 t)).toNat < 32) : (pcfg0 (F := Bits)).Adm :=
  ⟨tabs te tf nv fe, ok_tabs te tf nv fe ht hf⟩

section
variable (m : (ℓ : Loc nD τ sig) → Buf (Elt Bits) ℓ)

/-- The four tables in memory. -/
abbrev mte : S304.Idx → BitVec 32 := m (((0 : Dev nD) : Thread nD τ).loc main_arg0)
abbrev mtf : S304.Idx → BitVec 32 := m (((0 : Dev nD) : Thread nD τ).loc main_arg1)
abbrev mnv : S1.Idx → BitVec 32 := m (((0 : Dev nD) : Thread nD τ).loc main_arg2)
abbrev mfe : S304.Idx → BitVec 32 := m (((0 : Dev nD) : Thread nD τ).loc main_arg3)

variable (ht : ∀ t : Fin 304, (mte m (ix1 t)).toNat < 32) (hf : ∀ t : Fin 304, (mfe m (ix1 t)).toNat < 32)

/-- The tables of a memory, as the pipeline admits them. -/
abbrev tadm : (pcfg0 (F := Bits)).Adm := adm (mte m) (mtf m) (mnv m) (mfe m) ht hf

theorem tadm_eq (c : Dev nD) (j : Fin 4) : m ((c : Thread nD τ).loc (pre0.ref j)) = (tadm m ht hf).1 j := by
  obtain rfl : c = 0 := Subsingleton.elim _ _
  fin_cases j <;> rfl
end

end Cert.Experts.Tab

end
-- ==== Proof.ExpPay.lean ====
module

public import proofs.«01_k».proof.Proof.Gen.ExpertsIdeal.Skeleton
public import Idealize.ShloMosaic.Lib.Pointwise
public import Idealize.ShloMosaic.PureOps.Ideal

@[expose] public section

set_option maxRecDepth 16384

noncomputable section

open Idealize.ShloMosaic
open scoped BigOperators

namespace Cert.Exp

open Cert.ExpertsIdeal Cert.ExpertsIdeal.Gen

theorem pay1_at (i : Fin 512) (d : Fin 1024) : k0_pay1 (F := Ideal) (ix2 i d) = (0 : EReal) := by
  pointwise [k0_pay1]

theorem pay2_at (v : FVec Ideal S512x1024 .f32) (b : Vec Ideal S1x1x1x1024 .f32) (i : Fin 512) (d : Fin 1024) :
    k0_pay2 v b (ix2 i d) = v (ix2 i d) + b (ix4 0 0 0 d) := by
  pointwise [k0_pay2]

theorem pay3_at (w : Vec Ideal S1x1x1024x2048 .f32) (k : Fin 1024) (f : Fin 2048) : k0_pay3 w (ix2 k f) = w (ix4 0 0 k f) := by
  pointwise [k0_pay3]

theorem pay4_at (w : Vec Ideal S1x1x1024x1024 .f32) (k : Fin 1024) (f : Fin 1024) : k0_pay4 w (ix2 k f) = w (ix4 0 0 k f) := by
  pointwise [k0_pay4]

/-- The gate of one entry: the clamped first half through a sigmoid, times the clamped second half plus one. -/
def act (g u : EReal) : EReal :=
  min g (Ideal.ofBits FTy.f32 0x40E00000#32) *
      Ideal.div 1 (1 + Ideal.exp (-(Ideal.ofBits FTy.f32 0x3FD9DB23#32 * min g (Ideal.ofBits FTy.f32 0x40E00000#32)))) *
    (min (Ideal.ofBits FTy.f32 0x40E00000#32) (max (Ideal.ofBits FTy.f32 0xC0E00000#32) u) + 1)

/-- One entry of an expert's output, its last bias left out: a row through the first product, the gate, and the second. -/
def mlp (x : Fin 1024 → EReal) (w1 : Fin 1024 → Fin 2048 → EReal) (b1 : Fin 2048 → EReal) (w2 : Fin 1024 → EReal) : EReal :=
  ∑ f : Fin 1024, act ((∑ k : Fin 1024, x k * w1 k ⟨f, by omega⟩) + b1 ⟨f, by omega⟩) ((∑ k : Fin 1024, x k * w1 k ⟨1024 + f, by omega⟩) + b1 ⟨1024 + f, by omega⟩) * w2 f

theorem pay5_at (x : Vec Ideal S512x1024 .bf16) (w1 : Vec Ideal S1024x2048 .bf16) (b1 : Vec Ideal S1x1x1x2048 .f32) (w2 : Vec Ideal S1024x1024 .bf16)
    (i : Fin 512) (d : Fin 1024) :
    k0_pay5 x w1 b1 w2 (ix2 i d) = mlp (fun k => x (ix2 i k)) (fun k f => w1 (ix2 k f)) (fun f => b1 (ix4 0 0 0 f)) (fun f => w2 (ix2 f d)) := by
  pointwise [k0_pay5]
  simp only [zero_sub]
  rfl

theorem mlp_congr {x x' : Fin 1024 → EReal} {w1 w1' : Fin 1024 → Fin 2048 → EReal} {b1 b1' : Fin 2048 → EReal} {w2 w2' : Fin 1024 → EReal}
    (h : ∀ k, x k = x' k) (h1 : ∀ k f, w1 k f = w1' k f) (h2 : ∀ f, b1 f = b1' f) (h3 : ∀ f, w2 f = w2' f) : mlp x w1 b1 w2 = mlp x' w1' b1' w2' := by
  obtain rfl := funext h
  obtain rfl := funext fun k => funext (h1 k)
  obtain rfl := funext h2
  obtain rfl := funext h3
  rfl

/-- The expert of a tile. -/
def expert (te : S304.Idx → BitVec 32) (t : Fin 304) : Fin 32 := ⟨(te (ix1 t)).toNat % 32, by omega⟩

/-- One entry of the experts' output: the row's tile past the used ones gives zero, any other its expert's value. -/
def ko (te : S304.Idx → BitVec 32) (nv : S1.Idx → BitVec 32) (x : FVec Ideal S155648x1024 .bf16) (w1 : FVec Ideal S2x32x1024x2048 .f32) (b1 : FVec Ideal S2x32x1x2048 .f32)
    (w2 : FVec Ideal S2x32x1024x1024 .f32) (b2 : FVec Ideal S2x32x1x1024 .f32) (t : Fin 304) (r : Fin 155648) (d : Fin 1024) : EReal :=
  if (nv (ix1 0)).toInt ≤ t.val then 0
  else mlp (fun k => x (ix2 r k)) (fun k f => w1 (ix4 0 (expert te t) k f)) (fun f => b1 (ix4 0 (expert te t) 0 f)) (fun f => w2 (ix4 0 (expert te t) f d))
    + b2 (ix4 0 (expert te t) 0 d)

/-- The experts' output as one array. -/
def KO (te : S304.Idx → BitVec 32) (nv : S1.Idx → BitVec 32) (x : FVec Ideal S155648x1024 .bf16) (w1 : FVec Ideal S2x32x1024x2048 .f32) (b1 : FVec Ideal S2x32x1x2048 .f32)
    (w2 : FVec Ideal S2x32x1024x1024 .f32) (b2 : FVec Ideal S2x32x1x1024 .f32) : FVec Ideal S155648x1024 .bf16 :=
  fun j => ko te nv x w1 b1 w2 b2 ⟨(j 0).val / 512, by have h : (j 0).val < 155648 := (j 0).isLt; omega⟩ (j 0) (j 1)

end Cert.Exp

end
-- ==== Proof.ExpFinal.lean ====
module

public import proofs.«01_k».proof.Proof.ExpTables
public import proofs.«01_k».proof.Proof.ExpPay

/-! What the experts' kernel leaves in its output array. -/

@[expose] public section

set_option maxRecDepth 16384

noncomputable section

namespace Cert.ExpertsIdeal.Tab

open Cert.ExpertsIdeal Cert.ExpertsIdeal.Gen Cert.Exp
open Idealize.ShloMosaic Idealize.ShloMosaic.TcCoe Idealize.SL.Sem

section
variable (te tf : S304.Idx → BitVec 32) (nv : S1.Idx → BitVec 32) (fe : S304.Idx → BitVec 32)
variable (ht : ∀ t : Fin 304, (te (ix1 t)).toNat < 32) (hf : ∀ t : Fin 304, (fe (ix1 t)).toNat < 32)
variable (m : (ℓ : Loc nD τ sig) → Buf (Elt Ideal) ℓ) (ρ : Dev nD → PrngReg)

theorem iblk0 (c : Dev nD) (t : Fin (cfgA (adm te tf nv fe ht hf)).N) (i : Fin 512) (k : Fin 1024) (r : Fin 155648) (hr : r.val = 512 * t.val + i.val) :
    (iblk (adm te tf nv fe ht hf) m ρ c (0 : Fin 6) t : S512x1024.Idx → Elt Ideal .bf16) (ix2 i k) = (m ((c : Thread nD τ).loc main_arg4) : S155648x1024.Idx → Elt Ideal .bf16) (ix2 r k) := by
  have hi := index0 te tf nv fe ht hf t
  unfold iblk
  blk_ext [hi]

theorem iblk2 (c : Dev nD) (t : Fin (cfgA (adm te tf nv fe ht hf)).N) (e : Fin 32) (he : e.val = (te (ix1 (tl te tf nv fe ht hf t))).toNat) (f : Fin 2048) :
    (iblk (adm te tf nv fe ht hf) m ρ c (2 : Fin 6) t : S1x1x1x2048.Idx → Elt Ideal .f32) (ix4 0 0 0 f) = (m ((c : Thread nD τ).loc main_arg6) : S2x32x1x2048.Idx → Elt Ideal .f32) (ix4 0 e 0 f) := by
  have hi := index2 te tf nv fe ht hf t
  unfold iblk
  blk_ext [hi]

theorem iblk4 (c : Dev nD) (t : Fin (cfgA (adm te tf nv fe ht hf)).N) (e : Fin 32) (he : e.val = (te (ix1 (tl te tf nv fe ht hf t))).toNat) (d : Fin 1024) :
    (iblk (adm te tf nv fe ht hf) m ρ c (4 : Fin 6) t : S1x1x1x1024.Idx → Elt Ideal .f32) (ix4 0 0 0 d) = (m ((c : Thread nD τ).loc main_arg8) : S2x32x1x1024.Idx → Elt Ideal .f32) (ix4 0 e 0 d) := by
  have hi := index4 te tf nv fe ht hf t
  unfold iblk
  blk_ext [hi]

theorem emb5 (t : Fin (cfgA (adm te tf nv fe ht hf)).N) (i : Fin 512) (d : Fin 1024) (r : Fin 155648) (hr : r.val = 512 * t.val + i.val) :
    ((((cfgA (adm te tf nv fe ht hf)).win (5 : Fin 6)).blk t).view.emb (ix2 i d) : S155648x1024.Idx) = ix2 r d := by
  have hi := index5 te tf nv fe ht hf t
  blk_ext [hi]

variable (hg : Good te tf nv fe)

theorem plan_w1 (c : Dev nD) (t : Fin (cfgA (adm te tf nv fe hg.ht hg.hf)).N) : (plan te tf nv fe hg.ht hg.hf m ρ hg.hff hg.hk c).w1 t
    = k0_pay3 (fun y : S1x1x1024x2048.Idx => (m ((c : Thread nD τ).loc main_arg5) : S2x32x1024x2048.Idx → Elt Ideal .f32) (ix4 0 (expert te (tl te tf nv fe hg.ht hg.hf t)) (y 2) (y 3))) := rfl
theorem plan_w2 (c : Dev nD) (t : Fin (cfgA (adm te tf nv fe hg.ht hg.hf)).N) : (plan te tf nv fe hg.ht hg.hf m ρ hg.hff hg.hk c).w2 t
    = k0_pay4 (fun y : S1x1x1024x1024.Idx => (m ((c : Thread nD τ).loc main_arg7) : S2x32x1024x1024.Idx → Elt Ideal .f32) (ix4 0 (expert te (tl te tf nv fe hg.ht hg.hf t)) (y 2) (y 3))) := rfl

/-- Block `t` of the output at an entry. -/
theorem point (c : Dev nD) (t : Fin (cfgA (adm te tf nv fe hg.ht hg.hf)).N) (i : Fin 512) (d : Fin 1024) (r : Fin 155648) (hr : r.val = 512 * t.val + i.val) :
    outBlk (adm te tf nv fe hg.ht hg.hf) m ρ (plan te tf nv fe hg.ht hg.hf m ρ hg.hff hg.hk) c t (ix2 i d)
      = ko te nv (m ((c : Thread nD τ).loc main_arg4)) (m ((c : Thread nD τ).loc main_arg5)) (m ((c : Thread nD τ).loc main_arg6)) (m ((c : Thread nD τ).loc main_arg7)) (m ((c : Thread nD τ).loc main_arg8))
          (tl te tf nv fe hg.ht hg.hf t) r d := by
  have he : (expert te (tl te tf nv fe hg.ht hg.hf t)).val = (te (ix1 (tl te tf nv fe hg.ht hg.hf t))).toNat := Nat.mod_eq_of_lt (hg.ht _)
  unfold outBlk ko
  by_cases h : (nv (ix1 0)).toInt ≤ ((tl te tf nv fe hg.ht hg.hf t).val : ℤ)
  · rw [if_pos ((past_iff te tf nv fe hg.ht hg.hf t).mpr h), if_pos h, pay1_at]
  · rw [if_neg (fun q => h ((past_iff te tf nv fe hg.ht hg.hf t).mp q)), if_neg h, pay2_at, pay5_at]
    refine congrArg₂ (· + ·) (mlp_congr (fun k => iblk0 te tf nv fe hg.ht hg.hf m ρ c t i k r hr) (fun k f => ?_) (fun f => iblk2 te tf nv fe hg.ht hg.hf m ρ c t _ he f) (fun f => ?_))
      (iblk4 te tf nv fe hg.ht hg.hf m ρ c t _ he d)
    · rw [plan_w1 (hg := hg)]
      exact pay3_at _ k f
    · rw [plan_w2 (hg := hg)]
      exact pay4_at _ f d

theorem flush5 : ∀ t : Fin grid0.N, Pipeline.Window.flushOf grid0 true cc0_transform_5 t = true := by
  decide +kernel

/-- Every entry of the output array lies in the block of its row's tile. -/
theorem covered (i : S155648x1024.Idx) : ∃ t : Fin (cfgA (adm te tf nv fe ht hf)).N, ((cfgA (adm te tf nv fe ht hf)).win (5 : Fin 6)).flush t = true
    ∧ i ∈ (((cfgA (adm te tf nv fe ht hf)).win (5 : Fin 6)).blk t).view.set := by
  have hl : (i 0).val < 155648 := (i 0).isLt
  obtain ⟨t, hv⟩ : ∃ t : Fin (cfgA (adm te tf nv fe ht hf)).N, t.val = (i 0).val / 512 := ⟨⟨(i 0).val / 512, by show _ < 304; omega⟩, rfl⟩
  obtain ⟨o, ho⟩ : ∃ o : Fin 512, o.val = (i 0).val % 512 := ⟨⟨(i 0).val % 512, by omega⟩, rfl⟩
  have e := emb5 te tf nv fe ht hf t o (i 1) (i 0) (by rw [hv, ho]; omega)
  have e' : (ix2 (i 0) (i 1) : S155648x1024.Idx) = i := by
    funext a
    fin_cases a <;> rfl
  refine ⟨t, flush5 _, ?_⟩
  have hm := View.emb_mem_set (((cfgA (adm te tf nv fe ht hf)).win (5 : Fin 6)).blk t).view (ix2 o (i 1))
  exact (e.trans e') ▸ hm

/-- The output array, after the last tile. -/
theorem arr_eq (c : Dev nD) :
    (dats (adm te tf nv fe hg.ht hg.hf) m ρ (plan te tf nv fe hg.ht hg.hf m ρ hg.hff hg.hk) 0 c).arrAt (5 : Fin 6) (cfgA (adm te tf nv fe hg.ht hg.hf)).N
      = KO te nv (m ((c : Thread nD τ).loc main_arg4)) (m ((c : Thread nD τ).loc main_arg5)) (m ((c : Thread nD τ).loc main_arg6)) (m ((c : Thread nD τ).loc main_arg7)) (m ((c : Thread nD τ).loc main_arg8)) := by
  refine (dats (adm te tf nv fe hg.ht hg.hf) m ρ (plan te tf nv fe hg.ht hg.hf m ρ hg.hff hg.hk) 0 c).arrAt_eq_of_emb (5 : Fin 6) _ (fun t hfl y => ?_) (covered te tf nv fe hg.ht hg.hf)
  have hl : t.val < 304 := t.isLt
  obtain ⟨i, d, rfl⟩ : ∃ (i : Fin 512) (d : Fin 1024), y = ix2 i d := ⟨y 0, y 1, by funext a; fin_cases a <;> rfl⟩
  have e := emb5 te tf nv fe hg.ht hg.hf t i d ⟨512 * t.val + i.val, by omega⟩ rfl
  refine Eq.trans ?_ (congrArg (KO te nv _ _ _ _ _) e).symm
  refine (point te tf nv fe m ρ hg c t i d ⟨512 * t.val + i.val, by omega⟩ rfl).trans ?_
  refine congrArg (fun t : Fin 304 => ko te nv _ _ _ _ _ t _ d) (Fin.ext ?_)
  show t.val = (512 * t.val + i.val) / 512
  omega
end

end Cert.ExpertsIdeal.Tab

end
-- ==== Proof.ExpRef.lean ====
module

public import proofs.«01_k».proof.Proof.Gen.ExpertsReferenceIdeal.Run
public import proofs.«01_k».proof.Proof.ExpPay

/-! The experts' reference, piece by piece, and each of its entries: the sum over the experts keeps the tile's own. -/

@[expose] public section

set_option maxRecDepth 16384

noncomputable section

open Idealize.ShloMosaic Idealize.ShloMosaic.TcCoe
open scoped BigOperators

namespace Cert.ExpRef

open Cert.ExpertsReferenceIdeal Cert.ExpertsReferenceIdeal.Gen Cert.ExpertsReferenceIdeal.Value Cert.Exp

/-- The first products, every row through every expert. -/
def hid (x : FVec Ideal S155648x1024 .bf16) (w1 : FVec Ideal S2x32x1024x2048 .f32) (b1 : FVec Ideal S2x32x1x2048 .f32) : FVec Ideal S32x155648x2048 .f32 :=
  addf (transpose S32x155648x2048 [0, 2, 1] (Host.dotGeneral dot_S32x1024x2048_S155648x1024_S32x2048x155648_1_1_02_0_n_n none (shapeCast _ (extractStridedSlice S1x32x1024x2048 ![0, 0, 0, 0] w1 slices_S2x32x1024x2048_S1x32x1024x2048_0_0_0_0) shapeCasts_S1x32x1024x2048_S32x1024x2048) (extf .f32 x bitsLt_bf16_f32)) transposes_S32x2048x155648_S32x155648x2048_0_2_1)
    (broadcastInDim S32x155648x2048 ![0, 1, 2] bcast_S32x1x2048_S32x155648x2048_0_1_2 (shapeCast _ (extractStridedSlice S1x32x1x2048 ![0, 0, 0, 0] b1 slices_S2x32x1x2048_S1x32x1x2048_0_0_0_0) shapeCasts_S1x32x1x2048_S32x1x2048))

/-- The clamped gate halves. -/
def gate (h : FVec Ideal S32x155648x2048 .f32) : FVec Ideal S32x155648x1024 .f32 :=
  minimumf (extractStridedSlice S32x155648x1024 ![0, 0, 0] h slices_S32x155648x2048_S32x155648x1024_0_0_0) (broadcastInDim S32x155648x1024 ![] bcast_S_S32x155648x1024 (constant S_ .f32 0x40E00000#32))

/-- The activations. -/
def actR (h : FVec Ideal S32x155648x2048 .f32) : FVec Ideal S32x155648x1024 .f32 :=
  mulf (mulf (gate h) (Host.divf (broadcastInDim S32x155648x1024 ![] bcast_S_S32x155648x1024 (constant S_ .f32 0x3F800000#32)) (addf (broadcastInDim S32x155648x1024 ![] bcast_S_S32x155648x1024 (constant S_ .f32 0x3F800000#32)) (Host.exp (Host.negf (mulf (broadcastInDim S32x155648x1024 ![] bcast_S_S32x155648x1024 (constant S_ .f32 0x3FD9DB23#32)) (gate h)))))))
    (addf (minimumf (broadcastInDim S32x155648x1024 ![] bcast_S_S32x155648x1024 (id (constant S_ .f32 0x40E00000#32))) (maximumf (broadcastInDim S32x155648x1024 ![] bcast_S_S32x155648x1024 (id (constant S_ .f32 0xC0E00000#32))) (extractStridedSlice S32x155648x1024 ![0, 0, 1024] h slices_S32x155648x2048_S32x155648x1024_0_0_1024))) (broadcastInDim S32x155648x1024 ![] bcast_S_S32x155648x1024 (constant S_ .f32 0x3F800000#32)))

/-- The second products, with their biases. -/
def outR (a : FVec Ideal S32x155648x1024 .f32) (w2 : FVec Ideal S2x32x1024x1024 .f32) (b2 : FVec Ideal S2x32x1x1024 .f32) : FVec Ideal S32x155648x1024 .f32 :=
  addf (Host.dotGeneral dot_S32x155648x1024_S32x1024x1024_S32x155648x1024_2_1_1_2_0_0 none a (shapeCast _ (extractStridedSlice S1x32x1024x1024 ![0, 0, 0, 0] w2 slices_S2x32x1024x1024_S1x32x1024x1024_0_0_0_0) shapeCasts_S1x32x1024x1024_S32x1024x1024))
    (broadcastInDim S32x155648x1024 ![0, 1, 2] bcast_S32x1x1024_S32x155648x1024_0_1_2 (shapeCast _ (extractStridedSlice S1x32x1x1024 ![0, 0, 0, 0] b2 slices_S2x32x1x1024_S1x32x1x1024_0_0_0_0) shapeCasts_S1x32x1x1024_S32x1x1024))

/-- Which tiles are an expert's, one bit each. -/
def bitR (te : IVec S304 32) (nv : IVec S1 32) : IVec S32x304 1 :=
  andi (cmpi .eq (broadcastInDim S32x304 ![0, 1] bcast_S1x304_S32x304_0_1 (broadcastInDim S1x304 ![1] bcast_S304_S1x304_1 te)) (broadcastInDim S32x304 ![0, 1] bcast_S32x1_S32x304_0_1 (broadcastInDim S32x1 ![0] bcast_S32_S32x1_0 (iotaInDim S32 32 0))))
    (broadcastInDim S32x304 ![0, 1] bcast_S1x304_S32x304_0_1 (broadcastInDim S1x304 ![1] bcast_S304_S1x304_1 (cmpi .slt (iotaInDim S304 32 0) (broadcastInDim S304 ![] bcast_S_S304 (shapeCast _ nv shapeCasts_S1_S_)))))

/-- The same, one number per row. -/
def maskR (b : IVec S32x304 1) : FVec Ideal S32x155648 .f32 :=
  shapeCast _ (broadcastInDim S32x304x512 ![0, 1] bcast_S32x304_S32x304x512_0_1 (uitofp .f32 b)) shapeCasts_S32x304x512_S32x155648

/-- The sum over the experts. -/
def sumR (k : FVec Ideal S32x155648 .f32) (o : FVec Ideal S32x155648x1024 .f32) : FVec Ideal S155648x1024 .bf16 :=
  truncf .bf16 (Host.reduceAdd (mulf (broadcastInDim S32x155648x1024 ![0, 1, 2] bcast_S32x155648x1_S32x155648x1024_0_1_2 (broadcastInDim S32x155648x1 ![0, 1] bcast_S32x155648_S32x155648x1_0_1 k)) o) (constant S_ .f32 0x00000000#32) reducesTo_S32x155648x1024_S155648x1024_d0 h_S_) bitsLt_bf16_f32

theorem res_eq (m : (ℓ : Loc nD τ sig) → Buf (Elt Ideal) ℓ) (c : Dev nD) :
    res_main_v53 m c = sumR (maskR (bitR (m ((c.tc : Thread nD τ).loc main_arg0)) (m ((c.tc : Thread nD τ).loc main_arg2))))
      (outR (actR (hid (m ((c.tc : Thread nD τ).loc main_arg4)) (m ((c.tc : Thread nD τ).loc main_arg5)) (m ((c.tc : Thread nD τ).loc main_arg6)))) (m ((c.tc : Thread nD τ).loc main_arg7)) (m ((c.tc : Thread nD τ).loc main_arg8))) := rfl

theorem hid_at (x : FVec Ideal S155648x1024 .bf16) (w1 : FVec Ideal S2x32x1024x2048 .f32) (b1 : FVec Ideal S2x32x1x2048 .f32) (e : Fin 32) (r : Fin 155648) (f : Fin 2048) :
    hid x w1 b1 (ix3 e r f) = (∑ k : Fin 1024, w1 (ix4 0 e k f) * x (ix2 r k)) + b1 (ix4 0 e 0 f) := by
  pointwise [hid]

theorem gate_at (h : FVec Ideal S32x155648x2048 .f32) (e : Fin 32) (r : Fin 155648) (f : Fin 1024) :
    gate h (ix3 e r f) = min (h (ix3 e r ⟨f, by omega⟩)) (Ideal.ofBits FTy.f32 0x40E00000#32) := by
  pointwise [gate]

theorem actR_at (h : FVec Ideal S32x155648x2048 .f32) (e : Fin 32) (r : Fin 155648) (f : Fin 1024) :
    actR h (ix3 e r f) = act (h (ix3 e r ⟨f, by omega⟩)) (h (ix3 e r ⟨1024 + f, by omega⟩)) := by
  pointwise [actR, gate_at]
  rfl

theorem outR_at (a : FVec Ideal S32x155648x1024 .f32) (w2 : FVec Ideal S2x32x1024x1024 .f32) (b2 : FVec Ideal S2x32x1x1024 .f32) (e : Fin 32) (r : Fin 155648) (d : Fin 1024) :
    outR a w2 b2 (ix3 e r d) = (∑ f : Fin 1024, a (ix3 e r f) * w2 (ix4 0 e f d)) + b2 (ix4 0 e 0 d) := by
  pointwise [outR]

theorem bitR_at (te : IVec S304 32) (nv : IVec S1 32) (e : Fin 32) (t : Fin 304) :
    bitR te nv (ix2 e t) = IntOp.andi (IntOp.cmpi .eq (te (ix1 t)) (BitVec.ofNat 32 e)) (IntOp.cmpi .slt (BitVec.ofNat 32 t) (nv (ix1 0))) := by
  pointwise [bitR]

theorem maskR_at (b : IVec S32x304 1) (e : Fin 32) (r : Fin 155648) : maskR b (ix2 e r) = ((b (ix2 e ⟨r / 512, by omega⟩)).toNat : EReal) := by
  pointwise [maskR]
  rfl

theorem sumR_at (k : FVec Ideal S32x155648 .f32) (o : FVec Ideal S32x155648x1024 .f32) (r : Fin 155648) (d : Fin 1024) :
    sumR k o (ix2 r d) = ∑ e : Fin 32, k (ix2 e r) * o (ix3 e r d) := by
  pointwise [sumR]

/-- A tile counts for an expert just where it is used and its table entry names that expert. -/
theorem bit_nat (te : IVec S304 32) (nv : IVec S1 32) (h : ∀ t : Fin 304, (te (ix1 t)).toNat < 32) (e : Fin 32) (t : Fin 304) :
    (bitR te nv (ix2 e t)).toNat = if e = expert te t ∧ ¬(nv (ix1 0)).toInt ≤ t.val then 1 else 0 := by
  have ht := h t
  have he : e = expert te t ↔ te (ix1 t) = BitVec.ofNat 32 e := by
    constructor
    · intro q
      have q' : e.val = (te (ix1 t)).toNat % 32 := congrArg Fin.val q
      apply BitVec.eq_of_toNat_eq
      rw [BitVec.toNat_ofNat]
      omega
    · intro q
      have q' := congrArg BitVec.toNat q
      rw [BitVec.toNat_ofNat] at q'
      exact Fin.ext (by show e.val = (te (ix1 t)).toNat % 32; omega)
  have hl : (BitVec.ofNat 32 t).slt (nv (ix1 0)) = true ↔ ¬(nv (ix1 0)).toInt ≤ t.val := by
    rw [BitVec.slt_iff_toInt_lt, BitVec.toInt_eq_toNat_of_lt (x := BitVec.ofNat 32 t) (by rw [BitVec.toNat_ofNat]; omega), BitVec.toNat_ofNat, Nat.mod_eq_of_lt (by omega)]
    omega
  rw [bitR_at]
  show (BitVec.ofBool (te (ix1 t) == BitVec.ofNat 32 e) &&& BitVec.ofBool ((BitVec.ofNat 32 t).slt (nv (ix1 0)))).toNat = _
  have hb : ∀ a b : Bool, (BitVec.ofBool a &&& BitVec.ofBool b).toNat = if a = true ∧ b = true then 1 else 0 := by decide
  rw [hb]
  exact if_congr (and_congr (beq_iff_eq.trans he.symm) hl) rfl rfl

theorem ref_at (te : IVec S304 32) (nv : IVec S1 32) (h : ∀ t : Fin 304, (te (ix1 t)).toNat < 32) (x : FVec Ideal S155648x1024 .bf16) (w1 : FVec Ideal S2x32x1024x2048 .f32)
    (b1 : FVec Ideal S2x32x1x2048 .f32) (w2 : FVec Ideal S2x32x1024x1024 .f32) (b2 : FVec Ideal S2x32x1x1024 .f32) (r : Fin 155648) (d : Fin 1024) :
    sumR (maskR (bitR te nv)) (outR (actR (hid x w1 b1)) w2 b2) (ix2 r d) = KO te nv x w1 b1 w2 b2 (ix2 r d) := by
  show _ = ko te nv x w1 b1 w2 b2 ⟨r.val / 512, by omega⟩ r d
  rw [sumR_at]
  simp only [maskR_at, bit_nat te nv h]
  unfold ko
  by_cases hv : (nv (ix1 0)).toInt ≤ ((r.val / 512 : ℕ) : ℤ)
  · rw [if_pos hv]
    refine Finset.sum_eq_zero fun e _ => ?_
    rw [if_neg (fun q => q.2 hv), Nat.cast_zero, zero_mul]
  · rw [if_neg hv]
    refine (Finset.sum_eq_single (expert te ⟨r.val / 512, by omega⟩) (fun e _ hne => ?_) (fun q => absurd (Finset.mem_univ _) q)).trans ?_
    · rw [if_neg (fun q => hne q.1), Nat.cast_zero, zero_mul]
    · rw [if_pos ⟨rfl, hv⟩, Nat.cast_one, one_mul, outR_at]
      simp only [actR_at, hid_at]
      refine congrArg (· + _) (Finset.sum_congr rfl fun f _ => congrArg (· * _) ?_)
      exact congrArg₂ act (congrArg (· + _) (Finset.sum_congr rfl fun k _ => mul_comm _ _)) (congrArg (· + _) (Finset.sum_congr rfl fun k _ => mul_comm _ _))

/-- The reference's result is the experts' output. -/
theorem res_KO (m : (ℓ : Loc nD τ sig) → Buf (Elt Ideal) ℓ) (c : Dev nD) (te : IVec S304 32) (nv : IVec S1 32) (h : ∀ t : Fin 304, (te (ix1 t)).toNat < 32) (x : FVec Ideal S155648x1024 .bf16) (w1 : FVec Ideal S2x32x1024x2048 .f32)
    (b1 : FVec Ideal S2x32x1x2048 .f32) (w2 : FVec Ideal S2x32x1024x1024 .f32) (b2 : FVec Ideal S2x32x1x1024 .f32)
    (h0 : m ((c.tc : Thread nD τ).loc main_arg0) = te) (h2 : m ((c.tc : Thread nD τ).loc main_arg2) = nv) (h4 : m ((c.tc : Thread nD τ).loc main_arg4) = x)
    (h5 : m ((c.tc : Thread nD τ).loc main_arg5) = w1) (h6 : m ((c.tc : Thread nD τ).loc main_arg6) = b1) (h7 : m ((c.tc : Thread nD τ).loc main_arg7) = w2)
    (h8 : m ((c.tc : Thread nD τ).loc main_arg8) = b2) : res_main_v53 m c = KO te nv x w1 b1 w2 b2 := by
  rw [res_eq, h0, h2, h4, h5, h6, h7, h8]
  funext j
  obtain ⟨r, d, rfl⟩ : ∃ (r : Fin 155648) (d : Fin 1024), j = ix2 r d := ⟨j 0, j 1, by funext a; fin_cases a <;> rfl⟩
  exact ref_at te nv h x w1 b1 w2 b2 r d

end Cert.ExpRef

end
-- ==== Proof.ExpClaims.lean ====
module

public import proofs.«01_k».proof.Proof.ExpTables
public import proofs.«01_k».proof.Proof.ExpPre
public import proofs.«01_k».proof.Proof.ExpFrame
public import proofs.«01_k».proof.Proof.ExpBitsAdm
public import proofs.«01_k».proof.Proof.ExpBitsFrame
public import proofs.«01_k».proof.Proof.ExpFinal
public import proofs.«01_k».proof.Proof.ExpRef
public import Idealize.ShloMosaic.Adequacy
public import Idealize.ShloMosaic.Init
public import proofs.«01_k».proof.Defs

/-! The experts' claims. -/

@[expose] public section

set_option maxRecDepth 16384

noncomputable section

open Idealize.ShloMosaic Idealize.ShloMosaic.TcCoe Idealize.SL.Sem

namespace Cert.ExpClaims

/-- The precondition, read off its printed form: what it says of the tables. -/
theorem good (m : (ℓ : Loc Cert.ExpertsIdeal.nD Cert.ExpertsIdeal.τ Cert.ExpertsIdeal.sig) → Buf (Elt Ideal) ℓ) (h : @Cert.Pre_ExpertsIdeal_tables Cert.ExpPre.facts m) :
    Cert.ExpertsIdeal.Tab.Good (Cert.ExpertsIdeal.Tab.mte m) (Cert.ExpertsIdeal.Tab.mtf m) (Cert.ExpertsIdeal.Tab.mnv m) (Cert.ExpertsIdeal.Tab.mfe m) := by
  obtain ⟨a, b, c, d⟩ := Cert.ExpPre.tables_of _ _ _ _ ((Cert.ExpPre.fn_eq (F := Ideal) _ _ _ _ _ _ _ _ _).symm.trans (h 0))
  exact ⟨a, b, c, d⟩
theorem named (m : (ℓ : Loc Cert.ExpertsIdeal.nD Cert.ExpertsIdeal.τ Cert.ExpertsIdeal.sig) → Buf (Elt Ideal) ℓ) (h : @Cert.Pre_ExpertsIdeal Cert.ExpPre.named_facts m) :
    (∀ t : Fin 304, (Cert.ExpertsIdeal.Tab.mte m (ix1 t)).toNat < 32) ∧ (∀ t : Fin 304, (Cert.ExpertsIdeal.Tab.mfe m (ix1 t)).toNat < 32) :=
  Cert.ExpPre.named_of _ _ ((Cert.ExpPre.named_eq (F := Ideal) _ _ _ _ _ _ _ _ _).symm.trans (h 0))
theorem named_bits (m : (ℓ : Loc Cert.Experts.nD Cert.Experts.τ Cert.Experts.sig) → Buf (Elt Bits) ℓ) (h : @Cert.Pre_Experts Cert.ExpPre.named_facts m) :
    (∀ t : Fin 304, (Cert.Experts.Tab.mte m (ix1 t)).toNat < 32) ∧ (∀ t : Fin 304, (Cert.Experts.Tab.mfe m (ix1 t)).toNat < 32) :=
  Cert.ExpPre.named_of _ _ ((Cert.ExpPre.named_eq (F := Bits) _ _ _ _ _ _ _ _ _).symm.trans (h 0))

attribute [local instance] Cert.Experts.Gen.facts Cert.ExpertsIdeal.Gen.facts Cert.ExpertsReferenceIdeal.Gen.facts Cert.ExpPre.facts Cert.ExpPre.named_facts

/-- The kernel's frame: it ends, its arguments unchanged and every counter at zero. -/
theorem frame_p : Cert.quiescent_Experts := by
  intro m ρ hpre
  obtain ⟨ht, hf⟩ := named_bits m hpre
  exact Cert.Experts.Tab.run_frame (Cert.Experts.Tab.tadm m ht hf) m ρ (Cert.Experts.Tab.tadm_eq m ht hf)
/-- The frame of the kernel over the extended reals. -/
theorem frame_i : Cert.quiescent_ExpertsIdeal := by
  intro m ρ hpre
  obtain ⟨ht, hf⟩ := named m hpre
  exact Cert.ExpertsIdeal.Tab.run_frame (Cert.ExpertsIdeal.Tab.tadm m ht hf) m ρ (Cert.ExpertsIdeal.Tab.tadm_eq m ht hf)
/-- The same frame under the precondition of the values. -/
theorem frame_it : Cert.quiescent_ExpertsIdeal_pre_tables := by
  intro m ρ hpre
  have hg := good m hpre
  exact Cert.ExpertsIdeal.Tab.run_frame (Cert.ExpertsIdeal.Tab.tadm m hg.ht hg.hf) m ρ (Cert.ExpertsIdeal.Tab.tadm_eq m hg.ht hg.hf)
/-- The reference's frame: the run read at the arguments; it declares no semaphore. -/
theorem frame_r : Cert.quiescent_ExpertsReferenceIdeal := fun m ρ _ =>
  (θ_run Cert.ExpertsReferenceIdeal.defs _ _).mono (fun r h => ⟨fun c => (h c).2, Idealize.ShloMosaic.sem_eq_zero_of_no_sems (by decide) r.2⟩)
    (Cert.ExpertsReferenceIdeal.Value.run (F := Ideal) m ρ)
/-- The same frame under the precondition. -/
theorem frame_rt : Cert.quiescent_ExpertsReferenceIdeal_pre_tables := fun m ρ _ => frame_r m ρ trivial
/-- Nothing of the kernel is rewritten. -/
theorem preserves : Cert.preserves_Experts_ExpertsIdeal := trivial

/-- The kernel's array and the reference's are one, from the same rows, weights and tables. -/
theorem algebraic : Cert.algebraic_ExpertsIdeal_ExpertsReferenceIdeal_pre_tables := by
  intro m g m' g' hp hm
  have hg := good m hp
  refine ⟨fun c => (Cert.Exp.KO (Cert.ExpertsIdeal.Tab.mte m) (Cert.ExpertsIdeal.Tab.mnv m) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))), ?_, ?_⟩
  · refine (θ_run Cert.ExpertsIdeal.defs _ _).mono (fun r h c => ⟨(h.1 c).1.trans ?_, (h.1 c).2⟩)
      (Cert.ExpertsIdeal.Tab.run_all (Cert.ExpertsIdeal.Tab.madm m hg) m g (Cert.ExpertsIdeal.Tab.mplan m g hg) (Cert.ExpertsIdeal.Tab.tadm_eq m hg.ht hg.hf))
    exact Cert.ExpertsIdeal.Tab.arr_eq _ _ _ _ m g hg c
  · refine (θ_run Cert.ExpertsReferenceIdeal.defs _ _).mono (fun r h c => ⟨(h c).1.trans ?_, (h c).2⟩) (Cert.ExpertsReferenceIdeal.Value.run m' g')
    obtain rfl : c = 0 := Subsingleton.elim _ _
    obtain ⟨h0, _, h2, _, h4, h5, h6, h7, h8⟩ := hm 0
    exact Cert.ExpRef.res_KO m' 0 _ _ hg.ht _ _ _ _ _ h0 h2 h4 h5 h6 h7 h8

end Cert.ExpClaims

end
-- ==== Proof.FinKernel.lean ====
module

public import proofs.«01_k».proof.Proof.Gen.FinalIdeal.Value
public import Idealize.ShloMosaic.Lib.Pointwise
public import Idealize.ShloMosaic.Lib.Pipeline.ValueKit

/-! What the final norm's kernel leaves in its output array. -/

@[expose] public section

set_option maxRecDepth 16384

noncomputable section

open Idealize.ShloMosaic Idealize.ShloMosaic.TcCoe Idealize.SL.Sem
open scoped BigOperators

namespace Cert.Fin4

open Cert.FinalIdeal Cert.FinalIdeal.Gen

/-- The gated residual of one entry: the row's own number plus the gate times the weighted sum of the four experts. -/
def mix (x g : EReal) (w y : Fin 4 → EReal) : EReal := x + g * ∑ k, w k * y k

/-- One entry of a row divided by its root mean square, the mean plus a small constant, times a weight. -/
def norm (x : Fin 1024 → EReal) (w : EReal) (d : Fin 1024) : EReal :=
  x d * Ideal.rsqrt (Ideal.div (∑ k, x k * x k) (Ideal.ofBits FTy.f32 0x44800000#32) + Ideal.ofBits FTy.f32 0x358637BD#32) * w

/-- The row of the residual stream that row `r` of the result is made from: each sample's context rows come first. -/
def row (r : Fin 32768) : Fin 34816 := ⟨r / 4096 * 4352 + (256 + r % 4096), by omega⟩

/-- One entry of the result. -/
def ko (x : FVec Ideal S34816x1024 .f32) (y : FVec Ideal S139264x1024 .bf16) (w : FVec Ideal S34816x4 .f32) (md : FVec Ideal S16x6x1024 .f32) (g : FVec Ideal S1x1024 .f32)
    (r : Fin 32768) (d : Fin 1024) : EReal :=
  norm (fun d => mix (x (ix2 (row r) d)) (md (ix3 ⟨r / 4096 * 2 + 1, by omega⟩ 5 d)) (fun k => w (ix2 (row r) k))
    (fun k => y (ix2 ⟨k * 34816 + row r, by have := (row r).isLt; omega⟩ d))) (g (ix2 0 d)) d

/-- The result as one array. -/
def KO (x : FVec Ideal S34816x1024 .f32) (y : FVec Ideal S139264x1024 .bf16) (w : FVec Ideal S34816x4 .f32) (md : FVec Ideal S16x6x1024 .f32) (g : FVec Ideal S1x1024 .f32) :
    FVec Ideal S32768x1024 .f32 :=
  fun j => ko x y w md g (j 0) (j 1)

theorem norm_congr {x x' : Fin 1024 → EReal} {w w' : EReal} (d : Fin 1024) (h : ∀ k, x k = x' k) (hw : w = w') : norm x w d = norm x' w' d := by
  obtain rfl := funext h
  subst hw
  rfl

theorem mix_congr {x x' g g' : EReal} {w w' y y' : Fin 4 → EReal} (hx : x = x') (hg : g = g') (hw : ∀ k, w k = w' k) (hy : ∀ k, y k = y' k) :
    mix x g w y = mix x' g' w' y' := by
  obtain rfl := funext hw
  obtain rfl := funext hy
  subst hx hg
  rfl

/-- The payload at an entry. -/
theorem pay_at (v0 : Vec Ideal S256x1024 .f32) (v1 : Vec Ideal S1x1x1024 .f32) (v3 : Vec Ideal S256x4 .f32) (v5 v10 v16 v22 : Vec Ideal S256x1024 .bf16) (v40 : Vec Ideal S1x1024 .f32)
    (i : Fin 256) (d : Fin 1024) :
    k0_pay1 (k0_pay2 v0 v1 v3 v5 v10 v16 v22) v40 (ix2 i d)
      = norm (fun d => mix (v0 (ix2 i d)) (v1 (ix3 0 0 d)) (fun k => v3 (ix2 i k)) ![v5 (ix2 i d), v10 (ix2 i d), v16 (ix2 i d), v22 (ix2 i d)]) (v40 (ix2 0 d)) d := by
  pointwise [k0_pay1, k0_pay2]
  simp only [norm, mix, Fin.sum_univ_four]
  rfl

variable (m : (ℓ : Loc nD τ sig) → Buf (Elt Ideal) ℓ)

theorem idx_val : ∀ t : Fin cfg0.N, win0_0.index t = ![t.val / 16 * 17 + 1 + t.val % 16, 0]
    ∧ win0_1.index t = ![t.val / 16 * 17 + 1 + t.val % 16, 0]
    ∧ win0_2.index t = ![t.val / 16 * 17 + 1 + t.val % 16 + 136, 0]
    ∧ win0_3.index t = ![t.val / 16 * 17 + 1 + t.val % 16 + 272, 0]
    ∧ win0_4.index t = ![t.val / 16 * 17 + 1 + t.val % 16 + 408, 0]
    ∧ win0_5.index t = ![t.val / 16 * 17 + 1 + t.val % 16, 0]
    ∧ win0_6.index t = ![2 * (t.val / 16) + 1, 0, 0]
    ∧ win0_7.index t = ![0, 0]
    ∧ win0_8.index t = ![t.val, 0] :=
  (by decide +kernel : ∀ t : Fin grid0.N, _)

theorem emb_eq (t : Fin cfg0.N) (i : Fin 256) (d : Fin 1024) (r : Fin 32768) (hr : r.val = 256 * t.val + i.val) :
    (((cfg0.win 8).blk t).view.emb (ix2 i d) : S32768x1024.Idx) = ix2 r d := by
  blk_ext [idx_val t]

theorem x_at (c : Dev nD) (t : Fin cfg0.N) (i : Fin 256) (d : Fin 1024) (q : Fin 34816) (hq : q.val = 256 * (t.val / 16 * 17 + 1 + t.val % 16) + i.val) :
    (iblk m c 0 t : Vec Ideal S256x1024 .f32) (ix2 i d) = (m ((c : Thread nD τ).loc main_arg0) : Vec Ideal S34816x1024 .f32) (ix2 q d) := by
  blk_ext [iblk, V, idx_val t]
theorem y0_at (c : Dev nD) (t : Fin cfg0.N) (i : Fin 256) (d : Fin 1024) (q : Fin 139264) (hq : q.val = 256 * (t.val / 16 * 17 + 1 + t.val % 16) + i.val) :
    (iblk m c 1 t : Vec Ideal S256x1024 .bf16) (ix2 i d) = (m ((c : Thread nD τ).loc main_arg1) : Vec Ideal S139264x1024 .bf16) (ix2 q d) := by
  blk_ext [iblk, V, idx_val t]
theorem y1_at (c : Dev nD) (t : Fin cfg0.N) (i : Fin 256) (d : Fin 1024) (q : Fin 139264) (hq : q.val = 256 * (t.val / 16 * 17 + 1 + t.val % 16 + 136) + i.val) :
    (iblk m c 2 t : Vec Ideal S256x1024 .bf16) (ix2 i d) = (m ((c : Thread nD τ).loc main_arg1) : Vec Ideal S139264x1024 .bf16) (ix2 q d) := by
  blk_ext [iblk, V, idx_val t]
theorem y2_at (c : Dev nD) (t : Fin cfg0.N) (i : Fin 256) (d : Fin 1024) (q : Fin 139264) (hq : q.val = 256 * (t.val / 16 * 17 + 1 + t.val % 16 + 272) + i.val) :
    (iblk m c 3 t : Vec Ideal S256x1024 .bf16) (ix2 i d) = (m ((c : Thread nD τ).loc main_arg1) : Vec Ideal S139264x1024 .bf16) (ix2 q d) := by
  blk_ext [iblk, V, idx_val t]
theorem y3_at (c : Dev nD) (t : Fin cfg0.N) (i : Fin 256) (d : Fin 1024) (q : Fin 139264) (hq : q.val = 256 * (t.val / 16 * 17 + 1 + t.val % 16 + 408) + i.val) :
    (iblk m c 4 t : Vec Ideal S256x1024 .bf16) (ix2 i d) = (m ((c : Thread nD τ).loc main_arg1) : Vec Ideal S139264x1024 .bf16) (ix2 q d) := by
  blk_ext [iblk, V, idx_val t]
theorem w_at (c : Dev nD) (t : Fin cfg0.N) (i : Fin 256) (k : Fin 4) (q : Fin 34816) (hq : q.val = 256 * (t.val / 16 * 17 + 1 + t.val % 16) + i.val) :
    (iblk m c 5 t : Vec Ideal S256x4 .f32) (ix2 i k) = (m ((c : Thread nD τ).loc main_arg2) : Vec Ideal S34816x4 .f32) (ix2 q k) := by
  blk_ext [iblk, V, idx_val t]
theorem md_at (c : Dev nD) (t : Fin cfg0.N) (d : Fin 1024) (b : Fin 16) (hb : b.val = 2 * (t.val / 16) + 1) :
    (View.ld (iblk m c 6 t) r0_1 : Vec Ideal S1x1x1024 .f32) (ix3 0 0 d) = (m ((c : Thread nD τ).loc main_arg3) : Vec Ideal S16x6x1024 .f32) (ix3 b 5 d) := by
  pointwise
  blk_ext [iblk, V, idx_val t]
theorem g_at (c : Dev nD) (t : Fin cfg0.N) (d : Fin 1024) :
    (iblk m c 7 t : Vec Ideal S1x1024 .f32) (ix2 0 d) = (m ((c : Thread nD τ).loc main_arg4) : Vec Ideal S1x1024 .f32) (ix2 0 d) := by
  blk_ext [iblk, V, idx_val t]

/-- Block `t` at an entry. -/
theorem point (c : Dev nD) (t : Fin cfg0.N) (y : S256x1024.Idx) :
    (out0_8 (iblk m c 0 t) (iblk m c 1 t) (iblk m c 2 t) (iblk m c 3 t) (iblk m c 4 t) (iblk m c 5 t) (iblk m c 6 t) (iblk m c 7 t)) y
      = KO (m ((c : Thread nD τ).loc main_arg0)) (m ((c : Thread nD τ).loc main_arg1)) (m ((c : Thread nD τ).loc main_arg2)) (m ((c : Thread nD τ).loc main_arg3))
          (m ((c : Thread nD τ).loc main_arg4)) (((cfg0.win 8).blk t).view.emb y) := by
  obtain ⟨i, d, rfl⟩ : ∃ (i : Fin 256) (d : Fin 1024), y = ix2 i d := ⟨y 0, y 1, by funext a; fin_cases a <;> rfl⟩
  have ht : t.val < 128 := t.isLt
  have hi := i.isLt
  have hr : 256 * t.val + i.val < 32768 := by omega
  rw [emb_eq t i d ⟨256 * t.val + i.val, hr⟩ rfl]
  have hq : (row ⟨256 * t.val + i.val, hr⟩).val = 256 * (t.val / 16 * 17 + 1 + t.val % 16) + i.val := by
    show (256 * t.val + i.val) / 4096 * 4352 + (256 + (256 * t.val + i.val) % 4096) = _
    omega
  frame_out
  refine (pay_at _ _ _ _ _ _ _ _ i d).trans ?_
  show _ = ko _ _ _ _ _ (⟨256 * t.val + i.val, hr⟩ : Fin 32768) d
  unfold ko
  refine norm_congr d (fun d => mix_congr ?_ ?_ (fun k => ?_) (fun k => ?_)) ?_
  · exact x_at m c t i d _ hq
  · exact md_at m c t d _ (show (256 * t.val + i.val) / 4096 * 2 + 1 = _ by omega)
  · exact w_at m c t i k _ hq
  · match k with
    | 0 =>
      refine y0_at m c t i d _ ?_
      show 0 * 34816 + (row _).val = _
      rw [hq]; omega
    | 1 =>
      refine y1_at m c t i d _ ?_
      show 1 * 34816 + (row _).val = _
      rw [hq]; omega
    | 2 =>
      refine y2_at m c t i d _ ?_
      show 2 * 34816 + (row _).val = _
      rw [hq]; omega
    | 3 =>
      refine y3_at m c t i d _ ?_
      show 3 * 34816 + (row _).val = _
      rw [hq]; omega
  · exact g_at m c t d

/-- The result array after the run. -/
theorem final (c : Dev nD) : (dats m 0 c).arrAt 8 (cfgs 0).N = KO (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 8 _ (by decide +kernel) fun t hf y => ?_
  blk_simp
  rw [after0_8]
  exact point m c t y

end Cert.Fin4

end
-- ==== Proof.FinRef.lean ====
module

public import proofs.«01_k».proof.Proof.Gen.FinalReferenceIdeal.Run
public import proofs.«01_k».proof.Proof.FinKernel

/-! What the final norm's reference computes. -/

@[expose] public section

set_option maxRecDepth 16384

noncomputable section

open Idealize.ShloMosaic Idealize.ShloMosaic.TcCoe
open scoped BigOperators

namespace Cert.FinRef

open Cert.FinalReferenceIdeal Cert.FinalReferenceIdeal.Gen Cert.FinalReferenceIdeal.Value Cert.Fin4

/-- The latent rows of the residual stream. -/
def latR (x : FVec Ideal S34816x1024 .f32) : FVec Ideal S8x4096x1024 .f32 :=
  extractStridedSlice S8x4096x1024 ![0, 256, 0] (shapeCast _ x shapeCasts_S34816x1024_S8x4352x1024) slices_S8x4352x1024_S8x4096x1024_0_256_0

/-- The latent tokens' gates. -/
def gateR (md : FVec Ideal S16x6x1024 .f32) : FVec Ideal S8x4096x1024 .f32 :=
  broadcastInDim S8x4096x1024 ![0, 1, 2] bcast_S8x1x1024_S8x4096x1024_0_1_2 (broadcastInDim S8x1x1024 ![0, 2] bcast_S8x1024_S8x1x1024_0_2 (shapeCast _ (extractStridedSlice S8x1x1x1024 ![0, 1, 5, 0] (shapeCast _ md shapeCasts_S16x6x1024_S8x2x6x1024) slices_S8x2x6x1024_S8x1x1x1024_0_1_5_0) shapeCasts_S8x1x1x1024_S8x1024))

/-- The experts' weights, one array per expert of a token. -/
def wR (w : FVec Ideal S34816x4 .f32) : FVec Ideal S4x8x4096x1024 .f32 :=
  broadcastInDim S4x8x4096x1024 ![0, 1, 2, 3] bcast_S4x8x4096x1_S4x8x4096x1024_0_1_2_3 (broadcastInDim S4x8x4096x1 ![0, 1, 2] bcast_S4x8x4096_S4x8x4096x1_0_1_2 (transpose S4x8x4096 [2, 0, 1] (extractStridedSlice S8x4096x4 ![0, 256, 0] (shapeCast _ w shapeCasts_S34816x4_S8x4352x4) slices_S8x4352x4_S8x4096x4_0_256_0) transposes_S8x4096x4_S4x8x4096_2_0_1))

/-- The experts' rows. -/
def yR (y : FVec Ideal S139264x1024 .bf16) : FVec Ideal S4x8x4096x1024 .f32 :=
  extractStridedSlice S4x8x4096x1024 ![0, 0, 256, 0] (shapeCast _ (extf .f32 y bitsLt_bf16_f32) shapeCasts_S139264x1024_S4x8x4352x1024) slices_S4x8x4352x1024_S4x8x4096x1024_0_0_256_0

/-- The weighted sum. -/
def sumR (w y : FVec Ideal S4x8x4096x1024 .f32) : FVec Ideal S8x4096x1024 .f32 :=
  Host.reduceAdd (mulf w y) (constant S_ .f32 0x00000000#32) reducesTo_S4x8x4096x1024_S8x4096x1024_d0 h_S_

/-- The gated residual. -/
def mixR (x : FVec Ideal S34816x1024 .f32) (y : FVec Ideal S139264x1024 .bf16) (w : FVec Ideal S34816x4 .f32) (md : FVec Ideal S16x6x1024 .f32) : FVec Ideal S8x4096x1024 .f32 :=
  addf (latR x) (mulf (gateR md) (sumR (wR w) (yR y)))

/-- The reciprocal root mean squares. -/
def rmsR (z : FVec Ideal S8x4096x1024 .f32) : FVec Ideal S8x4096x1 .f32 :=
  Host.rsqrt (addf (Host.divf (broadcastInDim S8x4096x1 ![0, 1] bcast_S8x4096_S8x4096x1_0_1 (Host.reduceAdd (mulf z z) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))

/-- The norm. -/
def normR (z : FVec Ideal S8x4096x1024 .f32) (g : FVec Ideal S1x1024 .f32) : FVec Ideal S32768x1024 .f32 :=
  shapeCast _ (mulf (mulf z (broadcastInDim S8x4096x1024 ![0, 1, 2] bcast_S8x4096x1_S8x4096x1024_0_1_2 (rmsR z))) (broadcastInDim S8x4096x1024 ![0, 1, 2] bcast_S1x1x1024_S8x4096x1024_0_1_2 (broadcastInDim S1x1x1024 ![2] bcast_S1024_S1x1x1024_2 (shapeCast _ g shapeCasts_S1x1024_S1024)))) shapeCasts_S8x4096x1024_S32768x1024

theorem res_eq (m : (ℓ : Loc nD τ sig) → Buf (Elt Ideal) ℓ) (c : Dev nD) :
    res_main_v33 m c = normR (mixR (m ((c.tc : Thread nD τ).loc main_arg0)) (m ((c.tc : Thread nD τ).loc main_arg1)) (m ((c.tc : Thread nD τ).loc main_arg2)) (m ((c.tc : Thread nD τ).loc main_arg3)))
      (m ((c.tc : Thread nD τ).loc main_arg4)) := rfl

theorem latR_at (x : FVec Ideal S34816x1024 .f32) (b : Fin 8) (s : Fin 4096) (d : Fin 1024) :
    latR x (ix3 b s d) = x (ix2 ⟨b * 4352 + (256 + s), by omega⟩ d) := by
  pointwise [latR]

theorem gateR_at (md : FVec Ideal S16x6x1024 .f32) (b : Fin 8) (s : Fin 4096) (d : Fin 1024) :
    gateR md (ix3 b s d) = md (ix3 ⟨b * 2 + 1, by omega⟩ 5 d) := by
  pointwise [gateR]

theorem wR_at (w : FVec Ideal S34816x4 .f32) (k : Fin 4) (b : Fin 8) (s : Fin 4096) (d : Fin 1024) :
    wR w (ix4 k b s d) = w (ix2 ⟨b * 4352 + (256 + s), by omega⟩ k) := by
  pointwise [wR]

theorem yR_at (y : FVec Ideal S139264x1024 .bf16) (k : Fin 4) (b : Fin 8) (s : Fin 4096) (d : Fin 1024) :
    yR y (ix4 k b s d) = y (ix2 ⟨k * 34816 + (b * 4352 + (256 + s)), by omega⟩ d) := by
  pointwise [yR]
  simp only [Nat.add_assoc]

theorem sumR_at (w y : FVec Ideal S4x8x4096x1024 .f32) (b : Fin 8) (s : Fin 4096) (d : Fin 1024) :
    sumR w y (ix3 b s d) = ∑ k : Fin 4, w (ix4 k b s d) * y (ix4 k b s d) := by
  pointwise [sumR]

theorem mixR_at (x : FVec Ideal S34816x1024 .f32) (y : FVec Ideal S139264x1024 .bf16) (w : FVec Ideal S34816x4 .f32) (md : FVec Ideal S16x6x1024 .f32) (b : Fin 8) (s : Fin 4096) (d : Fin 1024) :
    mixR x y w md (ix3 b s d) = mix (x (ix2 ⟨b * 4352 + (256 + s), by omega⟩ d)) (md (ix3 ⟨b * 2 + 1, by omega⟩ 5 d)) (fun k => w (ix2 ⟨b * 4352 + (256 + s), by omega⟩ k))
      (fun k => y (ix2 ⟨k * 34816 + (b * 4352 + (256 + s)), by omega⟩ d)) := by
  refine (congrArg₂ (· + ·) (latR_at x b s d) (congrArg₂ (· * ·) (gateR_at md b s d) ((sumR_at _ _ b s d).trans (Finset.sum_congr rfl fun k _ =>
    congrArg₂ (· * ·) (wR_at w k b s d) (yR_at y k b s d)))) : _)

theorem rmsR_at (z : FVec Ideal S8x4096x1024 .f32) (b : Fin 8) (s : Fin 4096) :
    rmsR z (ix3 b s 0) = Ideal.rsqrt (Ideal.div (∑ k : Fin 1024, z (ix3 b s k) * z (ix3 b s k)) (Ideal.ofBits FTy.f32 0x44800000#32) + Ideal.ofBits FTy.f32 0x358637BD#32) := by
  pointwise [rmsR]

theorem normR_at (z : FVec Ideal S8x4096x1024 .f32) (g : FVec Ideal S1x1024 .f32) (r : Fin 32768) (d : Fin 1024) :
    normR z g (ix2 r d) = z (ix3 ⟨r / 4096, by omega⟩ ⟨r % 4096, by omega⟩ d) * rmsR z (ix3 ⟨r / 4096, by omega⟩ ⟨r % 4096, by omega⟩ 0) * g (ix2 0 d) := by
  pointwise [normR]

/-- The reference's array is the kernel's. -/
theorem whole_eq (x : FVec Ideal S34816x1024 .f32) (y : FVec Ideal S139264x1024 .bf16) (w : FVec Ideal S34816x4 .f32) (md : FVec Ideal S16x6x1024 .f32) (g : FVec Ideal S1x1024 .f32) :
    normR (mixR x y w md) g = KO x y w md g := by
  have key : ∀ (r : Fin 32768) (d : Fin 1024), normR (mixR x y w md) g (ix2 r d) = ko x y w md g r d := fun r d => by
    rw [normR_at, rmsR_at]
    exact norm_congr (x := fun k => mixR x y w md (ix3 ⟨r / 4096, by omega⟩ ⟨r % 4096, by omega⟩ k)) d (fun k => mixR_at x y w md _ _ k) rfl
  funext j
  refine (congrArg (normR (mixR x y w md) g) (?_ : j = ix2 (j 0) (j 1))).trans (key (j 0) (j 1))
  funext a; fin_cases a <;> rfl

end Cert.FinRef

end
-- ==== Proof.FinClaims.lean ====
module

public import proofs.«01_k».proof.Defs
public import proofs.«01_k».proof.Proof.Gen.Final.Frame
public import proofs.«01_k».proof.Proof.FinKernel
public import proofs.«01_k».proof.Proof.FinRef
public import Idealize.ShloMosaic.Adequacy
public import Idealize.ShloMosaic.Init

@[expose] public section

noncomputable section

open Idealize.ShloMosaic Idealize.SL.Sem

namespace Cert.FinClaims

attribute [local instance] Cert.Final.Gen.facts Cert.FinalIdeal.Gen.facts Cert.FinalReferenceIdeal.Gen.facts

/-- The kernel's frame: it ends, its arguments unchanged and every counter at zero. -/
theorem frame_p : Cert.quiescent_Final := fun m ρ _ => Cert.Final.Gen.frame m ρ
/-- The frame of the kernel over the extended reals. -/
theorem frame_i : Cert.quiescent_FinalIdeal := fun m ρ _ => Cert.FinalIdeal.Gen.frame m ρ
/-- The reference's frame: the run read at the arguments; it declares no semaphore. -/
theorem frame_r : Cert.quiescent_FinalReferenceIdeal := fun m ρ _ =>
  (θ_run Cert.FinalReferenceIdeal.defs _ _).mono (fun r h => ⟨fun c => (h c).2, Idealize.ShloMosaic.sem_eq_zero_of_no_sems (by decide) r.2⟩)
    (Cert.FinalReferenceIdeal.Value.run (F := Ideal) m ρ)
/-- Nothing of the kernel is rewritten. -/
theorem preserves : Cert.preserves_Final_FinalIdeal := trivial

/-- The kernel's array and the reference's are one, from the same arguments. -/
theorem algebraic : Cert.algebraic_FinalIdeal_FinalReferenceIdeal := by
  intro m g m' g' hp hm
  refine ⟨fun c => Cert.Fin4.KO (m ((c.tc : Thread Cert.FinalIdeal.nD Cert.FinalIdeal.τ).loc Cert.FinalIdeal.main_arg0)) (m ((c.tc : Thread Cert.FinalIdeal.nD Cert.FinalIdeal.τ).loc Cert.FinalIdeal.main_arg1)) (m ((c.tc : Thread Cert.FinalIdeal.nD Cert.FinalIdeal.τ).loc Cert.FinalIdeal.main_arg2)) (m ((c.tc : Thread Cert.FinalIdeal.nD Cert.FinalIdeal.τ).loc Cert.FinalIdeal.main_arg3)) (m ((c.tc : Thread Cert.FinalIdeal.nD Cert.FinalIdeal.τ).loc Cert.FinalIdeal.main_arg4)), ?_, ?_⟩
  · exact (θ_run Cert.FinalIdeal.defs _ _).mono (fun r h c => ⟨(h c).1.trans (Cert.Fin4.final m c), (h c).2⟩) (Cert.FinalIdeal.Value.run_blocks m g)
  · refine (θ_run Cert.FinalReferenceIdeal.defs _ _).mono (fun r h c => ⟨(h c).1.trans ((Cert.FinRef.res_eq m' c).trans ?_), (h c).2⟩) (Cert.FinalReferenceIdeal.Value.run m' g')
    obtain ⟨h0, h1, h2, h3, h4⟩ := hm c
    rw [h0, h1, h2, h3, h4]
    exact Cert.FinRef.whole_eq _ _ _ _ _

end Cert.FinClaims

end
-- ==== Proof.PrjKernel.lean ====
module

public import proofs.«01_k».proof.Proof.Gen.ProjectionIdeal.Value
public import Idealize.ShloMosaic.Lib.Pointwise
public import Idealize.ShloMosaic.Lib.Pipeline.ValueKit

/-! What the projection's kernel leaves in three of its output arrays. -/

@[expose] public section

set_option maxRecDepth 16384

noncomputable section

open Idealize.ShloMosaic Idealize.ShloMosaic.TcCoe Idealize.SL.Sem
open Idealize.ShloMosaic.Pipeline (Dat)
open scoped BigOperators

namespace Cert.Prj

open Cert.ProjectionIdeal Cert.ProjectionIdeal.Gen

/-- One entry of a row's modulated norm: the row over its root mean square, times the gain and one plus the scale, plus the shift. -/
def nrm (x : Fin 1024 → EReal) (g sc sh : EReal) (d : Fin 1024) : EReal :=
  x d * Ideal.rsqrt (Ideal.div (∑ k, x k * x k) (Ideal.ofBits FTy.f32 0x44800000#32) + Ideal.ofBits FTy.f32 0x358637BD#32) * (g * (1 + sc)) + sh

theorem nrm_congr {x x' : Fin 1024 → EReal} {g g' sc sc' sh sh' : EReal} (d : Fin 1024) (h : ∀ k, x k = x' k) (hg : g = g') (hc : sc = sc') (hs : sh = sh') :
    nrm x g sc sh d = nrm x' g' sc' sh' d := by
  obtain rfl := funext h
  subst hg hc hs
  rfl

/-- The row of the modulation that a token takes: its sample's first row for a context token, the second for a latent token. -/
def mrow (r : Fin 34816) : Fin 16 := if h : r.val % 4352 < 256 then ⟨r / 4352 * 2, by omega⟩ else ⟨r / 4352 * 2 + 1, by omega⟩

/-- The modulated norm of a token, entry by entry. -/
def hv (x : FVec Ideal S34816x1024 .f32) (md : FVec Ideal S16x6x1024 .f32) (g : FVec Ideal S1x1024 .f32) (r : Fin 34816) (d : Fin 1024) : EReal :=
  nrm (fun k => x (ix2 r k)) (g (ix2 0 d)) (md (ix3 (mrow r) 1 d)) (md (ix3 (mrow r) 0 d)) d

/-- One entry of the combined projection. -/
def pv (x : FVec Ideal S34816x1024 .f32) (md : FVec Ideal S16x6x1024 .f32) (g : FVec Ideal S1x1024 .f32) (w : FVec Ideal S1024x7424 .bf16) (r : Fin 34816) (e : Fin 7424) : EReal :=
  ∑ k : Fin 1024, hv x md g r k * w (ix2 k e)

/-- One over one plus the exponential of the number's negative. -/
def sgm (z : EReal) : EReal := Ideal.div 1 (1 + Ideal.exp (-z))

/-- The attention's values. -/
def KV (x : FVec Ideal S34816x1024 .f32) (md : FVec Ideal S16x6x1024 .f32) (g : FVec Ideal S1x1024 .f32) (w : FVec Ideal S1024x7424 .bf16) : FVec Ideal S34816x128 .bf16 :=
  fun j => pv x md g w (j 0) ⟨2688 + (j 1 : Fin 128), by have : (j 1).val < 128 := (j 1).isLt; show 2688 + (j 1).val < 7424; omega⟩

/-- The convolution's input. -/
def KH (x : FVec Ideal S34816x1024 .f32) (md : FVec Ideal S16x6x1024 .f32) (g : FVec Ideal S1x1024 .f32) (w : FVec Ideal S1024x7424 .bf16) : FVec Ideal S34816x1536 .bf16 :=
  fun j => pv x md g w (j 0) ⟨2816 + (j 1 : Fin 1536), by have : (j 1).val < 1536 := (j 1).isLt; show 2816 + (j 1).val < 7424; omega⟩

/-- The merge gates. -/
def KG (x : FVec Ideal S34816x1024 .f32) (md : FVec Ideal S16x6x1024 .f32) (g : FVec Ideal S1x1024 .f32) (w : FVec Ideal S1024x7424 .bf16) (b : FVec Ideal S1x3072 .f32) : FVec Ideal S34816x3072 .bf16 :=
  fun j => sgm (pv x md g w (j 0) ⟨4352 + (j 1 : Fin 3072), by have : (j 1).val < 3072 := (j 1).isLt; show 4352 + (j 1).val < 7424; omega⟩ + b (ix2 0 (j 1)))

/-- The first half of a block's modulated rows. -/
theorem pay3_at (v0 : Vec Ideal S256x1024 .f32) (v1 : Vec Ideal S1x1024 .f32) (v2 v4 : Vec Ideal S1x1x1024 .f32) (i : Fin 256) (d : Fin 1024) :
    k0_pay3 v0 v1 v2 v4 (ix2 i d) = nrm (fun k => v0 (ix2 i k)) (v1 (ix2 0 d)) (v4 (ix3 0 0 d)) (v2 (ix3 0 0 d)) d := by
  pointwise [k0_pay3]
  rfl

/-- The modulated rows of a block, first half. -/
theorem pay7_lo (v23 : FVec Ideal S256x1024 .bf16) (v24 : Vec Ideal S256x1024 .f32) (v25 : Vec Ideal S1x1024 .f32) (v26 v28 : Vec Ideal S1x1x1024 .f32) (i : Fin 512) (h : i.val < 256) (d : Fin 1024) :
    k0_pay7 v23 v24 v25 (k0_pay4 v26) (k0_pay5 v28) (k0_pay6 v24) (Scalar.ofBits .f32 0x44800000#32) (ix2 i d) = v23 (ix2 ⟨i, h⟩ d) := by
  pointwise [k0_pay7]
  rw [dif_pos h]

/-- The modulated rows of a block, second half. -/
theorem pay7_hi (v23 : FVec Ideal S256x1024 .bf16) (v24 : Vec Ideal S256x1024 .f32) (v25 : Vec Ideal S1x1024 .f32) (v26 v28 : Vec Ideal S1x1x1024 .f32) (i : Fin 512) (h : ¬ i.val < 256) (d : Fin 1024) :
    k0_pay7 v23 v24 v25 (k0_pay4 v26) (k0_pay5 v28) (k0_pay6 v24) (Scalar.ofBits .f32 0x44800000#32) (ix2 i d)
      = nrm (fun k => v24 (ix2 ⟨i - 256, by omega⟩ k)) (v25 (ix2 0 d)) (v28 (ix3 0 0 d)) (v26 (ix3 0 0 d)) d := by
  pointwise [k0_pay7, k0_pay4, k0_pay5, k0_pay6]
  rw [dif_neg h]
  rfl

/-- The attention's values from a block's modulated rows. -/
theorem pay32_at (v48 : FVec Ideal S512x1024 .bf16) (v127 : Vec Ideal S1024x768 .bf16) (i : Fin 512) (d : Fin 128) :
    k0_pay32 (k0_pay24 v48 v127) (ix2 i d) = ∑ k : Fin 1024, v48 (ix2 i k) * v127 (ix2 k ⟨640 + d, by omega⟩) := by
  pointwise [k0_pay32, k0_pay24]

/-- The convolution's input from a block's modulated rows. -/
theorem pay1_at (v48 : FVec Ideal S512x1024 .bf16) (v190 : Vec Ideal S1024x1536 .bf16) (i : Fin 512) (d : Fin 1536) :
    k0_pay1 v48 v190 (ix2 i d) = ∑ k : Fin 1024, v48 (ix2 i k) * v190 (ix2 k d) := by
  pointwise [k0_pay1]

/-- The gates from a block's modulated rows. -/
theorem pay2_at (v48 : FVec Ideal S512x1024 .bf16) (v194 : Vec Ideal S1024x3072 .bf16) (v196 : Vec Ideal S1x3072 .f32) (i : Fin 512) (d : Fin 3072) :
    k0_pay2 v48 v194 v196 (ix2 i d) = sgm (∑ k : Fin 1024, v48 (ix2 i k) * v194 (ix2 k d) + v196 (ix2 0 d)) := by
  pointwise [k0_pay2]
  simp only [sgm, zero_sub]

variable (m : (ℓ : Loc nD τ sig) → Buf (Elt Ideal) ℓ)

theorem idx_val : ∀ t : Fin cfg0.N, win0_0.index t = ![t.val, 0]
    ∧ win0_1.index t = ![2 * t.val / 17 * 2 + (if 2 * t.val % 17 = 0 then 0 else 1), 0, 0]
    ∧ win0_2.index t = ![(2 * t.val + 1) / 17 * 2 + (if (2 * t.val + 1) % 17 = 0 then 0 else 1), 0, 0]
    ∧ win0_3.index t = ![0, 0]
    ∧ win0_4.index t = ![0, 0]
    ∧ win0_5.index t = ![0, 0]
    ∧ win0_11.index t = ![t.val, 0]
    ∧ win0_12.index t = ![t.val, 0]
    ∧ win0_13.index t = ![t.val, 0] :=
  (by decide +kernel : ∀ t : Fin grid0.N, _)

theorem emb11 (t : Fin cfg0.N) (i : Fin 512) (d : Fin 128) (r : Fin 34816) (hr : r.val = 512 * t.val + i.val) :
    (((cfg0.win 11).blk t).view.emb (ix2 i d) : S34816x128.Idx) = ix2 r d := by
  blk_ext [idx_val t]
theorem emb12 (t : Fin cfg0.N) (i : Fin 512) (d : Fin 1536) (r : Fin 34816) (hr : r.val = 512 * t.val + i.val) :
    (((cfg0.win 12).blk t).view.emb (ix2 i d) : S34816x1536.Idx) = ix2 r d := by
  blk_ext [idx_val t]
theorem emb13 (t : Fin cfg0.N) (i : Fin 512) (d : Fin 3072) (r : Fin 34816) (hr : r.val = 512 * t.val + i.val) :
    (((cfg0.win 13).blk t).view.emb (ix2 i d) : S34816x3072.Idx) = ix2 r d := by
  blk_ext [idx_val t]

theorem x0_at (c : Dev nD) (t : Fin cfg0.N) (i : Fin 256) (d : Fin 1024) (q : Fin 34816) (hq : q.val = 512 * t.val + 0 + i.val) :
    ((View.ld (iblk m c 0 t) (Rect.unit ![0, 0] ![256, 1024] inb_S512x1024_S256x1024_0_0)) : Vec Ideal S256x1024 .f32) (ix2 i d) = (m ((c : Thread nD τ).loc main_arg0) : Vec Ideal S34816x1024 .f32) (ix2 q d) := by
  pointwise
  blk_ext [iblk, V, idx_val t]
theorem x1_at (c : Dev nD) (t : Fin cfg0.N) (i : Fin 256) (d : Fin 1024) (q : Fin 34816) (hq : q.val = 512 * t.val + 256 + i.val) :
    ((View.ld (iblk m c 0 t) (Rect.unit ![256, 0] ![256, 1024] inb_S512x1024_S256x1024_256_0)) : Vec Ideal S256x1024 .f32) (ix2 i d) = (m ((c : Thread nD τ).loc main_arg0) : Vec Ideal S34816x1024 .f32) (ix2 q d) := by
  pointwise
  blk_ext [iblk, V, idx_val t]
theorem md10_at (c : Dev nD) (t : Fin cfg0.N) (d : Fin 1024) (b : Fin 16) (hb : b.val = 2 * t.val / 17 * 2 + (if 2 * t.val % 17 = 0 then 0 else 1)) :
    ((View.ld (iblk m c 1 t) (Rect.unit ![0, 0, 0] ![1, 1, 1024] inb_S1x6x1024_S1x1x1024_0_0_0)) : Vec Ideal S1x1x1024 .f32) (ix3 0 0 d) = (m ((c : Thread nD τ).loc main_arg1) : Vec Ideal S16x6x1024 .f32) (ix3 b 0 d) := by
  pointwise
  blk_ext [iblk, V, idx_val t]
theorem md11_at (c : Dev nD) (t : Fin cfg0.N) (d : Fin 1024) (b : Fin 16) (hb : b.val = 2 * t.val / 17 * 2 + (if 2 * t.val % 17 = 0 then 0 else 1)) :
    ((View.ld (iblk m c 1 t) (Rect.unit ![0, 1, 0] ![1, 1, 1024] inb_S1x6x1024_S1x1x1024_0_1_0)) : Vec Ideal S1x1x1024 .f32) (ix3 0 0 d) = (m ((c : Thread nD τ).loc main_arg1) : Vec Ideal S16x6x1024 .f32) (ix3 b 1 d) := by
  pointwise
  blk_ext [iblk, V, idx_val t]
theorem md20_at (c : Dev nD) (t : Fin cfg0.N) (d : Fin 1024) (b : Fin 16) (hb : b.val = (2 * t.val + 1) / 17 * 2 + (if (2 * t.val + 1) % 17 = 0 then 0 else 1)) :
    ((View.ld (iblk m c 2 t) (Rect.unit ![0, 0, 0] ![1, 1, 1024] inb_S1x6x1024_S1x1x1024_0_0_0)) : Vec Ideal S1x1x1024 .f32) (ix3 0 0 d) = (m ((c : Thread nD τ).loc main_arg1) : Vec Ideal S16x6x1024 .f32) (ix3 b 0 d) := by
  pointwise
  blk_ext [iblk, V, idx_val t]
theorem md21_at (c : Dev nD) (t : Fin cfg0.N) (d : Fin 1024) (b : Fin 16) (hb : b.val = (2 * t.val + 1) / 17 * 2 + (if (2 * t.val + 1) % 17 = 0 then 0 else 1)) :
    ((View.ld (iblk m c 2 t) (Rect.unit ![0, 1, 0] ![1, 1, 1024] inb_S1x6x1024_S1x1x1024_0_1_0)) : Vec Ideal S1x1x1024 .f32) (ix3 0 0 d) = (m ((c : Thread nD τ).loc main_arg1) : Vec Ideal S16x6x1024 .f32) (ix3 b 1 d) := by
  pointwise
  blk_ext [iblk, V, idx_val t]
theorem g_at (c : Dev nD) (t : Fin cfg0.N) (d : Fin 1024) :
    (iblk m c 3 t : Vec Ideal S1x1024 .f32) (ix2 0 d) = (m ((c : Thread nD τ).loc main_arg2) : Vec Ideal S1x1024 .f32) (ix2 0 d) := by
  blk_ext [iblk, V, idx_val t]
theorem b_at (c : Dev nD) (t : Fin cfg0.N) (d : Fin 3072) :
    (iblk m c 5 t : Vec Ideal S1x3072 .f32) (ix2 0 d) = (m ((c : Thread nD τ).loc main_arg4) : Vec Ideal S1x3072 .f32) (ix2 0 d) := by
  blk_ext [iblk, V, idx_val t]
theorem w768_at (c : Dev nD) (t : Fin cfg0.N) (k : Fin 1024) (d : Fin 768) (e : Fin 7424) (he : e.val = 2048 + d.val) :
    (View.ld (iblk m c 4 t) (Rect.unit ![0, 2048] ![1024, 768] inb_S1024x7424_S1024x768_0_2048) : Vec Ideal S1024x768 .bf16) (ix2 k d) = (m ((c : Thread nD τ).loc main_arg3) : Vec Ideal S1024x7424 .bf16) (ix2 k e) := by
  pointwise
  blk_ext [iblk, V, idx_val t]
theorem w1536_at (c : Dev nD) (t : Fin cfg0.N) (k : Fin 1024) (d : Fin 1536) (e : Fin 7424) (he : e.val = 2816 + d.val) :
    (View.ld (iblk m c 4 t) (Rect.unit ![0, 2816] ![1024, 1536] inb_S1024x7424_S1024x1536_0_2816) : Vec Ideal S1024x1536 .bf16) (ix2 k d) = (m ((c : Thread nD τ).loc main_arg3) : Vec Ideal S1024x7424 .bf16) (ix2 k e) := by
  pointwise
  blk_ext [iblk, V, idx_val t]
theorem w3072_at (c : Dev nD) (t : Fin cfg0.N) (k : Fin 1024) (d : Fin 3072) (e : Fin 7424) (he : e.val = 4352 + d.val) :
    (View.ld (iblk m c 4 t) (Rect.unit ![0, 4352] ![1024, 3072] inb_S1024x7424_S1024x3072_0_4352) : Vec Ideal S1024x3072 .bf16) (ix2 k d) = (m ((c : Thread nD τ).loc main_arg3) : Vec Ideal S1024x7424 .bf16) (ix2 k e) := by
  pointwise
  blk_ext [iblk, V, idx_val t]

/-- The modulated rows of block `t`, as the kernel computes them. -/
def rowsK (c : Dev nD) (t : Fin cfg0.N) : FVec Ideal S512x1024 .bf16 :=
  k0_pay7 (k0_pay3 (View.ld (iblk m c 0 t) (Rect.unit ![0, 0] ![256, 1024] inb_S512x1024_S256x1024_0_0)) (iblk m c 3 t) (View.ld (iblk m c 1 t) (Rect.unit ![0, 0, 0] ![1, 1, 1024] inb_S1x6x1024_S1x1x1024_0_0_0)) (View.ld (iblk m c 1 t) (Rect.unit ![0, 1, 0] ![1, 1, 1024] inb_S1x6x1024_S1x1x1024_0_1_0)))
    (View.ld (iblk m c 0 t) (Rect.unit ![256, 0] ![256, 1024] inb_S512x1024_S256x1024_256_0)) (iblk m c 3 t) (k0_pay4 (View.ld (iblk m c 2 t) (Rect.unit ![0, 0, 0] ![1, 1, 1024] inb_S1x6x1024_S1x1x1024_0_0_0))) (k0_pay5 (View.ld (iblk m c 2 t) (Rect.unit ![0, 1, 0] ![1, 1, 1024] inb_S1x6x1024_S1x1x1024_0_1_0))) (k0_pay6 (View.ld (iblk m c 0 t) (Rect.unit ![256, 0] ![256, 1024] inb_S512x1024_S256x1024_256_0))) (FloatOps.ofBits FTy.f32 0x44800000#32)

theorem rowsK_at (c : Dev nD) (t : Fin cfg0.N) (i : Fin 512) (k : Fin 1024) (r : Fin 34816) (hr : r.val = 512 * t.val + i.val) :
    rowsK m c t (ix2 i k) = hv (m ((c : Thread nD τ).loc main_arg0)) (m ((c : Thread nD τ).loc main_arg1)) (m ((c : Thread nD τ).loc main_arg2)) r k := by
  have ht : t.val < 68 := t.isLt
  have hi := i.isLt
  by_cases h : i.val < 256
  · refine (pay7_lo _ _ _ _ _ i h k).trans ((pay3_at _ _ _ _ _ k).trans ?_)
    have hb : (mrow r).val = 2 * t.val / 17 * 2 + (if 2 * t.val % 17 = 0 then 0 else 1) := by
      unfold mrow
      split <;> split <;> simp only [] <;> omega
    exact nrm_congr k (fun d => x0_at m c t _ d r (by show r.val = 512 * t.val + 0 + i.val; omega)) (g_at m c t k) (md11_at m c t k _ hb) (md10_at m c t k _ hb)
  · refine (pay7_hi _ _ _ _ _ i h k).trans ?_
    have hb : (mrow r).val = (2 * t.val + 1) / 17 * 2 + (if (2 * t.val + 1) % 17 = 0 then 0 else 1) := by
      unfold mrow
      split <;> split <;> simp only [] <;> omega
    exact nrm_congr k (fun d => x1_at m c t _ d r (by show r.val = 512 * t.val + 256 + (i.val - 256); omega)) (g_at m c t k) (md21_at m c t k _ hb) (md20_at m c t k _ hb)

/-- Output 11's block at an entry. -/
theorem point11 (c : Dev nD) (t : Fin cfg0.N) (y : S512x128.Idx) :
    (dats m 0 c).after 11 t y = KV (m ((c : Thread nD τ).loc main_arg0)) (m ((c : Thread nD τ).loc main_arg1)) (m ((c : Thread nD τ).loc main_arg2)) (m ((c : Thread nD τ).loc main_arg3)) (((cfg0.win 11).blk t).view.emb y) := by
  obtain ⟨i, d, rfl⟩ : ∃ (i : Fin 512) (d : Fin 128), y = ix2 i d := ⟨y 0, y 1, by funext a; fin_cases a <;> rfl⟩
  have ht : t.val < 68 := t.isLt
  rw [emb11 t i d ⟨512 * t.val + i.val, by omega⟩ rfl]
  rw [after0_11]
  dsimp only [outsAt0]
  frame_out
  refine (pay32_at _ _ i d).trans ?_
  exact Finset.sum_congr rfl fun k _ => congrArg₂ (· * ·) (rowsK_at m c t i k _ rfl) (w768_at m c t k _ _ (by show 2688 + d.val = 2048 + (640 + d.val); omega))

/-- Output 11's array. -/
theorem final11 (c : Dev nD) : (dats m 0 c).arrAt 11 (cfgs 0).N = KV (m ((c : Thread nD τ).loc main_arg0)) (m ((c : Thread nD τ).loc main_arg1)) (m ((c : Thread nD τ).loc main_arg2)) (m ((c : Thread nD τ).loc main_arg3)) :=
  (dats m 0 c).arrAt_eq_of_covers 11 _ (by decide +kernel) fun t hf y => by
    blk_simp; exact point11 m c t y

/-- Output 12's block at an entry. -/
theorem point12 (c : Dev nD) (t : Fin cfg0.N) (y : S512x1536.Idx) :
    (dats m 0 c).after 12 t y = KH (m ((c : Thread nD τ).loc main_arg0)) (m ((c : Thread nD τ).loc main_arg1)) (m ((c : Thread nD τ).loc main_arg2)) (m ((c : Thread nD τ).loc main_arg3)) (((cfg0.win 12).blk t).view.emb y) := by
  obtain ⟨i, d, rfl⟩ : ∃ (i : Fin 512) (d : Fin 1536), y = ix2 i d := ⟨y 0, y 1, by funext a; fin_cases a <;> rfl⟩
  have ht : t.val < 68 := t.isLt
  rw [emb12 t i d ⟨512 * t.val + i.val, by omega⟩ rfl]
  rw [after0_12]
  dsimp only [outsAt0]
  frame_out
  refine (pay1_at _ _ i d).trans ?_
  exact Finset.sum_congr rfl fun k _ => congrArg₂ (· * ·) (rowsK_at m c t i k _ rfl) (w1536_at m c t k _ _ (by rfl))

/-- Output 12's array. -/
theorem final12 (c : Dev nD) : (dats m 0 c).arrAt 12 (cfgs 0).N = KH (m ((c : Thread nD τ).loc main_arg0)) (m ((c : Thread nD τ).loc main_arg1)) (m ((c : Thread nD τ).loc main_arg2)) (m ((c : Thread nD τ).loc main_arg3)) :=
  (dats m 0 c).arrAt_eq_of_covers 12 _ (by decide +kernel) fun t hf y => by
    blk_simp; exact point12 m c t y

/-- Output 13's block at an entry. -/
theorem point13 (c : Dev nD) (t : Fin cfg0.N) (y : S512x3072.Idx) :
    (dats m 0 c).after 13 t y = KG (m ((c : Thread nD τ).loc main_arg0)) (m ((c : Thread nD τ).loc main_arg1)) (m ((c : Thread nD τ).loc main_arg2)) (m ((c : Thread nD τ).loc main_arg3)) (m ((c : Thread nD τ).loc main_arg4)) (((cfg0.win 13).blk t).view.emb y) := by
  obtain ⟨i, d, rfl⟩ : ∃ (i : Fin 512) (d : Fin 3072), y = ix2 i d := ⟨y 0, y 1, by funext a; fin_cases a <;> rfl⟩
  have ht : t.val < 68 := t.isLt
  rw [emb13 t i d ⟨512 * t.val + i.val, by omega⟩ rfl]
  rw [after0_13]
  dsimp only [outsAt0]
  frame_out
  refine (pay2_at _ _ _ i d).trans ?_
  exact congrArg sgm (congrArg₂ (· + ·) (Finset.sum_congr rfl fun k _ => congrArg₂ (· * ·) (rowsK_at m c t i k _ rfl) (w3072_at m c t k _ _ (by rfl))) (b_at m c t d))

/-- Output 13's array. -/
theorem final13 (c : Dev nD) : (dats m 0 c).arrAt 13 (cfgs 0).N = KG (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_covers 13 _ (by decide +kernel) fun t hf y => by
    blk_simp; exact point13 m c t y

end Cert.Prj

end
-- ==== Proof.PrjRef.lean ====
module

public import proofs.«01_k».proof.Proof.Gen.ProjectionReferenceIdeal.Run
public import proofs.«01_k».proof.Proof.PrjKernel

/-! What the projection's reference computes. -/

@[expose] public section

set_option maxRecDepth 16384

noncomputable section

open Idealize.ShloMosaic Idealize.ShloMosaic.TcCoe
open scoped BigOperators

namespace Cert.PrjRef

open Cert.ProjectionReferenceIdeal Cert.ProjectionReferenceIdeal.Gen Cert.ProjectionReferenceIdeal.Value Cert.Prj

/-- The context tokens. -/
def xC (x : FVec Ideal S34816x1024 .f32) : FVec Ideal S8x256x1024 .f32 :=
  extractStridedSlice S8x256x1024 ![0, 0, 0] (shapeCast _ x shapeCasts_S34816x1024_S8x4352x1024) slices_S8x4352x1024_S8x256x1024_0_0_0

/-- The context tokens' reciprocal root mean squares. -/
def rmsC (z : FVec Ideal S8x256x1024 .f32) : FVec Ideal S8x256x1 .f32 :=
  Host.rsqrt (addf (Host.divf (broadcastInDim S8x256x1 ![0, 1] bcast_S8x256_S8x256x1_0_1 (Host.reduceAdd (mulf z z) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))

/-- One plus the context tokens' scale. -/
def scC (md : FVec Ideal S16x6x1024 .f32) : FVec Ideal S8x256x1024 .f32 :=
  broadcastInDim S8x256x1024 ![0, 1, 2] bcast_S8x1x1024_S8x256x1024_0_1_2 (addf (broadcastInDim S8x1x1024 ![] bcast_S_S8x1x1024 (constant S_ .f32 0x3F800000#32)) (broadcastInDim S8x1x1024 ![0, 2] bcast_S8x1024_S8x1x1024_0_2 (shapeCast _ (extractStridedSlice S8x1x1x1024 ![0, 0, 1, 0] (shapeCast _ md shapeCasts_S16x6x1024_S8x2x6x1024) slices_S8x2x6x1024_S8x1x1x1024_0_0_1_0) shapeCasts_S8x1x1x1024_S8x1024)))

/-- The context tokens' shift. -/
def shC (md : FVec Ideal S16x6x1024 .f32) : FVec Ideal S8x256x1024 .f32 :=
  broadcastInDim S8x256x1024 ![0, 1, 2] bcast_S8x1x1024_S8x256x1024_0_1_2 (broadcastInDim S8x1x1024 ![0, 2] bcast_S8x1024_S8x1x1024_0_2 (shapeCast _ (extractStridedSlice S8x1x1x1024 ![0, 0, 0, 0] (shapeCast _ md shapeCasts_S16x6x1024_S8x2x6x1024) slices_S8x2x6x1024_S8x1x1x1024_0_0_0_0) shapeCasts_S8x1x1x1024_S8x1024))

/-- The gain along the context tokens. -/
def gC (g : FVec Ideal S1x1024 .f32) : FVec Ideal S8x256x1024 .f32 :=
  broadcastInDim S8x256x1024 ![0, 1, 2] bcast_S1x1x1024_S8x256x1024_0_1_2 (broadcastInDim S1x1x1024 ![2] bcast_S1024_S1x1x1024_2 (shapeCast _ g shapeCasts_S1x1024_S1024))

/-- The context tokens' modulated norm. -/
def hC (x : FVec Ideal S8x256x1024 .f32) (md : FVec Ideal S16x6x1024 .f32) (g : FVec Ideal S1x1024 .f32) : FVec Ideal S8x256x1024 .f32 :=
  addf (mulf (mulf (mulf x (broadcastInDim S8x256x1024 ![0, 1, 2] bcast_S8x256x1_S8x256x1024_0_1_2 (rmsC x))) (gC g)) (scC md)) (shC md)

theorem xC_at (x : FVec Ideal S34816x1024 .f32) (b : Fin 8) (s : Fin 256) (d : Fin 1024) :
    xC x (ix3 b s d) = x (ix2 ⟨b * 4352 + s, by omega⟩ d) := by
  pointwise [xC]

theorem rmsC_at (z : FVec Ideal S8x256x1024 .f32) (b : Fin 8) (s : Fin 256) :
    rmsC z (ix3 b s 0) = Ideal.rsqrt (Ideal.div (∑ k : Fin 1024, z (ix3 b s k) * z (ix3 b s k)) (Ideal.ofBits FTy.f32 0x44800000#32) + Ideal.ofBits FTy.f32 0x358637BD#32) := by
  pointwise [rmsC]

theorem scC_at (md : FVec Ideal S16x6x1024 .f32) (b : Fin 8) (s : Fin 256) (d : Fin 1024) :
    scC md (ix3 b s d) = 1 + md (ix3 ⟨b * 2, by omega⟩ 1 d) := by
  pointwise [scC]

theorem shC_at (md : FVec Ideal S16x6x1024 .f32) (b : Fin 8) (s : Fin 256) (d : Fin 1024) :
    shC md (ix3 b s d) = md (ix3 ⟨b * 2, by omega⟩ 0 d) := by
  pointwise [shC]

theorem gC_at (g : FVec Ideal S1x1024 .f32) (b : Fin 8) (s : Fin 256) (d : Fin 1024) :
    gC g (ix3 b s d) = g (ix2 0 d) := by
  pointwise [gC]

theorem hC_mid (x : FVec Ideal S8x256x1024 .f32) (md : FVec Ideal S16x6x1024 .f32) (g : FVec Ideal S1x1024 .f32) (b : Fin 8) (s : Fin 256) (d : Fin 1024) :
    hC x md g (ix3 b s d) = x (ix3 b s d) * rmsC x (ix3 b s 0) * gC g (ix3 b s d) * scC md (ix3 b s d) + shC md (ix3 b s d) := by
  pointwise [hC]

theorem hC_at (x : FVec Ideal S34816x1024 .f32) (md : FVec Ideal S16x6x1024 .f32) (g : FVec Ideal S1x1024 .f32) (b : Fin 8) (s : Fin 256) (d : Fin 1024) (r : Fin 34816) (hr : r.val = b * 4352 + s) :
    hC (xC x) md g (ix3 b s d) = hv x md g r d := by
  rw [hC_mid, rmsC_at, gC_at, scC_at, shC_at, mul_assoc (_ * _)]
  have hb : (⟨b * 2, by omega⟩ : Fin 16) = mrow r := by
    refine Fin.ext ?_
    unfold mrow
    split <;> simp only [] <;> omega
  have hq : (⟨b * 4352 + s, by omega⟩ : Fin 34816) = r := Fin.ext hr.symm
  rw [hb]
  exact nrm_congr (x := fun k => xC x (ix3 b s k)) d (fun k => (xC_at x b s k).trans (by rw [hq])) rfl rfl rfl

/-- The latent tokens. -/
def xL (x : FVec Ideal S34816x1024 .f32) : FVec Ideal S8x4096x1024 .f32 :=
  extractStridedSlice S8x4096x1024 ![0, 256, 0] (shapeCast _ x shapeCasts_S34816x1024_S8x4352x1024) slices_S8x4352x1024_S8x4096x1024_0_256_0

/-- The latent tokens' reciprocal root mean squares. -/
def rmsL (z : FVec Ideal S8x4096x1024 .f32) : FVec Ideal S8x4096x1 .f32 :=
  Host.rsqrt (addf (Host.divf (broadcastInDim S8x4096x1 ![0, 1] bcast_S8x4096_S8x4096x1_0_1 (Host.reduceAdd (mulf z z) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))

/-- One plus the latent tokens' scale. -/
def scL (md : FVec Ideal S16x6x1024 .f32) : FVec Ideal S8x4096x1024 .f32 :=
  broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (shapeCast _ (extractStridedSlice S8x1x1x1024 ![0, 1, 1, 0] (shapeCast _ md shapeCasts_S16x6x1024_S8x2x6x1024) slices_S8x2x6x1024_S8x1x1x1024_0_1_1_0) shapeCasts_S8x1x1x1024_S8x1024)))

/-- The latent tokens' shift. -/
def shL (md : FVec Ideal S16x6x1024 .f32) : FVec Ideal S8x4096x1024 .f32 :=
  broadcastInDim S8x4096x1024 ![0, 1, 2] bcast_S8x1x1024_S8x4096x1024_0_1_2 (broadcastInDim S8x1x1024 ![0, 2] bcast_S8x1024_S8x1x1024_0_2 (shapeCast _ (extractStridedSlice S8x1x1x1024 ![0, 1, 0, 0] (shapeCast _ md shapeCasts_S16x6x1024_S8x2x6x1024) slices_S8x2x6x1024_S8x1x1x1024_0_1_0_0) shapeCasts_S8x1x1x1024_S8x1024))

/-- The gain along the latent tokens. -/
def gL (g : FVec Ideal S1x1024 .f32) : FVec Ideal S8x4096x1024 .f32 :=
  broadcastInDim S8x4096x1024 ![0, 1, 2] bcast_S1x1x1024_S8x4096x1024_0_1_2 (broadcastInDim S1x1x1024 ![2] bcast_S1024_S1x1x1024_2 (shapeCast _ g shapeCasts_S1x1024_S1024))

/-- The latent tokens' modulated norm. -/
def hL (x : FVec Ideal S8x4096x1024 .f32) (md : FVec Ideal S16x6x1024 .f32) (g : FVec Ideal S1x1024 .f32) : FVec Ideal S8x4096x1024 .f32 :=
  addf (mulf (mulf (mulf x (broadcastInDim S8x4096x1024 ![0, 1, 2] bcast_S8x4096x1_S8x4096x1024_0_1_2 (rmsL x))) (gL g)) (scL md)) (shL md)

theorem xL_at (x : FVec Ideal S34816x1024 .f32) (b : Fin 8) (s : Fin 4096) (d : Fin 1024) :
    xL x (ix3 b s d) = x (ix2 ⟨b * 4352 + (256 + s), by omega⟩ d) := by
  pointwise [xL]

theorem rmsL_at (z : FVec Ideal S8x4096x1024 .f32) (b : Fin 8) (s : Fin 4096) :
    rmsL z (ix3 b s 0) = Ideal.rsqrt (Ideal.div (∑ k : Fin 1024, z (ix3 b s k) * z (ix3 b s k)) (Ideal.ofBits FTy.f32 0x44800000#32) + Ideal.ofBits FTy.f32 0x358637BD#32) := by
  pointwise [rmsL]

theorem scL_at (md : FVec Ideal S16x6x1024 .f32) (b : Fin 8) (s : Fin 4096) (d : Fin 1024) :
    scL md (ix3 b s d) = 1 + md (ix3 ⟨b * 2 + 1, by omega⟩ 1 d) := by
  pointwise [scL]

theorem shL_at (md : FVec Ideal S16x6x1024 .f32) (b : Fin 8) (s : Fin 4096) (d : Fin 1024) :
    shL md (ix3 b s d) = md (ix3 ⟨b * 2 + 1, by omega⟩ 0 d) := by
  pointwise [shL]

theorem gL_at (g : FVec Ideal S1x1024 .f32) (b : Fin 8) (s : Fin 4096) (d : Fin 1024) :
    gL g (ix3 b s d) = g (ix2 0 d) := by
  pointwise [gL]

theorem hL_mid (x : FVec Ideal S8x4096x1024 .f32) (md : FVec Ideal S16x6x1024 .f32) (g : FVec Ideal S1x1024 .f32) (b : Fin 8) (s : Fin 4096) (d : Fin 1024) :
    hL x md g (ix3 b s d) = x (ix3 b s d) * rmsL x (ix3 b s 0) * gL g (ix3 b s d) * scL md (ix3 b s d) + shL md (ix3 b s d) := by
  pointwise [hL]

theorem hL_at (x : FVec Ideal S34816x1024 .f32) (md : FVec Ideal S16x6x1024 .f32) (g : FVec Ideal S1x1024 .f32) (b : Fin 8) (s : Fin 4096) (d : Fin 1024) (r : Fin 34816) (hr : r.val = b * 4352 + (256 + s)) :
    hL (xL x) md g (ix3 b s d) = hv x md g r d := by
  rw [hL_mid, rmsL_at, gL_at, scL_at, shL_at, mul_assoc (_ * _)]
  have hb : (⟨b * 2 + 1, by omega⟩ : Fin 16) = mrow r := by
    refine Fin.ext ?_
    unfold mrow
    split <;> simp only [] <;> omega
  have hq : (⟨b * 4352 + (256 + s), by omega⟩ : Fin 34816) = r := Fin.ext hr.symm
  rw [hb]
  exact nrm_congr (x := fun k => xL x (ix3 b s k)) d (fun k => (xL_at x b s k).trans (by rw [hq])) rfl rfl rfl

/-- All tokens' modulated norm. -/
def hAll (a : FVec Ideal S8x256x1024 .f32) (b : FVec Ideal S8x4096x1024 .f32) : FVec Ideal S8x4352x1024 .f32 :=
  concatenate S8x4352x1024 1 [⟨S8x256x1024, a⟩, ⟨S8x4096x1024, b⟩] concatenates_S8x256x1024_S8x4096x1024_S8x4352x1024_d1

/-- The combined projection. -/
def pAll (h : FVec Ideal S8x4352x1024 .f32) (w : FVec Ideal S1024x7424 .bf16) : FVec Ideal S8x4352x7424 .f32 :=
  Host.dotGeneral dot_S8x4352x1024_S1024x7424_S8x4352x7424_2_0_01_1_n_n none h (extf .f32 w bitsLt_bf16_f32)

/-- The attention's values. -/
def avR (p : FVec Ideal S8x4352x7424 .f32) : FVec Ideal S34816x128 .bf16 :=
  truncf .bf16 (shapeCast _ (extractStridedSlice S8x4352x128 ![0, 0, 2688] p slices_S8x4352x7424_S8x4352x128_0_0_2688) shapeCasts_S8x4352x128_S34816x128) bitsLt_bf16_f32

/-- The convolution's input. -/
def huR (p : FVec Ideal S8x4352x7424 .f32) : FVec Ideal S34816x1536 .bf16 :=
  truncf .bf16 (shapeCast _ (extractStridedSlice S8x4352x1536 ![0, 0, 2816] p slices_S8x4352x7424_S8x4352x1536_0_0_2816) shapeCasts_S8x4352x1536_S34816x1536) bitsLt_bf16_f32

/-- The merge gates. -/
def gtR (p : FVec Ideal S8x4352x7424 .f32) (b : FVec Ideal S1x3072 .f32) : FVec Ideal S34816x3072 .bf16 :=
  truncf .bf16 (shapeCast _ (Host.divf (broadcastInDim S8x4352x3072 ![] bcast_S_S8x4352x3072 (constant S_ .f32 0x3F800000#32)) (addf (broadcastInDim S8x4352x3072 ![] bcast_S_S8x4352x3072 (constant S_ .f32 0x3F800000#32)) (Host.exp (Host.negf (addf (extractStridedSlice S8x4352x3072 ![0, 0, 4352] p slices_S8x4352x7424_S8x4352x3072_0_0_4352) (broadcastInDim S8x4352x3072 ![0, 1, 2] bcast_S1x1x3072_S8x4352x3072_0_1_2 (broadcastInDim S1x1x3072 ![2] bcast_S3072_S1x1x3072_2 (shapeCast _ b shapeCasts_S1x3072_S3072)))))))) shapeCasts_S8x4352x3072_S34816x3072) bitsLt_bf16_f32

theorem res73_eq (m : (ℓ : Loc nD τ sig) → Buf (Elt Ideal) ℓ) (c : Dev nD) :
    res_main_v73 m c = avR (pAll (hAll (hC (xC (m ((c.tc : Thread nD τ).loc main_arg0))) (m ((c.tc : Thread nD τ).loc main_arg1)) (m ((c.tc : Thread nD τ).loc main_arg2))) (hL (xL (m ((c.tc : Thread nD τ).loc main_arg0))) (m ((c.tc : Thread nD τ).loc main_arg1)) (m ((c.tc : Thread nD τ).loc main_arg2)))) (m ((c.tc : Thread nD τ).loc main_arg3))) := rfl

theorem res75_eq (m : (ℓ : Loc nD τ sig) → Buf (Elt Ideal) ℓ) (c : Dev nD) :
    res_main_v75 m c = huR (pAll (hAll (hC (xC (m ((c.tc : Thread nD τ).loc main_arg0))) (m ((c.tc : Thread nD τ).loc main_arg1)) (m ((c.tc : Thread nD τ).loc main_arg2))) (hL (xL (m ((c.tc : Thread nD τ).loc main_arg0))) (m ((c.tc : Thread nD τ).loc main_arg1)) (m ((c.tc : Thread nD τ).loc main_arg2)))) (m ((c.tc : Thread nD τ).loc main_arg3))) := rfl

theorem res77_eq (m : (ℓ : Loc nD τ sig) → Buf (Elt Ideal) ℓ) (c : Dev nD) :
    res_main_v77 m c = gtR (pAll (hAll (hC (xC (m ((c.tc : Thread nD τ).loc main_arg0))) (m ((c.tc : Thread nD τ).loc main_arg1)) (m ((c.tc : Thread nD τ).loc main_arg2))) (hL (xL (m ((c.tc : Thread nD τ).loc main_arg0))) (m ((c.tc : Thread nD τ).loc main_arg1)) (m ((c.tc : Thread nD τ).loc main_arg2)))) (m ((c.tc : Thread nD τ).loc main_arg3))) (m ((c.tc : Thread nD τ).loc main_arg4)) := rfl

theorem hAll_at (x : FVec Ideal S34816x1024 .f32) (md : FVec Ideal S16x6x1024 .f32) (g : FVec Ideal S1x1024 .f32) (b : Fin 8) (s : Fin 4352) (d : Fin 1024) (r : Fin 34816) (hr : r.val = b * 4352 + s) :
    hAll (hC (xC x) md g) (hL (xL x) md g) (ix3 b s d) = hv x md g r d := by
  by_cases h : s.val < 256
  · refine Eq.trans ?_ (hC_at x md g b ⟨s, h⟩ d r hr)
    generalize hC (xC x) md g = a
    pointwise [hAll]
    rw [dif_pos h]
  · refine Eq.trans ?_ (hL_at x md g b ⟨s - 256, by omega⟩ d r (by show r.val = b * 4352 + (256 + (s.val - 256)); omega))
    generalize hC (xC x) md g = a
    generalize hL (xL x) md g = a'
    pointwise [hAll]
    rw [dif_neg h]

theorem pAll_mid (h : FVec Ideal S8x4352x1024 .f32) (w : FVec Ideal S1024x7424 .bf16) (b : Fin 8) (s : Fin 4352) (e : Fin 7424) :
    pAll h w (ix3 b s e) = ∑ k : Fin 1024, h (ix3 b s k) * w (ix2 k e) := by
  pointwise [pAll]

theorem pAll_at (x : FVec Ideal S34816x1024 .f32) (md : FVec Ideal S16x6x1024 .f32) (g : FVec Ideal S1x1024 .f32) (w : FVec Ideal S1024x7424 .bf16) (r : Fin 34816) (e : Fin 7424) :
    pAll (hAll (hC (xC x) md g) (hL (xL x) md g)) w (ix3 ⟨r / 4352, by omega⟩ ⟨r % 4352, by omega⟩ e) = pv x md g w r e :=
  (pAll_mid _ _ _ _ _).trans (Finset.sum_congr rfl fun k _ => congrArg (· * w (ix2 k e)) (hAll_at x md g _ _ k r (by show r.val = r.val / 4352 * 4352 + r.val % 4352; omega)))

theorem avR_at (p : FVec Ideal S8x4352x7424 .f32) (r : Fin 34816) (d : Fin 128) :
    avR p (ix2 r d) = p (ix3 ⟨r / 4352, by omega⟩ ⟨r % 4352, by omega⟩ ⟨2688 + d, by omega⟩) := by
  pointwise [avR]

theorem huR_at (p : FVec Ideal S8x4352x7424 .f32) (r : Fin 34816) (d : Fin 1536) :
    huR p (ix2 r d) = p (ix3 ⟨r / 4352, by omega⟩ ⟨r % 4352, by omega⟩ ⟨2816 + d, by omega⟩) := by
  pointwise [huR]

theorem gtR_at (p : FVec Ideal S8x4352x7424 .f32) (b : FVec Ideal S1x3072 .f32) (r : Fin 34816) (d : Fin 3072) :
    gtR p b (ix2 r d) = sgm (p (ix3 ⟨r / 4352, by omega⟩ ⟨r % 4352, by omega⟩ ⟨4352 + d, by omega⟩) + b (ix2 0 d)) := by
  pointwise [gtR]
  rfl

/-- The reference's array is the kernel's. -/
theorem avR_whole (x : FVec Ideal S34816x1024 .f32) (md : FVec Ideal S16x6x1024 .f32) (g : FVec Ideal S1x1024 .f32) (w : FVec Ideal S1024x7424 .bf16) :
    avR (pAll (hAll (hC (xC x) md g) (hL (xL x) md g)) w) = KV x md g w := by
  funext j
  refine (congrArg (avR (pAll (hAll (hC (xC x) md g) (hL (xL x) md g)) w)) (?_ : j = ix2 (j 0) (j 1))).trans ((avR_at _ (j 0) (j 1)).trans (pAll_at x md g w (j 0) _))
  funext a; fin_cases a <;> rfl

/-- The reference's array is the kernel's. -/
theorem huR_whole (x : FVec Ideal S34816x1024 .f32) (md : FVec Ideal S16x6x1024 .f32) (g : FVec Ideal S1x1024 .f32) (w : FVec Ideal S1024x7424 .bf16) :
    huR (pAll (hAll (hC (xC x) md g) (hL (xL x) md g)) w) = KH x md g w := by
  funext j
  refine (congrArg (huR (pAll (hAll (hC (xC x) md g) (hL (xL x) md g)) w)) (?_ : j = ix2 (j 0) (j 1))).trans ((huR_at _ (j 0) (j 1)).trans (pAll_at x md g w (j 0) _))
  funext a; fin_cases a <;> rfl

/-- The reference's array is the kernel's. -/
theorem gtR_whole (x : FVec Ideal S34816x1024 .f32) (md : FVec Ideal S16x6x1024 .f32) (g : FVec Ideal S1x1024 .f32) (w : FVec Ideal S1024x7424 .bf16) (b : FVec Ideal S1x3072 .f32) :
    gtR (pAll (hAll (hC (xC x) md g) (hL (xL x) md g)) w) b = KG x md g w b := by
  funext j
  refine (congrArg (gtR (pAll (hAll (hC (xC x) md g) (hL (xL x) md g)) w) b) (?_ : j = ix2 (j 0) (j 1))).trans ((gtR_at _ b (j 0) (j 1)).trans (congrArg (fun z => sgm (z + b (ix2 0 (j 1)))) (pAll_at x md g w (j 0) _)))
  funext a; fin_cases a <;> rfl

end Cert.PrjRef

end
-- ==== Proof.PrjClaims.lean ====
module

public import proofs.«01_k».proof.Defs
public import proofs.«01_k».proof.Proof.Gen.Projection.Frame
public import proofs.«01_k».proof.Proof.PrjKernel
public import proofs.«01_k».proof.Proof.PrjRef
public import Idealize.ShloMosaic.Adequacy
public import Idealize.ShloMosaic.Init

@[expose] public section

noncomputable section

open Idealize.ShloMosaic Idealize.SL.Sem

namespace Cert.PrjClaims

attribute [local instance] Cert.Projection.Gen.facts Cert.ProjectionIdeal.Gen.facts Cert.ProjectionReferenceIdeal.Gen.facts

/-- The kernel's frame: it ends, its arguments unchanged and every counter at zero. -/
theorem frame_p : Cert.quiescent_Projection := fun m ρ _ => Cert.Projection.Gen.frame m ρ
/-- The frame of the kernel over the extended reals. -/
theorem frame_i : Cert.quiescent_ProjectionIdeal := fun m ρ _ => Cert.ProjectionIdeal.Gen.frame m ρ
/-- The reference's frame: the run read at the arguments; it declares no semaphore. -/
theorem frame_r : Cert.quiescent_ProjectionReferenceIdeal := fun m ρ _ =>
  (θ_run Cert.ProjectionReferenceIdeal.defs _ _).mono (fun r h => ⟨fun c => (h c).2.2.2, Idealize.ShloMosaic.sem_eq_zero_of_no_sems (by decide) r.2⟩)
    (Cert.ProjectionReferenceIdeal.Value.run (F := Ideal) m ρ)
/-- Nothing of the kernel is rewritten. -/
theorem preserves : Cert.preserves_Projection_ProjectionIdeal := trivial

/-- The kernel's three arrays and the reference's are the same, from the same arguments. -/
theorem algebraic : Cert.algebraic_ProjectionIdeal_ProjectionReferenceIdeal := by
  intro m g m' g' hp hm
  refine ⟨fun c => Cert.Prj.KV (m ((c.tc : Thread Cert.ProjectionIdeal.nD Cert.ProjectionIdeal.τ).loc Cert.ProjectionIdeal.main_arg0)) (m ((c.tc : Thread Cert.ProjectionIdeal.nD Cert.ProjectionIdeal.τ).loc Cert.ProjectionIdeal.main_arg1)) (m ((c.tc : Thread Cert.ProjectionIdeal.nD Cert.ProjectionIdeal.τ).loc Cert.ProjectionIdeal.main_arg2)) (m ((c.tc : Thread Cert.ProjectionIdeal.nD Cert.ProjectionIdeal.τ).loc Cert.ProjectionIdeal.main_arg3)), fun c => Cert.Prj.KH (m ((c.tc : Thread Cert.ProjectionIdeal.nD Cert.ProjectionIdeal.τ).loc Cert.ProjectionIdeal.main_arg0)) (m ((c.tc : Thread Cert.ProjectionIdeal.nD Cert.ProjectionIdeal.τ).loc Cert.ProjectionIdeal.main_arg1)) (m ((c.tc : Thread Cert.ProjectionIdeal.nD Cert.ProjectionIdeal.τ).loc Cert.ProjectionIdeal.main_arg2)) (m ((c.tc : Thread Cert.ProjectionIdeal.nD Cert.ProjectionIdeal.τ).loc Cert.ProjectionIdeal.main_arg3)), fun c => Cert.Prj.KG (m ((c.tc : Thread Cert.ProjectionIdeal.nD Cert.ProjectionIdeal.τ).loc Cert.ProjectionIdeal.main_arg0)) (m ((c.tc : Thread Cert.ProjectionIdeal.nD Cert.ProjectionIdeal.τ).loc Cert.ProjectionIdeal.main_arg1)) (m ((c.tc : Thread Cert.ProjectionIdeal.nD Cert.ProjectionIdeal.τ).loc Cert.ProjectionIdeal.main_arg2)) (m ((c.tc : Thread Cert.ProjectionIdeal.nD Cert.ProjectionIdeal.τ).loc Cert.ProjectionIdeal.main_arg3)) (m ((c.tc : Thread Cert.ProjectionIdeal.nD Cert.ProjectionIdeal.τ).loc Cert.ProjectionIdeal.main_arg4)), ?_, ?_⟩
  · exact (θ_run Cert.ProjectionIdeal.defs _ _).mono (fun r h c => ⟨(h c).2.2.2.1.trans (Cert.Prj.final11 m c), (h c).2.2.2.2.1.trans (Cert.Prj.final12 m c), (h c).2.2.2.2.2.1.trans (Cert.Prj.final13 m c), (h c).2.2.2.2.2.2⟩) (Cert.ProjectionIdeal.Value.run_blocks m g)
  · refine (θ_run Cert.ProjectionReferenceIdeal.defs _ _).mono (fun r h c => ⟨(h c).1.trans ((Cert.PrjRef.res73_eq m' c).trans ?_), (h c).2.1.trans ((Cert.PrjRef.res75_eq m' c).trans ?_), (h c).2.2.1.trans ((Cert.PrjRef.res77_eq m' c).trans ?_), (h c).2.2.2⟩) (Cert.ProjectionReferenceIdeal.Value.run m' g')
    · obtain ⟨h0, h1, h2, h3, h4, h5⟩ := hm c
      rw [h0, h1, h2, h3]
      exact Cert.PrjRef.avR_whole _ _ _ _
    · obtain ⟨h0, h1, h2, h3, h4, h5⟩ := hm c
      rw [h0, h1, h2, h3]
      exact Cert.PrjRef.huR_whole _ _ _ _
    · obtain ⟨h0, h1, h2, h3, h4, h5⟩ := hm c
      rw [h0, h1, h2, h3, h4]
      exact Cert.PrjRef.gtR_whole _ _ _ _ _

end Cert.PrjClaims

end
-- ==== Proof.MrgPay.lean ====
module

public import proofs.«01_k».proof.Proof.Gen.MergeIdeal.Skeleton
public import proofs.«01_k».proof.Proof.PrjKernel
public import Idealize.ShloMosaic.Lib.Pointwise
public import Idealize.ShloMosaic.Lib.Pipeline.ValueKit

/-! What the merge computes, entry by entry, and the kernel's payloads at an entry. -/

@[expose] public section

set_option maxRecDepth 16384

noncomputable section

open Idealize.ShloMosaic Idealize.ShloMosaic.TcCoe Idealize.SL.Sem
open Idealize.ShloMosaic.Pipeline (Dat)
open scoped BigOperators

namespace Cert.Mrg

open Cert.MergeIdeal Cert.MergeIdeal.Gen
open Cert.Prj (nrm mrow nrm_congr)

/-- The long convolution's row of a token: from the context's array or from the latents'. -/
def cv (yc : FVec Ideal S512x2048 .bf16) (yl : FVec Ideal S512x32768 .bf16) (r : Fin 34816) (k : Fin 512) : EReal :=
  if h : r.val % 4352 < 256 then yc (ix2 k ⟨r / 4352 * 256 + r % 4352, by omega⟩) else yl (ix2 k ⟨r / 4352 * 4096 + (r % 4352 - 256), by omega⟩)

/-- One branch of the merge: the gate times the branch's projection. -/
def br (mg : FVec Ideal S34816x3072 .bf16) (u : Fin 512 → EReal) (w : FVec Ideal S3x512x1024 .bf16) (r : Fin 34816) (n : Fin 3) (e : Fin 1024) : EReal :=
  mg (ix2 r ⟨n * 1024 + e, by omega⟩) * ∑ k : Fin 512, u k * w (ix3 n k e)

/-- The third branch's projection, without its gate. -/
def cs (x0 : FVec Ideal S34816x512 .bf16) (yc : FVec Ideal S512x2048 .bf16) (yl : FVec Ideal S512x32768 .bf16) (w : FVec Ideal S3x512x1024 .bf16) (r : Fin 34816) (e : Fin 1024) : EReal :=
  ∑ k : Fin 512, x0 (ix2 r k) * cv yc yl r k * w (ix3 2 k e)

/-- The gated sum of the three branches. -/
def gs (ret att x0 : FVec Ideal S34816x512 .bf16) (yc : FVec Ideal S512x2048 .bf16) (yl : FVec Ideal S512x32768 .bf16) (mg : FVec Ideal S34816x3072 .bf16) (w : FVec Ideal S3x512x1024 .bf16) (r : Fin 34816) (e : Fin 1024) : EReal :=
  br mg (fun k => ret (ix2 r k)) w r 0 e + br mg (fun k => att (ix2 r k)) w r 1 e + br mg (fun k => x0 (ix2 r k) * cv yc yl r k) w r 2 e

/-- The residual stream after the merge. -/
def xv (x : FVec Ideal S34816x1024 .f32) (ret att x0 : FVec Ideal S34816x512 .bf16) (yc : FVec Ideal S512x2048 .bf16) (yl : FVec Ideal S512x32768 .bf16) (mg : FVec Ideal S34816x3072 .bf16) (md : FVec Ideal S16x6x1024 .f32) (w : FVec Ideal S3x512x1024 .bf16) (wo : FVec Ideal S1024x1024 .bf16) (r : Fin 34816) (d : Fin 1024) : EReal :=
  x (ix2 r d) + md (ix3 (mrow r) 2 d) * ∑ e : Fin 1024, gs ret att x0 yc yl mg w r e * wo (ix2 e d)

/-- The residual stream after the merge, as an array. -/
def KX (x : FVec Ideal S34816x1024 .f32) (ret att x0 : FVec Ideal S34816x512 .bf16) (yc : FVec Ideal S512x2048 .bf16) (yl : FVec Ideal S512x32768 .bf16) (mg : FVec Ideal S34816x3072 .bf16) (md : FVec Ideal S16x6x1024 .f32) (w : FVec Ideal S3x512x1024 .bf16) (wo : FVec Ideal S1024x1024 .bf16) : FVec Ideal S34816x1024 .f32 :=
  fun j => xv x ret att x0 yc yl mg md w wo (j 0) (j 1)

/-- The experts' input, as an array. -/
def KN (x : FVec Ideal S34816x1024 .f32) (ret att x0 : FVec Ideal S34816x512 .bf16) (yc : FVec Ideal S512x2048 .bf16) (yl : FVec Ideal S512x32768 .bf16) (mg : FVec Ideal S34816x3072 .bf16) (md : FVec Ideal S16x6x1024 .f32) (w : FVec Ideal S3x512x1024 .bf16) (wo : FVec Ideal S1024x1024 .bf16) (g : FVec Ideal S1x1024 .f32) : FVec Ideal S34816x1024 .bf16 :=
  fun j => nrm (fun d => xv x ret att x0 yc yl mg md w wo (j 0) d) (g (ix2 0 (j 1))) (md (ix3 (mrow (j 0)) 4 (j 1))) (md (ix3 (mrow (j 0)) 3 (j 1))) (j 1)

theorem pay8_at (v46 v47 : Vec Ideal S512x512 .bf16) (v48 : Vec Ideal S512x1024 .bf16) (v50 : Vec Ideal S1x512x1024 .bf16) (v54 : Vec Ideal S512x1024 .bf16) (v56 : Vec Ideal S1x512x1024 .bf16) (i : Fin 512) (e : Fin 1024) :
    k0_pay8 v46 v47 v48 v50 v54 v56 (ix2 i e) = v48 (ix2 i e) * ∑ k : Fin 512, v46 (ix2 i k) * v50 (ix3 0 k e) + v54 (ix2 i e) * ∑ k : Fin 512, v47 (ix2 i k) * v56 (ix3 0 k e) := by
  pointwise [k0_pay8]

theorem pay9_at (v61 : Vec Ideal S512x1024 .bf16) (i : Fin 512) (e : Fin 1024) : k0_pay9 v61 (ix2 i e) = v61 (ix2 i e) := by
  pointwise [k0_pay9]

/-- A block's rows of the third branch: those of the first tile come transposed already, those of the second are chosen here. -/
theorem pay10_lo (v21 : FVec Ideal S256x512 .f32) (a b : BitVec 32) (v35 v37 : Vec Ideal S512x256 .bf16) (v41 : Vec Ideal S512x512 .bf16) (v63 : Vec Ideal S1x512x1024 .bf16) (i : Fin 512) (h : i.val < 256) (e : Fin 1024) :
    k0_pay10 v21 a b v35 v37 v41 v63 (ix2 i e) = ∑ k : Fin 512, v41 (ix2 i k) * v21 (ix2 ⟨i, h⟩ k) * v63 (ix3 0 k e) := by
  pointwise [k0_pay10]
  simp only [dif_pos h]

theorem pay10_hi (v21 : FVec Ideal S256x512 .f32) (a b : BitVec 32) (v35 v37 : Vec Ideal S512x256 .bf16) (v41 : Vec Ideal S512x512 .bf16) (v63 : Vec Ideal S1x512x1024 .bf16) (i : Fin 512) (h : ¬ i.val < 256) (e : Fin 1024) :
    k0_pay10 v21 a b v35 v37 v41 v63 (ix2 i e) = ∑ k : Fin 512, v41 (ix2 i k) * Scalar.select (Scalar.cmpi .slt a b) (v35 (ix2 k ⟨i - 256, by omega⟩)) (v37 (ix2 k ⟨i - 256, by omega⟩)) * v63 (ix3 0 k e) := by
  pointwise [k0_pay10]
  simp only [dif_neg h]

/-- The remainder by 17 as the kernel takes it. -/
def rm (i : grid0.Coords) (j : BitVec 32) : BitVec 32 :=
  Scalar.select
    (Scalar.andi
      (Scalar.xori
        (Scalar.cmpi .slt (Scalar.remsi (Scalar.addi (Scalar.muli (BitVec.ofNat 32 (i 0).val) 2#32) j) (Scalar.select (Scalar.cmpi .eq 17#32 0#32) 1#32 17#32)) 0#32)
        (Scalar.cmpi .slt (Scalar.select (Scalar.cmpi .eq 17#32 0#32) 1#32 17#32) 0#32))
      (Scalar.cmpi .ne (Scalar.remsi (Scalar.addi (Scalar.muli (BitVec.ofNat 32 (i 0).val) 2#32) j) (Scalar.select (Scalar.cmpi .eq 17#32 0#32) 1#32 17#32)) 0#32))
    (Scalar.addi (Scalar.remsi (Scalar.addi (Scalar.muli (BitVec.ofNat 32 (i 0).val) 2#32) j) (Scalar.select (Scalar.cmpi .eq 17#32 0#32) 1#32 17#32)) (Scalar.select (Scalar.cmpi .eq 17#32 0#32) 1#32 17#32))
    (Scalar.remsi (Scalar.addi (Scalar.muli (BitVec.ofNat 32 (i 0).val) 2#32) j) (Scalar.select (Scalar.cmpi .eq 17#32 0#32) 1#32 17#32))

theorem pay7_at (i : grid0.Coords) (v16 v18 : Vec Ideal S512x256 .bf16) (p : Fin 256) (k : Fin 512) :
    k0_pay7 i v16 v18 (ix2 p k) = Scalar.select (Scalar.cmpi .slt (rm i 0#32) 1#32) (v16 (ix2 k p)) (v18 (ix2 k p)) := by
  pointwise [k0_pay7]
  rfl

theorem pay11_at (v60 v62 v65 : FVec Ideal S512x1024 .f32) (v69 : Vec Ideal S1024x1024 .bf16) (i : Fin 512) (d : Fin 1024) :
    k0_pay11 v60 v62 v65 v69 (ix2 i d) = ∑ e : Fin 1024, (v60 (ix2 i e) + v62 (ix2 i e) * v65 (ix2 i e)) * v69 (ix2 e d) := by
  pointwise [k0_pay11]

theorem pay12_at (v60 v62 v65 : FVec Ideal S512x1024 .f32) (v69 : Vec Ideal S1024x1024 .bf16) (v71 : Vec Ideal S256x1024 .f32) (v72 : Vec Ideal S1x1x1024 .f32) (i : Fin 256) (d : Fin 1024) :
    k0_pay12 v60 v62 v65 v69 v71 v72 (ix2 i d) = v71 (ix2 i d) + v72 (ix3 0 0 d) * k0_pay11 v60 v62 v65 v69 (ix2 ⟨i, by omega⟩ d) := by
  unfold k0_pay12
  generalize k0_pay11 v60 v62 v65 v69 = z
  pointwise

theorem pay14_at (v60 v62 v65 : FVec Ideal S512x1024 .f32) (v69 : Vec Ideal S1024x1024 .bf16) (v71 : Vec Ideal S256x1024 .f32) (v72 : Vec Ideal S1x1x1024 .f32) (v79 : Vec Ideal S1x1024 .f32) (v80 v82 : Vec Ideal S1x1x1024 .f32) (i : Fin 256) (d : Fin 1024) :
    k0_pay14 v60 v62 v65 v69 v71 v72 v79 v80 v82 (ix2 i d) = nrm (fun d => k0_pay12 v60 v62 v65 v69 v71 v72 (ix2 i d)) (v79 (ix2 0 d)) (v82 (ix3 0 0 d)) (v80 (ix3 0 0 d)) d := by
  unfold k0_pay14 k0_pay13
  generalize k0_pay12 v60 v62 v65 v69 v71 v72 = z
  pointwise
  rfl

theorem pay42_at (v70 : FVec Ideal S512x1024 .f32) (v242 : Vec Ideal S256x1024 .f32) (v243 : Vec Ideal S1x1x1024 .f32) (i : Fin 256) (d : Fin 1024) :
    k0_pay42 v70 v242 v243 (ix2 i d) = v242 (ix2 i d) + v243 (ix3 0 0 d) * v70 (ix2 ⟨256 + i, by omega⟩ d) := by
  pointwise [k0_pay42]

theorem pay48_at (v70 : FVec Ideal S512x1024 .f32) (v242 : Vec Ideal S256x1024 .f32) (v243 : Vec Ideal S1x1x1024 .f32) (v250 : Vec Ideal S1x1024 .f32) (v251 v253 : Vec Ideal S1x1x1024 .f32) (i : Fin 256) (d : Fin 1024) :
    k0_pay48 (k0_pay42 v70 v242 v243) v250 (k0_pay43 v251) (k0_pay44 v253) (k0_pay45 v70 v242 v243) (k0_pay46 (F := Ideal)) (ix2 i d)
      = nrm (fun d => k0_pay42 v70 v242 v243 (ix2 i d)) (v250 (ix2 0 d)) (v253 (ix3 0 0 d)) (v251 (ix3 0 0 d)) d := by
  unfold k0_pay48 k0_pay47 k0_pay45
  generalize k0_pay42 v70 v242 v243 = z
  pointwise [k0_pay43, k0_pay44, k0_pay46]
  rfl

end Cert.Mrg

end
-- ==== Proof.MrgKernel.lean ====
module

public import proofs.«01_k».proof.Proof.Gen.MergeIdeal.Frame
public import proofs.«01_k».proof.Proof.MrgPay
public import Idealize.ShloMosaic.Lib.Pointwise
public import Idealize.ShloMosaic.Lib.Pipeline.ValueKit

/-! What the merge's kernel leaves in its first two output arrays. -/

@[expose] public section

set_option maxRecDepth 16384

noncomputable section

open Idealize.ShloMosaic Idealize.ShloMosaic.TcCoe Idealize.SL.Sem
open Idealize.ShloMosaic.Pipeline (Dat)
open scoped BigOperators

namespace Cert.Mrg

open Cert.MergeIdeal Cert.MergeIdeal.Gen
open Cert.Prj (nrm mrow nrm_congr)

variable (m : (ℓ : Loc nD τ sig) → Buf (Elt Ideal) ℓ)

theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![0, 2 * t.val / 17]
    ∧ win0_5.index t = ![0, (2 * t.val + 1) / 17]
    ∧ win0_6.index t = ![0, 2 * t.val / 17 * 16 + (2 * t.val % 17 - 1)]
    ∧ win0_7.index t = ![0, (2 * t.val + 1) / 17 * 16 + ((2 * t.val + 1) % 17 - 1)]
    ∧ win0_8.index t = ![t.val, 0]
    ∧ win0_9.index t = ![2 * t.val / 17 * 2 + (if 2 * t.val % 17 = 0 then 0 else 1), 0, 0]
    ∧ win0_10.index t = ![(2 * t.val + 1) / 17 * 2 + (if (2 * t.val + 1) % 17 = 0 then 0 else 1), 0, 0]
    ∧ win0_11.index t = ![0, 0, 0]
    ∧ win0_12.index t = ![0, 0]
    ∧ win0_13.index t = ![0, 0]
    ∧ win0_16.index t = ![t.val, 0]
    ∧ win0_17.index t = ![t.val, 0] :=
  (by decide +kernel : ∀ t : Fin grid0.N, _)

theorem cond0 : ∀ t : Fin cfg0.N, Scalar.cmpi .slt (rm (grid0.coords t) 0#32) 1#32 = if 2 * t.val % 17 = 0 then 1#1 else 0#1 :=
  (by decide +kernel : ∀ t : Fin grid0.N, _)
theorem cond1 : ∀ t : Fin cfg0.N, Scalar.cmpi .slt (rm (grid0.coords t) 1#32) 1#32 = if (2 * t.val + 1) % 17 = 0 then 1#1 else 0#1 :=
  (by decide +kernel : ∀ t : Fin grid0.N, _)

theorem emb16 (t : Fin cfg0.N) (i : Fin 512) (d : Fin 1024) (r : Fin 34816) (hr : r.val = 512 * t.val + i.val) :
    (((cfg0.win 16).blk t).view.emb (ix2 i d) : S34816x1024.Idx) = ix2 r d := by
  blk_ext [idx_val t]
theorem emb17 (t : Fin cfg0.N) (i : Fin 512) (d : Fin 1024) (r : Fin 34816) (hr : r.val = 512 * t.val + i.val) :
    (((cfg0.win 17).blk t).view.emb (ix2 i d) : S34816x1024.Idx) = ix2 r d := by
  blk_ext [idx_val t]
theorem x0_at (c : Dev nD) (t : Fin cfg0.N) (i : Fin 256) (d : Fin 1024) (r : Fin 34816) (hr : r.val = 512 * t.val + 0 + i.val) :
    ((View.ld (iblk m c 0 t) (Rect.unit ![0, 0] ![256, 1024] inb_S512x1024_S256x1024_0_0)) : Vec Ideal S256x1024 .f32) (ix2 i d) = (m ((c : Thread nD τ).loc main_arg0) : Vec Ideal S34816x1024 .f32) (ix2 r d) := by
  pointwise
  blk_ext [iblk, V, idx_val t]
theorem x1_at (c : Dev nD) (t : Fin cfg0.N) (i : Fin 256) (d : Fin 1024) (r : Fin 34816) (hr : r.val = 512 * t.val + 256 + i.val) :
    ((View.ld (iblk m c 0 t) (Rect.unit ![256, 0] ![256, 1024] inb_S512x1024_S256x1024_256_0)) : Vec Ideal S256x1024 .f32) (ix2 i d) = (m ((c : Thread nD τ).loc main_arg0) : Vec Ideal S34816x1024 .f32) (ix2 r d) := by
  pointwise
  blk_ext [iblk, V, idx_val t]
theorem ret_at (c : Dev nD) (t : Fin cfg0.N) (i : Fin 512) (k : Fin 512) (r : Fin 34816) (hr : r.val = 512 * t.val + i.val) :
    (iblk m c 1 t : Vec Ideal S512x512 .bf16) (ix2 i k) = (m ((c : Thread nD τ).loc main_arg1) : Vec Ideal S34816x512 .bf16) (ix2 r k) := by
  blk_ext [iblk, V, idx_val t]
theorem att_at (c : Dev nD) (t : Fin cfg0.N) (i : Fin 512) (k : Fin 512) (r : Fin 34816) (hr : r.val = 512 * t.val + i.val) :
    (iblk m c 2 t : Vec Ideal S512x512 .bf16) (ix2 i k) = (m ((c : Thread nD τ).loc main_arg2) : Vec Ideal S34816x512 .bf16) (ix2 r k) := by
  blk_ext [iblk, V, idx_val t]
theorem x0c_at (c : Dev nD) (t : Fin cfg0.N) (i : Fin 512) (k : Fin 512) (r : Fin 34816) (hr : r.val = 512 * t.val + i.val) :
    (iblk m c 3 t : Vec Ideal S512x512 .bf16) (ix2 i k) = (m ((c : Thread nD τ).loc main_arg3) : Vec Ideal S34816x512 .bf16) (ix2 r k) := by
  blk_ext [iblk, V, idx_val t]
theorem yc0_at (c : Dev nD) (t : Fin cfg0.N) (k : Fin 512) (p : Fin 256) (q : Fin 2048) (hq : q.val = 256 * (2 * t.val / 17) + p.val) :
    (iblk m c 4 t : Vec Ideal S512x256 .bf16) (ix2 k p) = (m ((c : Thread nD τ).loc main_arg4) : Vec Ideal S512x2048 .bf16) (ix2 k q) := by
  blk_ext [iblk, V, idx_val t]
theorem yl0_at (c : Dev nD) (t : Fin cfg0.N) (k : Fin 512) (p : Fin 256) (q : Fin 32768) (hq : q.val = 256 * (2 * t.val / 17 * 16 + (2 * t.val % 17 - 1)) + p.val) :
    (iblk m c 6 t : Vec Ideal S512x256 .bf16) (ix2 k p) = (m ((c : Thread nD τ).loc main_arg5) : Vec Ideal S512x32768 .bf16) (ix2 k q) := by
  blk_ext [iblk, V, idx_val t]
theorem yc1_at (c : Dev nD) (t : Fin cfg0.N) (k : Fin 512) (p : Fin 256) (q : Fin 2048) (hq : q.val = 256 * ((2 * t.val + 1) / 17) + p.val) :
    (iblk m c 5 t : Vec Ideal S512x256 .bf16) (ix2 k p) = (m ((c : Thread nD τ).loc main_arg4) : Vec Ideal S512x2048 .bf16) (ix2 k q) := by
  blk_ext [iblk, V, idx_val t]
theorem yl1_at (c : Dev nD) (t : Fin cfg0.N) (k : Fin 512) (p : Fin 256) (q : Fin 32768) (hq : q.val = 256 * ((2 * t.val + 1) / 17 * 16 + ((2 * t.val + 1) % 17 - 1)) + p.val) :
    (iblk m c 7 t : Vec Ideal S512x256 .bf16) (ix2 k p) = (m ((c : Thread nD τ).loc main_arg5) : Vec Ideal S512x32768 .bf16) (ix2 k q) := by
  blk_ext [iblk, V, idx_val t]
theorem mg0_at (c : Dev nD) (t : Fin cfg0.N) (i : Fin 512) (d : Fin 1024) (r : Fin 34816) (e : Fin 3072) (hr : r.val = 512 * t.val + i.val) (he : e.val = 0 + d.val) :
    ((View.ld (iblk m c 8 t) (Rect.unit ![0, 0] ![512, 1024] inb_S512x3072_S512x1024_0_0)) : Vec Ideal S512x1024 .bf16) (ix2 i d) = (m ((c : Thread nD τ).loc main_arg6) : Vec Ideal S34816x3072 .bf16) (ix2 r e) := by
  pointwise
  blk_ext [iblk, V, idx_val t]
theorem wb0_at (c : Dev nD) (t : Fin cfg0.N) (k : Fin 512) (d : Fin 1024) :
    ((View.ld (iblk m c 11 t) (Rect.unit ![0, 0, 0] ![1, 512, 1024] inb_S3x512x1024_S1x512x1024_0_0_0)) : Vec Ideal S1x512x1024 .bf16) (ix3 0 k d) = (m ((c : Thread nD τ).loc main_arg8) : Vec Ideal S3x512x1024 .bf16) (ix3 0 k d) := by
  pointwise
  blk_ext [iblk, V, idx_val t]
theorem mg1_at (c : Dev nD) (t : Fin cfg0.N) (i : Fin 512) (d : Fin 1024) (r : Fin 34816) (e : Fin 3072) (hr : r.val = 512 * t.val + i.val) (he : e.val = 1024 + d.val) :
    ((View.ld (iblk m c 8 t) (Rect.unit ![0, 1024] ![512, 1024] inb_S512x3072_S512x1024_0_1024)) : Vec Ideal S512x1024 .bf16) (ix2 i d) = (m ((c : Thread nD τ).loc main_arg6) : Vec Ideal S34816x3072 .bf16) (ix2 r e) := by
  pointwise
  blk_ext [iblk, V, idx_val t]
theorem wb1_at (c : Dev nD) (t : Fin cfg0.N) (k : Fin 512) (d : Fin 1024) :
    ((View.ld (iblk m c 11 t) (Rect.unit ![1, 0, 0] ![1, 512, 1024] inb_S3x512x1024_S1x512x1024_1_0_0)) : Vec Ideal S1x512x1024 .bf16) (ix3 0 k d) = (m ((c : Thread nD τ).loc main_arg8) : Vec Ideal S3x512x1024 .bf16) (ix3 1 k d) := by
  pointwise
  blk_ext [iblk, V, idx_val t]
theorem mg2_at (c : Dev nD) (t : Fin cfg0.N) (i : Fin 512) (d : Fin 1024) (r : Fin 34816) (e : Fin 3072) (hr : r.val = 512 * t.val + i.val) (he : e.val = 2048 + d.val) :
    ((View.ld (iblk m c 8 t) (Rect.unit ![0, 2048] ![512, 1024] inb_S512x3072_S512x1024_0_2048)) : Vec Ideal S512x1024 .bf16) (ix2 i d) = (m ((c : Thread nD τ).loc main_arg6) : Vec Ideal S34816x3072 .bf16) (ix2 r e) := by
  pointwise
  blk_ext [iblk, V, idx_val t]
theorem wb2_at (c : Dev nD) (t : Fin cfg0.N) (k : Fin 512) (d : Fin 1024) :
    ((View.ld (iblk m c 11 t) (Rect.unit ![2, 0, 0] ![1, 512, 1024] inb_S3x512x1024_S1x512x1024_2_0_0)) : Vec Ideal S1x512x1024 .bf16) (ix3 0 k d) = (m ((c : Thread nD τ).loc main_arg8) : Vec Ideal S3x512x1024 .bf16) (ix3 2 k d) := by
  pointwise
  blk_ext [iblk, V, idx_val t]
theorem md02_at (c : Dev nD) (t : Fin cfg0.N) (d : Fin 1024) (b : Fin 16) (hb : b.val = 2 * t.val / 17 * 2 + (if 2 * t.val % 17 = 0 then 0 else 1)) :
    ((View.ld (iblk m c 9 t) (Rect.unit ![0, 2, 0] ![1, 1, 1024] inb_S1x6x1024_S1x1x1024_0_2_0)) : Vec Ideal S1x1x1024 .f32) (ix3 0 0 d) = (m ((c : Thread nD τ).loc main_arg7) : Vec Ideal S16x6x1024 .f32) (ix3 b 2 d) := by
  pointwise
  blk_ext [iblk, V, idx_val t]
theorem md03_at (c : Dev nD) (t : Fin cfg0.N) (d : Fin 1024) (b : Fin 16) (hb : b.val = 2 * t.val / 17 * 2 + (if 2 * t.val % 17 = 0 then 0 else 1)) :
    ((View.ld (iblk m c 9 t) (Rect.unit ![0, 3, 0] ![1, 1, 1024] inb_S1x6x1024_S1x1x1024_0_3_0)) : Vec Ideal S1x1x1024 .f32) (ix3 0 0 d) = (m ((c : Thread nD τ).loc main_arg7) : Vec Ideal S16x6x1024 .f32) (ix3 b 3 d) := by
  pointwise
  blk_ext [iblk, V, idx_val t]
theorem md04_at (c : Dev nD) (t : Fin cfg0.N) (d : Fin 1024) (b : Fin 16) (hb : b.val = 2 * t.val / 17 * 2 + (if 2 * t.val % 17 = 0 then 0 else 1)) :
    ((View.ld (iblk m c 9 t) (Rect.unit ![0, 4, 0] ![1, 1, 1024] inb_S1x6x1024_S1x1x1024_0_4_0)) : Vec Ideal S1x1x1024 .f32) (ix3 0 0 d) = (m ((c : Thread nD τ).loc main_arg7) : Vec Ideal S16x6x1024 .f32) (ix3 b 4 d) := by
  pointwise
  blk_ext [iblk, V, idx_val t]
theorem md12_at (c : Dev nD) (t : Fin cfg0.N) (d : Fin 1024) (b : Fin 16) (hb : b.val = (2 * t.val + 1) / 17 * 2 + (if (2 * t.val + 1) % 17 = 0 then 0 else 1)) :
    ((View.ld (iblk m c 10 t) (Rect.unit ![0, 2, 0] ![1, 1, 1024] inb_S1x6x1024_S1x1x1024_0_2_0)) : Vec Ideal S1x1x1024 .f32) (ix3 0 0 d) = (m ((c : Thread nD τ).loc main_arg7) : Vec Ideal S16x6x1024 .f32) (ix3 b 2 d) := by
  pointwise
  blk_ext [iblk, V, idx_val t]
theorem md13_at (c : Dev nD) (t : Fin cfg0.N) (d : Fin 1024) (b : Fin 16) (hb : b.val = (2 * t.val + 1) / 17 * 2 + (if (2 * t.val + 1) % 17 = 0 then 0 else 1)) :
    ((View.ld (iblk m c 10 t) (Rect.unit ![0, 3, 0] ![1, 1, 1024] inb_S1x6x1024_S1x1x1024_0_3_0)) : Vec Ideal S1x1x1024 .f32) (ix3 0 0 d) = (m ((c : Thread nD τ).loc main_arg7) : Vec Ideal S16x6x1024 .f32) (ix3 b 3 d) := by
  pointwise
  blk_ext [iblk, V, idx_val t]
theorem md14_at (c : Dev nD) (t : Fin cfg0.N) (d : Fin 1024) (b : Fin 16) (hb : b.val = (2 * t.val + 1) / 17 * 2 + (if (2 * t.val + 1) % 17 = 0 then 0 else 1)) :
    ((View.ld (iblk m c 10 t) (Rect.unit ![0, 4, 0] ![1, 1, 1024] inb_S1x6x1024_S1x1x1024_0_4_0)) : Vec Ideal S1x1x1024 .f32) (ix3 0 0 d) = (m ((c : Thread nD τ).loc main_arg7) : Vec Ideal S16x6x1024 .f32) (ix3 b 4 d) := by
  pointwise
  blk_ext [iblk, V, idx_val t]
theorem wo_at (c : Dev nD) (t : Fin cfg0.N) (e d : Fin 1024) :
    (iblk m c 12 t : Vec Ideal S1024x1024 .bf16) (ix2 e d) = (m ((c : Thread nD τ).loc main_arg9) : Vec Ideal S1024x1024 .bf16) (ix2 e d) := by
  blk_ext [iblk, V, idx_val t]
theorem g_at (c : Dev nD) (t : Fin cfg0.N) (d : Fin 1024) :
    (iblk m c 13 t : Vec Ideal S1x1024 .f32) (ix2 0 d) = (m ((c : Thread nD τ).loc main_arg10) : Vec Ideal S1x1024 .f32) (ix2 0 d) := by
  blk_ext [iblk, V, idx_val t]

/-- The convolution's row of a token in the block's first tile. -/
theorem cv0_at (c : Dev nD) (t : Fin cfg0.N) (p : Fin 256) (k : Fin 512) (r : Fin 34816) (hr : r.val = 512 * t.val + 0 + p.val) :
    Scalar.select (Scalar.cmpi .slt (rm (grid0.coords t) 0#32) 1#32) ((iblk m c 4 t : Vec Ideal S512x256 .bf16) (ix2 k p)) ((iblk m c 6 t : Vec Ideal S512x256 .bf16) (ix2 k p)) = cv (m ((c : Thread nD τ).loc main_arg4)) (m ((c : Thread nD τ).loc main_arg5)) r k := by
  have ht : t.val < 68 := t.isLt
  have hp := p.isLt
  have hr' := r.isLt
  rw [cond0 t]
  unfold cv
  by_cases hn : 2 * t.val % 17 = 0
  · rw [if_pos hn, dif_pos (by omega)]
    exact yc0_at m c t k p _ (by show r.val / 4352 * 256 + r.val % 4352 = _; omega)
  · rw [if_neg hn, dif_neg (by omega)]
    exact yl0_at m c t k p _ (by show r.val / 4352 * 4096 + (r.val % 4352 - 256) = _; omega)

/-- The convolution's row of a token in the block's second tile. -/
theorem cv1_at (c : Dev nD) (t : Fin cfg0.N) (p : Fin 256) (k : Fin 512) (r : Fin 34816) (hr : r.val = 512 * t.val + 256 + p.val) :
    Scalar.select (Scalar.cmpi .slt (rm (grid0.coords t) 1#32) 1#32) ((iblk m c 5 t : Vec Ideal S512x256 .bf16) (ix2 k p)) ((iblk m c 7 t : Vec Ideal S512x256 .bf16) (ix2 k p)) = cv (m ((c : Thread nD τ).loc main_arg4)) (m ((c : Thread nD τ).loc main_arg5)) r k := by
  have ht : t.val < 68 := t.isLt
  have hp := p.isLt
  have hr' := r.isLt
  rw [cond1 t]
  unfold cv
  by_cases hn : (2 * t.val + 1) % 17 = 0
  · rw [if_pos hn, dif_pos (by omega)]
    exact yc1_at m c t k p _ (by show r.val / 4352 * 256 + r.val % 4352 = _; omega)
  · rw [if_neg hn, dif_neg (by omega)]
    exact yl1_at m c t k p _ (by show r.val / 4352 * 4096 + (r.val % 4352 - 256) = _; omega)

/-- The first two branches of block `t`. -/
def bA (c : Dev nD) (t : Fin cfg0.N) : FVec Ideal S512x1024 .f32 :=
  k0_pay8 (iblk m c 1 t) (iblk m c 2 t) (View.ld (iblk m c 8 t) (Rect.unit ![0, 0] ![512, 1024] inb_S512x3072_S512x1024_0_0)) (View.ld (iblk m c 11 t) (Rect.unit ![0, 0, 0] ![1, 512, 1024] inb_S3x512x1024_S1x512x1024_0_0_0)) (View.ld (iblk m c 8 t) (Rect.unit ![0, 1024] ![512, 1024] inb_S512x3072_S512x1024_0_1024)) (View.ld (iblk m c 11 t) (Rect.unit ![1, 0, 0] ![1, 512, 1024] inb_S3x512x1024_S1x512x1024_1_0_0))
/-- The third gate of block `t`. -/
def bG (c : Dev nD) (t : Fin cfg0.N) : FVec Ideal S512x1024 .f32 := k0_pay9 (View.ld (iblk m c 8 t) (Rect.unit ![0, 2048] ![512, 1024] inb_S512x3072_S512x1024_0_2048))
/-- The third branch of block `t`. -/
def bC (c : Dev nD) (t : Fin cfg0.N) : FVec Ideal S512x1024 .f32 :=
  k0_pay10 (k0_pay7 (grid0.coords t) (iblk m c 4 t) (iblk m c 6 t)) (rm (grid0.coords t) 1#32) 1#32 (iblk m c 5 t) (iblk m c 7 t) (iblk m c 3 t) (View.ld (iblk m c 11 t) (Rect.unit ![2, 0, 0] ![1, 512, 1024] inb_S3x512x1024_S1x512x1024_2_0_0))

theorem bC_at (c : Dev nD) (t : Fin cfg0.N) (i : Fin 512) (e : Fin 1024) (r : Fin 34816) (hr : r.val = 512 * t.val + i.val) :
    bC m c t (ix2 i e) = cs (m ((c : Thread nD τ).loc main_arg3)) (m ((c : Thread nD τ).loc main_arg4)) (m ((c : Thread nD τ).loc main_arg5)) (m ((c : Thread nD τ).loc main_arg8)) r e := by
  have hi := i.isLt
  by_cases h : i.val < 256
  · refine (pay10_lo _ _ _ _ _ _ _ i h e).trans (Finset.sum_congr rfl fun k _ => congrArg₂ (· * ·) (congrArg₂ (· * ·) (x0c_at m c t i k r hr) ?_) (wb2_at m c t k e))
    exact (pay7_at _ _ _ _ k).trans (cv0_at m c t _ k r (by show r.val = 512 * t.val + 0 + i.val; omega))
  · refine (pay10_hi _ _ _ _ _ _ _ i h e).trans (Finset.sum_congr rfl fun k _ => congrArg₂ (· * ·) (congrArg₂ (· * ·) (x0c_at m c t i k r hr) ?_) (wb2_at m c t k e))
    exact cv1_at m c t _ k r (by show r.val = 512 * t.val + 256 + (i.val - 256); omega)

theorem gs_at (c : Dev nD) (t : Fin cfg0.N) (i : Fin 512) (e : Fin 1024) (r : Fin 34816) (hr : r.val = 512 * t.val + i.val) :
    bA m c t (ix2 i e) + bG m c t (ix2 i e) * bC m c t (ix2 i e) = gs (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) r e := by
  refine congrArg₂ (· + ·) ((pay8_at _ _ _ _ _ _ i e).trans ?_) (congrArg₂ (· * ·) ((pay9_at _ i e).trans (mg2_at m c t i e r _ hr (by show 2 * 1024 + e.val = _; omega))) (bC_at m c t i e r hr))
  refine congrArg₂ (· + ·) (congrArg₂ (· * ·) (mg0_at m c t i e r _ hr (by show 0 * 1024 + e.val = _; omega)) ?_) (congrArg₂ (· * ·) (mg1_at m c t i e r _ hr (by show 1 * 1024 + e.val = _; omega)) ?_)
  · exact Finset.sum_congr rfl fun k _ => congrArg₂ (· * ·) (ret_at m c t i k r hr) (wb0_at m c t k e)
  · exact Finset.sum_congr rfl fun k _ => congrArg₂ (· * ·) (att_at m c t i k r hr) (wb1_at m c t k e)

theorem out_at (c : Dev nD) (t : Fin cfg0.N) (i : Fin 512) (d : Fin 1024) (r : Fin 34816) (hr : r.val = 512 * t.val + i.val) :
    k0_pay11 (bA m c t) (bG m c t) (bC m c t) (iblk m c 12 t) (ix2 i d) = ∑ e : Fin 1024, gs (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) r e * ((m ((c : Thread nD τ).loc main_arg9) : Vec Ideal S1024x1024 .bf16) (ix2 e d) : EReal) :=
  (pay11_at _ _ _ _ i d).trans (Finset.sum_congr rfl fun e _ => congrArg₂ (· * ·) (gs_at m c t i e r hr) (wo_at m c t e d))

theorem row0 (t : Fin cfg0.N) (p : Fin 256) (r : Fin 34816) (hr : r.val = 512 * t.val + 0 + p.val) :
    (mrow r).val = 2 * t.val / 17 * 2 + (if 2 * t.val % 17 = 0 then 0 else 1) := by
  have ht : t.val < 68 := t.isLt
  have hp := p.isLt
  unfold mrow
  split <;> split <;> simp only [] <;> omega

theorem row1 (t : Fin cfg0.N) (p : Fin 256) (r : Fin 34816) (hr : r.val = 512 * t.val + 256 + p.val) :
    (mrow r).val = (2 * t.val + 1) / 17 * 2 + (if (2 * t.val + 1) % 17 = 0 then 0 else 1) := by
  have ht : t.val < 68 := t.isLt
  have hp := p.isLt
  unfold mrow
  split <;> split <;> simp only [] <;> omega

/-- The residual stream of the block's first tile. -/
theorem xlo_at (c : Dev nD) (t : Fin cfg0.N) (p : Fin 256) (d : Fin 1024) (r : Fin 34816) (hr : r.val = 512 * t.val + 0 + p.val) :
    k0_pay12 (bA m c t) (bG m c t) (bC m c t) (iblk m c 12 t) (View.ld (iblk m c 0 t) (Rect.unit ![0, 0] ![256, 1024] inb_S512x1024_S256x1024_0_0)) (View.ld (iblk m c 9 t) (Rect.unit ![0, 2, 0] ![1, 1, 1024] inb_S1x6x1024_S1x1x1024_0_2_0)) (ix2 p d) = xv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) r d :=
  (pay12_at _ _ _ _ _ _ p d).trans (congrArg₂ (· + ·) (x0_at m c t p d r hr) (congrArg₂ (· * ·) (md02_at m c t d _ (row0 t p r hr)) (out_at m c t _ d r (by show r.val = 512 * t.val + p.val; omega))))

/-- The residual stream of the block's second tile. -/
theorem xhi_at (c : Dev nD) (t : Fin cfg0.N) (p : Fin 256) (d : Fin 1024) (r : Fin 34816) (hr : r.val = 512 * t.val + 256 + p.val) :
    k0_pay42 (k0_pay11 (bA m c t) (bG m c t) (bC m c t) (iblk m c 12 t)) (View.ld (iblk m c 0 t) (Rect.unit ![256, 0] ![256, 1024] inb_S512x1024_S256x1024_256_0)) (View.ld (iblk m c 10 t) (Rect.unit ![0, 2, 0] ![1, 1, 1024] inb_S1x6x1024_S1x1x1024_0_2_0)) (ix2 p d) = xv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) r d :=
  (pay42_at _ _ _ p d).trans (congrArg₂ (· + ·) (x1_at m c t p d r hr) (congrArg₂ (· * ·) (md12_at m c t d _ (row1 t p r hr)) (out_at m c t _ d r (by show r.val = 512 * t.val + (256 + p.val); omega))))

/-- The experts' input of the block's first tile. -/
theorem hlo_at (c : Dev nD) (t : Fin cfg0.N) (p : Fin 256) (d : Fin 1024) (r : Fin 34816) (hr : r.val = 512 * t.val + 0 + p.val) :
    k0_pay14 (bA m c t) (bG m c t) (bC m c t) (iblk m c 12 t) (View.ld (iblk m c 0 t) (Rect.unit ![0, 0] ![256, 1024] inb_S512x1024_S256x1024_0_0)) (View.ld (iblk m c 9 t) (Rect.unit ![0, 2, 0] ![1, 1, 1024] inb_S1x6x1024_S1x1x1024_0_2_0)) (iblk m c 13 t) (View.ld (iblk m c 9 t) (Rect.unit ![0, 3, 0] ![1, 1, 1024] inb_S1x6x1024_S1x1x1024_0_3_0)) (View.ld (iblk m c 9 t) (Rect.unit ![0, 4, 0] ![1, 1, 1024] inb_S1x6x1024_S1x1x1024_0_4_0)) (ix2 p d) = KN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 r d) :=
  (pay14_at _ _ _ _ _ _ _ _ _ p d).trans (nrm_congr d (fun k => xlo_at m c t p k r hr) (g_at m c t d) (md04_at m c t d _ (row0 t p r hr)) (md03_at m c t d _ (row0 t p r hr)))

/-- The experts' input of the block's second tile. -/
theorem hhi_at (c : Dev nD) (t : Fin cfg0.N) (p : Fin 256) (d : Fin 1024) (r : Fin 34816) (hr : r.val = 512 * t.val + 256 + p.val) :
    k0_pay48 (k0_pay42 (k0_pay11 (bA m c t) (bG m c t) (bC m c t) (iblk m c 12 t)) (View.ld (iblk m c 0 t) (Rect.unit ![256, 0] ![256, 1024] inb_S512x1024_S256x1024_256_0)) (View.ld (iblk m c 10 t) (Rect.unit ![0, 2, 0] ![1, 1, 1024] inb_S1x6x1024_S1x1x1024_0_2_0))) (iblk m c 13 t) (k0_pay43 (View.ld (iblk m c 10 t) (Rect.unit ![0, 3, 0] ![1, 1, 1024] inb_S1x6x1024_S1x1x1024_0_3_0))) (k0_pay44 (View.ld (iblk m c 10 t) (Rect.unit ![0, 4, 0] ![1, 1, 1024] inb_S1x6x1024_S1x1x1024_0_4_0))) (k0_pay45 (k0_pay11 (bA m c t) (bG m c t) (bC m c t) (iblk m c 12 t)) (View.ld (iblk m c 0 t) (Rect.unit ![256, 0] ![256, 1024] inb_S512x1024_S256x1024_256_0)) (View.ld (iblk m c 10 t) (Rect.unit ![0, 2, 0] ![1, 1, 1024] inb_S1x6x1024_S1x1x1024_0_2_0))) (k0_pay46 (F := Ideal)) (ix2 p d) = KN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 r d) :=
  (pay48_at _ _ _ _ _ _ p d).trans (nrm_congr d (fun k => xhi_at m c t p k r hr) (g_at m c t d) (md14_at m c t d _ (row1 t p r hr)) (md13_at m c t d _ (row1 t p r hr)))

/-- Output 16's block at an entry. -/
theorem point16 (c : Dev nD) (t : Fin cfg0.N) (y : S512x1024.Idx) :
    (dats m 0 c).after 16 t y = KX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 16).blk t).view.emb y) := by
  obtain ⟨i, d, rfl⟩ : ∃ (i : Fin 512) (d : Fin 1024), y = ix2 i d := ⟨y 0, y 1, by funext a; fin_cases a <;> rfl⟩
  have ht : t.val < 68 := t.isLt
  rw [emb16 t i d ⟨512 * t.val + i.val, by omega⟩ rfl]
  rw [after0_16]
  by_cases h : t.val % 68 = 0
  · rw [outsAt0_A m c t h]
    dsimp only
    frame_out
    canon_tiles x h
    · obtain ⟨p, q, rfl⟩ : ∃ (p : Fin 256) (q : Fin 1024), x = ix2 p q := ⟨x 0, x 1, by funext a; fin_cases a <;> rfl⟩
      have h0' : i.val = 256 + p.val := h0
      obtain rfl : d = q := Fin.ext h1
      exact xhi_at m c t p d _ (by show 512 * t.val + i.val = 512 * t.val + 256 + p.val; omega)
    · obtain ⟨p, q, rfl⟩ : ∃ (p : Fin 256) (q : Fin 1024), x = ix2 p q := ⟨x 0, x 1, by funext a; fin_cases a <;> rfl⟩
      have h0' : i.val = p.val := h0
      obtain rfl : d = q := Fin.ext h1
      exact xlo_at m c t p d _ (by show 512 * t.val + i.val = 512 * t.val + 0 + p.val; omega)
  · rw [outsAt0_B m c t h]
    dsimp only
    frame_out
    canon_tiles x h
    · obtain ⟨p, q, rfl⟩ : ∃ (p : Fin 256) (q : Fin 1024), x = ix2 p q := ⟨x 0, x 1, by funext a; fin_cases a <;> rfl⟩
      have h0' : i.val = 256 + p.val := h0
      obtain rfl : d = q := Fin.ext h1
      exact xhi_at m c t p d _ (by show 512 * t.val + i.val = 512 * t.val + 256 + p.val; omega)
    · obtain ⟨p, q, rfl⟩ : ∃ (p : Fin 256) (q : Fin 1024), x = ix2 p q := ⟨x 0, x 1, by funext a; fin_cases a <;> rfl⟩
      have h0' : i.val = p.val := h0
      obtain rfl : d = q := Fin.ext h1
      exact xlo_at m c t p d _ (by show 512 * t.val + i.val = 512 * t.val + 0 + p.val; omega)

/-- Output 16's array. -/
theorem final16 (c : Dev nD) : (dats m 0 c).arrAt 16 (cfgs 0).N = KX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_covers 16 _ (by decide +kernel) fun t hf y => by
    blk_simp; exact point16 m c t y

/-- Output 17's block at an entry. -/
theorem point17 (c : Dev nD) (t : Fin cfg0.N) (y : S512x1024.Idx) :
    (dats m 0 c).after 17 t y = KN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 17).blk t).view.emb y) := by
  obtain ⟨i, d, rfl⟩ : ∃ (i : Fin 512) (d : Fin 1024), y = ix2 i d := ⟨y 0, y 1, by funext a; fin_cases a <;> rfl⟩
  have ht : t.val < 68 := t.isLt
  rw [emb17 t i d ⟨512 * t.val + i.val, by omega⟩ rfl]
  rw [after0_17]
  by_cases h : t.val % 68 = 0
  · rw [outsAt0_A m c t h]
    dsimp only
    frame_out
    canon_tiles x h
    · obtain ⟨p, q, rfl⟩ : ∃ (p : Fin 256) (q : Fin 1024), x = ix2 p q := ⟨x 0, x 1, by funext a; fin_cases a <;> rfl⟩
      have h0' : i.val = 256 + p.val := h0
      obtain rfl : d = q := Fin.ext h1
      exact hhi_at m c t p d _ (by show 512 * t.val + i.val = 512 * t.val + 256 + p.val; omega)
    · obtain ⟨p, q, rfl⟩ : ∃ (p : Fin 256) (q : Fin 1024), x = ix2 p q := ⟨x 0, x 1, by funext a; fin_cases a <;> rfl⟩
      have h0' : i.val = p.val := h0
      obtain rfl : d = q := Fin.ext h1
      exact hlo_at m c t p d _ (by show 512 * t.val + i.val = 512 * t.val + 0 + p.val; omega)
  · rw [outsAt0_B m c t h]
    dsimp only
    frame_out
    canon_tiles x h
    · obtain ⟨p, q, rfl⟩ : ∃ (p : Fin 256) (q : Fin 1024), x = ix2 p q := ⟨x 0, x 1, by funext a; fin_cases a <;> rfl⟩
      have h0' : i.val = 256 + p.val := h0
      obtain rfl : d = q := Fin.ext h1
      exact hhi_at m c t p d _ (by show 512 * t.val + i.val = 512 * t.val + 256 + p.val; omega)
    · obtain ⟨p, q, rfl⟩ : ∃ (p : Fin 256) (q : Fin 1024), x = ix2 p q := ⟨x 0, x 1, by funext a; fin_cases a <;> rfl⟩
      have h0' : i.val = p.val := h0
      obtain rfl : d = q := Fin.ext h1
      exact hlo_at m c t p d _ (by show 512 * t.val + i.val = 512 * t.val + 0 + p.val; omega)

/-- Output 17's array. -/
theorem final17 (c : Dev nD) : (dats m 0 c).arrAt 17 (cfgs 0).N = KN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_covers 17 _ (by decide +kernel) fun t hf y => by
    blk_simp; exact point17 m c t y

theorem kept0 (r : PUnit × MemSt nD τ sig (Elt Ideal)) (h : Pipeline.FramePost cfgs (dats m) 0 (V m) r) (c : Dev nD) : r.2.mem ((c : Thread nD τ).loc main_arg0) = m ((c : Thread nD τ).loc main_arg0) :=
  ((h c).1 0).trans (((dats m 0 c).arrAt_in 0 rfl _).trans ((A_eq m c 0).trans (V_main_arg0 m c)))

theorem kept1 (r : PUnit × MemSt nD τ sig (Elt Ideal)) (h : Pipeline.FramePost cfgs (dats m) 0 (V m) r) (c : Dev nD) : r.2.mem ((c : Thread nD τ).loc main_arg1) = m ((c : Thread nD τ).loc main_arg1) :=
  ((h c).1 1).trans (((dats m 0 c).arrAt_in 1 rfl _).trans ((A_eq m c 1).trans (V_main_arg1 m c)))

theorem kept2 (r : PUnit × MemSt nD τ sig (Elt Ideal)) (h : Pipeline.FramePost cfgs (dats m) 0 (V m) r) (c : Dev nD) : r.2.mem ((c : Thread nD τ).loc main_arg2) = m ((c : Thread nD τ).loc main_arg2) :=
  ((h c).1 2).trans (((dats m 0 c).arrAt_in 2 rfl _).trans ((A_eq m c 2).trans (V_main_arg2 m c)))

theorem kept3 (r : PUnit × MemSt nD τ sig (Elt Ideal)) (h : Pipeline.FramePost cfgs (dats m) 0 (V m) r) (c : Dev nD) : r.2.mem ((c : Thread nD τ).loc main_arg3) = m ((c : Thread nD τ).loc main_arg3) :=
  ((h c).1 3).trans (((dats m 0 c).arrAt_in 3 rfl _).trans ((A_eq m c 3).trans (V_main_arg3 m c)))

theorem kept4 (r : PUnit × MemSt nD τ sig (Elt Ideal)) (h : Pipeline.FramePost cfgs (dats m) 0 (V m) r) (c : Dev nD) : r.2.mem ((c : Thread nD τ).loc main_arg4) = m ((c : Thread nD τ).loc main_arg4) :=
  ((h c).1 4).trans (((dats m 0 c).arrAt_in 4 rfl _).trans ((A_eq m c 4).trans (V_main_arg4 m c)))

theorem kept5 (r : PUnit × MemSt nD τ sig (Elt Ideal)) (h : Pipeline.FramePost cfgs (dats m) 0 (V m) r) (c : Dev nD) : r.2.mem ((c : Thread nD τ).loc main_arg5) = m ((c : Thread nD τ).loc main_arg5) :=
  ((h c).1 6).trans (((dats m 0 c).arrAt_in 6 rfl _).trans ((A_eq m c 6).trans (V_main_arg5 m c)))

theorem kept6 (r : PUnit × MemSt nD τ sig (Elt Ideal)) (h : Pipeline.FramePost cfgs (dats m) 0 (V m) r) (c : Dev nD) : r.2.mem ((c : Thread nD τ).loc main_arg6) = m ((c : Thread nD τ).loc main_arg6) :=
  ((h c).1 8).trans (((dats m 0 c).arrAt_in 8 rfl _).trans ((A_eq m c 8).trans (V_main_arg6 m c)))

theorem kept7 (r : PUnit × MemSt nD τ sig (Elt Ideal)) (h : Pipeline.FramePost cfgs (dats m) 0 (V m) r) (c : Dev nD) : r.2.mem ((c : Thread nD τ).loc main_arg7) = m ((c : Thread nD τ).loc main_arg7) :=
  ((h c).1 9).trans (((dats m 0 c).arrAt_in 9 rfl _).trans ((A_eq m c 9).trans (V_main_arg7 m c)))

theorem kept8 (r : PUnit × MemSt nD τ sig (Elt Ideal)) (h : Pipeline.FramePost cfgs (dats m) 0 (V m) r) (c : Dev nD) : r.2.mem ((c : Thread nD τ).loc main_arg8) = m ((c : Thread nD τ).loc main_arg8) :=
  ((h c).1 11).trans (((dats m 0 c).arrAt_in 11 rfl _).trans ((A_eq m c 11).trans (V_main_arg8 m c)))

theorem kept9 (r : PUnit × MemSt nD τ sig (Elt Ideal)) (h : Pipeline.FramePost cfgs (dats m) 0 (V m) r) (c : Dev nD) : r.2.mem ((c : Thread nD τ).loc main_arg9) = m ((c : Thread nD τ).loc main_arg9) :=
  ((h c).1 12).trans (((dats m 0 c).arrAt_in 12 rfl _).trans ((A_eq m c 12).trans (V_main_arg9 m c)))

theorem kept10 (r : PUnit × MemSt nD τ sig (Elt Ideal)) (h : Pipeline.FramePost cfgs (dats m) 0 (V m) r) (c : Dev nD) : r.2.mem ((c : Thread nD τ).loc main_arg10) = m ((c : Thread nD τ).loc main_arg10) :=
  ((h c).1 13).trans (((dats m 0 c).arrAt_in 13 rfl _).trans ((A_eq m c 13).trans (V_main_arg10 m c)))

theorem kept11 (r : PUnit × MemSt nD τ sig (Elt Ideal)) (h : Pipeline.FramePost cfgs (dats m) 0 (V m) r) (c : Dev nD) : r.2.mem ((c : Thread nD τ).loc main_arg11) = m ((c : Thread nD τ).loc main_arg11) :=
  ((h c).1 14).trans (((dats m 0 c).arrAt_in 14 rfl _).trans ((A_eq m c 14).trans (V_main_arg11 m c)))

theorem kept12 (r : PUnit × MemSt nD τ sig (Elt Ideal)) (h : Pipeline.FramePost cfgs (dats m) 0 (V m) r) (c : Dev nD) : r.2.mem ((c : Thread nD τ).loc main_arg12) = m ((c : Thread nD τ).loc main_arg12) :=
  ((h c).1 15).trans (((dats m 0 c).arrAt_in 15 rfl _).trans ((A_eq m c 15).trans (V_main_arg12 m c)))

theorem left16 (r : PUnit × MemSt nD τ sig (Elt Ideal)) (h : Pipeline.FramePost cfgs (dats m) 0 (V m) r) (c : Dev nD) : r.2.mem ((c : Thread nD τ).loc main_v0_0) = KX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := ((h c).1 16).trans (final16 m c)

theorem left17 (r : PUnit × MemSt nD τ sig (Elt Ideal)) (h : Pipeline.FramePost cfgs (dats m) 0 (V m) r) (c : Dev nD) : r.2.mem ((c : Thread nD τ).loc main_v0_1) = KN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := ((h c).1 17).trans (final17 m c)

/-- The run: the first two output arrays as computed above, the arguments unchanged. -/
theorem run (g : Dev nD → PrngReg) : θ_run defs (onTc (τ := τ) (main (F := Ideal))) ⟨m, fun _ => 0, g⟩ fun r => ∀ c : Dev nD,
      r.2.mem ((c : Thread nD τ).loc main_v0_0) = KX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v0_1) = KN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨left16 m r h c, left17 m r h c,
    kept0 m r h c, kept1 m r h c, kept2 m r h c, kept3 m r h c, kept4 m r h c, kept5 m r h c, kept6 m r h c, kept7 m r h c, kept8 m r h c, kept9 m r h c, kept10 m r h c, kept11 m r h c, kept12 m r h c⟩)
    (run_main m g)

end Cert.Mrg

end
-- ==== Proof.MrgRef.lean ====
module

public import proofs.«01_k».proof.Proof.Gen.MergeReferenceIdeal.Run
public import proofs.«01_k».proof.Proof.MrgPay

/-! What the merge's reference computes. -/

@[expose] public section

set_option maxRecDepth 16384

noncomputable section

open Idealize.ShloMosaic Idealize.ShloMosaic.TcCoe
open scoped BigOperators

namespace Cert.MrgRef

open Cert.MergeReferenceIdeal Cert.MergeReferenceIdeal.Gen Cert.MergeReferenceIdeal.Value
open Cert.Prj (nrm mrow nrm_congr)
open Cert.Mrg (cv br gs xv KX KN)

/-- The long convolution's rows, context before latents. -/
def cvR (yc : FVec Ideal S512x2048 .bf16) (yl : FVec Ideal S512x32768 .bf16) : FVec Ideal S8x4352x512 .f32 :=
  concatenate S8x4352x512 1 [⟨S8x256x512, shapeCast _ (transpose S2048x512 [1, 0] (extf .f32 yc bitsLt_bf16_f32) transposes_S512x2048_S2048x512_1_0) shapeCasts_S2048x512_S8x256x512⟩, ⟨S8x4096x512, shapeCast _ (transpose S32768x512 [1, 0] (extf .f32 yl bitsLt_bf16_f32) transposes_S512x32768_S32768x512_1_0) shapeCasts_S32768x512_S8x4096x512⟩] concatenates_S8x256x512_S8x4096x512_S8x4352x512_d1

/-- A mixer's rows by sample. -/
def aR (a : FVec Ideal S34816x512 .bf16) : FVec Ideal S8x4352x512 .f32 := shapeCast _ (extf .f32 a bitsLt_bf16_f32) shapeCasts_S34816x512_S8x4352x512

/-- The first branch: its gate times its projection. -/
def b0 (mg : FVec Ideal S34816x3072 .bf16) (a : FVec Ideal S8x4352x512 .f32) (w : FVec Ideal S3x512x1024 .bf16) : FVec Ideal S8x4352x1024 .f32 :=
  mulf (extractStridedSlice S8x4352x1024 ![0, 0, 0] (shapeCast _ (extf .f32 mg bitsLt_bf16_f32) shapeCasts_S34816x3072_S8x4352x3072) slices_S8x4352x3072_S8x4352x1024_0_0_0) (Host.dotGeneral dot_S8x4352x512_S512x1024_S8x4352x1024_2_0_01_1_n_n none a (shapeCast _ (extractStridedSlice S1x512x1024 ![0, 0, 0] (extf .f32 w bitsLt_bf16_f32) slices_S3x512x1024_S1x512x1024_0_0_0) shapeCasts_S1x512x1024_S512x1024))

/-- The second branch: its gate times its projection. -/
def b1 (mg : FVec Ideal S34816x3072 .bf16) (a : FVec Ideal S8x4352x512 .f32) (w : FVec Ideal S3x512x1024 .bf16) : FVec Ideal S8x4352x1024 .f32 :=
  mulf (extractStridedSlice S8x4352x1024 ![0, 0, 1024] (shapeCast _ (extf .f32 mg bitsLt_bf16_f32) shapeCasts_S34816x3072_S8x4352x3072) slices_S8x4352x3072_S8x4352x1024_0_0_1024) (Host.dotGeneral dot_S8x4352x512_S512x1024_S8x4352x1024_2_0_01_1_n_n none a (shapeCast _ (extractStridedSlice S1x512x1024 ![1, 0, 0] (extf .f32 w bitsLt_bf16_f32) slices_S3x512x1024_S1x512x1024_1_0_0) shapeCasts_S1x512x1024_S512x1024))

/-- The third branch: its gate times its projection. -/
def b2 (mg : FVec Ideal S34816x3072 .bf16) (a : FVec Ideal S8x4352x512 .f32) (w : FVec Ideal S3x512x1024 .bf16) : FVec Ideal S8x4352x1024 .f32 :=
  mulf (extractStridedSlice S8x4352x1024 ![0, 0, 2048] (shapeCast _ (extf .f32 mg bitsLt_bf16_f32) shapeCasts_S34816x3072_S8x4352x3072) slices_S8x4352x3072_S8x4352x1024_0_0_2048) (Host.dotGeneral dot_S8x4352x512_S512x1024_S8x4352x1024_2_0_01_1_n_n none a (shapeCast _ (extractStridedSlice S1x512x1024 ![2, 0, 0] (extf .f32 w bitsLt_bf16_f32) slices_S3x512x1024_S1x512x1024_2_0_0) shapeCasts_S1x512x1024_S512x1024))

/-- The gated sum. -/
def gsR (ret : FVec Ideal S34816x512 .bf16) (att : FVec Ideal S34816x512 .bf16) (x0 : FVec Ideal S34816x512 .bf16) (yc : FVec Ideal S512x2048 .bf16) (yl : FVec Ideal S512x32768 .bf16) (mg : FVec Ideal S34816x3072 .bf16) (w : FVec Ideal S3x512x1024 .bf16) : FVec Ideal S8x4352x1024 .f32 :=
  addf (addf (b0 mg (aR ret) w) (b1 mg (aR att) w)) (b2 mg (mulf (aR x0) (cvR yc yl)) w)

/-- The merge's output. -/
def oR (z : FVec Ideal S8x4352x1024 .f32) (wo : FVec Ideal S1024x1024 .bf16) : FVec Ideal S8x4352x1024 .f32 :=
  Host.dotGeneral dot_S8x4352x1024_S1024x1024_S8x4352x1024_2_0_01_1_n_n none z (extf .f32 wo bitsLt_bf16_f32)

theorem aR_at (a : FVec Ideal S34816x512 .bf16) (b : Fin 8) (s : Fin 4352) (k : Fin 512) :
    aR a (ix3 b s k) = a (ix2 ⟨b * 4352 + s, by omega⟩ k) := by
  pointwise [aR]

theorem cvR_at (yc : FVec Ideal S512x2048 .bf16) (yl : FVec Ideal S512x32768 .bf16) (b : Fin 8) (s : Fin 4352) (k : Fin 512) (r : Fin 34816) (hr : r.val = b * 4352 + s) :
    cvR yc yl (ix3 b s k) = cv yc yl r k := by
  have hb := b.isLt
  have hs := s.isLt
  unfold cv
  by_cases h : s.val < 256
  · rw [dif_pos (by omega)]
    pointwise [cvR]
    rw [dif_pos h]
    refine congrArg yc (congrArg (ix2 k) (Fin.ext ?_))
    show b.val * 256 + s.val = r.val / 4352 * 256 + r.val % 4352
    omega
  · rw [dif_neg (by omega)]
    pointwise [cvR]
    rw [dif_neg h]
    refine congrArg yl (congrArg (ix2 k) (Fin.ext ?_))
    show b.val * 4096 + (s.val - 256) = r.val / 4352 * 4096 + (r.val % 4352 - 256)
    omega

theorem b0_at (mg : FVec Ideal S34816x3072 .bf16) (a : FVec Ideal S8x4352x512 .f32) (w : FVec Ideal S3x512x1024 .bf16) (b : Fin 8) (s : Fin 4352) (e : Fin 1024) (r : Fin 34816) (hr : r.val = b * 4352 + s) (u : Fin 512 → EReal) (hu : ∀ k, a (ix3 b s k) = u k) :
    b0 mg a w (ix3 b s e) = br mg u w r 0 e := by
  obtain ⟨r, h⟩ := r
  obtain rfl : r = b * 4352 + s := hr
  obtain rfl : (fun k => a (ix3 b s k)) = u := funext hu
  pointwise [b0]
  unfold br
  exact congrArg (· * _) (congrArg mg (congrArg (ix2 _) (Fin.ext (by show _ = 0 * 1024 + e.val; first | rfl | (simp only []; omega)))))

theorem b1_at (mg : FVec Ideal S34816x3072 .bf16) (a : FVec Ideal S8x4352x512 .f32) (w : FVec Ideal S3x512x1024 .bf16) (b : Fin 8) (s : Fin 4352) (e : Fin 1024) (r : Fin 34816) (hr : r.val = b * 4352 + s) (u : Fin 512 → EReal) (hu : ∀ k, a (ix3 b s k) = u k) :
    b1 mg a w (ix3 b s e) = br mg u w r 1 e := by
  obtain ⟨r, h⟩ := r
  obtain rfl : r = b * 4352 + s := hr
  obtain rfl : (fun k => a (ix3 b s k)) = u := funext hu
  pointwise [b1]
  unfold br
  exact congrArg (· * _) (congrArg mg (congrArg (ix2 _) (Fin.ext (by show _ = 1 * 1024 + e.val; first | rfl | (simp only []; omega)))))

theorem b2_at (mg : FVec Ideal S34816x3072 .bf16) (a : FVec Ideal S8x4352x512 .f32) (w : FVec Ideal S3x512x1024 .bf16) (b : Fin 8) (s : Fin 4352) (e : Fin 1024) (r : Fin 34816) (hr : r.val = b * 4352 + s) (u : Fin 512 → EReal) (hu : ∀ k, a (ix3 b s k) = u k) :
    b2 mg a w (ix3 b s e) = br mg u w r 2 e := by
  obtain ⟨r, h⟩ := r
  obtain rfl : r = b * 4352 + s := hr
  obtain rfl : (fun k => a (ix3 b s k)) = u := funext hu
  pointwise [b2]
  unfold br
  exact congrArg (· * _) (congrArg mg (congrArg (ix2 _) (Fin.ext (by show _ = 2 * 1024 + e.val; first | rfl | (simp only []; omega)))))

theorem gsR_at (ret : FVec Ideal S34816x512 .bf16) (att : FVec Ideal S34816x512 .bf16) (x0 : FVec Ideal S34816x512 .bf16) (yc : FVec Ideal S512x2048 .bf16) (yl : FVec Ideal S512x32768 .bf16) (mg : FVec Ideal S34816x3072 .bf16) (w : FVec Ideal S3x512x1024 .bf16) (b : Fin 8) (s : Fin 4352) (e : Fin 1024) (r : Fin 34816) (hr : r.val = b * 4352 + s) :
    gsR ret att x0 yc yl mg w (ix3 b s e) = gs ret att x0 yc yl mg w r e := by
  have hq : (⟨b * 4352 + s, by omega⟩ : Fin 34816) = r := Fin.ext hr.symm
  refine congrArg₂ (· + ·) (congrArg₂ (· + ·) (b0_at mg _ w b s e r hr _ fun k => ?_) (b1_at mg _ w b s e r hr _ fun k => ?_)) (b2_at mg _ w b s e r hr _ fun k => ?_)
  · rw [aR_at, hq]
  · rw [aR_at, hq]
  · exact congrArg₂ (· * ·) (by rw [aR_at, hq]) (cvR_at yc yl b s k r hr)

theorem oR_at (z : FVec Ideal S8x4352x1024 .f32) (wo : FVec Ideal S1024x1024 .bf16) (b : Fin 8) (s : Fin 4352) (d : Fin 1024) :
    oR z wo (ix3 b s d) = ∑ e : Fin 1024, z (ix3 b s e) * wo (ix2 e d) := by
  pointwise [oR]

/-- The context tokens' residual stream. -/
def xC (x : FVec Ideal S34816x1024 .f32) (md : FVec Ideal S16x6x1024 .f32) (o : FVec Ideal S8x4352x1024 .f32) : FVec Ideal S8x256x1024 .f32 :=
  addf (extractStridedSlice S8x256x1024 ![0, 0, 0] (shapeCast _ x shapeCasts_S34816x1024_S8x4352x1024) slices_S8x4352x1024_S8x256x1024_0_0_0) (mulf (broadcastInDim S8x256x1024 ![0, 1, 2] bcast_S8x1x1024_S8x256x1024_0_1_2 (broadcastInDim S8x1x1024 ![0, 2] bcast_S8x1024_S8x1x1024_0_2 (shapeCast _ (extractStridedSlice S8x1x1x1024 ![0, 0, 2, 0] (shapeCast _ md shapeCasts_S16x6x1024_S8x2x6x1024) slices_S8x2x6x1024_S8x1x1x1024_0_0_2_0) shapeCasts_S8x1x1x1024_S8x1024))) (extractStridedSlice S8x256x1024 ![0, 0, 0] o slices_S8x4352x1024_S8x256x1024_0_0_0))

/-- The context tokens' reciprocal root mean squares. -/
def rmsC (z : FVec Ideal S8x256x1024 .f32) : FVec Ideal S8x256x1 .f32 :=
  Host.rsqrt (addf (Host.divf (broadcastInDim S8x256x1 ![0, 1] bcast_S8x256_S8x256x1_0_1 (Host.reduceAdd (mulf z z) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))

/-- One plus the context tokens' scale. -/
def scC (md : FVec Ideal S16x6x1024 .f32) : FVec Ideal S8x256x1024 .f32 :=
  broadcastInDim S8x256x1024 ![0, 1, 2] bcast_S8x1x1024_S8x256x1024_0_1_2 (addf (broadcastInDim S8x1x1024 ![] bcast_S_S8x1x1024 (constant S_ .f32 0x3F800000#32)) (broadcastInDim S8x1x1024 ![0, 2] bcast_S8x1024_S8x1x1024_0_2 (shapeCast _ (extractStridedSlice S8x1x1x1024 ![0, 0, 4, 0] (shapeCast _ md shapeCasts_S16x6x1024_S8x2x6x1024) slices_S8x2x6x1024_S8x1x1x1024_0_0_4_0) shapeCasts_S8x1x1x1024_S8x1024)))

/-- The context tokens' shift. -/
def shC (md : FVec Ideal S16x6x1024 .f32) : FVec Ideal S8x256x1024 .f32 :=
  broadcastInDim S8x256x1024 ![0, 1, 2] bcast_S8x1x1024_S8x256x1024_0_1_2 (broadcastInDim S8x1x1024 ![0, 2] bcast_S8x1024_S8x1x1024_0_2 (shapeCast _ (extractStridedSlice S8x1x1x1024 ![0, 0, 3, 0] (shapeCast _ md shapeCasts_S16x6x1024_S8x2x6x1024) slices_S8x2x6x1024_S8x1x1x1024_0_0_3_0) shapeCasts_S8x1x1x1024_S8x1024))

/-- The gain along the context tokens. -/
def gC (g : FVec Ideal S1x1024 .f32) : FVec Ideal S8x256x1024 .f32 :=
  broadcastInDim S8x256x1024 ![0, 1, 2] bcast_S1x1x1024_S8x256x1024_0_1_2 (broadcastInDim S1x1x1024 ![2] bcast_S1024_S1x1x1024_2 (shapeCast _ g shapeCasts_S1x1024_S1024))

/-- The context tokens' modulated norm. -/
def hC (z : FVec Ideal S8x256x1024 .f32) (md : FVec Ideal S16x6x1024 .f32) (g : FVec Ideal S1x1024 .f32) : FVec Ideal S8x256x1024 .f32 :=
  addf (mulf (mulf (mulf z (broadcastInDim S8x256x1024 ![0, 1, 2] bcast_S8x256x1_S8x256x1024_0_1_2 (rmsC z))) (gC g)) (scC md)) (shC md)

theorem xC_mid (x : FVec Ideal S34816x1024 .f32) (md : FVec Ideal S16x6x1024 .f32) (o : FVec Ideal S8x4352x1024 .f32) (b : Fin 8) (s : Fin 256) (d : Fin 1024) :
    xC x md o (ix3 b s d) = x (ix2 ⟨b * 4352 + (s), by omega⟩ d) + md (ix3 ⟨b * 2, by omega⟩ 2 d) * o (ix3 b ⟨(s), by omega⟩ d) := by
  pointwise [xC]

theorem rowC (b : Fin 8) (s : Fin 256) (r : Fin 34816) (hr : r.val = b * 4352 + (s)) : (⟨b * 2, by omega⟩ : Fin 16) = mrow r := by
  refine Fin.ext ?_
  unfold mrow
  split <;> simp only [] <;> omega

theorem xC_at (x : FVec Ideal S34816x1024 .f32) (ret : FVec Ideal S34816x512 .bf16) (att : FVec Ideal S34816x512 .bf16) (x0 : FVec Ideal S34816x512 .bf16) (yc : FVec Ideal S512x2048 .bf16) (yl : FVec Ideal S512x32768 .bf16) (mg : FVec Ideal S34816x3072 .bf16) (md : FVec Ideal S16x6x1024 .f32) (w : FVec Ideal S3x512x1024 .bf16) (wo : FVec Ideal S1024x1024 .bf16) (b : Fin 8) (s : Fin 256) (d : Fin 1024) (r : Fin 34816) (hr : r.val = b * 4352 + (s)) :
    xC x md (oR (gsR ret att x0 yc yl mg w) wo) (ix3 b s d) = xv x ret att x0 yc yl mg md w wo r d := by
  have hq : (⟨b * 4352 + (s), by omega⟩ : Fin 34816) = r := Fin.ext hr.symm
  refine (xC_mid x md _ b s d).trans ?_
  rw [hq, rowC b s r hr, oR_at]
  exact congrArg₂ (· + ·) rfl (congrArg₂ (· * ·) rfl (Finset.sum_congr rfl fun e _ => congrArg (· * wo (ix2 e d)) (gsR_at ret att x0 yc yl mg w b _ e r hr)))

theorem rmsC_at (z : FVec Ideal S8x256x1024 .f32) (b : Fin 8) (s : Fin 256) :
    rmsC z (ix3 b s 0) = Ideal.rsqrt (Ideal.div (∑ k : Fin 1024, z (ix3 b s k) * z (ix3 b s k)) (Ideal.ofBits FTy.f32 0x44800000#32) + Ideal.ofBits FTy.f32 0x358637BD#32) := by
  pointwise [rmsC]

theorem scC_at (md : FVec Ideal S16x6x1024 .f32) (b : Fin 8) (s : Fin 256) (d : Fin 1024) :
    scC md (ix3 b s d) = 1 + md (ix3 ⟨b * 2, by omega⟩ 4 d) := by
  pointwise [scC]

theorem shC_at (md : FVec Ideal S16x6x1024 .f32) (b : Fin 8) (s : Fin 256) (d : Fin 1024) :
    shC md (ix3 b s d) = md (ix3 ⟨b * 2, by omega⟩ 3 d) := by
  pointwise [shC]

theorem gC_at (g : FVec Ideal S1x1024 .f32) (b : Fin 8) (s : Fin 256) (d : Fin 1024) :
    gC g (ix3 b s d) = g (ix2 0 d) := by
  pointwise [gC]

theorem hC_mid (z : FVec Ideal S8x256x1024 .f32) (md : FVec Ideal S16x6x1024 .f32) (g : FVec Ideal S1x1024 .f32) (b : Fin 8) (s : Fin 256) (d : Fin 1024) :
    hC z md g (ix3 b s d) = z (ix3 b s d) * rmsC z (ix3 b s 0) * gC g (ix3 b s d) * scC md (ix3 b s d) + shC md (ix3 b s d) := by
  pointwise [hC]

theorem hC_at (x : FVec Ideal S34816x1024 .f32) (ret : FVec Ideal S34816x512 .bf16) (att : FVec Ideal S34816x512 .bf16) (x0 : FVec Ideal S34816x512 .bf16) (yc : FVec Ideal S512x2048 .bf16) (yl : FVec Ideal S512x32768 .bf16) (mg : FVec Ideal S34816x3072 .bf16) (md : FVec Ideal S16x6x1024 .f32) (w : FVec Ideal S3x512x1024 .bf16) (wo : FVec Ideal S1024x1024 .bf16) (g : FVec Ideal S1x1024 .f32) (b : Fin 8) (s : Fin 256) (d : Fin 1024) (r : Fin 34816) (hr : r.val = b * 4352 + (s)) :
    hC (xC x md (oR (gsR ret att x0 yc yl mg w) wo)) md g (ix3 b s d) = KN x ret att x0 yc yl mg md w wo g (ix2 r d) := by
  rw [hC_mid, rmsC_at, gC_at, scC_at, shC_at, mul_assoc (_ * _), rowC b s r hr]
  exact nrm_congr (x := fun k => xC x md (oR (gsR ret att x0 yc yl mg w) wo) (ix3 b s k)) d (fun k => xC_at x ret att x0 yc yl mg md w wo b s k r hr) rfl rfl rfl

/-- The latent tokens' residual stream. -/
def xL (x : FVec Ideal S34816x1024 .f32) (md : FVec Ideal S16x6x1024 .f32) (o : FVec Ideal S8x4352x1024 .f32) : FVec Ideal S8x4096x1024 .f32 :=
  addf (extractStridedSlice S8x4096x1024 ![0, 256, 0] (shapeCast _ x shapeCasts_S34816x1024_S8x4352x1024) slices_S8x4352x1024_S8x4096x1024_0_256_0) (mulf (broadcastInDim S8x4096x1024 ![0, 1, 2] bcast_S8x1x1024_S8x4096x1024_0_1_2 (broadcastInDim S8x1x1024 ![0, 2] bcast_S8x1024_S8x1x1024_0_2 (shapeCast _ (extractStridedSlice S8x1x1x1024 ![0, 1, 2, 0] (shapeCast _ md shapeCasts_S16x6x1024_S8x2x6x1024) slices_S8x2x6x1024_S8x1x1x1024_0_1_2_0) shapeCasts_S8x1x1x1024_S8x1024))) (extractStridedSlice S8x4096x1024 ![0, 256, 0] o slices_S8x4352x1024_S8x4096x1024_0_256_0))

/-- The latent tokens' reciprocal root mean squares. -/
def rmsL (z : FVec Ideal S8x4096x1024 .f32) : FVec Ideal S8x4096x1 .f32 :=
  Host.rsqrt (addf (Host.divf (broadcastInDim S8x4096x1 ![0, 1] bcast_S8x4096_S8x4096x1_0_1 (Host.reduceAdd (mulf z z) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))

/-- One plus the latent tokens' scale. -/
def scL (md : FVec Ideal S16x6x1024 .f32) : FVec Ideal S8x4096x1024 .f32 :=
  broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (shapeCast _ (extractStridedSlice S8x1x1x1024 ![0, 1, 4, 0] (shapeCast _ md shapeCasts_S16x6x1024_S8x2x6x1024) slices_S8x2x6x1024_S8x1x1x1024_0_1_4_0) shapeCasts_S8x1x1x1024_S8x1024)))

/-- The latent tokens' shift. -/
def shL (md : FVec Ideal S16x6x1024 .f32) : FVec Ideal S8x4096x1024 .f32 :=
  broadcastInDim S8x4096x1024 ![0, 1, 2] bcast_S8x1x1024_S8x4096x1024_0_1_2 (broadcastInDim S8x1x1024 ![0, 2] bcast_S8x1024_S8x1x1024_0_2 (shapeCast _ (extractStridedSlice S8x1x1x1024 ![0, 1, 3, 0] (shapeCast _ md shapeCasts_S16x6x1024_S8x2x6x1024) slices_S8x2x6x1024_S8x1x1x1024_0_1_3_0) shapeCasts_S8x1x1x1024_S8x1024))

/-- The gain along the latent tokens. -/
def gL (g : FVec Ideal S1x1024 .f32) : FVec Ideal S8x4096x1024 .f32 :=
  broadcastInDim S8x4096x1024 ![0, 1, 2] bcast_S1x1x1024_S8x4096x1024_0_1_2 (broadcastInDim S1x1x1024 ![2] bcast_S1024_S1x1x1024_2 (shapeCast _ g shapeCasts_S1x1024_S1024))

/-- The latent tokens' modulated norm. -/
def hL (z : FVec Ideal S8x4096x1024 .f32) (md : FVec Ideal S16x6x1024 .f32) (g : FVec Ideal S1x1024 .f32) : FVec Ideal S8x4096x1024 .f32 :=
  addf (mulf (mulf (mulf z (broadcastInDim S8x4096x1024 ![0, 1, 2] bcast_S8x4096x1_S8x4096x1024_0_1_2 (rmsL z))) (gL g)) (scL md)) (shL md)

theorem xL_mid (x : FVec Ideal S34816x1024 .f32) (md : FVec Ideal S16x6x1024 .f32) (o : FVec Ideal S8x4352x1024 .f32) (b : Fin 8) (s : Fin 4096) (d : Fin 1024) :
    xL x md o (ix3 b s d) = x (ix2 ⟨b * 4352 + (256 + s), by omega⟩ d) + md (ix3 ⟨b * 2 + 1, by omega⟩ 2 d) * o (ix3 b ⟨(256 + s), by omega⟩ d) := by
  pointwise [xL]

theorem rowL (b : Fin 8) (s : Fin 4096) (r : Fin 34816) (hr : r.val = b * 4352 + (256 + s)) : (⟨b * 2 + 1, by omega⟩ : Fin 16) = mrow r := by
  refine Fin.ext ?_
  unfold mrow
  split <;> simp only [] <;> omega

theorem xL_at (x : FVec Ideal S34816x1024 .f32) (ret : FVec Ideal S34816x512 .bf16) (att : FVec Ideal S34816x512 .bf16) (x0 : FVec Ideal S34816x512 .bf16) (yc : FVec Ideal S512x2048 .bf16) (yl : FVec Ideal S512x32768 .bf16) (mg : FVec Ideal S34816x3072 .bf16) (md : FVec Ideal S16x6x1024 .f32) (w : FVec Ideal S3x512x1024 .bf16) (wo : FVec Ideal S1024x1024 .bf16) (b : Fin 8) (s : Fin 4096) (d : Fin 1024) (r : Fin 34816) (hr : r.val = b * 4352 + (256 + s)) :
    xL x md (oR (gsR ret att x0 yc yl mg w) wo) (ix3 b s d) = xv x ret att x0 yc yl mg md w wo r d := by
  have hq : (⟨b * 4352 + (256 + s), by omega⟩ : Fin 34816) = r := Fin.ext hr.symm
  refine (xL_mid x md _ b s d).trans ?_
  rw [hq, rowL b s r hr, oR_at]
  exact congrArg₂ (· + ·) rfl (congrArg₂ (· * ·) rfl (Finset.sum_congr rfl fun e _ => congrArg (· * wo (ix2 e d)) (gsR_at ret att x0 yc yl mg w b _ e r hr)))

theorem rmsL_at (z : FVec Ideal S8x4096x1024 .f32) (b : Fin 8) (s : Fin 4096) :
    rmsL z (ix3 b s 0) = Ideal.rsqrt (Ideal.div (∑ k : Fin 1024, z (ix3 b s k) * z (ix3 b s k)) (Ideal.ofBits FTy.f32 0x44800000#32) + Ideal.ofBits FTy.f32 0x358637BD#32) := by
  pointwise [rmsL]

theorem scL_at (md : FVec Ideal S16x6x1024 .f32) (b : Fin 8) (s : Fin 4096) (d : Fin 1024) :
    scL md (ix3 b s d) = 1 + md (ix3 ⟨b * 2 + 1, by omega⟩ 4 d) := by
  pointwise [scL]

theorem shL_at (md : FVec Ideal S16x6x1024 .f32) (b : Fin 8) (s : Fin 4096) (d : Fin 1024) :
    shL md (ix3 b s d) = md (ix3 ⟨b * 2 + 1, by omega⟩ 3 d) := by
  pointwise [shL]

theorem gL_at (g : FVec Ideal S1x1024 .f32) (b : Fin 8) (s : Fin 4096) (d : Fin 1024) :
    gL g (ix3 b s d) = g (ix2 0 d) := by
  pointwise [gL]

theorem hL_mid (z : FVec Ideal S8x4096x1024 .f32) (md : FVec Ideal S16x6x1024 .f32) (g : FVec Ideal S1x1024 .f32) (b : Fin 8) (s : Fin 4096) (d : Fin 1024) :
    hL z md g (ix3 b s d) = z (ix3 b s d) * rmsL z (ix3 b s 0) * gL g (ix3 b s d) * scL md (ix3 b s d) + shL md (ix3 b s d) := by
  pointwise [hL]

theorem hL_at (x : FVec Ideal S34816x1024 .f32) (ret : FVec Ideal S34816x512 .bf16) (att : FVec Ideal S34816x512 .bf16) (x0 : FVec Ideal S34816x512 .bf16) (yc : FVec Ideal S512x2048 .bf16) (yl : FVec Ideal S512x32768 .bf16) (mg : FVec Ideal S34816x3072 .bf16) (md : FVec Ideal S16x6x1024 .f32) (w : FVec Ideal S3x512x1024 .bf16) (wo : FVec Ideal S1024x1024 .bf16) (g : FVec Ideal S1x1024 .f32) (b : Fin 8) (s : Fin 4096) (d : Fin 1024) (r : Fin 34816) (hr : r.val = b * 4352 + (256 + s)) :
    hL (xL x md (oR (gsR ret att x0 yc yl mg w) wo)) md g (ix3 b s d) = KN x ret att x0 yc yl mg md w wo g (ix2 r d) := by
  rw [hL_mid, rmsL_at, gL_at, scL_at, shL_at, mul_assoc (_ * _), rowL b s r hr]
  exact nrm_congr (x := fun k => xL x md (oR (gsR ret att x0 yc yl mg w) wo) (ix3 b s k)) d (fun k => xL_at x ret att x0 yc yl mg md w wo b s k r hr) rfl rfl rfl

/-- The context rows before the latent rows, the samples' rows as one axis. -/
def flat (a : FVec Ideal S8x256x1024 .f32) (b : FVec Ideal S8x4096x1024 .f32) : FVec Ideal S34816x1024 .f32 :=
  shapeCast _ (concatenate S8x4352x1024 1 [⟨S8x256x1024, a⟩, ⟨S8x4096x1024, b⟩] concatenates_S8x256x1024_S8x4096x1024_S8x4352x1024_d1) shapeCasts_S8x4352x1024_S34816x1024

theorem flat_lo (a : FVec Ideal S8x256x1024 .f32) (b : FVec Ideal S8x4096x1024 .f32) (r : Fin 34816) (d : Fin 1024) (h : r.val % 4352 < 256) :
    flat a b (ix2 r d) = a (ix3 ⟨r / 4352, by omega⟩ ⟨r % 4352, h⟩ d) := by
  pointwise [flat]
  rw [dif_pos h]

theorem flat_hi (a : FVec Ideal S8x256x1024 .f32) (b : FVec Ideal S8x4096x1024 .f32) (r : Fin 34816) (d : Fin 1024) (h : ¬ r.val % 4352 < 256) :
    flat a b (ix2 r d) = b (ix3 ⟨r / 4352, by omega⟩ ⟨r % 4352 - 256, by omega⟩ d) := by
  pointwise [flat]
  rw [dif_neg h]

theorem res108_eq (m : (ℓ : Loc nD τ sig) → Buf (Elt Ideal) ℓ) (c : Dev nD) :
    res_main_v108 m c = flat (xC (m ((c.tc : Thread nD τ).loc main_arg0)) (m ((c.tc : Thread nD τ).loc main_arg7)) (oR (gsR (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8))) (m ((c.tc : Thread nD τ).loc main_arg9)))) (xL (m ((c.tc : Thread nD τ).loc main_arg0)) (m ((c.tc : Thread nD τ).loc main_arg7)) (oR (gsR (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8))) (m ((c.tc : Thread nD τ).loc main_arg9)))) := rfl

theorem res111_eq (m : (ℓ : Loc nD τ sig) → Buf (Elt Ideal) ℓ) (c : Dev nD) :
    res_main_v111 m c = truncf .bf16 (flat (hC (xC (m ((c.tc : Thread nD τ).loc main_arg0)) (m ((c.tc : Thread nD τ).loc main_arg7)) (oR (gsR (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8))) (m ((c.tc : Thread nD τ).loc main_arg9)))) (m ((c.tc : Thread nD τ).loc main_arg7)) (m ((c.tc : Thread nD τ).loc main_arg10))) (hL (xL (m ((c.tc : Thread nD τ).loc main_arg0)) (m ((c.tc : Thread nD τ).loc main_arg7)) (oR (gsR (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8))) (m ((c.tc : Thread nD τ).loc main_arg9)))) (m ((c.tc : Thread nD τ).loc main_arg7)) (m ((c.tc : Thread nD τ).loc main_arg10)))) bitsLt_bf16_f32 := rfl

theorem x_flat (x : FVec Ideal S34816x1024 .f32) (ret : FVec Ideal S34816x512 .bf16) (att : FVec Ideal S34816x512 .bf16) (x0 : FVec Ideal S34816x512 .bf16) (yc : FVec Ideal S512x2048 .bf16) (yl : FVec Ideal S512x32768 .bf16) (mg : FVec Ideal S34816x3072 .bf16) (md : FVec Ideal S16x6x1024 .f32) (w : FVec Ideal S3x512x1024 .bf16) (wo : FVec Ideal S1024x1024 .bf16) (r : Fin 34816) (d : Fin 1024) :
    flat (xC x md (oR (gsR ret att x0 yc yl mg w) wo)) (xL x md (oR (gsR ret att x0 yc yl mg w) wo)) (ix2 r d) = KX x ret att x0 yc yl mg md w wo (ix2 r d) := by
  by_cases h : r.val % 4352 < 256
  · exact (flat_lo _ _ r d h).trans (xC_at x ret att x0 yc yl mg md w wo _ _ d r (by show r.val = r.val / 4352 * 4352 + r.val % 4352; omega))
  · exact (flat_hi _ _ r d h).trans (xL_at x ret att x0 yc yl mg md w wo _ _ d r (by show r.val = r.val / 4352 * 4352 + (256 + (r.val % 4352 - 256)); omega))

/-- The reference's array is the kernel's. -/
theorem x_whole (x : FVec Ideal S34816x1024 .f32) (ret : FVec Ideal S34816x512 .bf16) (att : FVec Ideal S34816x512 .bf16) (x0 : FVec Ideal S34816x512 .bf16) (yc : FVec Ideal S512x2048 .bf16) (yl : FVec Ideal S512x32768 .bf16) (mg : FVec Ideal S34816x3072 .bf16) (md : FVec Ideal S16x6x1024 .f32) (w : FVec Ideal S3x512x1024 .bf16) (wo : FVec Ideal S1024x1024 .bf16) :
    flat (xC x md (oR (gsR ret att x0 yc yl mg w) wo)) (xL x md (oR (gsR ret att x0 yc yl mg w) wo)) = KX x ret att x0 yc yl mg md w wo := by
  funext j
  obtain ⟨r, d, rfl⟩ : ∃ (r : Fin 34816) (d : Fin 1024), j = ix2 r d := ⟨j 0, j 1, by funext a; fin_cases a <;> rfl⟩
  exact x_flat x ret att x0 yc yl mg md w wo r d

theorem h_flat (x : FVec Ideal S34816x1024 .f32) (ret : FVec Ideal S34816x512 .bf16) (att : FVec Ideal S34816x512 .bf16) (x0 : FVec Ideal S34816x512 .bf16) (yc : FVec Ideal S512x2048 .bf16) (yl : FVec Ideal S512x32768 .bf16) (mg : FVec Ideal S34816x3072 .bf16) (md : FVec Ideal S16x6x1024 .f32) (w : FVec Ideal S3x512x1024 .bf16) (wo : FVec Ideal S1024x1024 .bf16) (g : FVec Ideal S1x1024 .f32) (r : Fin 34816) (d : Fin 1024) :
    flat (hC (xC x md (oR (gsR ret att x0 yc yl mg w) wo)) md g) (hL (xL x md (oR (gsR ret att x0 yc yl mg w) wo)) md g) (ix2 r d) = KN x ret att x0 yc yl mg md w wo g (ix2 r d) := by
  by_cases h : r.val % 4352 < 256
  · exact (flat_lo _ _ r d h).trans (hC_at x ret att x0 yc yl mg md w wo g _ _ d r (by show r.val = r.val / 4352 * 4352 + r.val % 4352; omega))
  · exact (flat_hi _ _ r d h).trans (hL_at x ret att x0 yc yl mg md w wo g _ _ d r (by show r.val = r.val / 4352 * 4352 + (256 + (r.val % 4352 - 256)); omega))

/-- The reference's array is the kernel's. -/
theorem h_whole (x : FVec Ideal S34816x1024 .f32) (ret : FVec Ideal S34816x512 .bf16) (att : FVec Ideal S34816x512 .bf16) (x0 : FVec Ideal S34816x512 .bf16) (yc : FVec Ideal S512x2048 .bf16) (yl : FVec Ideal S512x32768 .bf16) (mg : FVec Ideal S34816x3072 .bf16) (md : FVec Ideal S16x6x1024 .f32) (w : FVec Ideal S3x512x1024 .bf16) (wo : FVec Ideal S1024x1024 .bf16) (g : FVec Ideal S1x1024 .f32) :
    (truncf .bf16 (flat (hC (xC x md (oR (gsR ret att x0 yc yl mg w) wo)) md g) (hL (xL x md (oR (gsR ret att x0 yc yl mg w) wo)) md g)) bitsLt_bf16_f32 : FVec Ideal S34816x1024 .bf16) = KN x ret att x0 yc yl mg md w wo g := by
  funext j
  obtain ⟨r, d, rfl⟩ : ∃ (r : Fin 34816) (d : Fin 1024), j = ix2 r d := ⟨j 0, j 1, by funext a; fin_cases a <;> rfl⟩
  exact h_flat x ret att x0 yc yl mg md w wo g r d

end Cert.MrgRef

end
-- ==== Proof.MrgClaims.lean ====
module

public import proofs.«01_k».proof.Defs
public import proofs.«01_k».proof.Proof.Gen.Merge.Frame
public import proofs.«01_k».proof.Proof.MrgKernel
public import proofs.«01_k».proof.Proof.MrgRef
public import Idealize.ShloMosaic.Adequacy
public import Idealize.ShloMosaic.Init

@[expose] public section

noncomputable section

open Idealize.ShloMosaic Idealize.SL.Sem

namespace Cert.MrgClaims

attribute [local instance] Cert.Merge.Gen.facts Cert.MergeIdeal.Gen.facts Cert.MergeReferenceIdeal.Gen.facts

/-- The kernel's frame: it ends, its arguments unchanged and every counter at zero. -/
theorem frame_p : Cert.quiescent_Merge := fun m ρ _ => Cert.Merge.Gen.frame m ρ
/-- The frame of the kernel over the extended reals. -/
theorem frame_i : Cert.quiescent_MergeIdeal := fun m ρ _ => Cert.MergeIdeal.Gen.frame m ρ
/-- The reference's frame: the run read at the arguments; it declares no semaphore. -/
theorem frame_r : Cert.quiescent_MergeReferenceIdeal := fun m ρ _ =>
  (θ_run Cert.MergeReferenceIdeal.defs _ _).mono (fun r h => ⟨fun c => (h c).2.2, Idealize.ShloMosaic.sem_eq_zero_of_no_sems (by decide) r.2⟩)
    (Cert.MergeReferenceIdeal.Value.run (F := Ideal) m ρ)
/-- Nothing of the kernel is rewritten. -/
theorem preserves : Cert.preserves_Merge_MergeIdeal := trivial

/-- The kernel's first two arrays and the reference's are the same, from the same arguments. -/
theorem algebraic : Cert.algebraic_MergeIdeal_MergeReferenceIdeal := by
  intro m g m' g' hp hm
  refine ⟨fun c => Cert.Mrg.KX (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)), fun c => Cert.Mrg.KN (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)), ?_, ?_⟩
  · exact Cert.Mrg.run m g
  · refine (θ_run Cert.MergeReferenceIdeal.defs _ _).mono (fun r h c => ⟨(h c).1.trans ((Cert.MrgRef.res108_eq m' c).trans ?_), (h c).2.1.trans ((Cert.MrgRef.res111_eq m' c).trans ?_), (h c).2.2⟩) (Cert.MergeReferenceIdeal.Value.run m' g')
    · obtain ⟨h0, h1, h2, h3, h4, h5, h6, h7, h8, h9, h10, h11, h12⟩ := hm c
      rw [h0, h1, h2, h3, h4, h5, h6, h7, h8, h9]
      exact Cert.MrgRef.x_whole _ _ _ _ _ _ _ _ _ _
    · obtain ⟨h0, h1, h2, h3, h4, h5, h6, h7, h8, h9, h10, h11, h12⟩ := hm c
      rw [h0, h1, h2, h3, h4, h5, h6, h7, h8, h9, h10]
      exact Cert.MrgRef.h_whole _ _ _ _ _ _ _ _ _ _ _

end Cert.MrgClaims

end
-- ==== Proof.lean ====
module

public import proofs.«01_k».proof.Defs
public import proofs.«01_k».proof.Proof.AttClaims
public import proofs.«01_k».proof.Proof.ExpClaims
public import proofs.«01_k».proof.Proof.FinClaims
public import proofs.«01_k».proof.Proof.PrjClaims
public import proofs.«01_k».proof.Proof.MrgClaims

@[expose] public section

noncomputable section

namespace Cert.Proof

/-- Every claim of this certificate. -/
theorem claim : Cert.Claim :=
  ⟨Cert.Kernel.Gen.facts, Cert.KernelIdeal.Gen.facts, Cert.ReferenceIdeal.Gen.facts, Cert.Experts.Gen.facts, Cert.ExpertsIdeal.Gen.facts, Cert.ExpertsReferenceIdeal.Gen.facts,
    Cert.Final.Gen.facts, Cert.FinalIdeal.Gen.facts, Cert.FinalReferenceIdeal.Gen.facts,
    Cert.Projection.Gen.facts, Cert.ProjectionIdeal.Gen.facts, Cert.ProjectionReferenceIdeal.Gen.facts,
    Cert.Merge.Gen.facts, Cert.MergeIdeal.Gen.facts, Cert.MergeReferenceIdeal.Gen.facts,
    Cert.AttPre.facts, Cert.ExpPre.named_facts, Cert.ExpPre.facts,
    Cert.AttClaims.frame_p, Cert.AttClaims.frame_i, Cert.AttClaims.frame_if, Cert.AttClaims.frame_r, Cert.AttClaims.frame_rf,
    Cert.ExpClaims.frame_p, Cert.ExpClaims.frame_i, Cert.ExpClaims.frame_it, Cert.ExpClaims.frame_r, Cert.ExpClaims.frame_rt,
    Cert.FinClaims.frame_p, Cert.FinClaims.frame_i, Cert.FinClaims.frame_r,
    Cert.PrjClaims.frame_p, Cert.PrjClaims.frame_i, Cert.PrjClaims.frame_r,
    Cert.MrgClaims.frame_p, Cert.MrgClaims.frame_i, Cert.MrgClaims.frame_r,
    Cert.AttClaims.preserves, Cert.AttClaims.algebraic, Cert.ExpClaims.preserves, Cert.ExpClaims.algebraic,
    Cert.FinClaims.preserves, Cert.FinClaims.algebraic, Cert.PrjClaims.preserves, Cert.PrjClaims.algebraic,
    Cert.MrgClaims.preserves, Cert.MrgClaims.algebraic⟩

end Cert.Proof

end
